-- ==== Defs.lean ====
def Pre_Kernel [hPre_tokens_in_vocab_Kernel : Cert.Pre_tokens_in_vocab_Kernel.Facts] (m : (ℓ : Loc Cert.Kernel.nD Cert.Kernel.τ Cert.Kernel.sig) → Buf (Elt Bits) ℓ) : Prop :=
  ∀ c : Dev Cert.Kernel.nD,
    (Cert.Pre_tokens_in_vocab_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_tokens_in_vocab_Kernel : Cert.Pre_tokens_in_vocab_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab_ReferenceIdeal [hPre_tokens_in_vocab_ReferenceIdeal : Cert.Pre_tokens_in_vocab_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_tokens_in_vocab_Kernel : Cert.Pre_tokens_in_vocab_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_tokens_in_vocab_Kernel : Cert.Pre_tokens_in_vocab_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_tokens_in_vocab_ReferenceIdeal [hReferenceIdeal : Cert.ReferenceIdeal.Facts] [hPre_tokens_in_vocab_ReferenceIdeal : Cert.Pre_tokens_in_vocab_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_vocab_Kernel : Cert.Pre_tokens_in_vocab_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 200]⟩ ⟨2, ![1024, 200]⟩ 0 2 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)
      ∧ m ((c.tc : Thread Cert.KernelIdeal.nD Cert.KernelIdeal.τ).loc Cert.KernelIdeal.main_arg8) = m' (((0 : Dev Cert.ReferenceIdeal.nD).tc : Thread Cert.ReferenceIdeal.nD Cert.ReferenceIdeal.τ).loc Cert.ReferenceIdeal.main_arg8)
      ∧ m ((c.tc : Thread Cert.KernelIdeal.nD Cert.KernelIdeal.τ).loc Cert.KernelIdeal.main_arg9) = m' (((0 : Dev Cert.ReferenceIdeal.nD).tc : Thread Cert.ReferenceIdeal.nD Cert.ReferenceIdeal.τ).loc Cert.ReferenceIdeal.main_arg9)
      ∧ m ((c.tc : Thread Cert.KernelIdeal.nD Cert.KernelIdeal.τ).loc Cert.KernelIdeal.main_arg10) = m' (((0 : Dev Cert.ReferenceIdeal.nD).tc : Thread Cert.ReferenceIdeal.nD Cert.ReferenceIdeal.τ).loc Cert.ReferenceIdeal.main_arg10)
      ∧ m ((c.tc : Thread Cert.KernelIdeal.nD Cert.KernelIdeal.τ).loc Cert.KernelIdeal.main_arg11) = m' (((0 : Dev Cert.ReferenceIdeal.nD).tc : Thread Cert.ReferenceIdeal.nD Cert.ReferenceIdeal.τ).loc Cert.ReferenceIdeal.main_arg11)
      ∧ m ((c.tc : Thread Cert.KernelIdeal.nD Cert.KernelIdeal.τ).loc Cert.KernelIdeal.main_arg12) = m' (((0 : Dev Cert.ReferenceIdeal.nD).tc : Thread Cert.ReferenceIdeal.nD Cert.ReferenceIdeal.τ).loc Cert.ReferenceIdeal.main_arg12)
      ∧ m ((c.tc : Thread Cert.KernelIdeal.nD Cert.KernelIdeal.τ).loc Cert.KernelIdeal.main_arg13) = m' (((0 : Dev Cert.ReferenceIdeal.nD).tc : Thread Cert.ReferenceIdeal.nD Cert.ReferenceIdeal.τ).loc Cert.ReferenceIdeal.main_arg13)
      ∧ m ((c.tc : Thread Cert.KernelIdeal.nD Cert.KernelIdeal.τ).loc Cert.KernelIdeal.main_arg14) = m' (((0 : Dev Cert.ReferenceIdeal.nD).tc : Thread Cert.ReferenceIdeal.nD Cert.ReferenceIdeal.τ).loc Cert.ReferenceIdeal.main_arg14)
      ∧ m ((c.tc : Thread Cert.KernelIdeal.nD Cert.KernelIdeal.τ).loc Cert.KernelIdeal.main_arg15) = m' (((0 : Dev Cert.ReferenceIdeal.nD).tc : Thread Cert.ReferenceIdeal.nD Cert.ReferenceIdeal.τ).loc Cert.ReferenceIdeal.main_arg15)
      ∧ m ((c.tc : Thread Cert.KernelIdeal.nD Cert.KernelIdeal.τ).loc Cert.KernelIdeal.main_arg16) = m' (((0 : Dev Cert.ReferenceIdeal.nD).tc : Thread Cert.ReferenceIdeal.nD Cert.ReferenceIdeal.τ).loc Cert.ReferenceIdeal.main_arg16)
      ∧ m ((c.tc : Thread Cert.KernelIdeal.nD Cert.KernelIdeal.τ).loc Cert.KernelIdeal.main_arg17) = m' (((0 : Dev Cert.ReferenceIdeal.nD).tc : Thread Cert.ReferenceIdeal.nD Cert.ReferenceIdeal.τ).loc Cert.ReferenceIdeal.main_arg17)
      ∧ m ((c.tc : Thread Cert.KernelIdeal.nD Cert.KernelIdeal.τ).loc Cert.KernelIdeal.main_arg18) = m' (((0 : Dev Cert.ReferenceIdeal.nD).tc : Thread Cert.ReferenceIdeal.nD Cert.ReferenceIdeal.τ).loc Cert.ReferenceIdeal.main_arg18)
      ∧ m ((c.tc : Thread Cert.KernelIdeal.nD Cert.KernelIdeal.τ).loc Cert.KernelIdeal.main_arg19) = m' (((0 : Dev Cert.ReferenceIdeal.nD).tc : Thread Cert.ReferenceIdeal.nD Cert.ReferenceIdeal.τ).loc Cert.ReferenceIdeal.main_arg19)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = Layout.block ⟨2, ![512, 1]⟩ ⟨2, ![1024, 1]⟩ 0 2 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10)
          ∧ r.2.mem (((0 : Dev Cert.ReferenceIdeal.nD).tc : Thread Cert.ReferenceIdeal.nD Cert.ReferenceIdeal.τ).loc Cert.ReferenceIdeal.main_arg11) = m' (((0 : Dev Cert.ReferenceIdeal.nD).tc : Thread Cert.ReferenceIdeal.nD Cert.ReferenceIdeal.τ).loc Cert.ReferenceIdeal.main_arg11)
          ∧ r.2.mem (((0 : Dev Cert.ReferenceIdeal.nD).tc : Thread Cert.ReferenceIdeal.nD Cert.ReferenceIdeal.τ).loc Cert.ReferenceIdeal.main_arg12) = m' (((0 : Dev Cert.ReferenceIdeal.nD).tc : Thread Cert.ReferenceIdeal.nD Cert.ReferenceIdeal.τ).loc Cert.ReferenceIdeal.main_arg12)
          ∧ r.2.mem (((0 : Dev Cert.ReferenceIdeal.nD).tc : Thread Cert.ReferenceIdeal.nD Cert.ReferenceIdeal.τ).loc Cert.ReferenceIdeal.main_arg13) = m' (((0 : Dev Cert.ReferenceIdeal.nD).tc : Thread Cert.ReferenceIdeal.nD Cert.ReferenceIdeal.τ).loc Cert.ReferenceIdeal.main_arg13)
          ∧ r.2.mem (((0 : Dev Cert.ReferenceIdeal.nD).tc : Thread Cert.ReferenceIdeal.nD Cert.ReferenceIdeal.τ).loc Cert.ReferenceIdeal.main_arg14) = m' (((0 : Dev Cert.ReferenceIdeal.nD).tc : Thread Cert.ReferenceIdeal.nD Cert.ReferenceIdeal.τ).loc Cert.ReferenceIdeal.main_arg14)
          ∧ r.2.mem (((0 : Dev Cert.ReferenceIdeal.nD).tc : Thread Cert.ReferenceIdeal.nD Cert.ReferenceIdeal.τ).loc Cert.ReferenceIdeal.main_arg15) = m' (((0 : Dev Cert.ReferenceIdeal.nD).tc : Thread Cert.ReferenceIdeal.nD Cert.ReferenceIdeal.τ).loc Cert.ReferenceIdeal.main_arg15)
          ∧ r.2.mem (((0 : Dev Cert.ReferenceIdeal.nD).tc : Thread Cert.ReferenceIdeal.nD Cert.ReferenceIdeal.τ).loc Cert.ReferenceIdeal.main_arg16) = m' (((0 : Dev Cert.ReferenceIdeal.nD).tc : Thread Cert.ReferenceIdeal.nD Cert.ReferenceIdeal.τ).loc Cert.ReferenceIdeal.main_arg16)
          ∧ r.2.mem (((0 : Dev Cert.ReferenceIdeal.nD).tc : Thread Cert.ReferenceIdeal.nD Cert.ReferenceIdeal.τ).loc Cert.ReferenceIdeal.main_arg17) = m' (((0 : Dev Cert.ReferenceIdeal.nD).tc : Thread Cert.ReferenceIdeal.nD Cert.ReferenceIdeal.τ).loc Cert.ReferenceIdeal.main_arg17)
          ∧ r.2.mem (((0 : Dev Cert.ReferenceIdeal.nD).tc : Thread Cert.ReferenceIdeal.nD Cert.ReferenceIdeal.τ).loc Cert.ReferenceIdeal.main_arg18) = m' (((0 : Dev Cert.ReferenceIdeal.nD).tc : Thread Cert.ReferenceIdeal.nD Cert.ReferenceIdeal.τ).loc Cert.ReferenceIdeal.main_arg18)
          ∧ r.2.mem (((0 : Dev Cert.ReferenceIdeal.nD).tc : Thread Cert.ReferenceIdeal.nD Cert.ReferenceIdeal.τ).loc Cert.ReferenceIdeal.main_arg19) = m' (((0 : Dev Cert.ReferenceIdeal.nD).tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_tokens_in_vocab_Kernel : Cert.Pre_tokens_in_vocab_Kernel.Facts) (hPre_tokens_in_vocab_ReferenceIdeal : Cert.Pre_tokens_in_vocab_ReferenceIdeal.Facts),
    quiescent_Kernel (hKernel := hKernel) (hPre_tokens_in_vocab_Kernel := hPre_tokens_in_vocab_Kernel)
    ∧ quiescent_KernelIdeal (hKernelIdeal := hKernelIdeal) (hPre_tokens_in_vocab_Kernel := hPre_tokens_in_vocab_Kernel)
    ∧ quiescent_ReferenceIdeal (hReferenceIdeal := hReferenceIdeal)
    ∧ quiescent_ReferenceIdeal_pre_tokens_in_vocab_ReferenceIdeal (hReferenceIdeal := hReferenceIdeal) (hPre_tokens_in_vocab_ReferenceIdeal := hPre_tokens_in_vocab_ReferenceIdeal)
    ∧ preserves_Kernel_KernelIdeal
    ∧ algebraic_KernelIdeal_ReferenceIdeal (hKernelIdeal := hKernelIdeal) (hReferenceIdeal := hReferenceIdeal) (hPre_tokens_in_vocab_Kernel := hPre_tokens_in_vocab_Kernel)
-- ==== Pre_tokens_in_vocab_Kernel.lean ====
abbrev S512x200 : Shape := ⟨2, ![512, 200]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S2048x1024 : Shape := ⟨2, ![2048, 1024]⟩
abbrev S1x1024 : Shape := ⟨2, ![1, 1024]⟩
abbrev S1 : Shape := ⟨1, ![1]⟩
abbrev S_ : Shape := ⟨0, ![]⟩

class Facts : Prop where
  bcast_S_S512x200 : S_.BroadcastsInDim S512x200 (![] : Fin 0 → Fin S512x200.rank)

variable [Facts]

def fn {F : FTy → Type} [FloatOps F] (main_arg0 : IVec S512x200 32) (main_arg1 : FVec F S100000x128 .f32) (main_arg2 : FVec F S2048x128 .f32) (main_arg3 : FVec F S2048x512 .f32) (main_arg4 : FVec F S2048 .f32) (main_arg5 : FVec F S2048 .f32) (main_arg6 : FVec F S2048x128 .f32) (main_arg7 : FVec F S2048x512 .f32) (main_arg8 : FVec F S2048 .f32) (main_arg9 : FVec F S2048 .f32) (main_arg10 : FVec F S2048x1024 .f32) (main_arg11 : FVec F S2048x512 .f32) (main_arg12 : FVec F S2048 .f32) (main_arg13 : FVec F S2048 .f32) (main_arg14 : FVec F S2048x1024 .f32) (main_arg15 : FVec F S2048x512 .f32) (main_arg16 : FVec F S2048 .f32) (main_arg17 : FVec F S2048 .f32) (main_arg18 : FVec F S1x1024 .f32) (main_arg19 : FVec F S1 .f32) : IVec S512x200 1 :=
  let main_c : IVec S_ 32 := constantI S_ 32 0#32
  let main_v0 : IVec S512x200 32 := broadcastInDim S512x200 ![] bcast_S_S512x200 main_c
  let main_v1 : IVec S512x200 1 := cmpi .sge main_arg0 main_v0
  let main_c_0 : IVec S_ 32 := constantI S_ 32 100000#32
  let main_v2 : IVec S512x200 32 := broadcastInDim S512x200 ![] bcast_S_S512x200 main_c_0
  let main_v3 : IVec S512x200 1 := cmpi .slt main_arg0 main_v2
  let main_v4 : IVec S512x200 1 := andi main_v1 main_v3
  main_v4
-- ==== Pre_tokens_in_vocab_ReferenceIdeal.lean ====
abbrev S1024x200 : Shape := ⟨2, ![1024, 200]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S2048x1024 : Shape := ⟨2, ![2048, 1024]⟩
abbrev S1x1024 : Shape := ⟨2, ![1, 1024]⟩
abbrev S1 : Shape := ⟨1, ![1]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : FVec F S100000x128 .f32) (main_arg2 : FVec F S2048x128 .f32) (main_arg3 : FVec F S2048x512 .f32) (main_arg4 : FVec F S2048 .f32) (main_arg5 : FVec F S2048 .f32) (main_arg6 : FVec F S2048x128 .f32) (main_arg7 : FVec F S2048x512 .f32) (main_arg8 : FVec F S2048 .f32) (main_arg9 : FVec F S2048 .f32) (main_arg10 : FVec F S2048x1024 .f32) (main_arg11 : FVec F S2048x512 .f32) (main_arg12 : FVec F S2048 .f32) (main_arg13 : FVec F S2048 .f32) (main_arg14 : FVec F S2048x1024 .f32) (main_arg15 : FVec F S2048x512 .f32) (main_arg16 : FVec F S2048 .f32) (main_arg17 : FVec F S2048 .f32) (main_arg18 : FVec F S1x1024 .f32) (main_arg19 : FVec F S1 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Kernel.lean ====
abbrev S512x200 : Shape := ⟨2, ![512, 200]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S2048x1024 : Shape := ⟨2, ![2048, 1024]⟩
abbrev S1x1024 : Shape := ⟨2, ![1, 1024]⟩
abbrev S1 : Shape := ⟨1, ![1]⟩
abbrev S200x512 : Shape := ⟨2, ![200, 512]⟩
abbrev S102400 : Shape := ⟨1, ![102400]⟩
abbrev S1x102400 : Shape := ⟨2, ![1, 102400]⟩
abbrev S102400x128 : Shape := ⟨2, ![102400, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S200x512x128 : Shape := ⟨3, ![200, 512, 128]⟩
abbrev S128x2048 : Shape := ⟨2, ![128, 2048]⟩
abbrev S512x2048 : Shape := ⟨2, ![512, 2048]⟩
abbrev S640x2048 : Shape := ⟨2, ![640, 2048]⟩
abbrev S1x2048 : Shape := ⟨2, ![1, 2048]⟩
abbrev S200x512x512 : Shape := ⟨3, ![200, 512, 512]⟩
abbrev S1x512x128 : Shape := ⟨3, ![1, 512, 128]⟩
abbrev S1x512x512 : Shape := ⟨3, ![1, 512, 512]⟩
abbrev S512x640 : Shape := ⟨2, ![512, 640]⟩
abbrev S512x512 : Shape := ⟨2, ![512, 512]⟩
abbrev S512x128 : Shape := ⟨2, ![512, 128]⟩
abbrev S1024x2048 : Shape := ⟨2, ![1024, 2048]⟩
abbrev S1536x2048 : Shape := ⟨2, ![1536, 2048]⟩
abbrev S1x1 : Shape := ⟨2, ![1, 1]⟩
abbrev S512x1 : Shape := ⟨2, ![512, 1]⟩
abbrev S512x1536 : Shape := ⟨2, ![512, 1536]⟩
abbrev S1x512 : Shape := ⟨2, ![1, 512]⟩
abbrev S512 : Shape := ⟨1, ![512]⟩

abbrev nBuf : Table → Nat
  | .hbm => 53
  | .local .tc .vmem => 35
  | .local .scVector .vmem => 2
  | _ => 0

abbrev bufTy : (tb : Table) → Fin (nBuf tb) → BufTy
  | .hbm, ⟨0, _⟩ => ⟨S512x200, .i32⟩
  | .hbm, ⟨1, _⟩ => ⟨S100000x128, .f32⟩
  | .hbm, ⟨2, _⟩ => ⟨S2048x128, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S2048x128, .f32⟩
  | .hbm, ⟨7, _⟩ => ⟨S2048x512, .f32⟩
  | .hbm, ⟨8, _⟩ => ⟨S2048, .f32⟩
  | .hbm, ⟨9, _⟩ => ⟨S2048, .f32⟩
  | .hbm, ⟨10, _⟩ => ⟨S2048x1024, .f32⟩
  | .hbm, ⟨11, _⟩ => ⟨S2048x512, .f32⟩
  | .hbm, ⟨12, _⟩ => ⟨S2048, .f32⟩
  | .hbm, ⟨13, _⟩ => ⟨S2048, .f32⟩
  | .hbm, ⟨14, _⟩ => ⟨S2048x1024, .f32⟩
  | .hbm, ⟨15, _⟩ => ⟨S2048x512, .f32⟩
  | .hbm, ⟨16, _⟩ => ⟨S2048, .f32⟩
  | .hbm, ⟨17, _⟩ => ⟨S2048, .f32⟩
  | .hbm, ⟨18, _⟩ => ⟨S1x1024, .f32⟩
  | .hbm, ⟨19, _⟩ => ⟨S1, .f32⟩
  | .hbm, ⟨20, _⟩ => ⟨S200x512, .i32⟩
  | .hbm, ⟨21, _⟩ => ⟨S102400, .i32⟩
  | .hbm, ⟨22, _⟩ => ⟨S1x102400, .i32⟩
  | .hbm, ⟨23, _⟩ => ⟨S102400x128, .f32⟩
  | .hbm, ⟨24, _⟩ => ⟨S200x512x128, .f32⟩
  | .hbm, ⟨25, _⟩ => ⟨S128x2048, .f32⟩
  | .hbm, ⟨26, _⟩ => ⟨S512x2048, .f32⟩
  | .hbm, ⟨27, _⟩ => ⟨S640x2048, .f32⟩
  | .hbm, ⟨28, _⟩ => ⟨S640x2048, .bf16⟩
  | .hbm, ⟨29, _⟩ => ⟨S128x2048, .f32⟩
  | .hbm, ⟨30, _⟩ => ⟨S512x2048, .f32⟩
  | .hbm, ⟨31, _⟩ => ⟨S640x2048, .f32⟩
  | .hbm, ⟨32, _⟩ => ⟨S640x2048, .bf16⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S200x512x512, .bf16⟩
  | .hbm, ⟨38, _⟩ => ⟨S200x512x512, .bf16⟩
  | .hbm, ⟨39, _⟩ => ⟨S1024x2048, .f32⟩
  | .hbm, ⟨40, _⟩ => ⟨S512x2048, .f32⟩
  | .hbm, ⟨41, _⟩ => ⟨S1536x2048, .f32⟩
  | .hbm, ⟨42, _⟩ => ⟨S1536x2048, .bf16⟩
  | .hbm, ⟨43, _⟩ => ⟨S1024x2048, .f32⟩
  | .hbm, ⟨44, _⟩ => ⟨S512x2048, .f32⟩
  | .hbm, ⟨45, _⟩ => ⟨S1536x2048, .f32⟩
  | .hbm, ⟨46, _⟩ => ⟨S1536x2048, .bf16⟩
  | .hbm, ⟨47, _⟩ => ⟨S2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S1x1, .f32⟩
  | .hbm, ⟨52, _⟩ => ⟨S512x1, .f32⟩
  | .local .tc .vmem, ⟨0, _⟩ => ⟨S1x512x128, .f32⟩
  | .local .tc .vmem, ⟨1, _⟩ => ⟨S1x512x128, .f32⟩
  | .local .tc .vmem, ⟨2, _⟩ => ⟨S1x512x128, .f32⟩
  | .local .tc .vmem, ⟨3, _⟩ => ⟨S1x512x128, .f32⟩
  | .local .tc .vmem, ⟨4, _⟩ => ⟨S640x2048, .bf16⟩
  | .local .tc .vmem, ⟨5, _⟩ => ⟨S1x2048, .f32⟩
  | .local .tc .vmem, ⟨6, _⟩ => ⟨S640x2048, .bf16⟩
  | .local .tc .vmem, ⟨7, _⟩ => ⟨S1x2048, .f32⟩
  | .local .tc .vmem, ⟨8, _⟩ => ⟨S1x512x512, .bf16⟩
  | .local .tc .vmem, ⟨9, _⟩ => ⟨S1x512x512, .bf16⟩
  | .local .tc .vmem, ⟨10, _⟩ => ⟨S1x512x512, .bf16⟩
  | .local .tc .vmem, ⟨11, _⟩ => ⟨S1x512x512, .bf16⟩
  | .local .tc .vmem, ⟨12, _⟩ => ⟨S512x640, .bf16⟩
  | .local .tc .vmem, ⟨13, _⟩ => ⟨S512x512, .f32⟩
  | .local .tc .vmem, ⟨14, _⟩ => ⟨S512x640, .bf16⟩
  | .local .tc .vmem, ⟨15, _⟩ => ⟨S512x512, .f32⟩
  | .local .tc .vmem, ⟨16, _⟩ => ⟨S1x512x512, .bf16⟩
  | .local .tc .vmem, ⟨17, _⟩ => ⟨S1x512x512, .bf16⟩
  | .local .tc .vmem, ⟨18, _⟩ => ⟨S1x512x512, .bf16⟩
  | .local .tc .vmem, ⟨19, _⟩ => ⟨S1x512x512, .bf16⟩
  | .local .tc .vmem, ⟨20, _⟩ => ⟨S1x512x512, .bf16⟩
  | .local .tc .vmem, ⟨21, _⟩ => ⟨S1x512x512, .bf16⟩
  | .local .tc .vmem, ⟨22, _⟩ => ⟨S1x512x512, .bf16⟩
  | .local .tc .vmem, ⟨23, _⟩ => ⟨S1x512x512, .bf16⟩
  | .local .tc .vmem, ⟨24, _⟩ => ⟨S1536x2048, .bf16⟩
  | .local .tc .vmem, ⟨25, _⟩ => ⟨S1x2048, .f32⟩
  | .local .tc .vmem, ⟨26, _⟩ => ⟨S1536x2048, .bf16⟩
  | .local .tc .vmem, ⟨27, _⟩ => ⟨S1x2048, .f32⟩
  | .local .tc .vmem, ⟨28, _⟩ => ⟨S1x1024, .f32⟩
  | .local .tc .vmem, ⟨29, _⟩ => ⟨S1x1, .f32⟩
  | .local .tc .vmem, ⟨30, _⟩ => ⟨S512x1, .f32⟩
  | .local .tc .vmem, ⟨31, _⟩ => ⟨S512x1536, .bf16⟩
  | .local .tc .vmem, ⟨32, _⟩ => ⟨S512x512, .f32⟩
  | .local .tc .vmem, ⟨33, _⟩ => ⟨S512x1536, .bf16⟩
  | .local .tc .vmem, ⟨34, _⟩ => ⟨S512x512, .f32⟩
  | .local .scVector .vmem, ⟨0, _⟩ => ⟨S2x1x128, .i32⟩
  | .local .scVector .vmem, ⟨1, _⟩ => ⟨S2x128x128, .f32⟩
  | _, _ => ⟨S512x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_arg1_scv : Ref sig .scVector := ⟨.hbm, 1, rfl⟩
abbrev main_v3_scv : Ref sig .scVector := ⟨.hbm, 22, rfl⟩
abbrev main_v4_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc1_stg7_0 : Ref sig .tc := ⟨.vmem, 10, rfl⟩
abbrev cc1_stg7_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_scratch0 : Ref sig .tc := ⟨.vmem, 31, rfl⟩
abbrev cc2_scratch1 : Ref sig .tc := ⟨.vmem, 32, rfl⟩
abbrev cc2_scratch2 : Ref sig .tc := ⟨.vmem, 33, rfl⟩
abbrev cc2_scratch3 : Ref sig .tc := ⟨.vmem, 34, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev sc_start : Sem sig := 0
abbrev sc_done : Sem sig := 1
abbrev sc_go : Sem sig := 2
abbrev sc_taskDone : Sem sig := 3

abbrev nD : Nat := 2
abbrev τ : Topo := Topo.v7x

variable {F : FTy → Type} [FloatOps F]

abbrev grid0 : Pipeline.Grid := ⟨2, ![1, 16], ![false, false]⟩

def k0_off1 : Fin 3 → Nat :=
  let c0_i32_11_r0 : BitVec 32 := 0#32
  let c2_i32_r0 : BitVec 32 := 2#32
  let v17_r0 : BitVec 32 := Scalar.remui c0_i32_11_r0 c2_i32_r0
  let c0_i32_12_r0 : BitVec 32 := 0#32
  let c0_i32_13_r0 : BitVec 32 := 0#32
  ![v17_r0.toNat, 0, 0]
def k0_off2 (i : grid0.Coords) : Fin 2 → Nat :=
  let c0_i32_14_r0 : BitVec 32 := 0#32
  let c128_i32_r0 : BitVec 32 := 128#32
  let c0_i32_r0 : BitVec 32 := 0#32
  let arg1 : BitVec 32 := BitVec.ofNat 32 (i 1).val
  let c50_i32 : BitVec 32 := 50#32
  let v0 : BitVec 32 := Scalar.muli arg1 c50_i32
  let v3_r0 : BitVec 32 := Scalar.addi c0_i32_r0 v0
  let v18_r0 : BitVec 32 := Scalar.muli c128_i32_r0 v3_r0
  ![0, v18_r0.toNat]
def k0_off3 : Fin 1 → Nat :=
  let c0_i32_11_r0 : BitVec 32 := 0#32
  let c2_i32_r0 : BitVec 32 := 2#32
  let v17_r0 : BitVec 32 := Scalar.remui c0_i32_11_r0 c2_i32_r0
  ![v17_r0.toNat]
@[reducible] def k0_t1_loop : Scf.Loop 32 :=
  let c0_i32_24_r0 : BitVec 32 := 0#32
  let c50_i32_25_r0 : BitVec 32 := 50#32
  let v28_r0 : BitVec 32 := Scalar.addi c0_i32_24_r0 c50_i32_25_r0
  let c1_i32_26_r0 : BitVec 32 := 1#32
  ⟨c0_i32_24_r0, v28_r0, c1_i32_26_r0⟩
def k0_off4 (arg6_r0 : BitVec 32) : Fin 3 → Nat :=
  let c2_i32_97_r0 : BitVec 32 := 2#32
  let v140_r0 : BitVec 32 := Scalar.remui arg6_r0 c2_i32_97_r0
  let c0_i32_99_r0 : BitVec 32 := 0#32
  let c0_i32_100_r0 : BitVec 32 := 0#32
  ![v140_r0.toNat, 0, 0]
def k0_cond1 (i : grid0.Coords) (k0_t1 : Fin k0_t1_loop.trips) (arg10_r0 : BitVec 32) : BitVec 1 :=
  let arg1 : BitVec 32 := BitVec.ofNat 32 (i 1).val
  let c50_i32 : BitVec 32 := 50#32
  let v0 : BitVec 32 := Scalar.muli arg1 c50_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c50_i32_60_r0 : BitVec 32 := 50#32
  let v70_r0 : BitVec 1 := Scalar.cmpi .eq v69_r0 c50_i32_60_r0
  let c0_i32_61_r0 : BitVec 32 := 0#32
  let v71_r0 : BitVec 32 := Scalar.select v70_r0 c0_i32_61_r0 v69_r0
  let v72_r0 : BitVec 32 := Scalar.addi v71_r0 v0
  let v78_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c49_i32_66_r0 : BitVec 32 := 49#32
  let v79_r0 : BitVec 1 := Scalar.cmpi .sge arg5_r0 c49_i32_66_r0
  let true_67_r0 : BitVec 1 := 1#1
  let v80_r0 : BitVec 1 := Scalar.xori v79_r0 true_67_r0
  let v81_r0 : BitVec 1 := Scalar.andi v78_r0 v80_r0
  let true_68_r0 : BitVec 1 := 1#1
  let v82_r0 : BitVec 1 := Scalar.andi v81_r0 true_68_r0
  let v83_r0 : BitVec 32 := Scalar.extui v82_r0
  let c0_i32_69_r0 : BitVec 32 := 0#32
  let v84_r0 : BitVec 1 := Scalar.cmpi .ne v83_r0 c0_i32_69_r0
  v84_r0

def k0_off5 (i : grid0.Coords) (arg10_r0 : BitVec 32) : Fin 2 → Nat :=
  let c0_i32_101_r0 : BitVec 32 := 0#32
  let c128_i32_98_r0 : BitVec 32 := 128#32
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c50_i32_60_r0 : BitVec 32 := 50#32
  let v70_r0 : BitVec 1 := Scalar.cmpi .eq v69_r0 c50_i32_60_r0
  let c0_i32_61_r0 : BitVec 32 := 0#32
  let v71_r0 : BitVec 32 := Scalar.select v70_r0 c0_i32_61_r0 v69_r0
  let arg1 : BitVec 32 := BitVec.ofNat 32 (i 1).val
  let c50_i32 : BitVec 32 := 50#32
  let v0 : BitVec 32 := Scalar.muli arg1 c50_i32
  let v72_r0 : BitVec 32 := Scalar.addi v71_r0 v0
  let v141_r0 : BitVec 32 := Scalar.muli c128_i32_98_r0 v72_r0
  ![0, v141_r0.toNat]
def k0_off6 (arg6_r0 : BitVec 32) : Fin 1 → Nat :=
  let c2_i32_97_r0 : BitVec 32 := 2#32
  let v140_r0 : BitVec 32 := Scalar.remui arg6_r0 c2_i32_97_r0
  ![v140_r0.toNat]
def k0_off7 (arg7_r0 : BitVec 32) : Fin 3 → Nat :=
  let c2_i32_98_r0 : BitVec 32 := 2#32
  let v141_r0 : BitVec 32 := Scalar.remui arg7_r0 c2_i32_98_r0
  let c0_i32_99_r0 : BitVec 32 := 0#32
  let c0_i32_100_r0 : BitVec 32 := 0#32
  ![v141_r0.toNat, 0, 0]
def k0_cond2 (i : grid0.Coords) (k0_t1 : Fin k0_t1_loop.trips) (arg10_r0 : BitVec 32) : BitVec 1 :=
  let arg1 : BitVec 32 := BitVec.ofNat 32 (i 1).val
  let c50_i32 : BitVec 32 := 50#32
  let v0 : BitVec 32 := Scalar.muli arg1 c50_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c49_i32_57_r0 : BitVec 32 := 49#32
  let v66_r0 : BitVec 32 := Scalar.select v65_r0 c49_i32_57_r0 v64_r0
  let v67_r0 : BitVec 32 := Scalar.addi v66_r0 v0
  let v92_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let v93_r0 : BitVec 1 := Scalar.ori v92_r0 v60_r0
  let c0_i32_74_r0 : BitVec 32 := 0#32
  let v94_r0 : BitVec 1 := Scalar.cmpi .sge arg5_r0 c0_i32_74_r0
  let v95_r0 : BitVec 1 := Scalar.andi v93_r0 v94_r0
  let v96_r0 : BitVec 32 := Scalar.extui v95_r0
  let c0_i32_75_r0 : BitVec 32 := 0#32
  let v97_r0 : BitVec 1 := Scalar.cmpi .ne v96_r0 c0_i32_75_r0
  v97_r0

def k0_off8 (i : grid0.Coords) (arg10_r0 : BitVec 32) : Fin 2 → Nat :=
  let c0_i32_101_r0 : BitVec 32 := 0#32
  let c128_i32_97_r0 : BitVec 32 := 128#32
  let arg1 : BitVec 32 := BitVec.ofNat 32 (i 1).val
  let c50_i32 : BitVec 32 := 50#32
  let v0 : BitVec 32 := Scalar.muli arg1 c50_i32
  let v62_r0 : BitVec 32 := Scalar.addi arg10_r0 v0
  let v140_r0 : BitVec 32 := Scalar.muli c128_i32_97_r0 v62_r0
  ![0, v140_r0.toNat]
def k0_off9 (arg7_r0 : BitVec 32) : Fin 1 → Nat :=
  let c2_i32_98_r0 : BitVec 32 := 2#32
  let v141_r0 : BitVec 32 := Scalar.remui arg7_r0 c2_i32_98_r0
  ![v141_r0.toNat]
def k0_off10 (arg8_r0 : BitVec 32) : Fin 3 → Nat :=
  let c2_i32_79_r0 : BitVec 32 := 2#32
  let v105_r0 : BitVec 32 := Scalar.remui arg8_r0 c2_i32_79_r0
  let c0_i32_97_r1 : BitVec 32 := 0#32
  let c0_i32_98_r1 : BitVec 32 := 0#32
  ![v105_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_78_r0 : BitVec 32 := 2#32
  let v104_r0 : BitVec 32 := Scalar.remui arg7_r0 c2_i32_78_r0
  let c0_i32_99_r1 : BitVec 32 := 0#32
  let c0_i32_100_r1 : BitVec 32 := 0#32
  ![v104_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_97_r0 : BitVec 32 := 2#32
  let v140_r0 : BitVec 32 := Scalar.remui arg8_r0 c2_i32_97_r0
  let c0_i32_99_r0 : BitVec 32 := 0#32
  let c0_i32_100_r0 : BitVec 32 := 0#32
  ![v140_r0.toNat, 0, 0]
def k0_cond5 (i : grid0.Coords) (k0_t1 : Fin k0_t1_loop.trips) (arg10_r0 : BitVec 32) : BitVec 1 :=
  let arg1 : BitVec 32 := BitVec.ofNat 32 (i 1).val
  let c50_i32 : BitVec 32 := 50#32
  let v0 : BitVec 32 := Scalar.muli arg1 c50_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c50_i32_60_r0 : BitVec 32 := 50#32
  let v70_r0 : BitVec 1 := Scalar.cmpi .eq v69_r0 c50_i32_60_r0
  let c0_i32_61_r0 : BitVec 32 := 0#32
  let v71_r0 : BitVec 32 := Scalar.select v70_r0 c0_i32_61_r0 v69_r0
  let v72_r0 : BitVec 32 := Scalar.addi v71_r0 v0
  let v111_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c49_i32_53_r0 : BitVec 32 := 49#32
  let v61_r0 : BitVec 1 := Scalar.cmpi .eq arg5_r0 c49_i32_53_r0
  let v112_r0 : BitVec 1 := Scalar.ori v111_r0 v61_r0
  let v113_r0 : BitVec 32 := Scalar.extui v112_r0
  let c0_i32_82_r0 : BitVec 32 := 0#32
  let v114_r0 : BitVec 1 := Scalar.cmpi .ne v113_r0 c0_i32_82_r0
  v114_r0

def k0_off13 (i : grid0.Coords) (arg10_r0 : BitVec 32) : Fin 2 → Nat :=
  let c128_i32_98_r0 : BitVec 32 := 128#32
  let arg1 : BitVec 32 := BitVec.ofNat 32 (i 1).val
  let c50_i32 : BitVec 32 := 50#32
  let v0 : BitVec 32 := Scalar.muli arg1 c50_i32
  let v62_r0 : BitVec 32 := Scalar.addi arg10_r0 v0
  let v141_r0 : BitVec 32 := Scalar.muli c128_i32_98_r0 v62_r0
  let c0_i32_101_r0 : BitVec 32 := 0#32
  ![v141_r0.toNat, 0]
def k0_off14 (arg8_r0 : BitVec 32) : Fin 1 → Nat :=
  let c2_i32_97_r0 : BitVec 32 := 2#32
  let v140_r0 : BitVec 32 := Scalar.remui arg8_r0 c2_i32_97_r0
  ![v140_r0.toNat]
def k0_off15 (arg9_r0 : BitVec 32) : Fin 3 → Nat :=
  let c2_i32_97_r0 : BitVec 32 := 2#32
  let v140_r0 : BitVec 32 := Scalar.remui arg9_r0 c2_i32_97_r0
  let c0_i32_99_r0 : BitVec 32 := 0#32
  let c0_i32_100_r0 : BitVec 32 := 0#32
  ![v140_r0.toNat, 0, 0]
def k0_cond7 (i : grid0.Coords) (k0_t1 : Fin k0_t1_loop.trips) (arg10_r0 : BitVec 32) : BitVec 1 :=
  let arg1 : BitVec 32 := BitVec.ofNat 32 (i 1).val
  let c50_i32 : BitVec 32 := 50#32
  let v0 : BitVec 32 := Scalar.muli arg1 c50_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c49_i32_57_r0 : BitVec 32 := 49#32
  let v66_r0 : BitVec 32 := Scalar.select v65_r0 c49_i32_57_r0 v64_r0
  let v67_r0 : BitVec 32 := Scalar.addi v66_r0 v0
  let v124_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let true_88_r0 : BitVec 1 := 1#1
  let v125_r0 : BitVec 1 := Scalar.xori v60_r0 true_88_r0
  let v126_r0 : BitVec 1 := Scalar.andi v124_r0 v125_r0
  let v127_r0 : BitVec 32 := Scalar.extui v126_r0
  let c0_i32_89_r0 : BitVec 32 := 0#32
  let v128_r0 : BitVec 1 := Scalar.cmpi .ne v127_r0 c0_i32_89_r0
  v128_r0

def k0_off16 (i : grid0.Coords) (arg10_r0 : BitVec 32) : Fin 2 → Nat :=
  let c128_i32_98_r0 : BitVec 32 := 128#32
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c49_i32_57_r0 : BitVec 32 := 49#32
  let v66_r0 : BitVec 32 := Scalar.select v65_r0 c49_i32_57_r0 v64_r0
  let arg1 : BitVec 32 := BitVec.ofNat 32 (i 1).val
  let c50_i32 : BitVec 32 := 50#32
  let v0 : BitVec 32 := Scalar.muli arg1 c50_i32
  let v67_r0 : BitVec 32 := Scalar.addi v66_r0 v0
  let v141_r0 : BitVec 32 := Scalar.muli c128_i32_98_r0 v67_r0
  let c0_i32_101_r0 : BitVec 32 := 0#32
  ![v141_r0.toNat, 0]
def k0_off17 (arg9_r0 : BitVec 32) : Fin 1 → Nat :=
  let c2_i32_97_r0 : BitVec 32 := 2#32
  let v140_r0 : BitVec 32 := Scalar.remui arg9_r0 c2_i32_97_r0
  ![v140_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x102400.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x102400.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S102400x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S102400x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x102400.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x102400.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S102400x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S102400x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v29_3_r0 : BitVec 32) : Fin 3 → Nat :=
  let c2_i32_44_r0 : BitVec 32 := 2#32
  let v50_r0 : BitVec 32 := Scalar.remui v29_3_r0 c2_i32_44_r0
  let c0_i32_46_r0 : BitVec 32 := 0#32
  let c0_i32_47_r0 : BitVec 32 := 0#32
  ![v50_r0.toNat, 0, 0]

def k0_off19 (i : grid0.Coords) (v29_4_r0 : BitVec 32) : Fin 2 → Nat :=
  let c128_i32_45_r0 : BitVec 32 := 128#32
  let true_29_r0 : BitVec 1 := 1#1
  let c1_i32_28_r0 : BitVec 32 := 1#32
  let v30_r0 : BitVec 32 := Scalar.subi v29_4_r0 c1_i32_28_r0
  let v31_r0 : BitVec 32 := Scalar.select true_29_r0 v30_r0 v29_4_r0
  let c_m1_i32_30_r0 : BitVec 32 := 4294967295#32
  let v32_r0 : BitVec 1 := Scalar.cmpi .eq v31_r0 c_m1_i32_30_r0
  let c49_i32_31_r0 : BitVec 32 := 49#32
  let v33_r0 : BitVec 32 := Scalar.select v32_r0 c49_i32_31_r0 v31_r0
  let arg1 : BitVec 32 := BitVec.ofNat 32 (i 1).val
  let c50_i32 : BitVec 32 := 50#32
  let v0 : BitVec 32 := Scalar.muli arg1 c50_i32
  let v34_r0 : BitVec 32 := Scalar.addi v33_r0 v0
  let v51_r0 : BitVec 32 := Scalar.muli c128_i32_45_r0 v34_r0
  let c0_i32_48_r0 : BitVec 32 := 0#32
  ![v51_r0.toNat, 0]

def k0_chk5 (i : grid0.Coords) (v29_4_r0 : BitVec 32) : Prop :=
  (∀ a, (k0_off19 i v29_4_r0) a + S128x128.size a ≤ S102400x128.size a)
theorem k0_off19_inb : ∀ (i : grid0.Coords) (v29_4_r0 : BitVec 32) (k0_hw5 : k0_chk5 i v29_4_r0), ∀ a, (k0_off19 i v29_4_r0) a + S128x128.size a ≤ S102400x128.size a := fun i v29_4_r0 k0_hw5 => k0_hw5

def k0_off20 (v29_3_r0 : BitVec 32) : Fin 1 → Nat :=
  let c2_i32_44_r0 : BitVec 32 := 2#32
  let v50_r0 : BitVec 32 := Scalar.remui v29_3_r0 c2_i32_44_r0
  ![v50_r0.toNat]
def k0_off21 (v29_3_r0 : BitVec 32) : Fin 3 → Nat :=
  let c2_i32_44_r0 : BitVec 32 := 2#32
  let v50_r0 : BitVec 32 := Scalar.remui v29_3_r0 c2_i32_44_r0
  let c0_i32_50_r0 : BitVec 32 := 0#32
  let c0_i32_51_r0 : BitVec 32 := 0#32
  ![v50_r0.toNat, 0, 0]

def k0_chk4 (v29_3_r0 : BitVec 32) : Prop :=
  (∀ a, (k0_off18 v29_3_r0) a + S1x128x128.size a ≤ S2x128x128.size a) ∧
  (∀ a, (k0_off20 v29_3_r0) a + S1.size a ≤ S2.size a) ∧
  (∀ a, (k0_off21 v29_3_r0) a + S1x128x128.size a ≤ S2x128x128.size a)
theorem k0_off18_inb : ∀ (v29_3_r0 : BitVec 32) (k0_hw4 : k0_chk4 v29_3_r0), ∀ a, (k0_off18 v29_3_r0) a + S1x128x128.size a ≤ S2x128x128.size a := fun v29_3_r0 k0_hw4 => k0_hw4.1
theorem k0_off20_inb : ∀ (v29_3_r0 : BitVec 32) (k0_hw4 : k0_chk4 v29_3_r0), ∀ a, (k0_off20 v29_3_r0) a + S1.size a ≤ S2.size a := fun v29_3_r0 k0_hw4 => k0_hw4.2.1
theorem k0_off21_inb : ∀ (v29_3_r0 : BitVec 32) (k0_hw4 : k0_chk4 v29_3_r0), ∀ a, (k0_off21 v29_3_r0) a + S1x128x128.size a ≤ S2x128x128.size a := fun v29_3_r0 k0_hw4 => k0_hw4.2.2

abbrev grid1 : Pipeline.Grid := ⟨1, ![200], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S640x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S640x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![200], ![false]⟩

def k2_cond2 (i : grid2.Coords) : BitVec 1 :=
  let arg0 : BitVec 32 := BitVec.ofNat 32 (i 0).val
  let c199_i32 : BitVec 32 := 199#32
  let v117 : BitVec 1 := Scalar.cmpi .eq arg0 c199_i32
  let v118 : BitVec 32 := Scalar.extui v117
  let c0_i32_61 : BitVec 32 := 0#32
  let v119 : BitVec 1 := Scalar.cmpi .ne v118 c0_i32_61
  v119

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc2_transform_3 (i : grid2.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1536x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1536x2048 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S2048x128 : Shape := ⟨2, ![2048, 128]⟩
abbrev S2048x512 : Shape := ⟨2, ![2048, 512]⟩
abbrev S2048 : Shape := ⟨1, ![2048]⟩
abbrev S2048x1024 : Shape := ⟨2, ![2048, 1024]⟩
abbrev S1x1024 : Shape := ⟨2, ![1, 1024]⟩
abbrev S1 : Shape := ⟨1, ![1]⟩
abbrev S_ : Shape := ⟨0, ![]⟩
abbrev S1024x200x1 : Shape := ⟨3, ![1024, 200, 1]⟩
abbrev S1x1x1 : Shape := ⟨3, ![1, 1, 1]⟩
abbrev S1024x200x128 : Shape := ⟨3, ![1024, 200, 128]⟩
abbrev S200x1024x128 : Shape := ⟨3, ![200, 1024, 128]⟩
abbrev S1024x512 : Shape := ⟨2, ![1024, 512]⟩
abbrev S200x1024x512 : Shape := ⟨3, ![200, 1024, 512]⟩
abbrev S1x1024x128 : Shape := ⟨3, ![1, 1024, 128]⟩
abbrev S1024x128 : Shape := ⟨2, ![1024, 128]⟩
abbrev S128x2048 : Shape := ⟨2, ![128, 2048]⟩
abbrev S1024x2048 : Shape := ⟨2, ![1024, 2048]⟩
abbrev S512x2048 : Shape := ⟨2, ![512, 2048]⟩
abbrev S1x2048 : Shape := ⟨2, ![1, 2048]⟩
abbrev S1x1024x512 : Shape := ⟨3, ![1, 1024, 512]⟩
abbrev S200x1024x1024 : Shape := ⟨3, ![200, 1024, 1024]⟩
abbrev S1x1024x1024 : Shape := ⟨3, ![1, 1024, 1024]⟩
abbrev S1024x1024 : Shape := ⟨2, ![1024, 1024]⟩
abbrev S1024x1 : Shape := ⟨2, ![1024, 1]⟩
abbrev S1x1 : Shape := ⟨2, ![1, 1]⟩

abbrev nBuf : Space → Nat
  | .hbm => 347
  | .vmem => 0
  | .smem => 0
  | _ => 0

abbrev hbmTy0_0 (i : Nat) : BufTy := match i % 128 with
  | 0 => ⟨S1024x200, .i32⟩
  | 1 => ⟨S100000x128, .f32⟩
  | 2 => ⟨S2048x128, .f32⟩
  | 3 => ⟨S2048x512, .f32⟩
  | 4 => ⟨S2048, .f32⟩
  | 5 => ⟨S2048, .f32⟩
  | 6 => ⟨S2048x128, .f32⟩
  | 7 => ⟨S2048x512, .f32⟩
  | 8 => ⟨S2048, .f32⟩
  | 9 => ⟨S2048, .f32⟩
  | 10 => ⟨S2048x1024, .f32⟩
  | 11 => ⟨S2048x512, .f32⟩
  | 12 => ⟨S2048, .f32⟩
  | 13 => ⟨S2048, .f32⟩
  | 14 => ⟨S2048x1024, .f32⟩
  | 15 => ⟨S2048x512, .f32⟩
  | 16 => ⟨S2048, .f32⟩
  | 17 => ⟨S2048, .f32⟩
  | 18 => ⟨S1x1024, .f32⟩
  | 19 => ⟨S1, .f32⟩
  | 20 => ⟨S_, .i32⟩
  | 21 => ⟨S1024x200, .i32⟩
  | 22 => ⟨S1024x200, .i1⟩
  | 23 => ⟨S_, .i32⟩
  | 24 => ⟨S1024x200, .i32⟩
  | 25 => ⟨S1024x200, .i32⟩
  | 26 => ⟨S1024x200, .i32⟩
  | 27 => ⟨S1024x200x1, .i32⟩
  | 28 => ⟨S1, .i32⟩
  | 29 => ⟨S_, .i32⟩
  | 30 => ⟨S1024x200x1, .i32⟩
  | 31 => ⟨S1024x200x1, .i1⟩
  | 32 => ⟨S1x1x1, .i32⟩
  | 33 => ⟨S1024x200x1, .i32⟩
  | 34 => ⟨S1024x200x1, .i1⟩
  | 35 => ⟨S1024x200x1, .i1⟩
  | 36 => ⟨S_, .i1⟩
  | 37 => ⟨S1024x200, .i1⟩
  | 38 => ⟨S1024x200x128, .f32⟩
  | 39 => ⟨S1024x200x128, .i1⟩
  | 40 => ⟨S_, .f32⟩
  | 41 => ⟨S1024x200x128, .f32⟩
  | 42 => ⟨S1024x200x128, .f32⟩
  | 43 => ⟨S200x1024x128, .f32⟩
  | 44 => ⟨S2048, .f32⟩
  | 45 => ⟨S_, .f32⟩
  | 46 => ⟨S1024x512, .f32⟩
  | 47 => ⟨S_, .f32⟩
  | 48 => ⟨S1024x512, .f32⟩
  | 49 => ⟨S_, .f32⟩
  | 50 => ⟨S200x1024x512, .f32⟩
  | 51 => ⟨S_, .i32⟩
  | 52 => ⟨S200x1024x128, .f32⟩
  | 53 => ⟨S2048x128, .f32⟩
  | 54 => ⟨S2048x512, .f32⟩
  | 55 => ⟨S2048, .f32⟩
  | 56 => ⟨S_, .i32⟩
  | 57 => ⟨S1024x512, .f32⟩
  | 58 => ⟨S1024x512, .f32⟩
  | 59 => ⟨S200x1024x512, .f32⟩
  | 60 => ⟨S_, .i32⟩
  | 61 => ⟨S_, .i1⟩
  | 62 => ⟨S_, .i32⟩
  | 63 => ⟨S_, .i32⟩
  | 64 => ⟨S1x1024x128, .f32⟩
  | 65 => ⟨S1024x128, .f32⟩
  | 66 => ⟨S128x2048, .f32⟩
  | 67 => ⟨S1024x2048, .f32⟩
  | 68 => ⟨S512x2048, .f32⟩
  | 69 => ⟨S1024x2048, .f32⟩
  | 70 => ⟨S1024x2048, .f32⟩
  | 71 => ⟨S1x2048, .f32⟩
  | 72 => ⟨S1024x2048, .f32⟩
  | 73 => ⟨S1024x2048, .f32⟩
  | 74 => ⟨S1024x512, .f32⟩
  | 75 => ⟨S1024x512, .f32⟩
  | 76 => ⟨S1024x512, .f32⟩
  | 77 => ⟨S1024x512, .f32⟩
  | 78 => ⟨S1024x512, .f32⟩
  | 79 => ⟨S1024x512, .f32⟩
  | 80 => ⟨S_, .f32⟩
  | 81 => ⟨S1024x512, .f32⟩
  | 82 => ⟨S1024x512, .f32⟩
  | 83 => ⟨S_, .f32⟩
  | 84 => ⟨S1024x512, .f32⟩
  | 85 => ⟨S1024x512, .f32⟩
  | 86 => ⟨S1024x512, .f32⟩
  | 87 => ⟨S1024x512, .f32⟩
  | 88 => ⟨S_, .f32⟩
  | 89 => ⟨S1024x512, .f32⟩
  | 90 => ⟨S1024x512, .f32⟩
  | 91 => ⟨S_, .f32⟩
  | 92 => ⟨S1024x512, .f32⟩
  | 93 => ⟨S1024x512, .f32⟩
  | 94 => ⟨S1024x512, .f32⟩
  | 95 => ⟨S1024x512, .f32⟩
  | 96 => ⟨S1024x512, .f32⟩
  | 97 => ⟨S_, .f32⟩
  | 98 => ⟨S1024x512, .f32⟩
  | 99 => ⟨S1024x512, .f32⟩
  | 100 => ⟨S_, .f32⟩
  | 101 => ⟨S1024x512, .f32⟩
  | 102 => ⟨S1024x512, .f32⟩
  | 103 => ⟨S1024x512, .f32⟩
  | 104 => ⟨S1024x512, .f32⟩
  | 105 => ⟨S1024x512, .f32⟩
  | 106 => ⟨S1024x512, .f32⟩
  | 107 => ⟨S1024x512, .f32⟩
  | 108 => ⟨S1x1024x512, .f32⟩
  | 109 => ⟨S_, .i32⟩
  | 110 => ⟨S_, .i32⟩
  | 111 => ⟨S200x1024x512, .f32⟩
  | 112 => ⟨S_, .i32⟩
  | 113 => ⟨S_, .i32⟩
  | 114 => ⟨S2048, .f32⟩
  | 115 => ⟨S_, .f32⟩
  | 116 => ⟨S1024x512, .f32⟩
  | 117 => ⟨S_, .f32⟩
  | 118 => ⟨S1024x512, .f32⟩
  | 119 => ⟨S_, .f32⟩
  | 120 => ⟨S200x1024x512, .f32⟩
  | 121 => ⟨S_, .i32⟩
  | 122 => ⟨S200x1024x128, .f32⟩
  | 123 => ⟨S2048x128, .f32⟩
  | 124 => ⟨S2048x512, .f32⟩
  | 125 => ⟨S2048, .f32⟩
  | 126 => ⟨S_, .i32⟩
  | 127 => ⟨S1024x512, .f32⟩
  | _ => ⟨S1024x200, .i32⟩

abbrev hbmTy0_1 (i : Nat) : BufTy := match i % 128 with
  | 0 => ⟨S1024x512, .f32⟩
  | 1 => ⟨S200x1024x512, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1x1024x128, .f32⟩
  | 11 => ⟨S1024x128, .f32⟩
  | 12 => ⟨S128x2048, .f32⟩
  | 13 => ⟨S1024x2048, .f32⟩
  | 14 => ⟨S512x2048, .f32⟩
  | 15 => ⟨S1024x2048, .f32⟩
  | 16 => ⟨S1024x2048, .f32⟩
  | 17 => ⟨S1x2048, .f32⟩
  | 18 => ⟨S1024x2048, .f32⟩
  | 19 => ⟨S1024x2048, .f32⟩
  | 20 => ⟨S1024x512, .f32⟩
  | 21 => ⟨S1024x512, .f32⟩
  | 22 => ⟨S1024x512, .f32⟩
  | 23 => ⟨S1024x512, .f32⟩
  | 24 => ⟨S1024x512, .f32⟩
  | 25 => ⟨S1024x512, .f32⟩
  | 26 => ⟨S_, .f32⟩
  | 27 => ⟨S1024x512, .f32⟩
  | 28 => ⟨S1024x512, .f32⟩
  | 29 => ⟨S_, .f32⟩
  | 30 => ⟨S1024x512, .f32⟩
  | 31 => ⟨S1024x512, .f32⟩
  | 32 => ⟨S1024x512, .f32⟩
  | 33 => ⟨S1024x512, .f32⟩
  | 34 => ⟨S_, .f32⟩
  | 35 => ⟨S1024x512, .f32⟩
  | 36 => ⟨S1024x512, .f32⟩
  | 37 => ⟨S_, .f32⟩
  | 38 => ⟨S1024x512, .f32⟩
  | 39 => ⟨S1024x512, .f32⟩
  | 40 => ⟨S1024x512, .f32⟩
  | 41 => ⟨S1024x512, .f32⟩
  | 42 => ⟨S1024x512, .f32⟩
  | 43 => ⟨S_, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x512, .f32⟩
  | 54 => ⟨S1x1024x512, .f32⟩
  | 55 => ⟨S_, .i32⟩
  | 56 => ⟨S_, .i32⟩
  | 57 => ⟨S200x1024x512, .f32⟩
  | 58 => ⟨S_, .i32⟩
  | 59 => ⟨S_, .i32⟩
  | 60 => ⟨S200x1024x1024, .f32⟩
  | 61 => ⟨S2048, .f32⟩
  | 62 => ⟨S_, .f32⟩
  | 63 => ⟨S1024x512, .f32⟩
  | 64 => ⟨S_, .f32⟩
  | 65 => ⟨S1024x512, .f32⟩
  | 66 => ⟨S_, .f32⟩
  | 67 => ⟨S200x1024x512, .f32⟩
  | 68 => ⟨S_, .i32⟩
  | 69 => ⟨S200x1024x1024, .f32⟩
  | 70 => ⟨S2048x1024, .f32⟩
  | 71 => ⟨S2048x512, .f32⟩
  | 72 => ⟨S2048, .f32⟩
  | 73 => ⟨S_, .i32⟩
  | 74 => ⟨S1024x512, .f32⟩
  | 75 => ⟨S1024x512, .f32⟩
  | 76 => ⟨S200x1024x512, .f32⟩
  | 77 => ⟨S_, .i32⟩
  | 78 => ⟨S_, .i1⟩
  | 79 => ⟨S_, .i32⟩
  | 80 => ⟨S_, .i32⟩
  | 81 => ⟨S1x1024x1024, .f32⟩
  | 82 => ⟨S1024x1024, .f32⟩
  | 83 => ⟨S1024x2048, .f32⟩
  | 84 => ⟨S1024x2048, .f32⟩
  | 85 => ⟨S512x2048, .f32⟩
  | 86 => ⟨S1024x2048, .f32⟩
  | 87 => ⟨S1024x2048, .f32⟩
  | 88 => ⟨S1x2048, .f32⟩
  | 89 => ⟨S1024x2048, .f32⟩
  | 90 => ⟨S1024x2048, .f32⟩
  | 91 => ⟨S1024x512, .f32⟩
  | 92 => ⟨S1024x512, .f32⟩
  | 93 => ⟨S1024x512, .f32⟩
  | 94 => ⟨S1024x512, .f32⟩
  | 95 => ⟨S1024x512, .f32⟩
  | 96 => ⟨S1024x512, .f32⟩
  | 97 => ⟨S_, .f32⟩
  | 98 => ⟨S1024x512, .f32⟩
  | 99 => ⟨S1024x512, .f32⟩
  | 100 => ⟨S_, .f32⟩
  | 101 => ⟨S1024x512, .f32⟩
  | 102 => ⟨S1024x512, .f32⟩
  | 103 => ⟨S1024x512, .f32⟩
  | 104 => ⟨S1024x512, .f32⟩
  | 105 => ⟨S_, .f32⟩
  | 106 => ⟨S1024x512, .f32⟩
  | 107 => ⟨S1024x512, .f32⟩
  | 108 => ⟨S_, .f32⟩
  | 109 => ⟨S1024x512, .f32⟩
  | 110 => ⟨S1024x512, .f32⟩
  | 111 => ⟨S1024x512, .f32⟩
  | 112 => ⟨S1024x512, .f32⟩
  | 113 => ⟨S1024x512, .f32⟩
  | 114 => ⟨S_, .f32⟩
  | 115 => ⟨S1024x512, .f32⟩
  | 116 => ⟨S1024x512, .f32⟩
  | 117 => ⟨S_, .f32⟩
  | 118 => ⟨S1024x512, .f32⟩
  | 119 => ⟨S1024x512, .f32⟩
  | 120 => ⟨S1024x512, .f32⟩
  | 121 => ⟨S1024x512, .f32⟩
  | 122 => ⟨S1024x512, .f32⟩
  | 123 => ⟨S1024x512, .f32⟩
  | 124 => ⟨S1024x512, .f32⟩
  | 125 => ⟨S1x1024x512, .f32⟩
  | 126 => ⟨S_, .i32⟩
  | 127 => ⟨S_, .i32⟩
  | _ => ⟨S1024x200, .i32⟩

abbrev hbmTy0_2 (i : Nat) : BufTy := match i % 128 with
  | 0 => ⟨S200x1024x512, .f32⟩
  | 1 => ⟨S_, .i32⟩
  | 2 => ⟨S_, .i32⟩
  | 3 => ⟨S2048, .f32⟩
  | 4 => ⟨S_, .f32⟩
  | 5 => ⟨S1024x512, .f32⟩
  | 6 => ⟨S_, .f32⟩
  | 7 => ⟨S1024x512, .f32⟩
  | 8 => ⟨S_, .f32⟩
  | 9 => ⟨S200x1024x512, .f32⟩
  | 10 => ⟨S_, .i32⟩
  | 11 => ⟨S200x1024x1024, .f32⟩
  | 12 => ⟨S2048x1024, .f32⟩
  | 13 => ⟨S2048x512, .f32⟩
  | 14 => ⟨S2048, .f32⟩
  | 15 => ⟨S_, .i32⟩
  | 16 => ⟨S1024x512, .f32⟩
  | 17 => ⟨S1024x512, .f32⟩
  | 18 => ⟨S200x1024x512, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S1x1024x1024, .f32⟩
  | 28 => ⟨S1024x1024, .f32⟩
  | 29 => ⟨S1024x2048, .f32⟩
  | 30 => ⟨S1024x2048, .f32⟩
  | 31 => ⟨S512x2048, .f32⟩
  | 32 => ⟨S1024x2048, .f32⟩
  | 33 => ⟨S1024x2048, .f32⟩
  | 34 => ⟨S1x2048, .f32⟩
  | 35 => ⟨S1024x2048, .f32⟩
  | 36 => ⟨S1024x2048, .f32⟩
  | 37 => ⟨S1024x512, .f32⟩
  | 38 => ⟨S1024x512, .f32⟩
  | 39 => ⟨S1024x512, .f32⟩
  | 40 => ⟨S1024x512, .f32⟩
  | 41 => ⟨S1024x512, .f32⟩
  | 42 => ⟨S1024x512, .f32⟩
  | 43 => ⟨S_, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S1024x512, .f32⟩
  | 50 => ⟨S1024x512, .f32⟩
  | 51 => ⟨S_, .f32⟩
  | 52 => ⟨S1024x512, .f32⟩
  | 53 => ⟨S1024x512, .f32⟩
  | 54 => ⟨S_, .f32⟩
  | 55 => ⟨S1024x512, .f32⟩
  | 56 => ⟨S1024x512, .f32⟩
  | 57 => ⟨S1024x512, .f32⟩
  | 58 => ⟨S1024x512, .f32⟩
  | 59 => ⟨S1024x512, .f32⟩
  | 60 => ⟨S_, .f32⟩
  | 61 => ⟨S1024x512, .f32⟩
  | 62 => ⟨S1024x512, .f32⟩
  | 63 => ⟨S_, .f32⟩
  | 64 => ⟨S1024x512, .f32⟩
  | 65 => ⟨S1024x512, .f32⟩
  | 66 => ⟨S1024x512, .f32⟩
  | 67 => ⟨S1024x512, .f32⟩
  | 68 => ⟨S1024x512, .f32⟩
  | 69 => ⟨S1024x512, .f32⟩
  | 70 => ⟨S1024x512, .f32⟩
  | 71 => ⟨S1x1024x512, .f32⟩
  | 72 => ⟨S_, .i32⟩
  | 73 => ⟨S_, .i32⟩
  | 74 => ⟨S200x1024x512, .f32⟩
  | 75 => ⟨S_, .i32⟩
  | 76 => ⟨S_, .i32⟩
  | 77 => ⟨S1024x1024, .f32⟩
  | 78 => ⟨S1024x1, .f32⟩
  | 79 => ⟨S1024x1, .f32⟩
  | 80 => ⟨S1x1, .f32⟩
  | 81 => ⟨S1024x1, .f32⟩
  | 82 => ⟨S1024x1, .f32⟩
  | 83 => ⟨S1024x1, .f32⟩
  | 84 => ⟨S1024x1, .f32⟩
  | 85 => ⟨S_, .f32⟩
  | 86 => ⟨S1024x1, .f32⟩
  | 87 => ⟨S1024x1, .f32⟩
  | 88 => ⟨S_, .f32⟩
  | 89 => ⟨S1024x1, .f32⟩
  | 90 => ⟨S1024x1, .f32⟩
  | _ => ⟨S1024x200, .i32⟩

abbrev hbmTy (i : Nat) : BufTy := match i / 128 with
  | 0 => hbmTy0_0 i
  | 1 => hbmTy0_1 i
  | 2 => hbmTy0_2 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_cst : Ref sig .tc := ⟨.hbm, 45, rfl⟩
abbrev main_v3 : Ref sig .tc := ⟨.hbm, 46, rfl⟩
abbrev main_cst_0 : Ref sig .tc := ⟨.hbm, 47, rfl⟩
abbrev main_v4 : Ref sig .tc := ⟨.hbm, 48, rfl⟩
abbrev main_cst_1 : Ref sig .tc := ⟨.hbm, 49, rfl⟩
abbrev main_v5 : Ref sig .tc := ⟨.hbm, 50, rfl⟩
abbrev main_c : Ref sig .tc := ⟨.hbm, 51, rfl⟩
abbrev main_v6_0 : Ref sig .tc := ⟨.hbm, 52, rfl⟩
abbrev main_v6_1 : Ref sig .tc := ⟨.hbm, 53, rfl⟩
abbrev main_v6_2 : Ref sig .tc := ⟨.hbm, 54, rfl⟩
abbrev main_v6_3 : Ref sig .tc := ⟨.hbm, 55, rfl⟩
abbrev main_v6_4 : Ref sig .tc := ⟨.hbm, 56, rfl⟩
abbrev main_v6_5 : Ref sig .tc := ⟨.hbm, 57, rfl⟩
abbrev main_v6_6 : Ref sig .tc := ⟨.hbm, 58, rfl⟩
abbrev main_v6_7 : Ref sig .tc := ⟨.hbm, 59, rfl⟩
abbrev main_while0c_c_23 : Ref sig .tc := ⟨.hbm, 60, rfl⟩
abbrev main_while0c_v35 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_v0 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_cst_23 : Ref sig .tc := ⟨.hbm, 80, rfl⟩
abbrev main_while0b_v50 : Ref sig .tc := ⟨.hbm, 81, rfl⟩
abbrev main_while0b_v51 : Ref sig .tc := ⟨.hbm, 82, rfl⟩
abbrev main_while0b_cst_24 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_cst_25 : Ref sig .tc := ⟨.hbm, 88, rfl⟩
abbrev main_while0b_v56 : Ref sig .tc := ⟨.hbm, 89, rfl⟩
abbrev main_while0b_v57 : Ref sig .tc := ⟨.hbm, 90, rfl⟩
abbrev main_while0b_cst_26 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_cst_27 : Ref sig .tc := ⟨.hbm, 97, rfl⟩
abbrev main_while0b_v63 : Ref sig .tc := ⟨.hbm, 98, rfl⟩
abbrev main_while0b_v64 : Ref sig .tc := ⟨.hbm, 99, rfl⟩
abbrev main_while0b_cst_28 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_call2_v0 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_v72 : Ref sig .tc := ⟨.hbm, 111, rfl⟩
abbrev main_while0b_c_29 : Ref sig .tc := ⟨.hbm, 112, rfl⟩
abbrev main_while0b_v73 : Ref sig .tc := ⟨.hbm, 113, rfl⟩
abbrev main_v7 : Ref sig .tc := ⟨.hbm, 114, rfl⟩
abbrev main_cst_2 : Ref sig .tc := ⟨.hbm, 115, rfl⟩
abbrev main_v8 : Ref sig .tc := ⟨.hbm, 116, rfl⟩
abbrev main_cst_3 : Ref sig .tc := ⟨.hbm, 117, rfl⟩
abbrev main_v9 : Ref sig .tc := ⟨.hbm, 118, rfl⟩
abbrev main_cst_4 : Ref sig .tc := ⟨.hbm, 119, rfl⟩
abbrev main_v10 : Ref sig .tc := ⟨.hbm, 120, rfl⟩
abbrev main_c_5 : Ref sig .tc := ⟨.hbm, 121, rfl⟩
abbrev main_v11_0 : Ref sig .tc := ⟨.hbm, 122, rfl⟩
abbrev main_v11_1 : Ref sig .tc := ⟨.hbm, 123, rfl⟩
abbrev main_v11_2 : Ref sig .tc := ⟨.hbm, 124, rfl⟩
abbrev main_v11_3 : Ref sig .tc := ⟨.hbm, 125, rfl⟩
abbrev main_v11_4 : Ref sig .tc := ⟨.hbm, 126, rfl⟩
abbrev main_v11_5 : Ref sig .tc := ⟨.hbm, 127, rfl⟩
abbrev main_v11_6 : Ref sig .tc := ⟨.hbm, 128, rfl⟩
abbrev main_v11_7 : Ref sig .tc := ⟨.hbm, 129, rfl⟩
abbrev main_while1c_c_23 : Ref sig .tc := ⟨.hbm, 130, rfl⟩
abbrev main_while1c_v35 : Ref sig .tc := ⟨.hbm, 131, rfl⟩
abbrev main_while1b_c_23 : Ref sig .tc := ⟨.hbm, 132, rfl⟩
abbrev main_while1b_v35 : Ref sig .tc := ⟨.hbm, 133, rfl⟩
abbrev main_while1b_c_24 : Ref sig .tc := ⟨.hbm, 134, rfl⟩
abbrev main_while1b_v36 : Ref sig .tc := ⟨.hbm, 135, rfl⟩
abbrev main_while1b_call3_c : Ref sig .tc := ⟨.hbm, 136, rfl⟩
abbrev main_while1b_call3_c_0 : Ref sig .tc := ⟨.hbm, 137, rfl⟩
abbrev main_while1b_call3_v0 : Ref sig .tc := ⟨.hbm, 138, rfl⟩
abbrev main_while1b_v37 : Ref sig .tc := ⟨.hbm, 139, rfl⟩
abbrev main_while1b_v38 : Ref sig .tc := ⟨.hbm, 140, rfl⟩
abbrev main_while1b_v39 : Ref sig .tc := ⟨.hbm, 141, rfl⟩
abbrev main_while1b_v40 : Ref sig .tc := ⟨.hbm, 142, rfl⟩
abbrev main_while1b_v41 : Ref sig .tc := ⟨.hbm, 143, rfl⟩
abbrev main_while1b_v42 : Ref sig .tc := ⟨.hbm, 144, rfl⟩
abbrev main_while1b_v43 : Ref sig .tc := ⟨.hbm, 145, rfl⟩
abbrev main_while1b_v44 : Ref sig .tc := ⟨.hbm, 146, rfl⟩
abbrev main_while1b_v45 : Ref sig .tc := ⟨.hbm, 147, rfl⟩
abbrev main_while1b_v46 : Ref sig .tc := ⟨.hbm, 148, rfl⟩
abbrev main_while1b_v47 : Ref sig .tc := ⟨.hbm, 149, rfl⟩
abbrev main_while1b_v48 : Ref sig .tc := ⟨.hbm, 150, rfl⟩
abbrev main_while1b_v49 : Ref sig .tc := ⟨.hbm, 151, rfl⟩
abbrev main_while1b_v50 : Ref sig .tc := ⟨.hbm, 152, rfl⟩
abbrev main_while1b_v51 : Ref sig .tc := ⟨.hbm, 153, rfl⟩
abbrev main_while1b_cst_25 : Ref sig .tc := ⟨.hbm, 154, rfl⟩
abbrev main_while1b_v52 : Ref sig .tc := ⟨.hbm, 155, rfl⟩
abbrev main_while1b_v53 : Ref sig .tc := ⟨.hbm, 156, rfl⟩
abbrev main_while1b_cst_26 : Ref sig .tc := ⟨.hbm, 157, rfl⟩
abbrev main_while1b_v54 : Ref sig .tc := ⟨.hbm, 158, rfl⟩
abbrev main_while1b_v55 : Ref sig .tc := ⟨.hbm, 159, rfl⟩
abbrev main_while1b_v56 : Ref sig .tc := ⟨.hbm, 160, rfl⟩
abbrev main_while1b_v57 : Ref sig .tc := ⟨.hbm, 161, rfl⟩
abbrev main_while1b_cst_27 : Ref sig .tc := ⟨.hbm, 162, rfl⟩
abbrev main_while1b_v58 : Ref sig .tc := ⟨.hbm, 163, rfl⟩
abbrev main_while1b_v59 : Ref sig .tc := ⟨.hbm, 164, rfl⟩
abbrev main_while1b_cst_28 : Ref sig .tc := ⟨.hbm, 165, rfl⟩
abbrev main_while1b_v60 : Ref sig .tc := ⟨.hbm, 166, rfl⟩
abbrev main_while1b_v61 : Ref sig .tc := ⟨.hbm, 167, rfl⟩
abbrev main_while1b_v62 : Ref sig .tc := ⟨.hbm, 168, rfl⟩
abbrev main_while1b_v63 : Ref sig .tc := ⟨.hbm, 169, rfl⟩
abbrev main_while1b_v64 : Ref sig .tc := ⟨.hbm, 170, rfl⟩
abbrev main_while1b_cst_29 : Ref sig .tc := ⟨.hbm, 171, rfl⟩
abbrev main_while1b_v65 : Ref sig .tc := ⟨.hbm, 172, rfl⟩
abbrev main_while1b_v66 : Ref sig .tc := ⟨.hbm, 173, rfl⟩
abbrev main_while1b_cst_30 : Ref sig .tc := ⟨.hbm, 174, rfl⟩
abbrev main_while1b_v67 : Ref sig .tc := ⟨.hbm, 175, rfl⟩
abbrev main_while1b_v68 : Ref sig .tc := ⟨.hbm, 176, rfl⟩
abbrev main_while1b_v69 : Ref sig .tc := ⟨.hbm, 177, rfl⟩
abbrev main_while1b_v70 : Ref sig .tc := ⟨.hbm, 178, rfl⟩
abbrev main_while1b_v71 : Ref sig .tc := ⟨.hbm, 179, rfl⟩
abbrev main_while1b_v72 : Ref sig .tc := ⟨.hbm, 180, rfl⟩
abbrev main_while1b_v73 : Ref sig .tc := ⟨.hbm, 181, rfl⟩
abbrev main_while1b_call4_v0 : Ref sig .tc := ⟨.hbm, 182, rfl⟩
abbrev main_while1b_call4_c : Ref sig .tc := ⟨.hbm, 183, rfl⟩
abbrev main_while1b_call4_c_0 : Ref sig .tc := ⟨.hbm, 184, rfl⟩
abbrev main_while1b_v74 : Ref sig .tc := ⟨.hbm, 185, rfl⟩
abbrev main_while1b_c_31 : Ref sig .tc := ⟨.hbm, 186, rfl⟩
abbrev main_while1b_v75 : Ref sig .tc := ⟨.hbm, 187, rfl⟩
abbrev main_v12 : Ref sig .tc := ⟨.hbm, 188, rfl⟩
abbrev main_v13 : Ref sig .tc := ⟨.hbm, 189, rfl⟩
abbrev main_cst_6 : Ref sig .tc := ⟨.hbm, 190, rfl⟩
abbrev main_v14 : Ref sig .tc := ⟨.hbm, 191, rfl⟩
abbrev main_cst_7 : Ref sig .tc := ⟨.hbm, 192, rfl⟩
abbrev main_v15 : Ref sig .tc := ⟨.hbm, 193, rfl⟩
abbrev main_cst_8 : Ref sig .tc := ⟨.hbm, 194, rfl⟩
abbrev main_v16 : Ref sig .tc := ⟨.hbm, 195, rfl⟩
abbrev main_c_9 : Ref sig .tc := ⟨.hbm, 196, rfl⟩
abbrev main_v17_0 : Ref sig .tc := ⟨.hbm, 197, rfl⟩
abbrev main_v17_1 : Ref sig .tc := ⟨.hbm, 198, rfl⟩
abbrev main_v17_2 : Ref sig .tc := ⟨.hbm, 199, rfl⟩
abbrev main_v17_3 : Ref sig .tc := ⟨.hbm, 200, rfl⟩
abbrev main_v17_4 : Ref sig .tc := ⟨.hbm, 201, rfl⟩
abbrev main_v17_5 : Ref sig .tc := ⟨.hbm, 202, rfl⟩
abbrev main_v17_6 : Ref sig .tc := ⟨.hbm, 203, rfl⟩
abbrev main_v17_7 : Ref sig .tc := ⟨.hbm, 204, rfl⟩
abbrev main_while2c_c_23 : Ref sig .tc := ⟨.hbm, 205, rfl⟩
abbrev main_while2c_v35 : Ref sig .tc := ⟨.hbm, 206, rfl⟩
abbrev main_while2b_call5_c : Ref sig .tc := ⟨.hbm, 207, rfl⟩
abbrev main_while2b_call5_c_0 : Ref sig .tc := ⟨.hbm, 208, rfl⟩
abbrev main_while2b_call5_v0 : Ref sig .tc := ⟨.hbm, 209, rfl⟩
abbrev main_while2b_v35 : Ref sig .tc := ⟨.hbm, 210, rfl⟩
abbrev main_while2b_v36 : Ref sig .tc := ⟨.hbm, 211, rfl⟩
abbrev main_while2b_v37 : Ref sig .tc := ⟨.hbm, 212, rfl⟩
abbrev main_while2b_v38 : Ref sig .tc := ⟨.hbm, 213, rfl⟩
abbrev main_while2b_v39 : Ref sig .tc := ⟨.hbm, 214, rfl⟩
abbrev main_while2b_v40 : Ref sig .tc := ⟨.hbm, 215, rfl⟩
abbrev main_while2b_v41 : Ref sig .tc := ⟨.hbm, 216, rfl⟩
abbrev main_while2b_v42 : Ref sig .tc := ⟨.hbm, 217, rfl⟩
abbrev main_while2b_v43 : Ref sig .tc := ⟨.hbm, 218, rfl⟩
abbrev main_while2b_v44 : Ref sig .tc := ⟨.hbm, 219, rfl⟩
abbrev main_while2b_v45 : Ref sig .tc := ⟨.hbm, 220, rfl⟩
abbrev main_while2b_v46 : Ref sig .tc := ⟨.hbm, 221, rfl⟩
abbrev main_while2b_v47 : Ref sig .tc := ⟨.hbm, 222, rfl⟩
abbrev main_while2b_v48 : Ref sig .tc := ⟨.hbm, 223, rfl⟩
abbrev main_while2b_v49 : Ref sig .tc := ⟨.hbm, 224, rfl⟩
abbrev main_while2b_cst_23 : Ref sig .tc := ⟨.hbm, 225, rfl⟩
abbrev main_while2b_v50 : Ref sig .tc := ⟨.hbm, 226, rfl⟩
abbrev main_while2b_v51 : Ref sig .tc := ⟨.hbm, 227, rfl⟩
abbrev main_while2b_cst_24 : Ref sig .tc := ⟨.hbm, 228, rfl⟩
abbrev main_while2b_v52 : Ref sig .tc := ⟨.hbm, 229, rfl⟩
abbrev main_while2b_v53 : Ref sig .tc := ⟨.hbm, 230, rfl⟩
abbrev main_while2b_v54 : Ref sig .tc := ⟨.hbm, 231, rfl⟩
abbrev main_while2b_v55 : Ref sig .tc := ⟨.hbm, 232, rfl⟩
abbrev main_while2b_cst_25 : Ref sig .tc := ⟨.hbm, 233, rfl⟩
abbrev main_while2b_v56 : Ref sig .tc := ⟨.hbm, 234, rfl⟩
abbrev main_while2b_v57 : Ref sig .tc := ⟨.hbm, 235, rfl⟩
abbrev main_while2b_cst_26 : Ref sig .tc := ⟨.hbm, 236, rfl⟩
abbrev main_while2b_v58 : Ref sig .tc := ⟨.hbm, 237, rfl⟩
abbrev main_while2b_v59 : Ref sig .tc := ⟨.hbm, 238, rfl⟩
abbrev main_while2b_v60 : Ref sig .tc := ⟨.hbm, 239, rfl⟩
abbrev main_while2b_v61 : Ref sig .tc := ⟨.hbm, 240, rfl⟩
abbrev main_while2b_v62 : Ref sig .tc := ⟨.hbm, 241, rfl⟩
abbrev main_while2b_cst_27 : Ref sig .tc := ⟨.hbm, 242, rfl⟩
abbrev main_while2b_v63 : Ref sig .tc := ⟨.hbm, 243, rfl⟩
abbrev main_while2b_v64 : Ref sig .tc := ⟨.hbm, 244, rfl⟩
abbrev main_while2b_cst_28 : Ref sig .tc := ⟨.hbm, 245, rfl⟩
abbrev main_while2b_v65 : Ref sig .tc := ⟨.hbm, 246, rfl⟩
abbrev main_while2b_v66 : Ref sig .tc := ⟨.hbm, 247, rfl⟩
abbrev main_while2b_v67 : Ref sig .tc := ⟨.hbm, 248, rfl⟩
abbrev main_while2b_v68 : Ref sig .tc := ⟨.hbm, 249, rfl⟩
abbrev main_while2b_v69 : Ref sig .tc := ⟨.hbm, 250, rfl⟩
abbrev main_while2b_v70 : Ref sig .tc := ⟨.hbm, 251, rfl⟩
abbrev main_while2b_v71 : Ref sig .tc := ⟨.hbm, 252, rfl⟩
abbrev main_while2b_call6_v0 : Ref sig .tc := ⟨.hbm, 253, rfl⟩
abbrev main_while2b_call6_c : Ref sig .tc := ⟨.hbm, 254, rfl⟩
abbrev main_while2b_call6_c_0 : Ref sig .tc := ⟨.hbm, 255, rfl⟩
abbrev main_while2b_v72 : Ref sig .tc := ⟨.hbm, 256, rfl⟩
abbrev main_while2b_c_29 : Ref sig .tc := ⟨.hbm, 257, rfl⟩
abbrev main_while2b_v73 : Ref sig .tc := ⟨.hbm, 258, rfl⟩
abbrev main_v18 : Ref sig .tc := ⟨.hbm, 259, rfl⟩
abbrev main_cst_10 : Ref sig .tc := ⟨.hbm, 260, rfl⟩
abbrev main_v19 : Ref sig .tc := ⟨.hbm, 261, rfl⟩
abbrev main_cst_11 : Ref sig .tc := ⟨.hbm, 262, rfl⟩
abbrev main_v20 : Ref sig .tc := ⟨.hbm, 263, rfl⟩
abbrev main_cst_12 : Ref sig .tc := ⟨.hbm, 264, rfl⟩
abbrev main_v21 : Ref sig .tc := ⟨.hbm, 265, rfl⟩
abbrev main_c_13 : Ref sig .tc := ⟨.hbm, 266, rfl⟩
abbrev main_v22_0 : Ref sig .tc := ⟨.hbm, 267, rfl⟩
abbrev main_v22_1 : Ref sig .tc := ⟨.hbm, 268, rfl⟩
abbrev main_v22_2 : Ref sig .tc := ⟨.hbm, 269, rfl⟩
abbrev main_v22_3 : Ref sig .tc := ⟨.hbm, 270, rfl⟩
abbrev main_v22_4 : Ref sig .tc := ⟨.hbm, 271, rfl⟩
abbrev main_v22_5 : Ref sig .tc := ⟨.hbm, 272, rfl⟩
abbrev main_v22_6 : Ref sig .tc := ⟨.hbm, 273, rfl⟩
abbrev main_v22_7 : Ref sig .tc := ⟨.hbm, 274, rfl⟩
abbrev main_while3c_c_23 : Ref sig .tc := ⟨.hbm, 275, rfl⟩
abbrev main_while3c_v35 : Ref sig .tc := ⟨.hbm, 276, rfl⟩
abbrev main_while3b_c_23 : Ref sig .tc := ⟨.hbm, 277, rfl⟩
abbrev main_while3b_v35 : Ref sig .tc := ⟨.hbm, 278, rfl⟩
abbrev main_while3b_c_24 : Ref sig .tc := ⟨.hbm, 279, rfl⟩
abbrev main_while3b_v36 : Ref sig .tc := ⟨.hbm, 280, rfl⟩
abbrev main_while3b_call7_c : Ref sig .tc := ⟨.hbm, 281, rfl⟩
abbrev main_while3b_call7_c_0 : Ref sig .tc := ⟨.hbm, 282, rfl⟩
abbrev main_while3b_call7_v0 : Ref sig .tc := ⟨.hbm, 283, rfl⟩
abbrev main_while3b_v37 : Ref sig .tc := ⟨.hbm, 284, rfl⟩
abbrev main_while3b_v38 : Ref sig .tc := ⟨.hbm, 285, rfl⟩
abbrev main_while3b_v39 : Ref sig .tc := ⟨.hbm, 286, rfl⟩
abbrev main_while3b_v40 : Ref sig .tc := ⟨.hbm, 287, rfl⟩
abbrev main_while3b_v41 : Ref sig .tc := ⟨.hbm, 288, rfl⟩
abbrev main_while3b_v42 : Ref sig .tc := ⟨.hbm, 289, rfl⟩
abbrev main_while3b_v43 : Ref sig .tc := ⟨.hbm, 290, rfl⟩
abbrev main_while3b_v44 : Ref sig .tc := ⟨.hbm, 291, rfl⟩
abbrev main_while3b_v45 : Ref sig .tc := ⟨.hbm, 292, rfl⟩
abbrev main_while3b_v46 : Ref sig .tc := ⟨.hbm, 293, rfl⟩
abbrev main_while3b_v47 : Ref sig .tc := ⟨.hbm, 294, rfl⟩
abbrev main_while3b_v48 : Ref sig .tc := ⟨.hbm, 295, rfl⟩
abbrev main_while3b_v49 : Ref sig .tc := ⟨.hbm, 296, rfl⟩
abbrev main_while3b_v50 : Ref sig .tc := ⟨.hbm, 297, rfl⟩
abbrev main_while3b_v51 : Ref sig .tc := ⟨.hbm, 298, rfl⟩
abbrev main_while3b_cst_25 : Ref sig .tc := ⟨.hbm, 299, rfl⟩
abbrev main_while3b_v52 : Ref sig .tc := ⟨.hbm, 300, rfl⟩
abbrev main_while3b_v53 : Ref sig .tc := ⟨.hbm, 301, rfl⟩
abbrev main_while3b_cst_26 : Ref sig .tc := ⟨.hbm, 302, rfl⟩
abbrev main_while3b_v54 : Ref sig .tc := ⟨.hbm, 303, rfl⟩
abbrev main_while3b_v55 : Ref sig .tc := ⟨.hbm, 304, rfl⟩
abbrev main_while3b_v56 : Ref sig .tc := ⟨.hbm, 305, rfl⟩
abbrev main_while3b_v57 : Ref sig .tc := ⟨.hbm, 306, rfl⟩
abbrev main_while3b_cst_27 : Ref sig .tc := ⟨.hbm, 307, rfl⟩
abbrev main_while3b_v58 : Ref sig .tc := ⟨.hbm, 308, rfl⟩
abbrev main_while3b_v59 : Ref sig .tc := ⟨.hbm, 309, rfl⟩
abbrev main_while3b_cst_28 : Ref sig .tc := ⟨.hbm, 310, rfl⟩
abbrev main_while3b_v60 : Ref sig .tc := ⟨.hbm, 311, rfl⟩
abbrev main_while3b_v61 : Ref sig .tc := ⟨.hbm, 312, rfl⟩
abbrev main_while3b_v62 : Ref sig .tc := ⟨.hbm, 313, rfl⟩
abbrev main_while3b_v63 : Ref sig .tc := ⟨.hbm, 314, rfl⟩
abbrev main_while3b_v64 : Ref sig .tc := ⟨.hbm, 315, rfl⟩
abbrev main_while3b_cst_29 : Ref sig .tc := ⟨.hbm, 316, rfl⟩
abbrev main_while3b_v65 : Ref sig .tc := ⟨.hbm, 317, rfl⟩
abbrev main_while3b_v66 : Ref sig .tc := ⟨.hbm, 318, rfl⟩
abbrev main_while3b_cst_30 : Ref sig .tc := ⟨.hbm, 319, rfl⟩
abbrev main_while3b_v67 : Ref sig .tc := ⟨.hbm, 320, rfl⟩
abbrev main_while3b_v68 : Ref sig .tc := ⟨.hbm, 321, rfl⟩
abbrev main_while3b_v69 : Ref sig .tc := ⟨.hbm, 322, rfl⟩
abbrev main_while3b_v70 : Ref sig .tc := ⟨.hbm, 323, rfl⟩
abbrev main_while3b_v71 : Ref sig .tc := ⟨.hbm, 324, rfl⟩
abbrev main_while3b_v72 : Ref sig .tc := ⟨.hbm, 325, rfl⟩
abbrev main_while3b_v73 : Ref sig .tc := ⟨.hbm, 326, rfl⟩
abbrev main_while3b_call8_v0 : Ref sig .tc := ⟨.hbm, 327, rfl⟩
abbrev main_while3b_call8_c : Ref sig .tc := ⟨.hbm, 328, rfl⟩
abbrev main_while3b_call8_c_0 : Ref sig .tc := ⟨.hbm, 329, rfl⟩
abbrev main_while3b_v74 : Ref sig .tc := ⟨.hbm, 330, rfl⟩
abbrev main_while3b_c_31 : Ref sig .tc := ⟨.hbm, 331, rfl⟩
abbrev main_while3b_v75 : Ref sig .tc := ⟨.hbm, 332, rfl⟩
abbrev main_v23 : Ref sig .tc := ⟨.hbm, 333, rfl⟩
abbrev main_v24 : Ref sig .tc := ⟨.hbm, 334, rfl⟩
abbrev main_v25 : Ref sig .tc := ⟨.hbm, 335, rfl⟩
abbrev main_v26 : Ref sig .tc := ⟨.hbm, 336, rfl⟩
abbrev main_v27 : Ref sig .tc := ⟨.hbm, 337, rfl⟩
abbrev main_v28 : Ref sig .tc := ⟨.hbm, 338, rfl⟩
abbrev main_v29 : Ref sig .tc := ⟨.hbm, 339, rfl⟩
abbrev main_v30 : Ref sig .tc := ⟨.hbm, 340, rfl⟩
abbrev main_cst_14 : Ref sig .tc := ⟨.hbm, 341, rfl⟩
abbrev main_v31 : Ref sig .tc := ⟨.hbm, 342, rfl⟩
abbrev main_v32 : Ref sig .tc := ⟨.hbm, 343, rfl⟩
abbrev main_cst_15 : Ref sig .tc := ⟨.hbm, 344, rfl⟩
abbrev main_v33 : Ref sig .tc := ⟨.hbm, 345, rfl⟩
abbrev main_v34 : Ref sig .tc := ⟨.hbm, 346, rfl⟩

abbrev nD : Nat := 1
abbrev τ : Topo := Topo.v7x

variable {F : FTy → Type} [FloatOps F]

abbrev main_while0_count : Scf.Loop 32 := ⟨0#32, 200#32, 1#32⟩

abbrev main_while1_count : Scf.Loop 32 := ⟨0#32, 200#32, 1#32⟩

abbrev main_while2_count : Scf.Loop 32 := ⟨0#32, 200#32, 1#32⟩

abbrev main_while3_count : Scf.Loop 32 := ⟨0#32, 200#32, 1#32⟩
-- ==== Proof.Words.lean ====
/-
  The words the gather kernel carries from trip to trip, and what they come to: a tile's task runs fifty trips, trip
  `t` fetching the index block of trip `t + 1` into the slot of its parity, waiting for its own, gathering the rows it
  names into the row slot of `t`'s parity, and sending those out. The five carried words are counters; their closed
  forms, and those of every offset and condition computed from them, are evaluated here once for every tile and trip.
-/
module

public import proofs.«01_k».proof.Proof.Gen.KernelIdeal.Skeleton

@[expose] public section

noncomputable section

namespace Cert.Proof.Words

open Cert.KernelIdeal Cert.KernelIdeal.Gen Idealize.ShloMosaic

/-- The carried words before trip `t`: index blocks issued, index blocks waited for, row blocks issued, row blocks
    waited for, the local block. -/
def words (t : ℕ) : BitVec 32 × BitVec 32 × BitVec 32 × BitVec 32 × BitVec 32 :=
  (BitVec.ofNat 32 (min (t + 1) 50), BitVec.ofNat 32 t, BitVec.ofNat 32 t, BitVec.ofNat 32 (t - 1), BitVec.ofNat 32 (t % 50))

abbrev w6 (t : ℕ) : BitVec 32 := BitVec.ofNat 32 (min (t + 1) 50)
abbrev w7 (t : ℕ) : BitVec 32 := BitVec.ofNat 32 t
abbrev w9 (t : ℕ) : BitVec 32 := BitVec.ofNat 32 (t - 1)
abbrev w10 (t : ℕ) : BitVec 32 := BitVec.ofNat 32 (t % 50)

theorem trips_eq : k0_t1_loop.trips = 50 := by decide +kernel

theorem words_init : (Scalar.addi (0#32) 1#32, 0#32, 0#32, 0#32, 0#32) = words 0 := by decide +kernel

theorem chk1 : ∀ (i : grid0.Coords) (t : Fin k0_t1_loop.trips), k0_chk1 i t (w6 t) (w7 t) (w7 t) (w9 t) (w10 t) := by decide +kernel
theorem chk2 : ∀ (t : Fin k0_t1_loop.trips), k0_chk2 (w7 t) := by decide +kernel
theorem chk3 : ∀ (t : Fin k0_t1_loop.trips), k0_chk3 (w7 t) := by decide +kernel
theorem chk4 : k0_chk4 (w9 50) := by decide +kernel
theorem chk5 : ∀ (i : grid0.Coords), k0_chk5 i (w10 50) := by decide +kernel

theorem cond1 : ∀ (i : grid0.Coords) (t : Fin k0_t1_loop.trips), k0_cond1 i t (w10 t) = 1#1 ↔ t.val < 49 := by decide +kernel
theorem cond2 : ∀ (i : grid0.Coords) (t : Fin k0_t1_loop.trips), k0_cond2 i t (w10 t) = 1#1 := by decide +kernel
theorem cond5 : ∀ (i : grid0.Coords) (t : Fin k0_t1_loop.trips), k0_cond5 i t (w10 t) = 1#1 := by decide +kernel
theorem cond7 : ∀ (i : grid0.Coords) (t : Fin k0_t1_loop.trips), k0_cond7 i t (w10 t) = 1#1 ↔ 0 < t.val := by decide +kernel

theorem off4 : ∀ (t : Fin k0_t1_loop.trips), t.val < 49 → k0_off4 (w6 t) = ![(t.val + 1) % 2, 0, 0] := by decide +kernel
theorem off5 : ∀ (i : grid0.Coords) (t : Fin k0_t1_loop.trips), t.val < 49 → k0_off5 i (w10 t) = ![0, 6400 * (i 1).val + 128 * (t.val + 1)] := by decide +kernel
theorem off6 : ∀ (t : Fin k0_t1_loop.trips), t.val < 49 → k0_off6 (w6 t) = ![(t.val + 1) % 2] := by decide +kernel
theorem off7 : ∀ (t : Fin k0_t1_loop.trips), k0_off7 (w7 t) = ![t.val % 2, 0, 0] := by decide +kernel
theorem off8 : ∀ (i : grid0.Coords) (t : Fin k0_t1_loop.trips), k0_off8 i (w10 t) = ![0, 6400 * (i 1).val + 128 * t.val] := by decide +kernel
theorem off9 : ∀ (t : Fin k0_t1_loop.trips), k0_off9 (w7 t) = ![t.val % 2] := by decide +kernel
theorem off10 : ∀ (t : Fin k0_t1_loop.trips), k0_off10 (w7 t) = ![t.val % 2, 0, 0] := by decide +kernel
theorem off11 : ∀ (t : Fin k0_t1_loop.trips), k0_off11 (w7 t) = ![t.val % 2, 0, 0] := by decide +kernel
theorem off12 : ∀ (t : Fin k0_t1_loop.trips), k0_off12 (w7 t) = ![t.val % 2, 0, 0] := by decide +kernel
theorem off13 : ∀ (i : grid0.Coords) (t : Fin k0_t1_loop.trips), k0_off13 i (w10 t) = ![6400 * (i 1).val + 128 * t.val, 0] := by decide +kernel
theorem off14 : ∀ (t : Fin k0_t1_loop.trips), k0_off14 (w7 t) = ![t.val % 2] := by decide +kernel
theorem off15 : ∀ (t : Fin k0_t1_loop.trips), 0 < t.val → k0_off15 (w9 t) = ![(t.val - 1) % 2, 0, 0] := by decide +kernel
theorem off16 : ∀ (i : grid0.Coords) (t : Fin k0_t1_loop.trips), 0 < t.val → k0_off16 i (w10 t) = ![6400 * (i 1).val + 128 * (t.val - 1), 0] := by decide +kernel
theorem off17 : ∀ (t : Fin k0_t1_loop.trips), 0 < t.val → k0_off17 (w9 t) = ![(t.val - 1) % 2] := by decide +kernel
theorem off19 : ∀ (i : grid0.Coords), k0_off19 i (w10 50) = ![6400 * (i 1).val + 128 * 49, 0] := by decide +kernel
theorem off20 : k0_off20 (w9 50) = ![49 % 2] := by decide +kernel
theorem off21 : k0_off21 (w9 50) = ![49 % 2, 0, 0] := by decide +kernel

end Cert.Proof.Words

end
-- ==== Proof.Setup.lean ====
/-
  What every part of the kernel's run is stated over: the program as the launch theorem sees it, the ghost state (the
  handshakes' rounds, the pipelines' rounds, the local transfers' counters), the buffers the SparseCore call works on, the
  views a task addresses named by block number, and the gathered array as a function of the token list and the table.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ValueIdx
public import Idealize.ShloMosaic.Lib.ValueIdxCoords
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds: the left of the right component. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP (F := F)).LandsIn (upEmb : UEmb _ 𝕄) := by unfold EP; infer_instance

/-! ## The buffers of the SparseCore call -/

abbrev iLoc (d : Dev nD) : Loc nD τ sig := (SparseCore.T d).loc main_v3
abbrev xLoc (d : Dev nD) : Loc nD τ sig := (SparseCore.T d).loc main_arg1
abbrev oLoc (d : Dev nD) : Loc nD τ sig := (SparseCore.T d).loc main_v4

abbrev iV : Memref sig .scVector .hbm S1x102400 .i32 := Memref.whole main_v3_scv
abbrev xV : Memref sig .scVector .hbm S100000x128 .f32 := Memref.whole main_arg1_scv
abbrev oV : Memref sig .scVector .hbm S102400x128 .f32 := Memref.whole main_v4_scv
abbrev aV : Memref sig .scVector .vmem S2x1x128 .i32 := Memref.whole cc0_scoped0
abbrev rV : Memref sig .scVector .vmem S2x128x128 .f32 := Memref.whole cc0_scoped2

/-! ## The views a task addresses -/

theorem islot_inb (n : ℕ) : ∀ d, (![n % 2, 0, 0] : Fin S2x1x128.rank → ℕ) d + S1x1x128.size d ≤ S2x1x128.size d := by
  intro d
  match d with
  | 0 => show n % 2 + 1 ≤ 2; omega
  | 1 => show 0 + 1 ≤ 1; omega
  | 2 => show 0 + 128 ≤ 128; omega
theorem rslot_inb (n : ℕ) : ∀ d, (![n % 2, 0, 0] : Fin S2x128x128.rank → ℕ) d + S1x128x128.size d ≤ S2x128x128.size d := by
  intro d
  match d with
  | 0 => show n % 2 + 1 ≤ 2; omega
  | 1 => show 0 + 128 ≤ 128; omega
  | 2 => show 0 + 128 ≤ 128; omega
theorem sem_inb (n : ℕ) : ∀ d, (![n % 2] : Fin S2.rank → ℕ) d + S1.size d ≤ S2.size d := by
  intro d
  match d with
  | 0 => show n % 2 + 1 ≤ 2; omega
theorem iblk_inb (L : grid0.Coords) (k : Fin 50) : ∀ d, (![0, 6400 * (L 1).val + 128 * k.val] : Fin S1x102400.rank → ℕ) d + S1x128.size d ≤ S1x102400.size d := by
  have h1 : (L 1).val < 16 := (L 1).isLt
  have h2 := k.isLt
  intro d
  match d with
  | 0 => show 0 + 1 ≤ 1; omega
  | 1 => show 6400 * (L 1).val + 128 * k.val + 128 ≤ 102400; omega
theorem oblk_inb (L : grid0.Coords) (k : Fin 50) : ∀ d, (![6400 * (L 1).val + 128 * k.val, 0] : Fin S102400x128.rank → ℕ) d + S128x128.size d ≤ S102400x128.size d := by
  have h1 : (L 1).val < 16 := (L 1).isLt
  have h2 := k.isLt
  intro d
  match d with
  | 0 => show 6400 * (L 1).val + 128 * k.val + 128 ≤ 102400; omega
  | 1 => show 0 + 128 ≤ 128; omega

/-- Index slot `n % 2`: 128 words. -/
abbrev islot (n : ℕ) : Memref sig .scVector .vmem S1x128 .i32 :=
  ((aV).slice (Rect.unit (s := S2x1x128) ![n % 2, 0, 0] S1x1x128.size (islot_inb n)) (fun _ => rfl)).squeeze S1x128 squeezes_S1x1x128_S1x128
/-- The same words as the list of the indexed copy. -/
abbrev ilist (n : ℕ) : Memref sig .scVector .vmem S128 .i32 :=
  ((islot n).slice (Rect.unit (s := S1x128) ![0, 0] S1x128.size inb_S1x128_S1x128_0_0) (fun _ => rfl)).squeeze S128 squeezes_S1x128_S128
/-- Row slot `n % 2`: 128 rows. -/
abbrev rslot (n : ℕ) : Memref sig .scVector .vmem S128x128 .f32 :=
  ((rV).slice (Rect.unit (s := S2x128x128) ![n % 2, 0, 0] S1x128x128.size (rslot_inb n)) (fun _ => rfl)).squeeze S128x128 squeezes_S1x128x128_S128x128
/-- Block `k` of the task's part of the token list. -/
abbrev iblk (L : grid0.Coords) (k : Fin 50) : Memref sig .scVector .hbm S1x128 .i32 :=
  (iV).slice (Rect.unit (s := S1x102400) ![0, 6400 * (L 1).val + 128 * k.val] S1x128.size (iblk_inb L k)) (fun _ => rfl)
/-- Block `k` of the task's part of the gathered array. -/
abbrev oblk (L : grid0.Coords) (k : Fin 50) : Memref sig .scVector .hbm S128x128 .f32 :=
  (oV).slice (Rect.unit (s := S102400x128) ![6400 * (L 1).val + 128 * k.val, 0] S128x128.size (oblk_inb L k)) (fun _ => rfl)
/-- The whole table. -/
abbrev xAll : Memref sig .scVector .hbm S100000x128 .f32 :=
  (xV).slice (Rect.unit (s := S100000x128) ![0, 0] S100000x128.size inb_S100000x128_S100000x128_0_0) (fun _ => rfl)
/-- The semaphore of index slot `n % 2`, -/
abbrev isem (n : ℕ) : DmaSem sig := ((cc0_scoped1.slice (Rect.unit (s := S2) ![n % 2] S1.size (sem_inb n))).squeeze S_ squeezes_S1_S_).sem
/-- of row slot `n % 2`, -/
abbrev rsem (n : ℕ) : DmaSem sig := ((cc0_scoped3.slice (Rect.unit (s := S2) ![n % 2] S1.size (sem_inb n))).squeeze S_ squeezes_S1_S_).sem
/-- of the indexed copy. -/
abbrev gsem : DmaSem sig := cc0_scoped4.sem

/-! The printed views are these, by their offsets' closed forms. -/

theorem islot_of {n : ℕ} {off : Fin S2x1x128.rank → ℕ} (e : off = ![n % 2, 0, 0]) (h : ∀ d, off d + S1x1x128.size d ≤ S2x1x128.size d) :
    ((aV).slice (Rect.unit (s := S2x1x128) off S1x1x128.size h) (fun _ => rfl)).squeeze S1x128 squeezes_S1x1x128_S1x128 = islot n := by
  subst e; rfl
theorem rslot_of {n : ℕ} {off : Fin S2x128x128.rank → ℕ} (e : off = ![n % 2, 0, 0]) (h : ∀ d, off d + S1x128x128.size d ≤ S2x128x128.size d) :
    ((rV).slice (Rect.unit (s := S2x128x128) off S1x128x128.size h) (fun _ => rfl)).squeeze S128x128 squeezes_S1x128x128_S128x128 = rslot n := by
  subst e; rfl
theorem iblk_of {L : grid0.Coords} {k : Fin 50} {off : Fin S1x102400.rank → ℕ} (e : off = ![0, 6400 * (L 1).val + 128 * k.val])
    (h : ∀ d, off d + S1x128.size d ≤ S1x102400.size d) :
    (iV).slice (Rect.unit (s := S1x102400) off S1x128.size h) (fun _ => rfl) = iblk L k := by
  subst e; rfl
theorem oblk_of {L : grid0.Coords} {k : Fin 50} {off : Fin S102400x128.rank → ℕ} (e : off = ![6400 * (L 1).val + 128 * k.val, 0])
    (h : ∀ d, off d + S128x128.size d ≤ S102400x128.size d) :
    (oV).slice (Rect.unit (s := S102400x128) off S128x128.size h) (fun _ => rfl) = oblk L k := by
  subst e; rfl
theorem isem_of {n : ℕ} {off : Fin S2.rank → ℕ} (e : off = ![n % 2]) (h : ∀ d, off d + S1.size d ≤ S2.size d) :
    ((cc0_scoped1.slice (Rect.unit (s := S2) off S1.size h)).squeeze S_ squeezes_S1_S_).sem = isem n := by
  subst e; rfl
theorem rsem_of {n : ℕ} {off : Fin S2.rank → ℕ} (e : off = ![n % 2]) (h : ∀ d, off d + S1.size d ≤ S2.size d) :
    ((cc0_scoped3.slice (Rect.unit (s := S2) off S1.size h)).squeeze S_ squeezes_S1_S_).sem = rsem n := by
  subst e; rfl

/-! ## What is gathered -/

/-- The row a word names, in range for every word. -/
def rowN (w : BitVec 32) : Fin 100000 := ⟨w.toNat % 100000, Nat.mod_lt _ (by omega)⟩
theorem rowN_val {w : BitVec 32} (h : w.toNat < 100000) : (rowN w).val = w.toNat := Nat.mod_eq_of_lt h

/-- The gathered array: row `r` is the table's row that word `r` of the list names. -/
def gath (fI : S1x102400.Idx → Elt F .i32) (fX : S100000x128.Idx → Elt F .f32) : S102400x128.Idx → Elt F .f32 :=
  fun y => fX (ix2 (rowN (fI (ix2 (0 : Fin 1) (y 0)))) (y 1))

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

end Cert.Proof

end
-- ==== Proof.L1Run.lean ====
/-
  One point of the second layer's pipelined call: what its body leaves in its buffers, by name.

  As the first layer's, except that the inputs are two blocks (the first layer's two directions) put side by side, and
  that the last point also writes the result: each row's two last hidden states against the output weights.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Setup
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The step -/

/-- The two inputs beside the hidden state. -/
def put2X (xc : Vec F S512x1536 .bf16) (a b : FVec F S512x512 .bf16) : Vec F S512x1536 .bf16 :=
  VecWindow.put (VecWindow.put xc ![0, 0] S512x512.size a) ![0, 512] S512x512.size b

/-- The new hidden state in its place. -/
def put2H (xc : Vec F S512x1536 .bf16) (h : FVec F S512x512 .bf16) : Vec F S512x1536 .bf16 :=
  VecWindow.put xc ![0, 1024] S512x512.size h

/-- The product of the forward direction. -/
def mF2 (xc : Vec F S512x1536 .bf16) (x y : Vec F S1x512x512 .bf16) (W : Vec F S1536x2048 .bf16) : FVec F S512x2048 .f32 :=
  k2_pay12 (put2X xc (k2_pay8 x) (k2_pay9 y)) W

/-- The gates of the backward direction. -/
def gB2 (xc : Vec F S512x1536 .bf16) (x y : Vec F S1x512x512 .bf16) (W : Vec F S1536x2048 .bf16) (b : Vec F S1x2048 .f32) : FVec F S512x2048 .f32 :=
  k2_pay14 (put2X xc (k2_pay10 x) (k2_pay11 y)) W b

/-- The forward direction's new cell state, hidden state and block. -/
def cF2 (xc : Vec F S512x1536 .bf16) (c : Vec F S512x512 .f32) (x y : Vec F S1x512x512 .bf16) (W : Vec F S1536x2048 .bf16) (b : Vec F S1x2048 .f32) : Vec F S512x512 .f32 :=
  k2_pay21 (k2_pay15 (mF2 xc x y W) b) (k2_pay16 (mF2 xc x y W) b) (k2_pay18 (mF2 xc x y W) b c)
def hF2 (xc : Vec F S512x1536 .bf16) (c : Vec F S512x512 .f32) (x y : Vec F S1x512x512 .bf16) (W : Vec F S1536x2048 .bf16) (b : Vec F S1x2048 .f32) : FVec F S512x512 .f32 :=
  k2_pay20 (k2_pay15 (mF2 xc x y W) b) (k2_pay16 (mF2 xc x y W) b) (k2_pay17 (mF2 xc x y W) b) (k2_pay18 (mF2 xc x y W) b c)
def xcF2 (xc : Vec F S512x1536 .bf16) (c : Vec F S512x512 .f32) (x y : Vec F S1x512x512 .bf16) (W : Vec F S1536x2048 .bf16) (b : Vec F S1x2048 .f32) : Vec F S512x1536 .bf16 :=
  put2H (put2X xc (k2_pay8 x) (k2_pay9 y)) (k2_pay22 (k2_pay15 (mF2 xc x y W) b) (k2_pay16 (mF2 xc x y W) b) (k2_pay17 (mF2 xc x y W) b) (k2_pay18 (mF2 xc x y W) b c))

/-- The backward direction's new cell state, hidden state and block. -/
def cB2 (xc : Vec F S512x1536 .bf16) (c : Vec F S512x512 .f32) (x y : Vec F S1x512x512 .bf16) (W : Vec F S1536x2048 .bf16) (b : Vec F S1x2048 .f32) : Vec F S512x512 .f32 :=
  k2_pay1 (k2_pay23 (gB2 xc x y W b) c)
def hB2 (xc : Vec F S512x1536 .bf16) (c : Vec F S512x512 .f32) (x y : Vec F S1x512x512 .bf16) (W : Vec F S1536x2048 .bf16) (b : Vec F S1x2048 .f32) : FVec F S512x512 .f32 :=
  k2_pay24 (gB2 xc x y W b) c
def xcB2 (xc : Vec F S512x1536 .bf16) (c : Vec F S512x512 .f32) (x y : Vec F S1x512x512 .bf16) (W : Vec F S1536x2048 .bf16) (b : Vec F S1x2048 .f32) : Vec F S512x1536 .bf16 :=
  put2H (put2X xc (k2_pay10 x) (k2_pay11 y)) (k2_pay2 (k2_pay24 (gB2 xc x y W b) c))

/-- What the last point writes. -/
def yL (hf hb : FVec F S512x512 .f32) (w : Vec F S1x1024 .f32) (b : Vec F S1x1 .f32) : Vec F S512x1 .f32 :=
  k2_pay3 hf hb (VecWindow.window w ![0, 0] S1x512.size inb_S1x1024_S1x512_0_0) (VecWindow.window w ![0, 512] S1x512.size inb_S1x1024_S1x512_0_512) b

/-- The conditions of the body's two branches. -/
abbrev cond2 (i : grid2.Coords) : Prop := (Scalar.cmpi .ne (Scalar.extui (Scalar.cmpi .eq (BitVec.ofNat 32 (i 0).val) 0#32)) 0#32) = 1#1
abbrev cond2' (i : grid2.Coords) : Prop := k2_cond2 i = 1#1

theorem cond2_iff (t : Fin cfg2.N) : cond2 (grid2.coords t) ↔ t.val = 0 := by
  have ht : t.val < 200 := Nat.lt_of_lt_of_eq t.isLt N_2
  have e0 : (grid2.coords t 0).val = t.val / 1 % 200 := Pipeline.Grid.coords_val t 0 (by decide) rfl
  have h : cond2 (grid2.coords t) ↔ t.val % 200 = 0 := by
    simp only [cond2, e0]
    word_cmp
  rw [h]; omega

theorem cond2'_iff (t : Fin cfg2.N) : cond2' (grid2.coords t) ↔ t.val = 199 := by
  have ht : t.val < 200 := Nat.lt_of_lt_of_eq t.isLt N_2
  have e0 : (grid2.coords t 0).val = t.val / 1 % 200 := Pipeline.Grid.coords_val t 0 (by decide) rfl
  have h : cond2' (grid2.coords t) ↔ t.val % 200 = 199 := by
    simp only [cond2', k2_cond2, e0]
    word_cmp
  rw [h]; omega

set_option maxHeartbeats 4000000 in
theorem run2_next (c : Dev nD) (i : grid2.Coords) (arg1 : Memref sig .tc .vmem S1x512x512 .bf16) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1536x2048 .bf16) (harg5 : arg5.IsWhole) (arg6 : Memref sig .tc .vmem S1x2048 .f32) (harg6 : arg6.IsWhole) (arg7 : Memref sig .tc .vmem S1536x2048 .bf16) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1536 .bf16) (harg12 : arg12.IsWhole) (arg13 : Memref sig .tc .vmem S512x512 .f32) (harg13 : arg13.IsWhole) (arg14 : Memref sig .tc .vmem S512x1536 .bf16) (harg14 : arg14.IsWhole) (arg15 : Memref sig .tc .vmem S512x512 .f32) (harg15 : arg15.IsWhole) (hc0 : ¬ cond2 i) (hc1 : ¬ cond2' i)
    (x0 : Vec F S1x512x512 .bf16) (x1 : Vec F S1x512x512 .bf16) (x2 : Vec F S1x512x512 .bf16) (x3 : Vec F S1x512x512 .bf16) (x4 : Vec F S1536x2048 .bf16) (x5 : Vec F S1x2048 .f32) (x6 : Vec F S1536x2048 .bf16) (x7 : Vec F S1x2048 .f32) (x8 : Vec F S1x1024 .f32) (x9 : Vec F S1x1 .f32)
    (xi : Vec F S512x1 .f32) (s0 : Vec F S512x1536 .bf16) (s1 : Vec F S512x512 .f32) (s2 : Vec F S512x1536 .bf16) (s3 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare s0 ∗ owns (c : Thread nD τ) arg13 fullShare s1 ∗ owns (c : Thread nD τ) arg14 fullShare s2 ∗ owns (c : Thread nD τ) arg15 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare (xcF2 s0 s1 x0 x1 x4 x5) ∗ owns (c : Thread nD τ) arg13 fullShare (cF2 s0 s1 x0 x1 x4 x5) ∗ owns (c : Thread nD τ) arg14 fullShare (xcB2 s2 s3 x2 x3 x6 x7) ∗ owns (c : Thread nD τ) arg15 fullShare (cB2 s2 s3 x2 x3 x6 x7)) -∗ K ⟨⟩))
      ⊢ wp frame (wpE (defs₀ (F := F)) Variants.none c none) E (cc2__l1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__l1_body_eq_skeleton]; unfold cc2__l1_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hs0, HS0⟩, ⟨%fs1, %hs1, HS1⟩, ⟨%fs2, %hs2, HS2⟩, ⟨%fs3, %hs3, HS3⟩, Hk⟩
  sl_exec (disch := first | sl_exact hc0 | sl_exact hc1)
  sl_step
  have eX0 : arg12.view.read (Elt F) (arg12.view.writes (Elt F) fs0 (run2_next.sl.HS0_2 c arg1 arg2 f0 f1)) = put2X s0 (k2_pay8 x0) (k2_pay9 x1) := by
    unfold run2_next.sl.HS0_2
    rw [View.read_writes_cons_put _ _ _ _ _ rfl, View.read_writes_cons_put _ _ _ _ _ rfl, View.writes_nil, hs0, View.readAt_full, View.readAt_full, hf0, hf1]; rfl
  have eX2 : arg14.view.read (Elt F) (arg14.view.writes (Elt F) fs2 (run2_next.sl.HS2_2 c arg3 arg4 f2 f3)) = put2X s2 (k2_pay10 x2) (k2_pay11 x3) := by
    unfold run2_next.sl.HS2_2
    rw [View.read_writes_cons_put _ _ _ _ _ rfl, View.read_writes_cons_put _ _ _ _ _ rfl, View.writes_nil, hs2, View.readAt_full, View.readAt_full, hf2, hf3]; rfl
  have er : run2_next.sl.r c arg1 arg2 arg5 arg12 f0 f1 f4 fs0 = mF2 s0 x0 x1 x4 := by
    unfold run2_next.sl.r mF2
    rw [View.readAt_full, View.readAt_full, eX0, hf4]
  have er1 : run2_next.sl.r_1 c arg3 arg4 arg7 arg8 arg14 f2 f3 f6 f7 fs2 = gB2 s2 x2 x3 x6 x7 := by
    unfold run2_next.sl.r_1 gB2
    rw [View.readAt_full, View.readAt_full, View.readAt_full, eX2, hf6, hf7]
  have er2 : run2_next.sl.r_2 c arg1 arg2 arg5 arg6 arg12 f0 f1 f4 f5 fs0 = k2_pay15 (mF2 s0 x0 x1 x4) x5 := by
    unfold run2_next.sl.r_2
    rw [er, View.readAt_full, hf5]
  have er3 : run2_next.sl.r_3 c arg1 arg2 arg5 arg6 arg12 f0 f1 f4 f5 fs0 = k2_pay16 (mF2 s0 x0 x1 x4) x5 := by
    unfold run2_next.sl.r_3
    rw [er, View.readAt_full, hf5]
  have er4 : run2_next.sl.r_4 c arg1 arg2 arg5 arg6 arg12 f0 f1 f4 f5 fs0 = k2_pay17 (mF2 s0 x0 x1 x4) x5 := by
    unfold run2_next.sl.r_4
    rw [er, View.readAt_full, hf5]
  have er5 : run2_next.sl.r_5 c arg1 arg2 arg5 arg6 arg12 arg13 f0 f1 f4 f5 fs0 fs1 = k2_pay18 (mF2 s0 x0 x1 x4) x5 s1 := by
    unfold run2_next.sl.r_5
    rw [er, View.readAt_full, hf5, View.readAt_full, hs1]
  have er7 : run2_next.sl.r_7 c arg3 arg4 arg7 arg8 arg14 arg15 f2 f3 f6 f7 fs2 fs3 = k2_pay23 (gB2 s2 x2 x3 x6 x7) s3 := by
    unfold run2_next.sl.r_7
    rw [er1, View.readAt_full, hs3]
  have er8 : run2_next.sl.r_8 c arg3 arg4 arg7 arg8 arg14 arg15 f2 f3 f6 f7 fs2 fs3 = hB2 s2 s3 x2 x3 x6 x7 := by
    unfold run2_next.sl.r_8 hB2
    rw [er1, View.readAt_full, hs3]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [HS0]
  · iexists _; isplitr; swap; · iexact HS0
    ipureintro
    rw [View.read_writes_cons_put _ _ _ _ _ rfl, eX0, er2, er3, er4, er5]; rfl
  isplitl [HS1]
  · iexists _; isplitr; swap; · iexact HS1
    ipureintro
    refine (View.read_writes_full _ _ _ _ _).trans ?_
    rw [er2, er3, er5]; rfl
  isplitl [HS2]
  · iexists _; isplitr; swap; · iexact HS2
    ipureintro
    rw [View.read_writes_cons_put _ _ _ _ _ rfl, eX2, er8]; rfl
  iexists _; isplitr; swap; · iexact HS3
  ipureintro
  refine (View.read_writes_full _ _ _ _ _).trans ?_
  rw [er7]; rfl

set_option maxHeartbeats 4000000 in
theorem run2_first (c : Dev nD) (i : grid2.Coords) (arg1 : Memref sig .tc .vmem S1x512x512 .bf16) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1536x2048 .bf16) (harg5 : arg5.IsWhole) (arg6 : Memref sig .tc .vmem S1x2048 .f32) (harg6 : arg6.IsWhole) (arg7 : Memref sig .tc .vmem S1536x2048 .bf16) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1536 .bf16) (harg12 : arg12.IsWhole) (arg13 : Memref sig .tc .vmem S512x512 .f32) (harg13 : arg13.IsWhole) (arg14 : Memref sig .tc .vmem S512x1536 .bf16) (harg14 : arg14.IsWhole) (arg15 : Memref sig .tc .vmem S512x512 .f32) (harg15 : arg15.IsWhole) (hc0 : cond2 i) (hc1 : ¬ cond2' i)
    (x0 : Vec F S1x512x512 .bf16) (x1 : Vec F S1x512x512 .bf16) (x2 : Vec F S1x512x512 .bf16) (x3 : Vec F S1x512x512 .bf16) (x4 : Vec F S1536x2048 .bf16) (x5 : Vec F S1x2048 .f32) (x6 : Vec F S1536x2048 .bf16) (x7 : Vec F S1x2048 .f32) (x8 : Vec F S1x1024 .f32) (x9 : Vec F S1x1 .f32)
    (xi : Vec F S512x1 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi ∗ owns (c : Thread nD τ) arg12 fullShare (xcF2 k2_pay4 k2_pay5 x0 x1 x4 x5) ∗ owns (c : Thread nD τ) arg13 fullShare (cF2 k2_pay4 k2_pay5 x0 x1 x4 x5) ∗ owns (c : Thread nD τ) arg14 fullShare (xcB2 k2_pay6 k2_pay7 x2 x3 x6 x7) ∗ owns (c : Thread nD τ) arg15 fullShare (cB2 k2_pay6 k2_pay7 x2 x3 x6 x7)) -∗ K ⟨⟩))
      ⊢ wp frame (wpE (defs₀ (F := F)) Variants.none c none) E (cc2__l1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__l1_body_eq_skeleton]; unfold cc2__l1_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
  sl_exec (disch := first | sl_exact hc0 | sl_exact hc1)
  sl_step
  have eX0 : ∀ f, arg12.view.read (Elt F) (arg12.view.writes (Elt F) f (run2_first.sl.HS0_3 c arg1 arg2 f0 f1)) = put2X k2_pay4 (k2_pay8 x0) (k2_pay9 x1) := by
    intro f
    unfold run2_first.sl.HS0_3
    rw [View.read_writes_cons_put _ _ _ _ _ rfl, View.read_writes_cons_put _ _ _ _ _ rfl, View.read_writes_full _ _ _ _ _, View.readAt_full, View.readAt_full, hf0, hf1]; rfl
  have eX2 : ∀ f, arg14.view.read (Elt F) (arg14.view.writes (Elt F) f (run2_first.sl.HS2_3 c arg3 arg4 f2 f3)) = put2X k2_pay6 (k2_pay10 x2) (k2_pay11 x3) := by
    intro f
    unfold run2_first.sl.HS2_3
    rw [View.read_writes_cons_put _ _ _ _ _ rfl, View.read_writes_cons_put _ _ _ _ _ rfl, View.read_writes_full _ _ _ _ _, View.readAt_full, View.readAt_full, hf2, hf3]; rfl
  have e1 : run2_first.sl.v65 (F := F) c arg13 = k2_pay5 := by
    unfold run2_first.sl.v65 run2_first.sl.HS1_1
    exact View.readCov_full _ _ _ _ _
  have e3 : run2_first.sl.v104 (F := F) c arg15 = k2_pay7 := by
    unfold run2_first.sl.v104 run2_first.sl.HS3_1
    exact View.readCov_full _ _ _ _ _
  have er : run2_first.sl.r c arg1 arg2 arg5 arg12 f0 f1 f4 = mF2 k2_pay4 x0 x1 x4 := by
    unfold run2_first.sl.r run2_first.sl.v23 mF2 View.readCov
    rw [View.readAt_full, View.readAt_full, eX0, hf4]
  have er1 : run2_first.sl.r_1 c arg3 arg4 arg7 arg8 arg14 f2 f3 f6 f7 = gB2 k2_pay6 x2 x3 x6 x7 := by
    unfold run2_first.sl.r_1 run2_first.sl.v31 gB2 View.readCov
    rw [View.readAt_full, View.readAt_full, View.readAt_full, eX2, hf6, hf7]
  have er2 : run2_first.sl.r_2 c arg1 arg2 arg5 arg6 arg12 f0 f1 f4 f5 = k2_pay15 (mF2 k2_pay4 x0 x1 x4) x5 := by
    unfold run2_first.sl.r_2
    rw [er, View.readAt_full, hf5]
  have er3 : run2_first.sl.r_3 c arg1 arg2 arg5 arg6 arg12 f0 f1 f4 f5 = k2_pay16 (mF2 k2_pay4 x0 x1 x4) x5 := by
    unfold run2_first.sl.r_3
    rw [er, View.readAt_full, hf5]
  have er4 : run2_first.sl.r_4 c arg1 arg2 arg5 arg6 arg12 f0 f1 f4 f5 = k2_pay17 (mF2 k2_pay4 x0 x1 x4) x5 := by
    unfold run2_first.sl.r_4
    rw [er, View.readAt_full, hf5]
  have er5 : run2_first.sl.r_5 c arg1 arg2 arg5 arg6 arg12 arg13 f0 f1 f4 f5 = k2_pay18 (mF2 k2_pay4 x0 x1 x4) x5 k2_pay5 := by
    unfold run2_first.sl.r_5
    rw [er, View.readAt_full, hf5, e1]
  have er7 : run2_first.sl.r_7 c arg3 arg4 arg7 arg8 arg14 arg15 f2 f3 f6 f7 = k2_pay23 (gB2 k2_pay6 x2 x3 x6 x7) k2_pay7 := by
    unfold run2_first.sl.r_7
    rw [er1, e3]
  have er8 : run2_first.sl.r_8 c arg3 arg4 arg7 arg8 arg14 arg15 f2 f3 f6 f7 = hB2 k2_pay6 k2_pay7 x2 x3 x6 x7 := by
    unfold run2_first.sl.r_8 hB2
    rw [er1, e3]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [HS0]
  · iexists _; isplitr; swap; · iexact HS0
    ipureintro
    rw [View.read_writes_cons_put _ _ _ _ _ rfl, eX0, er2, er3, er4, er5]; rfl
  isplitl [HS1]
  · iexists _; isplitr; swap; · iexact HS1
    ipureintro
    refine (View.read_writes_full _ _ _ _ _).trans ?_
    rw [er2, er3, er5]; rfl
  isplitl [HS2]
  · iexists _; isplitr; swap; · iexact HS2
    ipureintro
    rw [View.read_writes_cons_put _ _ _ _ _ rfl, eX2, er8]; rfl
  iexists _; isplitr; swap; · iexact HS3
  ipureintro
  refine (View.read_writes_full _ _ _ _ _).trans ?_
  rw [er7]; rfl

set_option maxHeartbeats 4000000 in
theorem run2_last (c : Dev nD) (i : grid2.Coords) (arg1 : Memref sig .tc .vmem S1x512x512 .bf16) (harg1 : arg1.IsWhole) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1536x2048 .bf16) (harg5 : arg5.IsWhole) (arg6 : Memref sig .tc .vmem S1x2048 .f32) (harg6 : arg6.IsWhole) (arg7 : Memref sig .tc .vmem S1536x2048 .bf16) (harg7 : arg7.IsWhole) (arg8 : Memref sig .tc .vmem S1x2048 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1536 .bf16) (harg12 : arg12.IsWhole) (arg13 : Memref sig .tc .vmem S512x512 .f32) (harg13 : arg13.IsWhole) (arg14 : Memref sig .tc .vmem S512x1536 .bf16) (harg14 : arg14.IsWhole) (arg15 : Memref sig .tc .vmem S512x512 .f32) (harg15 : arg15.IsWhole) (hc0 : ¬ cond2 i) (hc1 : cond2' i)
    (x0 : Vec F S1x512x512 .bf16) (x1 : Vec F S1x512x512 .bf16) (x2 : Vec F S1x512x512 .bf16) (x3 : Vec F S1x512x512 .bf16) (x4 : Vec F S1536x2048 .bf16) (x5 : Vec F S1x2048 .f32) (x6 : Vec F S1536x2048 .bf16) (x7 : Vec F S1x2048 .f32) (x8 : Vec F S1x1024 .f32) (x9 : Vec F S1x1 .f32)
     (s0 : Vec F S512x1536 .bf16) (s1 : Vec F S512x512 .f32) (s2 : Vec F S512x1536 .bf16) (s3 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare s0 ∗ owns (c : Thread nD τ) arg13 fullShare s1 ∗ owns (c : Thread nD τ) arg14 fullShare s2 ∗ owns (c : Thread nD τ) arg15 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (yL (hF2 s0 s1 x0 x1 x4 x5) (hB2 s2 s3 x2 x3 x6 x7) x8 x9) ∗ owns (c : Thread nD τ) arg12 fullShare (xcF2 s0 s1 x0 x1 x4 x5) ∗ owns (c : Thread nD τ) arg13 fullShare (cF2 s0 s1 x0 x1 x4 x5) ∗ owns (c : Thread nD τ) arg14 fullShare (xcB2 s2 s3 x2 x3 x6 x7) ∗ owns (c : Thread nD τ) arg15 fullShare (cB2 s2 s3 x2 x3 x6 x7)) -∗ K ⟨⟩))
      ⊢ wp frame (wpE (defs₀ (F := F)) Variants.none c none) E (cc2__l1_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__l1_body_eq_skeleton]; unfold cc2__l1_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hs0, HS0⟩, ⟨%fs1, %hs1, HS1⟩, ⟨%fs2, %hs2, HS2⟩, ⟨%fs3, %hs3, HS3⟩, Hk⟩
  sl_exec (disch := first | sl_exact hc0 | sl_exact hc1)
  sl_step
  have eX0 : arg12.view.read (Elt F) (arg12.view.writes (Elt F) fs0 (run2_last.sl.HS0_2 c arg1 arg2 f0 f1)) = put2X s0 (k2_pay8 x0) (k2_pay9 x1) := by
    unfold run2_last.sl.HS0_2
    rw [View.read_writes_cons_put _ _ _ _ _ rfl, View.read_writes_cons_put _ _ _ _ _ rfl, View.writes_nil, hs0, View.readAt_full, View.readAt_full, hf0, hf1]; rfl
  have eX2 : arg14.view.read (Elt F) (arg14.view.writes (Elt F) fs2 (run2_last.sl.HS2_2 c arg3 arg4 f2 f3)) = put2X s2 (k2_pay10 x2) (k2_pay11 x3) := by
    unfold run2_last.sl.HS2_2
    rw [View.read_writes_cons_put _ _ _ _ _ rfl, View.read_writes_cons_put _ _ _ _ _ rfl, View.writes_nil, hs2, View.readAt_full, View.readAt_full, hf2, hf3]; rfl
  have er : run2_last.sl.r c arg1 arg2 arg5 arg12 f0 f1 f4 fs0 = mF2 s0 x0 x1 x4 := by
    unfold run2_last.sl.r mF2
    rw [View.readAt_full, View.readAt_full, eX0, hf4]
  have er1 : run2_last.sl.r_1 c arg3 arg4 arg7 arg8 arg14 f2 f3 f6 f7 fs2 = gB2 s2 x2 x3 x6 x7 := by
    unfold run2_last.sl.r_1 gB2
    rw [View.readAt_full, View.readAt_full, View.readAt_full, eX2, hf6, hf7]
  have er2 : run2_last.sl.r_2 c arg1 arg2 arg5 arg6 arg12 f0 f1 f4 f5 fs0 = k2_pay15 (mF2 s0 x0 x1 x4) x5 := by
    unfold run2_last.sl.r_2
    rw [er, View.readAt_full, hf5]
  have er3 : run2_last.sl.r_3 c arg1 arg2 arg5 arg6 arg12 f0 f1 f4 f5 fs0 = k2_pay16 (mF2 s0 x0 x1 x4) x5 := by
    unfold run2_last.sl.r_3
    rw [er, View.readAt_full, hf5]
  have er4 : run2_last.sl.r_4 c arg1 arg2 arg5 arg6 arg12 f0 f1 f4 f5 fs0 = k2_pay17 (mF2 s0 x0 x1 x4) x5 := by
    unfold run2_last.sl.r_4
    rw [er, View.readAt_full, hf5]
  have er5 : run2_last.sl.r_5 c arg1 arg2 arg5 arg6 arg12 arg13 f0 f1 f4 f5 fs0 fs1 = k2_pay18 (mF2 s0 x0 x1 x4) x5 s1 := by
    unfold run2_last.sl.r_5
    rw [er, View.readAt_full, hf5, View.readAt_full, hs1]
  have er7 : run2_last.sl.r_7 c arg3 arg4 arg7 arg8 arg14 arg15 f2 f3 f6 f7 fs2 fs3 = k2_pay23 (gB2 s2 x2 x3 x6 x7) s3 := by
    unfold run2_last.sl.r_7
    rw [er1, View.readAt_full, hs3]
  have er8 : run2_last.sl.r_8 c arg3 arg4 arg7 arg8 arg14 arg15 f2 f3 f6 f7 fs2 fs3 = hB2 s2 s3 x2 x3 x6 x7 := by
    unfold run2_last.sl.r_8 hB2
    rw [er1, View.readAt_full, hs3]
  have er6 : run2_last.sl.r_6 c arg1 arg2 arg5 arg6 arg12 arg13 f0 f1 f4 f5 fs0 fs1 = hF2 s0 s1 x0 x1 x4 x5 := by
    unfold run2_last.sl.r_6 hF2
    rw [er2, er3, er4, er5]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; swap; · iexact H10
    ipureintro
    refine (View.read_writes_full _ _ _ _ _).trans ?_
    rw [er6, er8, View.readAt_full, hf9, View.readAt_unit _ _ _ rfl inb_S1x1024_S1x512_0_0, View.readAt_unit _ _ _ rfl inb_S1x1024_S1x512_0_512, hf8]; rfl
  isplitl [HS0]
  · iexists _; isplitr; swap; · iexact HS0
    ipureintro
    rw [View.read_writes_cons_put _ _ _ _ _ rfl, eX0, er2, er3, er4, er5]; rfl
  isplitl [HS1]
  · iexists _; isplitr; swap; · iexact HS1
    ipureintro
    refine (View.read_writes_full _ _ _ _ _).trans ?_
    rw [er2, er3, er5]; rfl
  isplitl [HS2]
  · iexists _; isplitr; swap; · iexact HS2
    ipureintro
    rw [View.read_writes_cons_put _ _ _ _ _ rfl, eX2, er8]; rfl
  iexists _; isplitr; swap; · iexact HS3
  ipureintro
  refine (View.read_writes_full _ _ _ _ _).trans ?_
  rw [er7]; rfl

end Cert.Proof

end
-- ==== Proof.L0Run.lean ====
/-
  One point of the first layer's pipelined call: what its body leaves in its buffers, by name.

  The body keeps, for each of the two directions, a block `xc` holding the point's inputs beside the hidden state, and the
  cell state `c`. A point puts the inputs into `xc`, forms the gates, and leaves the new cell state, the new hidden
  state (in `xc`) and the hidden state again in the output block.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Setup
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The step -/

/-- The inputs beside the hidden state. -/
def putX (xc : Vec F S512x640 .bf16) (x : FVec F S512x128 .bf16) : Vec F S512x640 .bf16 :=
  VecWindow.put xc ![0, 0] S512x128.size x

/-- The new hidden state in its place. -/
def putH (xc : Vec F S512x640 .bf16) (h : FVec F S512x512 .bf16) : Vec F S512x640 .bf16 :=
  VecWindow.put xc ![0, 128] S512x512.size h

/-- The gates of the forward direction. -/
def gF (xc : Vec F S512x640 .bf16) (x : Vec F S1x512x128 .f32) (W : Vec F S640x2048 .bf16) (b : Vec F S1x2048 .f32) : FVec F S512x2048 .f32 :=
  k1_pay8 (putX xc (k1_pay6 x)) W b

/-- The two parts of the backward direction's gates. -/
def gB (xc : Vec F S512x640 .bf16) (x : Vec F S1x512x128 .f32) (W : Vec F S640x2048 .bf16) : FVec F S512x2048 .f32 :=
  k1_pay9 (putX xc (k1_pay7 x)) W

/-- A new forward block, cell state and output. -/
def xcF (xc : Vec F S512x640 .bf16) (c : Vec F S512x512 .f32) (x : Vec F S1x512x128 .f32) (W : Vec F S640x2048 .bf16) (b : Vec F S1x2048 .f32) : Vec F S512x640 .bf16 :=
  putH (putX xc (k1_pay6 x)) (k1_pay15 (gF xc x W b) c)
def cF (xc : Vec F S512x640 .bf16) (c : Vec F S512x512 .f32) (x : Vec F S1x512x128 .f32) (W : Vec F S640x2048 .bf16) (b : Vec F S1x2048 .f32) : Vec F S512x512 .f32 :=
  k1_pay14 (gF xc x W b) c
def oF (xc : Vec F S512x640 .bf16) (c : Vec F S512x512 .f32) (x : Vec F S1x512x128 .f32) (W : Vec F S640x2048 .bf16) (b : Vec F S1x2048 .f32) : Vec F S1x512x512 .bf16 :=
  k1_pay22 (k1_pay13 (gF xc x W b) c)

/-- A new backward block, cell state and output. -/
def xcB (xc : Vec F S512x640 .bf16) (c : Vec F S512x512 .f32) (x : Vec F S1x512x128 .f32) (W : Vec F S640x2048 .bf16) (b : Vec F S1x2048 .f32) : Vec F S512x640 .bf16 :=
  putH (putX xc (k1_pay7 x)) (k1_pay21 (k1_pay11 (gB xc x W) (k1_pay10 b)) (k1_pay16 (gB xc x W) (k1_pay10 b)) k1_pay17 c)
def cB (xc : Vec F S512x640 .bf16) (c : Vec F S512x512 .f32) (x : Vec F S1x512x128 .f32) (W : Vec F S640x2048 .bf16) (b : Vec F S1x2048 .f32) : Vec F S512x512 .f32 :=
  k1_pay20 (k1_pay11 (gB xc x W) (k1_pay10 b)) (k1_pay16 (gB xc x W) (k1_pay10 b)) k1_pay17 c
def oB (xc : Vec F S512x640 .bf16) (c : Vec F S512x512 .f32) (x : Vec F S1x512x128 .f32) (W : Vec F S640x2048 .bf16) (b : Vec F S1x2048 .f32) : Vec F S1x512x512 .bf16 :=
  k1_pay1 (k1_pay19 (k1_pay11 (gB xc x W) (k1_pay10 b)) (k1_pay16 (gB xc x W) (k1_pay10 b)) k1_pay17 c)

/-- The condition of the body's first branch. -/
abbrev cond1 (i : grid1.Coords) : Prop := (Scalar.cmpi .ne (Scalar.extui (Scalar.cmpi .eq (BitVec.ofNat 32 (i 0).val) 0#32)) 0#32) = 1#1

theorem cond1_iff (t : Fin cfg1.N) : cond1 (grid1.coords t) ↔ t.val = 0 := by
  have ht : t.val < 200 := Nat.lt_of_lt_of_eq t.isLt N_1
  have e0 : (grid1.coords t 0).val = t.val / 1 % 200 := Pipeline.Grid.coords_val t 0 (by decide) rfl
  have h : cond1 (grid1.coords t) ↔ t.val % 200 = 0 := by
    simp only [cond1, e0]
    word_cmp
  rw [h]; omega

set_option maxHeartbeats 1000000 in
theorem run1_next (c : Dev nD) (i : grid1.Coords) (arg1 : Memref sig .tc .vmem S1x512x128 .f32) (harg1 : arg1.IsWhole) (arg2 : Memref sig .tc .vmem S1x512x128 .f32) (harg2 : arg2.IsWhole) (arg3 : Memref sig .tc .vmem S640x2048 .bf16) (harg3 : arg3.IsWhole) (arg4 : Memref sig .tc .vmem S1x2048 .f32) (harg4 : arg4.IsWhole) (arg5 : Memref sig .tc .vmem S640x2048 .bf16) (harg5 : arg5.IsWhole) (arg6 : Memref sig .tc .vmem S1x2048 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S512x640 .bf16) (harg9 : arg9.IsWhole) (arg10 : Memref sig .tc .vmem S512x512 .f32) (harg10 : arg10.IsWhole) (arg11 : Memref sig .tc .vmem S512x640 .bf16) (harg11 : arg11.IsWhole) (arg12 : Memref sig .tc .vmem S512x512 .f32) (harg12 : arg12.IsWhole) (hc0 : ¬ cond1 i)
    (x0 : Vec F S1x512x128 .f32) (x1 : Vec F S1x512x128 .f32) (x2 : Vec F S640x2048 .bf16) (x3 : Vec F S1x2048 .f32) (x4 : Vec F S640x2048 .bf16) (x5 : Vec F S1x2048 .f32)
    (s0 : Vec F S512x640 .bf16) (s1 : Vec F S512x512 .f32) (s2 : Vec F S512x640 .bf16) (s3 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare s0 ∗ owns (c : Thread nD τ) arg10 fullShare s1 ∗ owns (c : Thread nD τ) arg11 fullShare s2 ∗ owns (c : Thread nD τ) arg12 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (oF s0 s1 x0 x2 x3) ∗ owns (c : Thread nD τ) arg8 fullShare (oB s2 s3 x1 x4 x5) ∗ owns (c : Thread nD τ) arg9 fullShare (xcF s0 s1 x0 x2 x3) ∗ owns (c : Thread nD τ) arg10 fullShare (cF s0 s1 x0 x2 x3) ∗ owns (c : Thread nD τ) arg11 fullShare (xcB s2 s3 x1 x4 x5) ∗ owns (c : Thread nD τ) arg12 fullShare (cB s2 s3 x1 x4 x5)) -∗ K ⟨⟩))
      ⊢ wp frame (wpE (defs₀ (F := F)) Variants.none c none) E (cc1__l0_body i arg1 harg1 arg2 harg2 arg3 harg3 arg4 harg4 arg5 harg5 arg6 harg6 arg7 harg7 arg8 harg8 arg9 harg9 arg10 harg10 arg11 harg11 arg12 harg12) K := by
  simp only [cc1__l0_body_eq_skeleton]; unfold cc1__l0_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hs0, HS0⟩, ⟨%fs1, %hs1, HS1⟩, ⟨%fs2, %hs2, HS2⟩, ⟨%fs3, %hs3, HS3⟩, Hk⟩
  sl_exec (disch := first | sl_exact hc0)
  sl_step
  have eX0 : arg9.view.read (Elt F) (arg9.view.writes (Elt F) fs0 (run1_next.sl.HS0_1 c arg1 f0)) = putX s0 (k1_pay6 x0) := by
    unfold run1_next.sl.HS0_1
    rw [View.read_writes_cons_put _ _ _ _ _ rfl, View.writes_nil, hs0, View.readAt_full, hf0]; rfl
  have eX2 : arg11.view.read (Elt F) (arg11.view.writes (Elt F) fs2 (run1_next.sl.HS2_1 c arg2 f1)) = putX s2 (k1_pay7 x1) := by
    unfold run1_next.sl.HS2_1
    rw [View.read_writes_cons_put _ _ _ _ _ rfl, View.writes_nil, hs2, View.readAt_full, hf1]; rfl
  have er : run1_next.sl.r c arg1 arg3 arg4 arg9 f0 f2 f3 fs0 = gF s0 x0 x2 x3 := by
    unfold run1_next.sl.r gF
    rw [View.readAt_full, View.readAt_full, View.readAt_full, eX0, hf2, hf3]
  have er1 : run1_next.sl.r_1 c arg2 arg5 arg11 f1 f4 fs2 = gB s2 x1 x4 := by
    unfold run1_next.sl.r_1 gB
    rw [View.readAt_full, View.readAt_full, eX2, hf4]
  have er2 : run1_next.sl.r_2 c arg6 f5 = k1_pay10 x5 := by
    unfold run1_next.sl.r_2
    rw [View.readAt_full, hf5]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    refine (View.read_writes_full _ _ _ _ _).trans ?_
    unfold run1_next.sl.r_7 run1_next.sl.r_4 oF
    rw [er, View.readAt_full, hs1]
  isplitl [H7]
  · iexists _; isplitr; swap; · iexact H7
    ipureintro
    refine (View.read_writes_full _ _ _ _ _).trans ?_
    unfold run1_next.sl.r_6 run1_next.sl.r_3 run1_next.sl.r_5 oB
    rw [er1, er2, View.readAt_full, hs3]
  isplitl [HS0]
  · iexists _; isplitr; swap; · iexact HS0
    ipureintro
    rw [View.read_writes_cons_put _ _ _ _ _ rfl, eX0, er, View.readAt_full, hs1]; rfl
  isplitl [HS1]
  · iexists _; isplitr; swap; · iexact HS1
    ipureintro
    refine (View.read_writes_full _ _ _ _ _).trans ?_
    rw [er, View.readAt_full, hs1]; rfl
  isplitl [HS2]
  · iexists _; isplitr; swap; · iexact HS2
    ipureintro
    rw [View.read_writes_cons_put _ _ _ _ _ rfl, eX2]
    unfold run1_next.sl.r_3 run1_next.sl.r_5
    rw [er1, er2, View.readAt_full, hs3]; rfl
  iexists _; isplitr; swap; · iexact HS3
  ipureintro
  refine (View.read_writes_full _ _ _ _ _).trans ?_
  unfold run1_next.sl.r_3 run1_next.sl.r_5
  rw [er1, er2, View.readAt_full, hs3]; rfl

set_option maxHeartbeats 1000000 in
theorem run1_first (c : Dev nD) (i : grid1.Coords) (arg1 : Memref sig .tc .vmem S1x512x128 .f32) (harg1 : arg1.IsWhole) (arg2 : Memref sig .tc .vmem S1x512x128 .f32) (harg2 : arg2.IsWhole) (arg3 : Memref sig .tc .vmem S640x2048 .bf16) (harg3 : arg3.IsWhole) (arg4 : Memref sig .tc .vmem S1x2048 .f32) (harg4 : arg4.IsWhole) (arg5 : Memref sig .tc .vmem S640x2048 .bf16) (harg5 : arg5.IsWhole) (arg6 : Memref sig .tc .vmem S1x2048 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S512x640 .bf16) (harg9 : arg9.IsWhole) (arg10 : Memref sig .tc .vmem S512x512 .f32) (harg10 : arg10.IsWhole) (arg11 : Memref sig .tc .vmem S512x640 .bf16) (harg11 : arg11.IsWhole) (arg12 : Memref sig .tc .vmem S512x512 .f32) (harg12 : arg12.IsWhole) (hc0 : cond1 i)
    (x0 : Vec F S1x512x128 .f32) (x1 : Vec F S1x512x128 .f32) (x2 : Vec F S640x2048 .bf16) (x3 : Vec F S1x2048 .f32) (x4 : Vec F S640x2048 .bf16) (x5 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (oF k1_pay2 k1_pay3 x0 x2 x3) ∗ owns (c : Thread nD τ) arg8 fullShare (oB k1_pay4 k1_pay5 x1 x4 x5) ∗ owns (c : Thread nD τ) arg9 fullShare (xcF k1_pay2 k1_pay3 x0 x2 x3) ∗ owns (c : Thread nD τ) arg10 fullShare (cF k1_pay2 k1_pay3 x0 x2 x3) ∗ owns (c : Thread nD τ) arg11 fullShare (xcB k1_pay4 k1_pay5 x1 x4 x5) ∗ owns (c : Thread nD τ) arg12 fullShare (cB k1_pay4 k1_pay5 x1 x4 x5)) -∗ K ⟨⟩))
      ⊢ wp frame (wpE (defs₀ (F := F)) Variants.none c none) E (cc1__l0_body i arg1 harg1 arg2 harg2 arg3 harg3 arg4 harg4 arg5 harg5 arg6 harg6 arg7 harg7 arg8 harg8 arg9 harg9 arg10 harg10 arg11 harg11 arg12 harg12) K := by
  simp only [cc1__l0_body_eq_skeleton]; unfold cc1__l0_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  sl_exec (disch := first | sl_exact hc0)
  sl_step
  have eX0 : ∀ f, arg9.view.read (Elt F) (arg9.view.writes (Elt F) f (run1_first.sl.HS0_2 c arg1 f0)) = putX k1_pay2 (k1_pay6 x0) := by
    intro f
    unfold run1_first.sl.HS0_2
    rw [View.read_writes_cons_put _ _ _ _ _ rfl, View.read_writes_full _ _ _ _ _, View.readAt_full, hf0]; rfl
  have eX2 : ∀ f, arg11.view.read (Elt F) (arg11.view.writes (Elt F) f (run1_first.sl.HS2_2 c arg2 f1)) = putX k1_pay4 (k1_pay7 x1) := by
    intro f
    unfold run1_first.sl.HS2_2
    rw [View.read_writes_cons_put _ _ _ _ _ rfl, View.read_writes_full _ _ _ _ _, View.readAt_full, hf1]; rfl
  have e1 : run1_first.sl.v57 (F := F) c arg10 = k1_pay3 := by
    unfold run1_first.sl.v57 run1_first.sl.HS1_1
    exact View.readCov_full _ _ _ _ _
  have e3 : run1_first.sl.v96 (F := F) c arg12 = k1_pay5 := by
    unfold run1_first.sl.v96 run1_first.sl.HS3_1
    exact View.readCov_full _ _ _ _ _
  have er : run1_first.sl.r c arg1 arg3 arg4 arg9 f0 f2 f3 = gF k1_pay2 x0 x2 x3 := by
    unfold run1_first.sl.r run1_first.sl.v15 gF View.readCov
    rw [View.readAt_full, View.readAt_full, View.readAt_full, eX0, hf2, hf3]
  have er1 : run1_first.sl.r_1 c arg2 arg5 arg11 f1 f4 = gB k1_pay4 x1 x4 := by
    unfold run1_first.sl.r_1 run1_first.sl.v23 gB View.readCov
    rw [View.readAt_full, View.readAt_full, eX2, hf4]
  have er2 : run1_first.sl.r_2 c arg6 f5 = k1_pay10 x5 := by
    unfold run1_first.sl.r_2
    rw [View.readAt_full, hf5]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    refine (View.read_writes_full _ _ _ _ _).trans ?_
    unfold run1_first.sl.r_7 run1_first.sl.r_4 oF
    rw [er, e1]
  isplitl [H7]
  · iexists _; isplitr; swap; · iexact H7
    ipureintro
    refine (View.read_writes_full _ _ _ _ _).trans ?_
    unfold run1_first.sl.r_6 run1_first.sl.r_3 run1_first.sl.r_5 oB
    rw [er1, er2, e3]
  isplitl [HS0]
  · iexists _; isplitr; swap; · iexact HS0
    ipureintro
    rw [View.read_writes_cons_put _ _ _ _ _ rfl, eX0, er, e1]; rfl
  isplitl [HS1]
  · iexists _; isplitr; swap; · iexact HS1
    ipureintro
    refine (View.read_writes_full _ _ _ _ _).trans ?_
    rw [er, e1]; rfl
  isplitl [HS2]
  · iexists _; isplitr; swap; · iexact HS2
    ipureintro
    rw [View.read_writes_cons_put _ _ _ _ _ rfl, eX2]
    unfold run1_first.sl.r_3 run1_first.sl.r_5
    rw [er1, er2, e3]; rfl
  iexists _; isplitr; swap; · iexact HS3
  ipureintro
  refine (View.read_writes_full _ _ _ _ _).trans ?_
  unfold run1_first.sl.r_3 run1_first.sl.r_5
  rw [er1, er2, e3]; rfl

end Cert.Proof

end
-- ==== Proof.L0Dat.lean ====
/-
  The first layer's pipelined call: what its two carried states are before each point, what the pipeline holds at each
  point, and the body's obligation there.
-/
module

public import proofs.«01_k».proof.Proof.L0Run

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-- What the TensorCore's buffers hold when a region is entered. -/
abbrev Vals (F : FTy → Type) : Type := (c : Dev nD) → (b : Ref sig .tc) → Buf (Elt F) ((c : Thread nD τ).loc b)

variable (V : Vals F)

/-- The block of window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The forward state before point `n`. -/
def stF1 (c : Dev nD) : ℕ → Vec F S512x640 .bf16 × Vec F S512x512 .f32
  | 0 => (k1_pay2, k1_pay3)
  | n + 1 => if h : n < cfg1.N then
      (xcF (stF1 c n).1 (stF1 c n).2 (iblk1 V c 0 ⟨n, h⟩) (iblk1 V c 2 ⟨n, h⟩) (iblk1 V c 3 ⟨n, h⟩),
        cF (stF1 c n).1 (stF1 c n).2 (iblk1 V c 0 ⟨n, h⟩) (iblk1 V c 2 ⟨n, h⟩) (iblk1 V c 3 ⟨n, h⟩))
    else stF1 c n

/-- The backward state before point `n`. -/
def stB1 (c : Dev nD) : ℕ → Vec F S512x640 .bf16 × Vec F S512x512 .f32
  | 0 => (k1_pay4, k1_pay5)
  | n + 1 => if h : n < cfg1.N then
      (xcB (stB1 c n).1 (stB1 c n).2 (iblk1 V c 1 ⟨n, h⟩) (iblk1 V c 4 ⟨n, h⟩) (iblk1 V c 5 ⟨n, h⟩),
        cB (stB1 c n).1 (stB1 c n).2 (iblk1 V c 1 ⟨n, h⟩) (iblk1 V c 4 ⟨n, h⟩) (iblk1 V c 5 ⟨n, h⟩))
    else stB1 c n

/-- What point `t` writes to its two outputs. -/
def outF1 (c : Dev nD) (t : Fin cfg1.N) : Vec F S1x512x512 .bf16 :=
  oF (stF1 V c t.val).1 (stF1 V c t.val).2 (iblk1 V c 0 t) (iblk1 V c 2 t) (iblk1 V c 3 t)
def outB1 (c : Dev nD) (t : Fin cfg1.N) : Vec F S1x512x512 .bf16 :=
  oB (stB1 V c t.val).1 (stB1 V c t.val).2 (iblk1 V c 1 t) (iblk1 V c 4 t) (iblk1 V c 5 t)

theorem stF1_succ (c : Dev nD) (t : Fin cfg1.N) : stF1 V c (t.val + 1) =
    (xcF (stF1 V c t.val).1 (stF1 V c t.val).2 (iblk1 V c 0 t) (iblk1 V c 2 t) (iblk1 V c 3 t),
      cF (stF1 V c t.val).1 (stF1 V c t.val).2 (iblk1 V c 0 t) (iblk1 V c 2 t) (iblk1 V c 3 t)) := by
  rw [stF1, dif_pos t.isLt]
theorem stB1_succ (c : Dev nD) (t : Fin cfg1.N) : stB1 V c (t.val + 1) =
    (xcB (stB1 V c t.val).1 (stB1 V c t.val).2 (iblk1 V c 1 t) (iblk1 V c 4 t) (iblk1 V c 5 t),
      cB (stB1 V c t.val).1 (stB1 V c t.val).2 (iblk1 V c 1 t) (iblk1 V c 4 t) (iblk1 V c 5 t)) := by
  rw [stB1, dif_pos t.isLt]

/-! ## The buffers of the region that no window stages -/

abbrev scA1 : Memref sig .tc .vmem S512x640 .bf16 := Memref.whole cc1_scratch0
abbrev scB1 : Memref sig .tc .vmem S512x512 .f32 := Memref.whole cc1_scratch1
abbrev scC1 : Memref sig .tc .vmem S512x640 .bf16 := Memref.whole cc1_scratch2
abbrev scD1 : Memref sig .tc .vmem S512x512 .f32 := Memref.whole cc1_scratch3

/-- The other buffers, which the region does not touch. -/
def rest1 (c : Dev nD) : sProp 𝕄 :=
  bigSepL [cc2_stg0_0, cc2_stg0_1, cc2_stg1_0, cc2_stg1_1, cc2_stg2_0, cc2_stg2_1, cc2_stg3_0, cc2_stg3_1, cc2_stg4_0, cc2_stg5_0, cc2_stg6_0, cc2_stg7_0, cc2_stg8_0, cc2_stg9_0, cc2_stg10_0, cc2_scratch0, cc2_scratch1, cc2_scratch2, cc2_scratch3]
    fun b => iprop(∃ f : Buf (Elt F) ((c : Thread nD τ).loc b), ((c : Thread nD τ).loc b) ↦{fullShare} f)

theorem scoped1 (c : Dev nD) : (Pipeline.scopedRest spec1 c : sProp 𝕄) =
    iprop((∃ d, owns (c : Thread nD τ) scA1 fullShare d) ∗ (∃ d, owns (c : Thread nD τ) scB1 fullShare d) ∗ (∃ d, owns (c : Thread nD τ) scC1 fullShare d) ∗ (∃ d, owns (c : Thread nD τ) scD1 fullShare d) ∗ rest1 c) := by
  rw [scopedRest1_eq]
  simp only [scA1, scB1, scC1, scD1, owns_whole]
  rfl

/-- Between points: the four carried blocks at the states before point `n` (at anything before the first). -/
def Phi1 (c : Dev nD) : (n : ℕ) → sProp 𝕄
  | 0 => Pipeline.scopedRest spec1 c
  | n + 1 => iprop(owns (c : Thread nD τ) scA1 fullShare (stF1 V c (n + 1)).1 ∗ owns (c : Thread nD τ) scB1 fullShare (stF1 V c (n + 1)).2
      ∗ owns (c : Thread nD τ) scC1 fullShare (stB1 V c (n + 1)).1 ∗ owns (c : Thread nD τ) scD1 fullShare (stB1 V c (n + 1)).2 ∗ rest1 c)

theorem Phi1_pos (c : Dev nD) (n : ℕ) (h : n ≠ 0) : Phi1 V c n =
    iprop(owns (c : Thread nD τ) scA1 fullShare (stF1 V c n).1 ∗ owns (c : Thread nD τ) scB1 fullShare (stF1 V c n).2
      ∗ owns (c : Thread nD τ) scC1 fullShare (stB1 V c n).1 ∗ owns (c : Thread nD τ) scD1 fullShare (stB1 V c n).2 ∗ rest1 c) := by
  cases n with
  | zero => exact absurd rfl h
  | succ n => rfl

/-! ## The pipeline's data -/

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outF1 V c t
    | ⟨7, _⟩ => outB1 V c t
  Φ t := Phi1 V c t.val
  q w := Pipeline.shareOf spec1 w
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outF1 V c t := by dsimp only [dat1]
theorem after1_7 (c : Dev nD) (t : Fin cfg1.N) : (dat1 V c).after 7 t = outB1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [dat1_A]; try rfl) t d).trans
    (by unfold Dat.fetched Dat.blockOf iblk1; rw [dat1_A]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [dat1_A]; try rfl) t d).trans
    (by unfold Dat.fetched Dat.blockOf iblk1; rw [dat1_A]; try rfl)

/-! ## The body's obligation -/

def bodyPre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem Phi1_castSucc (c : Dev nD) (t : Fin cfg1.N) : (dat1 V c).Φ t.castSucc = Phi1 V c t.val := rfl

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt none t.succ = (dat1 V c).owesAt none t.castSucc from rfl,
    after1_0, after1_1, after1_2, after1_3, after1_4, after1_5, after1_6, after1_7,
    show (dat1 V c).Φ t.succ = Phi1 V c (t.val + 1) from rfl, Phi1_pos V c _ (Nat.succ_ne_zero _), Phi1_castSucc,
    stF1_succ, stB1_succ]
  unfold outF1 outB1
  by_cases hz : t.val = 0
  · rw [hz, show Phi1 V c 0 = Pipeline.scopedRest spec1 c from rfl, scoped1]
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_first c (grid1.coords t) _ _ _ _ _ _ _ _ _ _ _ _ _ _ _ _ _ _ _ _ _ _ _ _ ((cond1_iff t).mpr hz) (iblk1 V c 0 t) (iblk1 V c 1 t) (iblk1 V c 2 t) (iblk1 V c 3 t) (iblk1 V c 4 t) (iblk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr]
    · isplitl [HS0]; · iexact HS0
      isplitl [HS1]; · iexact HS1
      isplitl [HS2]; · iexact HS2
      isplitl [HS3]; · iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi1_pos V c _ hz]
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_next c (grid1.coords t) _ _ _ _ _ _ _ _ _ _ _ _ _ _ _ _ _ _ _ _ _ _ _ _ (fun h => hz ((cond1_iff t).mp h)) (iblk1 V c 0 t) (iblk1 V c 1 t) (iblk1 V c 2 t) (iblk1 V c 3 t) (iblk1 V c 4 t) (iblk1 V c 5 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hr]
    · isplitl [HS0]; · iexact HS0
      isplitl [HS1]; · iexact HS1
      isplitl [HS2]; · iexact HS2
      isplitl [HS3]; · iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) : defs₀ (F := F) .tc cfg1.body (cfg1.bodyArgs t (cfg1.slots t)) = bodyAt1 t := by
  unfold defs₀; rfl

theorem body1_strict (c : Dev nD) : BodyObligation (dat1 V c) (defs₀ (F := F)) Variants.none none Set.univ := fun t => by
  rw [bigSep_W1, bigSep_W1, defs₀_row1]
  exact triple_restated (sound_body1 V c t) rfl .rfl fun _ => .rfl

theorem body1 (c : Dev nD) : BodyObligationLoose (dat1 V c) (defs₀ (F := F)) Variants.none none Set.univ := (body1_strict V c).loose

theorem hin1 (c : Dev nD) : iprop(Pipeline.scopedRest spec1 c ∗ emp) ⊢ (dat1 V c).Φ 0 := by
  rw [show (dat1 V c).Φ 0 = Pipeline.scopedRest spec1 c from rfl]
  iintro ⟨H, -⟩; iexact H

theorem hout1 (c : Dev nD) : (dat1 V c).Φ (Fin.last cfg1.N) ⊢ iprop(Pipeline.scopedRest spec1 c ∗ emp) := by
  rw [show (dat1 V c).Φ (Fin.last cfg1.N) = Phi1 V c cfg1.N from rfl, Phi1_pos V c _ (by rw [show cfg1.N = 200 from N_1]; decide), scoped1]
  iintro ⟨H0, H1, H2, H3, Hr⟩
  isplitl
  · isplitl [H0]; · iexists _; iexact H0
    isplitl [H1]; · iexists _; iexact H1
    isplitl [H2]; · iexists _; iexact H2
    isplitl [H3]; · iexists _; iexact H3
    iexact Hr
  iempintro

end Cert.Proof

end
-- ==== Proof.L1Dat.lean ====
/-
  The second layer's pipelined call: what its two carried states are before each point, what the pipeline holds at each
  point, and the body's obligation there.
-/
module

public import proofs.«01_k».proof.Proof.L1Run
public import proofs.«01_k».proof.Proof.L0Dat

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

variable (V : Vals F)

/-- The block of window `w` at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The forward state before point `n`. -/
def stF2 (c : Dev nD) : ℕ → Vec F S512x1536 .bf16 × Vec F S512x512 .f32
  | 0 => (k2_pay4, k2_pay5)
  | n + 1 => if h : n < cfg2.N then
      (xcF2 (stF2 c n).1 (stF2 c n).2 (iblk2 V c 0 ⟨n, h⟩) (iblk2 V c 1 ⟨n, h⟩) (iblk2 V c 4 ⟨n, h⟩) (iblk2 V c 5 ⟨n, h⟩),
        cF2 (stF2 c n).1 (stF2 c n).2 (iblk2 V c 0 ⟨n, h⟩) (iblk2 V c 1 ⟨n, h⟩) (iblk2 V c 4 ⟨n, h⟩) (iblk2 V c 5 ⟨n, h⟩))
    else stF2 c n

theorem stF2_succ (c : Dev nD) (t : Fin cfg2.N) : stF2 V c (t.val + 1) =
    (xcF2 (stF2 V c t.val).1 (stF2 V c t.val).2 (iblk2 V c 0 t) (iblk2 V c 1 t) (iblk2 V c 4 t) (iblk2 V c 5 t),
      cF2 (stF2 V c t.val).1 (stF2 V c t.val).2 (iblk2 V c 0 t) (iblk2 V c 1 t) (iblk2 V c 4 t) (iblk2 V c 5 t)) := by
  rw [stF2, dif_pos t.isLt]

/-- The backward state before point `n`. -/
def stB2 (c : Dev nD) : ℕ → Vec F S512x1536 .bf16 × Vec F S512x512 .f32
  | 0 => (k2_pay6, k2_pay7)
  | n + 1 => if h : n < cfg2.N then
      (xcB2 (stB2 c n).1 (stB2 c n).2 (iblk2 V c 2 ⟨n, h⟩) (iblk2 V c 3 ⟨n, h⟩) (iblk2 V c 6 ⟨n, h⟩) (iblk2 V c 7 ⟨n, h⟩),
        cB2 (stB2 c n).1 (stB2 c n).2 (iblk2 V c 2 ⟨n, h⟩) (iblk2 V c 3 ⟨n, h⟩) (iblk2 V c 6 ⟨n, h⟩) (iblk2 V c 7 ⟨n, h⟩))
    else stB2 c n

theorem stB2_succ (c : Dev nD) (t : Fin cfg2.N) : stB2 V c (t.val + 1) =
    (xcB2 (stB2 V c t.val).1 (stB2 V c t.val).2 (iblk2 V c 2 t) (iblk2 V c 3 t) (iblk2 V c 6 t) (iblk2 V c 7 t),
      cB2 (stB2 V c t.val).1 (stB2 V c t.val).2 (iblk2 V c 2 t) (iblk2 V c 3 t) (iblk2 V c 6 t) (iblk2 V c 7 t)) := by
  rw [stB2, dif_pos t.isLt]

/-- What the last point writes to the result. -/
def outY (c : Dev nD) (t : Fin cfg2.N) : Vec F S512x1 .f32 :=
  yL (hF2 (stF2 V c t.val).1 (stF2 V c t.val).2 (iblk2 V c 0 t) (iblk2 V c 1 t) (iblk2 V c 4 t) (iblk2 V c 5 t)) (hB2 (stB2 V c t.val).1 (stB2 V c t.val).2 (iblk2 V c 2 t) (iblk2 V c 3 t) (iblk2 V c 6 t) (iblk2 V c 7 t)) (iblk2 V c 8 t) (iblk2 V c 9 t)

/-! ## The buffers of the region that no window stages -/

abbrev scA2 : Memref sig .tc .vmem S512x1536 .bf16 := Memref.whole cc2_scratch0
abbrev scB2 : Memref sig .tc .vmem S512x512 .f32 := Memref.whole cc2_scratch1
abbrev scC2 : Memref sig .tc .vmem S512x1536 .bf16 := Memref.whole cc2_scratch2
abbrev scD2 : Memref sig .tc .vmem S512x512 .f32 := Memref.whole cc2_scratch3

/-- The other buffers, which the region does not touch. -/
def rest2 (c : Dev nD) : sProp 𝕄 :=
  bigSepL [cc1_stg0_0, cc1_stg0_1, cc1_stg1_0, cc1_stg1_1, cc1_stg2_0, cc1_stg3_0, cc1_stg4_0, cc1_stg5_0, cc1_stg6_0, cc1_stg6_1, cc1_stg7_0, cc1_stg7_1, cc1_scratch0, cc1_scratch1, cc1_scratch2, cc1_scratch3]
    fun b => iprop(∃ f : Buf (Elt F) ((c : Thread nD τ).loc b), ((c : Thread nD τ).loc b) ↦{fullShare} f)

theorem scoped2 (c : Dev nD) : (Pipeline.scopedRest spec2 c : sProp 𝕄) =
    iprop((∃ d, owns (c : Thread nD τ) scA2 fullShare d) ∗ (∃ d, owns (c : Thread nD τ) scB2 fullShare d) ∗ (∃ d, owns (c : Thread nD τ) scC2 fullShare d) ∗ (∃ d, owns (c : Thread nD τ) scD2 fullShare d) ∗ rest2 c) := by
  rw [Pipeline.scopedRest_eq_of_list spec2 c [cc2_scratch0, cc2_scratch1, cc2_scratch2, cc2_scratch3, cc1_stg0_0, cc1_stg0_1, cc1_stg1_0, cc1_stg1_1, cc1_stg2_0, cc1_stg3_0, cc1_stg4_0, cc1_stg5_0, cc1_stg6_0, cc1_stg6_1, cc1_stg7_0, cc1_stg7_1, cc1_scratch0, cc1_scratch1, cc1_scratch2, cc1_scratch3] (by decide) (by decide)]
  simp only [scA2, scB2, scC2, scD2, owns_whole]
  rfl

/-- Between points: the four carried blocks at the states before point `n` (at anything before the first). -/
def Phi2 (c : Dev nD) : (n : ℕ) → sProp 𝕄
  | 0 => Pipeline.scopedRest spec2 c
  | n + 1 => iprop(owns (c : Thread nD τ) scA2 fullShare (stF2 V c (n + 1)).1 ∗ owns (c : Thread nD τ) scB2 fullShare (stF2 V c (n + 1)).2
      ∗ owns (c : Thread nD τ) scC2 fullShare (stB2 V c (n + 1)).1 ∗ owns (c : Thread nD τ) scD2 fullShare (stB2 V c (n + 1)).2 ∗ rest2 c)

theorem Phi2_pos (c : Dev nD) (n : ℕ) (h : n ≠ 0) : Phi2 V c n =
    iprop(owns (c : Thread nD τ) scA2 fullShare (stF2 V c n).1 ∗ owns (c : Thread nD τ) scB2 fullShare (stF2 V c n).2
      ∗ owns (c : Thread nD τ) scC2 fullShare (stB2 V c n).1 ∗ owns (c : Thread nD τ) scD2 fullShare (stB2 V c n).2 ∗ rest2 c) := by
  cases n with
  | zero => exact absurd rfl h
  | succ n => rfl

/-! ## The pipeline's data -/

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => outY V c t
  Φ t := Phi2 V c t.val
  q w := Pipeline.shareOf spec2 w
  owed _ := 0

theorem dat2_A (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = outY V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [dat2_A]; try rfl) t d).trans
    (by unfold Dat.fetched Dat.blockOf iblk2; rw [dat2_A]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [dat2_A]; try rfl) t d).trans
    (by unfold Dat.fetched Dat.blockOf iblk2; rw [dat2_A]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [dat2_A]; try rfl) t d).trans
    (by unfold Dat.fetched Dat.blockOf iblk2; rw [dat2_A]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [dat2_A]; try rfl) t d).trans
    (by unfold Dat.fetched Dat.blockOf iblk2; rw [dat2_A]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [dat2_A]; try rfl) t d).trans
    (by unfold Dat.fetched Dat.blockOf iblk2; rw [dat2_A]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [dat2_A]; try rfl) t d).trans
    (by unfold Dat.fetched Dat.blockOf iblk2; rw [dat2_A]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [dat2_A]; try rfl) t d).trans
    (by unfold Dat.fetched Dat.blockOf iblk2; rw [dat2_A]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [dat2_A]; try rfl) t d).trans
    (by unfold Dat.fetched Dat.blockOf iblk2; rw [dat2_A]; try rfl)
theorem before2_8 (c : Dev nD) (t : Fin cfg2.N) (d) : (dat2 V c).before 8 t d = iblk2 V c 8 t :=
  ((dat2 V c).before_in_eq_fetched 8 rfl (fun _ => rfl) (fun _ _ _ => rfl)
    (fun t => by rw [after2_8]; unfold Dat.blockOf iblk2; rw [dat2_A]; try rfl) t d).trans
    (by unfold Dat.fetched Dat.blockOf iblk2; rw [dat2_A]; try rfl)
theorem before2_9 (c : Dev nD) (t : Fin cfg2.N) (d) : (dat2 V c).before 9 t d = iblk2 V c 9 t :=
  ((dat2 V c).before_in_eq_fetched 9 rfl (fun _ => rfl) (fun _ _ _ => rfl)
    (fun t => by rw [after2_9]; unfold Dat.blockOf iblk2; rw [dat2_A]; try rfl) t d).trans
    (by unfold Dat.fetched Dat.blockOf iblk2; rw [dat2_A]; try rfl)

/-! ## The body's obligation -/

theorem idle2_of (t : Fin cfg2.N) (h : ¬ cond2' (grid2.coords t)) : cfg2.idle 10 (grid2.coords t) = true := by
  show (!(k2_cond2 (grid2.coords t) == 1#1)) = true
  rw [Bool.not_eq_true', beq_eq_false_iff_ne]; exact h
theorem live2_of (t : Fin cfg2.N) (h : cond2' (grid2.coords t)) : cfg2.idle 10 (grid2.coords t) = false := by
  show (!(k2_cond2 (grid2.coords t) == 1#1)) = false
  rw [Bool.not_eq_false', beq_iff_eq]; exact h
theorem noFlush2_of (t : Fin cfg2.N) (h : ¬ cond2' (grid2.coords t)) : (cfg2.win 10).flush t = false := by
  rw [← Bool.not_eq_true, flush2_10]
  intro e
  have ht : t.val < 200 := Nat.lt_of_lt_of_eq t.isLt N_2
  exact h ((cond2'_iff t).mpr (by omega))

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ (dat2 V c).leavesExact 10 t)

theorem Phi2_castSucc (c : Dev nD) (t : Fin cfg2.N) : (dat2 V c).Φ t.castSucc = Phi2 V c t.val := rfl

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt none t.succ = (dat2 V c).owesAt none t.castSucc from rfl,
    after2_0, after2_1, after2_2, after2_3, after2_4, after2_5, after2_6, after2_7, after2_8, after2_9,
    show (dat2 V c).Φ t.succ = Phi2 V c (t.val + 1) from rfl, Phi2_pos V c _ (Nat.succ_ne_zero _), Phi2_castSucc,
    stF2_succ, stB2_succ]
  by_cases hz : t.val = 0
  · have h0 : cond2 (grid2.coords t) := (cond2_iff t).mpr hz
    have h1 : ¬ cond2' (grid2.coords t) := fun h => by have := (cond2'_iff t).mp h; omega
    rw [Dat.leavesExact_idle (dat2 V c) 10 t (idle2_of t h1) (noFlush2_of t h1)]
    rw [hz, show Phi2 V c 0 = Pipeline.scopedRest spec2 c from rfl, scoped2]
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run2_first c (grid2.coords t) _ _ _ _ _ _ _ _ _ _ _ _ _ _ _ _ _ _ _ _ _ _ _ _ _ _ _ _ _ _ h0 h1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hr]
    · isplitl [HS0]; · iexact HS0
      isplitl [HS1]; · iexact HS1
      isplitl [HS2]; · iexact HS2
      isplitl [HS3]; · iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have h0 : ¬ cond2 (grid2.coords t) := fun h => hz ((cond2_iff t).mp h)
    rw [Phi2_pos V c _ hz]
    by_cases hl : t.val = 199
    · have h1 : cond2' (grid2.coords t) := (cond2'_iff t).mpr hl
      rw [show (dat2 V c).leavesExact 10 t = owns (c : Thread nD τ) (st2_10 t) fullShare ((dat2 V c).after 10 t) from by
        unfold Dat.leavesExact; rw [live2_of t h1], after2_10]
      unfold outY
      iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run2_last c (grid2.coords t) _ _ _ _ _ _ _ _ _ _ _ _ _ _ _ _ _ _ _ _ _ _ _ _ _ _ _ _ _ _ h0 h1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hr]
      · isplitl [HS0]; · iexact HS0
        isplitl [HS1]; · iexact HS1
        isplitl [HS2]; · iexact HS2
        isplitl [HS3]; · iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have h1 : ¬ cond2' (grid2.coords t) := fun h => hl ((cond2'_iff t).mp h)
      rw [Dat.leavesExact_idle (dat2 V c) 10 t (idle2_of t h1) (noFlush2_of t h1)]
      iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run2_next c (grid2.coords t) _ _ _ _ _ _ _ _ _ _ _ _ _ _ _ _ _ _ _ _ _ _ _ _ _ _ _ _ _ _ h0 h1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hr]
      · isplitl [HS0]; · iexact HS0
        isplitl [HS1]; · iexact HS1
        isplitl [HS2]; · iexact HS2
        isplitl [HS3]; · iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem defs₀_row2 (t : Fin cfg2.N) : defs₀ (F := F) .tc cfg2.body (cfg2.bodyArgs t (cfg2.slots t)) = bodyAt2 t := by
  unfold defs₀; rfl

theorem body2_strict (c : Dev nD) : BodyObligation (dat2 V c) (defs₀ (F := F)) Variants.none none Set.univ := fun t => by
  rw [bigSep_W2, bigSep_W2, defs₀_row2]
  exact triple_restated (sound_body2 V c t) rfl .rfl fun _ => .rfl

theorem body2 (c : Dev nD) : BodyObligationLoose (dat2 V c) (defs₀ (F := F)) Variants.none none Set.univ := (body2_strict V c).loose

theorem hin2 (c : Dev nD) : iprop(Pipeline.scopedRest spec2 c ∗ emp) ⊢ (dat2 V c).Φ 0 := by
  rw [show (dat2 V c).Φ 0 = Pipeline.scopedRest spec2 c from rfl]
  iintro ⟨H, -⟩; iexact H

theorem hout2 (c : Dev nD) : (dat2 V c).Φ (Fin.last cfg2.N) ⊢ iprop(Pipeline.scopedRest spec2 c ∗ emp) := by
  rw [show (dat2 V c).Φ (Fin.last cfg2.N) = Phi2 V c cfg2.N from rfl, Phi2_pos V c _ (by rw [show cfg2.N = 200 from N_2]; decide), scoped2]
  iintro ⟨H0, H1, H2, H3, Hr⟩
  isplitl
  · isplitl [H0]; · iexists _; iexact H0
    isplitl [H1]; · iexists _; iexact H1
    isplitl [H2]; · iexists _; iexact H2
    isplitl [H3]; · iexists _; iexact H3
    iexact Hr
  iempintro

end Cert.Proof

end
-- ==== Proof.Contents.lean ====
/-
  What one block of a task carries: the list the indexed copy reads is its block of the token list, and the rows it lands
  are that block of the gathered array.
-/
module

public import proofs.«01_k».proof.Proof.Setup

@[expose] public section

noncomputable section

namespace Cert.Proof

open Cert.KernelIdeal Cert.KernelIdeal.Gen

open Idealize.ShloMosaic Idealize.ShloMosaic.ValueIdx

variable {F : FTy → Type}

theorem list_index (h : S128.numel = S1x128.numel) (x : S128.Idx) : Shape.reshapeEquiv h x = (ix2 (0 : Fin 1) (x 0) : S1x128.Idx) :=
  Shape.reshapeEquiv_eq_of_rowMajor h (by
    rw [Shape.rowMajor_val_two, Shape.rowMajor_val_one]; show 0 * 128 + (x 0).val = (x 0).val; omega)

/-- Word `x` of the list is word `x` of the slot. -/
theorem ilist_read (n : ℕ) (fo : S2x1x128.Idx → Elt F .i32) (x : S128.Idx) :
    (ilist n).view.read (Elt F) fo x = (islot n).view.read (Elt F) fo (ix2 (0 : Fin 1) (x 0)) := by
  show (islot n).view.read (Elt F) fo ((Rect.unit (s := S1x128) ![0, 0] S1x128.size inb_S1x128_S1x128_0_0).emb (Shape.reshapeEquiv squeezes_S1x128_S128.numel_eq x)) = _
  congr 1
  rw [list_index]
  funext d
  match d with
  | 0 => exact Fin.ext (by simp)
  | 1 => exact Fin.ext (by simp)

/-- Where word `y` of block `k` stands in the token list. -/
theorem iblk_emb (L : grid0.Coords) (k : Fin 50) (y : S1x128.Idx) (h : 6400 * (L 1).val + 128 * k.val + (y 1).val < 102400) :
    (iblk L k).view.emb y = (ix2 (0 : Fin 1) ⟨6400 * (L 1).val + 128 * k.val + (y 1).val, h⟩ : S1x102400.Idx) := by
  show (Rect.unit (s := S1x102400) ![0, 6400 * (L 1).val + 128 * k.val] S1x128.size (iblk_inb L k)).emb y = _
  funext d
  match d with
  | 0 => exact Subsingleton.elim (α := Fin 1) _ _
  | 1 => exact Fin.ext (by simp)

/-- Where element `y` of block `k` stands in the gathered array. -/
theorem oblk_emb (L : grid0.Coords) (k : Fin 50) (y : S128x128.Idx) (h : 6400 * (L 1).val + 128 * k.val + (y 0).val < 102400) :
    (oblk L k).view.emb y = (ix2 (⟨6400 * (L 1).val + 128 * k.val + (y 0).val, h⟩ : Fin 102400) (y 1) : S102400x128.Idx) := by
  show (Rect.unit (s := S102400x128) ![6400 * (L 1).val + 128 * k.val, 0] S128x128.size (oblk_inb L k)).emb y = _
  funext d
  match d with
  | 0 => exact Fin.ext (by simp)
  | 1 => exact Fin.ext (by simp)

theorem blk_lt (L : grid0.Coords) (k : Fin 50) (a : Fin 128) : 6400 * (L 1).val + 128 * k.val + a.val < 102400 := by
  have h1 : (L 1).val < 16 := (L 1).isLt
  omega

theorem iblk_read (L : grid0.Coords) (k : Fin 50) (fI : S1x102400.Idx → Elt F .i32) (y : S1x128.Idx) :
    (iblk L k).view.read (Elt F) fI y = fI (ix2 (0 : Fin 1) ⟨6400 * (L 1).val + 128 * k.val + (y 1).val, blk_lt L k (y 1)⟩) := by
  rw [← iblk_emb]; rfl

theorem xAll_read (fX : S100000x128.Idx → Elt F .f32) (y : S100000x128.Idx) : xAll.view.read (Elt F) fX y = fX y := by
  show fX ((Rect.unit (s := S100000x128) ![0, 0] S100000x128.size inb_S100000x128_S100000x128_0_0).emb y) = _
  congr 1
  funext d
  match d with
  | 0 => exact Fin.ext (by simp)
  | 1 => exact Fin.ext (by simp)

/-- A slot that holds block `k`'s words names rows of the table. -/
theorem list_in_range {n : ℕ} {L : grid0.Coords} {k : Fin 50} {fI : S1x102400.Idx → Elt F .i32} (hI : ∀ j, (fI j).toNat < 100000)
    {fo : S2x1x128.Idx → Elt F .i32} (h : (islot n).view.read (Elt F) fo = (iblk L k).view.read (Elt F) fI) (x : S128.Idx) :
    ((ilist n).view.read (Elt F) fo x).toNat < S100000x128.size gathers_S100000x128_S128x128.axis := by
  rw [ilist_read, h, iblk_read]
  exact hI _

/-- Element `y` of what the indexed copy lands is the gathered array's element of block `k`. -/
theorem landed {n : ℕ} {L : grid0.Coords} {k : Fin 50} {fI : S1x102400.Idx → Elt F .i32} (hI : ∀ j, (fI j).toNat < 100000)
    (fX : S100000x128.Idx → Elt F .f32) {fo : S2x1x128.Idx → Elt F .i32} (h : (islot n).view.read (Elt F) fo = (iblk L k).view.read (Elt F) fI)
    (hin : ∀ x, ((ilist n).view.read (Elt F) fo x).toNat < S100000x128.size gathers_S100000x128_S128x128.axis) (y : S128x128.Idx) :
    SparseCore.gatherPayload gathers_S100000x128_S128x128 (xAll.view.read (Elt F) fX)
        (SparseCore.rows ((ilist n).view.read (Elt F) fo) rfl hin) y
      = gath fI fX ((oblk L k).view.emb y) := by
  rw [SparseCore.gatherPayload, xAll_read, oblk_emb L k y (blk_lt L k (y 0)), gath]
  congr 1
  funext d
  match d with
  | 0 =>
    apply Fin.ext
    show (gathers_S100000x128_S128x128.idx _ y gathers_S100000x128_S128x128.axis).val = _
    rw [Shape.Gathers.idx_axis]
    show ((ilist n).view.read (Elt F) fo (S128.rowMajor.symm _)).toNat = (rowN _).val
    rw [rowN_val (hI _), ilist_read, h, iblk_read]
    have e : ∀ q : Fin 128, S128.rowMajor.symm q 0 = q := fun q => by
      have := Shape.rowMajor_val_one (d := ![128]) (S128.rowMajor.symm q)
      apply Fin.ext
      rw [← this]; exact congrArg Fin.val (Equiv.apply_symm_apply _ _)
    congr 2
    funext d
    match d with
    | 0 => rfl
    | 1 =>
      apply Fin.ext
      exact congrArg (fun v => 6400 * (L 1).val + 128 * k.val + v) (congrArg Fin.val (e (y 0)))
  | 1 =>
    apply Fin.ext
    show (gathers_S100000x128_S128x128.idx _ y 1).val = _
    rw [Shape.Gathers.idx_of_ne _ _ _ _ (by decide)]
    rfl

end Cert.Proof

end
-- ==== Proof.Steps.lean ====
/-
  The five steps of one trip of a task's loop, each over the buffers and the semaphore it works on: the fetch of a block of
  tokens and its wait, the indexed copy and its wait, the write-out of the landed rows and its wait. A slot that holds
  nothing in flight is held with its semaphore at zero; a copy in flight is its `Transfers.Flight`, which says what the
  wait brings back: the slot at the block's tokens, the block of the gathered array at its rows.
-/
module

public import proofs.«01_k».proof.Proof.Contents

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type}

local notation "𝕄" => MT nD τ sig (HIx 1) (Elt F) ℕ UU ℕ

variable [FloatOps F] (d : Dev nD) (L : grid0.Coords)

abbrev thr (d : Dev nD) (L : grid0.Coords) : Thread nD τ := V d (cV L) (jV L)
abbrev TProg (F : FTy → Type) (L : grid0.Coords) (α : Type) : Type 1 := Prog (TpuEff nD τ sig (Elt F) Λ₀ (.scVector (cV L) (jV L))) α
/-- A program of the task, run to `Q`. -/
abbrev run {α : Type} (p : TProg F L α) (Q : α → sProp 𝕄) : sProp 𝕄 :=
  wp frame (wpE (defs₀ (F := F)) 𝒱₀ (thr d L) none) Set.univ p Q

/-- The half of the share `q` of the token list that slot `n % 2`'s fetches use. -/
def hq (q : PosShare TreeShare) (n : ℕ) : PosShare TreeShare := if n % 2 = 0 then q.left else q.right

/-- Index slot `n % 2` at the words `f`. -/
abbrev islotPts (n : ℕ) (f : S2x1x128.Idx → Elt F .i32) : sProp 𝕄 := (islot n).view.loc (thr d L) ↦[(islot n).view.set]{fullShare} f
/-- Row slot `n % 2` at the rows `f`. -/
abbrev rslotPts (n : ℕ) (f : S2x128x128.Idx → Elt F .f32) : sProp 𝕄 := (rslot n).view.loc (thr d L) ↦[(rslot n).view.set]{fullShare} f
/-- Block `k` of the task's part of the gathered array at `f`. -/
abbrev oblkPts (k : Fin 50) (f : S102400x128.Idx → Elt F .f32) : sProp 𝕄 := (oblk L k).view.loc (thr d L) ↦[(oblk L k).view.set]{fullShare} f
/-- A share of the token list, of the table. -/
abbrev iAllPts (q : PosShare TreeShare) (fI : S1x102400.Idx → Elt F .i32) : sProp 𝕄 := (iV).view.loc (thr d L) ↦{q} fI
abbrev xAllPts (q : PosShare TreeShare) (fX : S100000x128.Idx → Elt F .f32) : sProp 𝕄 := (xV).view.loc (thr d L) ↦{q} fX

/-- Index slot `n % 2` with nothing in flight, and the half of the list it fetches from. -/
def slotIdle (q : PosShare TreeShare) (fI : S1x102400.Idx → Elt F .i32) (n : ℕ) : sProp 𝕄 :=
  iprop((∃ f, islotPts d L n f) ∗ semVal (thr d L, SemLoc.dma (isem n)) 0 ∗ iAllPts d L (hq q n) fI)
/-- Index slot `n % 2` holding block `k`'s words. -/
def slotAt (q : PosShare TreeShare) (fI : S1x102400.Idx → Elt F .i32) (n : ℕ) (k : Fin 50) : sProp 𝕄 :=
  iprop((∃ f, ⌜(islot n).view.read (Elt F) f = (iblk L k).view.read (Elt F) fI⌝ ∗ islotPts d L n f)
    ∗ semVal (thr d L, SemLoc.dma (isem n)) 0 ∗ iAllPts d L (hq q n) fI)
/-- Index slot `n % 2` with block `k`'s fetch in flight. -/
def slotFl (q : PosShare TreeShare) (fI : S1x102400.Idx → Elt F .i32) (n : ℕ) (k : Fin 50) : sProp 𝕄 :=
  iprop(Transfers.Flight (countersEmb (U := UU)) (thr d L) (SemLoc.dma (isem n)) (default : HIx 1) ((islot n).view.dmaCredit)
      iprop((∃ f, ⌜(islot n).view.read (Elt F) f = (iblk L k).view.read (Elt F) fI⌝ ∗ islotPts d L n f)
        ∗ ((iblk L k).view.loc (thr d L) ↦[(iblk L k).view.set]{hq q n} fI))
    ∗ ((iV).view.loc (thr d L) ↦[Finset.univ \ (iblk L k).view.set]{hq q n} fI))

/-- Row slot `n % 2` with nothing in flight. -/
def rowIdle (n : ℕ) : sProp 𝕄 := iprop((∃ f, rslotPts d L n f) ∗ semVal (thr d L, SemLoc.dma (rsem n)) 0)
/-- Row slot `n % 2` holding block `k`'s rows. -/
def rowAt (G : S102400x128.Idx → Elt F .f32) (n : ℕ) (k : Fin 50) : sProp 𝕄 :=
  iprop((∃ f, ⌜∀ y, (rslot n).view.read (Elt F) f y = G ((oblk L k).view.emb y)⌝ ∗ rslotPts d L n f) ∗ semVal (thr d L, SemLoc.dma (rsem n)) 0)
/-- Row slot `n % 2` with block `k`'s write-out in flight. -/
def rowFl (G : S102400x128.Idx → Elt F .f32) (n : ℕ) (k : Fin 50) : sProp 𝕄 :=
  Transfers.Flight (countersEmb (U := UU)) (thr d L) (SemLoc.dma (rsem n)) (default : HIx 1) ((oblk L k).view.dmaCredit)
    iprop(oblkPts d L k G ∗ ∃ f, rslotPts d L n f)

/-- What the task owes, the waits recorded so far being those of `W` and its own. -/
def owesW (O : CellTallies nD τ sig (HIx 1)) (W : Waits sig (HIx 1)) : sProp 𝕄 :=
  iprop(∃ W', ⌜∀ p ∈ W', p ∈ W ∨ p.2 = none⌝ ∗ owes (thr d L) O W')

variable {d L}

theorem owesW_insert {O : CellTallies nD τ sig (HIx 1)} {W W' : Waits sig (HIx 1)} {sm : SemLoc sig} (h : ∀ p ∈ W', p ∈ W ∨ p.2 = none) :
    (owes (thr d L) O (insert (sm, (default : HIx 1)) W') : sProp 𝕄) ⊢ owesW d L O W := by
  unfold owesW
  iintro HO
  iexists _; isplitr
  swap; · iexact HO
  ipureintro; intro p hp
  rcases Finset.mem_insert.mp hp with hp | hp; · exact .inr (hp ▸ rfl)
  exact h p hp

theorem owesW_open {O : CellTallies nD τ sig (HIx 1)} {W : Waits sig (HIx 1)} :
    (owesW d L O W : sProp 𝕄) ⊢ iprop(∃ W', ⌜∀ p ∈ W', p ∈ W ∨ p.2 = none⌝ ∗ owes (thr d L) O W') := by
  unfold owesW; exact .rfl

/-- The fetch of block `k` into slot `n % 2`. -/
theorem fetch {q : PosShare TreeShare} {fI : S1x102400.Idx → Elt F .i32} {n : ℕ} {k : Fin 50}
    {M₁ : Memref sig .scVector .hbm S1x128 .i32} {M₂ : Memref sig .scVector .vmem S1x128 .i32} {sm : DmaSem sig}
    (e₁ : M₁ = iblk L k) (e₂ : M₂ = islot n) (e₃ : sm = isem n)
    {h₁ : M₁.view.WordExact} {h₂ : (DmaTarget.here (nD := nD) (τ := τ) (p := .scVector (cV L) (jV L)) M₂).view.WordExact}
    {h₃ : DmaTarget.Typed (nD := nD) (τ := τ) (p := .scVector (cV L) (jV L)) .hbm (.dma sm) (.here M₂)}
    {Q : PUnit → sProp 𝕄} :
    slotIdle d L q fI n ⊢ iprop((slotFl d L q fI n k -∗ Q ⟨⟩)
      -∗ run d L (Prog.lift (TpuEff.enqueueDma M₁ (.here M₂) (.dma sm) h₁ h₂ h₃)) Q) := by
  subst e₁ e₂ e₃
  unfold slotIdle slotFl
  iintro ⟨⟨%f, Hs⟩, Hv, Hi⟩ HQ
  ihave Hi := (pointsTo_split_subset (q := hq q n) (f := fI) (S := Finset.univ) (Finset.subset_univ (iblk L k).view.set)).1 $$ Hi
  icases Hi with ⟨Hi, Hr⟩
  iapply (Transfers.wp_dmaLocal (countersEmb (U := UU)) 𝒱₀ (thr d L) none (default : HIx 1) ((islot n).view.dmaCredit) rfl
    (View.dmaCredit_pos _ (by decide)) (Finset.Subset.refl _)) $$ [Hi Hs Hv]
  · isplitl [Hi]; · iexact Hi
    isplitl [Hs]; · iexact Hs
    iexact Hv
  iintro Hfl
  rw [wp_ret]; imodintro
  iapply HQ
  isplitl [Hfl]
  · iapply (Transfers.Flight_mono _ _ ?_) $$ Hfl
    iintro ⟨Hd, Hs⟩
    isplitl [Hd]
    · iexists _; isplitr
      swap; · iexact Hd
      ipureintro
      rw [View.read_write_univ]
    iexact Hs
  iexact Hr

/-- Its wait. -/
theorem fetched {q : PosShare TreeShare} {fI : S1x102400.Idx → Elt F .i32} {n : ℕ} {k : Fin 50} {O : CellTallies nD τ sig (HIx 1)} {W : Waits sig (HIx 1)}
    {M₁ : Memref sig .scVector .hbm S1x128 .i32} {M₂ : Memref sig .scVector .vmem S1x128 .i32} {sm : DmaSem sig}
    (e₂ : M₂ = islot n) (e₃ : sm = isem n)
    {h₁ : M₁.view.WordExact} {h₂ : M₂.view.WordExact} {Q : PUnit → sProp 𝕄} :
    iprop(slotFl d L q fI n k ∗ owesW d L O W ∗ Transfers.MayWaits (thr d L) (default : HIx 1) O)
      ⊢ iprop((iprop(slotAt d L q fI n k ∗ owesW d L O W) -∗ Q ⟨⟩)
        -∗ run d L (Prog.lift (TpuEff.waitDma2 sm M₁ M₂ h₁ h₂)) Q) := by
  subst e₂ e₃
  unfold slotFl slotAt
  iintro ⟨⟨Hfl, Hr⟩, HO, Hmw⟩ HQ
  ihave HO := owesW_open $$ HO
  icases HO with ⟨%W', %hW', HO⟩
  iapply (Transfers.wp_waitLocalO (countersEmb (U := UU)) 𝒱₀ (thr d L) none (default : HIx 1) rfl) $$ [Hfl HO Hmw]
  · isplitl [Hfl]; · iexact Hfl
    isplitl [HO]; · iexact HO
    iapply (Transfers.MayWaits.elim (SemLoc.dma (isem n))) $$ Hmw
  iintro ⟨⟨Hs, Hi⟩, Hv, HO⟩
  rw [wp_ret]; imodintro
  iapply HQ
  isplitr [HO]
  · isplitl [Hs]; · iexact Hs
    isplitl [Hv]; · iexact Hv
    iapply (pointsTo_split_subset (q := hq q n) (f := fI) (S := Finset.univ) (Finset.subset_univ (iblk L k).view.set)).2
    isplitl [Hi] <;> iassumption
  · iapply (owesW_insert hW') $$ HO

theorem slotAt_idle {q : PosShare TreeShare} {fI : S1x102400.Idx → Elt F .i32} {n : ℕ} {k : Fin 50} : slotAt d L q fI n k ⊢ slotIdle d L q fI n := by
  unfold slotAt slotIdle
  iintro ⟨⟨%f, -, Hs⟩, Hv, Hi⟩
  isplitl [Hs]; · iexists f; iexact Hs
  isplitl [Hv] <;> iassumption

/-- The indexed copy in flight: the list's slot at block `k`'s words, the rows on their way into row slot `n % 2`. -/
def gatherFl (d : Dev nD) (L : grid0.Coords) (q qx : PosShare TreeShare) (fI : S1x102400.Idx → Elt F .i32) (fX : S100000x128.Idx → Elt F .f32) (n : ℕ) (k : Fin 50) : sProp 𝕄 :=
  iprop(Transfers.Flight (countersEmb (U := UU)) (thr d L) (SemLoc.dma gsem) (default : HIx 1) ((rslot n).view.dmaCredit)
      iprop((∃ f, ⌜∀ y, (rslot n).view.read (Elt F) f y = gath fI fX ((oblk L k).view.emb y)⌝ ∗ rslotPts d L n f)
        ∗ ((xAll).view.loc (thr d L) ↦[(xAll).view.set]{qx} fX) ∗ ∃ f, islotPts d L n f)
    ∗ ((xV).view.loc (thr d L) ↦[Finset.univ \ (xAll).view.set]{qx} fX)
    ∗ semVal (thr d L, SemLoc.dma (isem n)) 0 ∗ iAllPts d L (hq q n) fI ∗ semVal (thr d L, SemLoc.dma (rsem n)) 0)

theorem ilist_set (n : ℕ) : (ilist n).view.set = (islot n).view.set := by
  refine (View.set_reshape _ _).trans (Finset.Subset.antisymm (View.set_slice_subset _ _) fun x hx => ?_)
  obtain ⟨y, -, rfl⟩ := Finset.mem_map.mp hx
  refine Finset.mem_map.mpr ⟨y, Finset.mem_univ _, ?_⟩
  show (islot n).view.emb ((Rect.unit (s := S1x128) ![0, 0] S1x128.size inb_S1x128_S1x128_0_0).emb y) = _
  congr 1
  funext d
  match d with
  | 0 => exact Fin.ext (by simp)
  | 1 => exact Fin.ext (by simp)

theorem gather_credit (n : ℕ) (h : S100000x128.Gathers 0 S128x128) :
    ∑ j, ((rslot n).slice (S128x128.rowRect h.axis' j) (S128x128.stride_rowRect h.axis' j)).view.dmaCredit = (rslot n).view.dmaCredit := by
  exact SparseCore.sum_rowCredit_eq_dmaCredit (rslot n) h.axis' (fun _ => rfl)

/-- The indexed copy of the rows that block `k`'s words name. -/
theorem gather {q qx : PosShare TreeShare} {fI : S1x102400.Idx → Elt F .i32} {fX : S100000x128.Idx → Elt F .f32} (hI : ∀ j, (fI j).toNat < 100000)
    {n : ℕ} {k : Fin 50}
    {M₁ : Memref sig .scVector .hbm S100000x128 .f32} {M₂ : Memref sig .scVector .vmem S128x128 .f32} {M₃ : Memref sig .scVector .vmem S128 .i32}
    (e₁ : M₁ = xAll) (e₂ : M₂ = rslot n) (e₃ : M₃ = ilist n)
    {h₁ : M₁.view.WordExact} {α : Type} {kk : PUnit → TProg F L α} {Q : α → sProp 𝕄} :
    iprop(slotAt d L q fI n k ∗ rowIdle d L n ∗ xAllPts d L qx fX ∗ semVal (thr d L, SemLoc.dma gsem) 0)
      ⊢ iprop((gatherFl d L q qx fI fX n k -∗ run d L (kk ⟨⟩) Q)
        -∗ run d L (SparseCore.enqueueIndirectGather rfl M₁ M₂ gathers_S100000x128_S128x128 M₃ rfl gsem h₁ rfl (Or.inl rfl) >>= kk) Q) := by
  subst e₁ e₂ e₃
  unfold slotAt rowIdle gatherFl
  iintro ⟨⟨⟨%fo, %hfo, Hs⟩, Hv, Hi⟩, ⟨⟨%fr, Hr⟩, Hrv⟩, Hx, Hg⟩ HQ
  ihave Hx := (pointsTo_split_subset (q := qx) (f := fX) (S := Finset.univ) (Finset.subset_univ (xAll).view.set)).1 $$ Hx
  icases Hx with ⟨Hx, Hxr⟩
  ihave Hs := (Entails.of_eq (show (islotPts d L n fo : sProp 𝕄) = ((ilist n).view.loc (thr d L) ↦[(ilist n).view.set]{fullShare} fo) by rw [ilist_set])) $$ Hs
  have hin := list_in_range (F := F) (n := n) (L := L) (k := k) hI hfo
  iapply (SparseCore.wp_indirectGatherLocal (countersEmb (U := UU)) 𝒱₀ (thr d L) none (hg := gathers_S100000x128_S128x128) (default : HIx 1)
      (rslot n).view.dmaCredit (gather_credit n _) (by decide) hin) $$ [Hx Hr Hs Hg]
  · isplitl [Hx]; · iexact Hx
    isplitl [Hr]; · iexact Hr
    isplitl [Hs]; · iexact Hs
    iexact Hg
  iintro Hfl
  iapply HQ
  isplitl [Hfl]
  · iapply (Transfers.Flight_mono _ _ ?_) $$ Hfl
    iintro ⟨Hd, Hx, Hs⟩
    isplitl [Hd]
    · iexists _; isplitr
      swap; · iexact Hd
      ipureintro; intro y
      rw [View.read_write_univ]
      exact landed hI fX hfo hin y
    isplitl [Hx]; · iexact Hx
    iexists _
    iapply (Entails.of_eq (show (islotPts d L n fo : sProp 𝕄) = ((ilist n).view.loc (thr d L) ↦[(ilist n).view.set]{fullShare} fo) by rw [ilist_set]).symm)
    iexact Hs
  isplitl [Hxr]; · iexact Hxr
  isplitl [Hv]; · iexact Hv
  isplitl [Hi] <;> iassumption

/-- Its wait: the row slot at block `k`'s rows, the index slot idle. -/
theorem gathered {q qx : PosShare TreeShare} {fI : S1x102400.Idx → Elt F .i32} {fX : S100000x128.Idx → Elt F .f32}
    {n : ℕ} {k : Fin 50} {O : CellTallies nD τ sig (HIx 1)} {W : Waits sig (HIx 1)}
    {M₁ : Memref sig .scVector .hbm S100000x128 .f32} {M₂ : Memref sig .scVector .vmem S128x128 .f32}
    (e₂ : M₂ = rslot n) {h₁ : M₁.view.WordExact} {h₂ : M₂.view.WordExact} {Q : PUnit → sProp 𝕄} :
    iprop(gatherFl d L q qx fI fX n k ∗ owesW d L O W ∗ Transfers.MayWaits (thr d L) (default : HIx 1) O)
      ⊢ iprop((iprop(rowAt d L (gath fI fX) n k ∗ slotIdle d L q fI n ∗ xAllPts d L qx fX ∗ semVal (thr d L, SemLoc.dma gsem) 0 ∗ owesW d L O W) -∗ Q ⟨⟩)
        -∗ run d L (SparseCore.waitIndirectGather gsem M₁ M₂ h₁ h₂) Q) := by
  subst e₂
  unfold gatherFl rowAt slotIdle
  iintro ⟨⟨Hfl, Hxr, Hv, Hi, Hrv⟩, HO, Hmw⟩ HQ
  ihave HO := owesW_open $$ HO
  icases HO with ⟨%W', %hW', HO⟩
  iapply (Transfers.wp_waitLocalO (countersEmb (U := UU)) 𝒱₀ (thr d L) none (default : HIx 1) rfl) $$ [Hfl HO Hmw]
  · isplitl [Hfl]; · iexact Hfl
    isplitl [HO]; · iexact HO
    iapply (Transfers.MayWaits.elim (SemLoc.dma gsem)) $$ Hmw
  iintro ⟨⟨Hr, Hx, Hs⟩, Hg, HO⟩
  rw [wp_ret]; imodintro
  iapply HQ
  isplitl [Hr Hrv]
  · isplitl [Hr] <;> iassumption
  isplitl [Hs Hv Hi]
  · isplitl [Hs]; · iexact Hs
    isplitl [Hv] <;> iassumption
  isplitl [Hx Hxr]
  · iapply (pointsTo_split_subset (q := qx) (f := fX) (S := Finset.univ) (Finset.subset_univ (xAll).view.set)).2
    isplitl [Hx] <;> iassumption
  isplitl [Hg]; · iexact Hg
  iapply (owesW_insert hW') $$ HO

/-- The write-out of block `k` from slot `n % 2`. -/
theorem writeOut {G : S102400x128.Idx → Elt F .f32} {n : ℕ} {k : Fin 50} {fO : S102400x128.Idx → Elt F .f32}
    {M₁ : Memref sig .scVector .vmem S128x128 .f32} {M₂ : Memref sig .scVector .hbm S128x128 .f32} {sm : DmaSem sig}
    (e₁ : M₁ = rslot n) (e₂ : M₂ = oblk L k) (e₃ : sm = rsem n)
    {h₁ : M₁.view.WordExact} {h₂ : (DmaTarget.here (nD := nD) (τ := τ) (p := .scVector (cV L) (jV L)) M₂).view.WordExact}
    {h₃ : DmaTarget.Typed (nD := nD) (τ := τ) (p := .scVector (cV L) (jV L)) .vmem (.dma sm) (.here M₂)}
    {Q : PUnit → sProp 𝕄} :
    iprop(rowAt d L G n k ∗ oblkPts d L k fO) ⊢ iprop((rowFl d L G n k -∗ Q ⟨⟩)
      -∗ run d L (Prog.lift (TpuEff.enqueueDma M₁ (.here M₂) (.dma sm) h₁ h₂ h₃)) Q) := by
  subst e₁ e₂ e₃
  unfold rowAt rowFl
  iintro ⟨⟨⟨%f, %hf, Hs⟩, Hv⟩, Ho⟩ HQ
  iapply (Transfers.wp_dmaLocal (countersEmb (U := UU)) 𝒱₀ (thr d L) none (default : HIx 1) ((oblk L k).view.dmaCredit) rfl
    (View.dmaCredit_pos _ (by decide)) (Finset.Subset.refl _)) $$ [Hs Ho Hv]
  · isplitl [Hs]; · iexact Hs
    isplitl [Ho]; · iexact Ho
    iexact Hv
  iintro Hfl
  rw [wp_ret]; imodintro
  iapply HQ
  iapply (Transfers.Flight_mono _ _ ?_) $$ Hfl
  iintro ⟨Hd, Hs⟩
  isplitl [Hd]
  · iapply (Entails.of_eq (pointsTo_congr ?_)) $$ Hd
    intro x hx
    obtain ⟨y, -, rfl⟩ := Finset.mem_map.mp hx
    rw [View.write_emb_of_mem _ _ (Finset.mem_univ _)]
    exact hf y
  · iexists f; iexact Hs

/-- Its wait. -/
theorem written {G : S102400x128.Idx → Elt F .f32} {n : ℕ} {k : Fin 50} {O : CellTallies nD τ sig (HIx 1)} {W : Waits sig (HIx 1)}
    {M₁ : Memref sig .scVector .vmem S128x128 .f32} {M₂ : Memref sig .scVector .hbm S128x128 .f32} {sm : DmaSem sig}
    (e₂ : M₂ = oblk L k) (e₃ : sm = rsem n)
    {h₁ : M₁.view.WordExact} {h₂ : M₂.view.WordExact} {Q : PUnit → sProp 𝕄} :
    iprop(rowFl d L G n k ∗ owesW d L O W ∗ Transfers.MayWaits (thr d L) (default : HIx 1) O)
      ⊢ iprop((iprop(rowIdle d L n ∗ oblkPts d L k G ∗ owesW d L O W) -∗ Q ⟨⟩)
        -∗ run d L (Prog.lift (TpuEff.waitDma2 sm M₁ M₂ h₁ h₂)) Q) := by
  subst e₂ e₃
  unfold rowFl rowIdle
  iintro ⟨Hfl, HO, Hmw⟩ HQ
  ihave HO := owesW_open $$ HO
  icases HO with ⟨%W', %hW', HO⟩
  iapply (Transfers.wp_waitLocalO (countersEmb (U := UU)) 𝒱₀ (thr d L) none (default : HIx 1) rfl) $$ [Hfl HO Hmw]
  · isplitl [Hfl]; · iexact Hfl
    isplitl [HO]; · iexact HO
    iapply (Transfers.MayWaits.elim (SemLoc.dma (rsem n))) $$ Hmw
  iintro ⟨⟨Ho, Hs⟩, Hv, HO⟩
  rw [wp_ret]; imodintro
  iapply HQ
  isplitl [Hs Hv]
  · isplitl [Hs] <;> iassumption
  isplitl [Ho]; · iexact Ho
  iapply (owesW_insert hW') $$ HO

end Cert.Proof

end
-- ==== Proof.Tile.lean ====
/-
  A task of the gather: fifty trips over a two-slot buffer of tokens and a two-slot buffer of rows. Before trip `t` the
  block `t` of tokens is on its way into the slot of `t`'s parity, the rows of trip `t - 1` are on their way out, the
  blocks before those are gathered, and the blocks from `t` on are as the task found them.
-/
module

public import proofs.«01_k».proof.Proof.Steps
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Cert.Proof.Words

variable {F : FTy → Type}

local notation "𝕄" => MT nD τ sig (HIx 1) (Elt F) ℕ UU ℕ

variable [FloatOps F] {d : Dev nD} {L : grid0.Coords}

/-! ## Slots go by parity -/

theorem islot_congr {n m : ℕ} (h : n % 2 = m % 2) : islot n = islot m := islot_of (by rw [h]) _
theorem rslot_congr {n m : ℕ} (h : n % 2 = m % 2) : rslot n = rslot m := rslot_of (by rw [h]) _
theorem isem_congr {n m : ℕ} (h : n % 2 = m % 2) : isem n = isem m := isem_of (by rw [h]) _
theorem rsem_congr {n m : ℕ} (h : n % 2 = m % 2) : rsem n = rsem m := rsem_of (by rw [h]) _
theorem hq_congr {q : PosShare TreeShare} {n m : ℕ} (h : n % 2 = m % 2) : hq q n = hq q m := by unfold hq; rw [h]

theorem slotIdle_congr {q : PosShare TreeShare} {fI : S1x102400.Idx → Elt F .i32} {n m : ℕ} (h : n % 2 = m % 2) :
    slotIdle d L q fI n = slotIdle d L q fI m := by
  have key : ∀ (M M' : Memref sig .scVector .vmem S1x128 .i32) (s s' : DmaSem sig) (p p' : PosShare TreeShare), M = M' → s = s' → p = p' →
      (iprop((∃ f, M.view.loc (thr d L) ↦[M.view.set]{fullShare} f) ∗ semVal (thr d L, SemLoc.dma s) 0 ∗ iAllPts d L p fI) : sProp 𝕄)
        = iprop((∃ f, M'.view.loc (thr d L) ↦[M'.view.set]{fullShare} f) ∗ semVal (thr d L, SemLoc.dma s') 0 ∗ iAllPts d L p' fI) := by
    rintro M _ s _ p _ rfl rfl rfl; rfl
  exact key _ _ _ _ _ _ (islot_congr h) (isem_congr h) (hq_congr h)
theorem rowIdle_congr {n m : ℕ} (h : n % 2 = m % 2) : (rowIdle d L n : sProp 𝕄) = rowIdle d L m := by
  have key : ∀ (M M' : Memref sig .scVector .vmem S128x128 .f32) (s s' : DmaSem sig), M = M' → s = s' →
      (iprop((∃ f, M.view.loc (thr d L) ↦[M.view.set]{fullShare} f) ∗ semVal (thr d L, SemLoc.dma s) 0) : sProp 𝕄)
        = iprop((∃ f, M'.view.loc (thr d L) ↦[M'.view.set]{fullShare} f) ∗ semVal (thr d L, SemLoc.dma s') 0) := by
    rintro M _ s _ rfl rfl; rfl
  exact key _ _ _ _ (rslot_congr h) (rsem_congr h)

/-! ## The blocks of the output -/

/-- The blocks from `t` on, as the task found them. -/
def todo (d : Dev nD) (L : grid0.Coords) (f : S102400x128.Idx → Elt F .f32) (t : ℕ) : sProp 𝕄 :=
  bigSep (Finset.univ.filter fun k : Fin 50 => t ≤ k.val) fun k => oblkPts d L k f
/-- The blocks written before trip `t`. -/
def done (d : Dev nD) (L : grid0.Coords) (G : S102400x128.Idx → Elt F .f32) (t : ℕ) : sProp 𝕄 :=
  bigSep (Finset.univ.filter fun k : Fin 50 => k.val + 1 < t) fun k => oblkPts d L k G

theorem todo_take {f : S102400x128.Idx → Elt F .f32} {t : ℕ} (h : t < 50) :
    todo d L f t ⊣⊢ iprop(oblkPts d L ⟨t, h⟩ f ∗ todo d L f (t + 1)) := by
  unfold todo
  have e : (Finset.univ.filter fun k : Fin 50 => t ≤ k.val) = insert ⟨t, h⟩ (Finset.univ.filter fun k : Fin 50 => t + 1 ≤ k.val) := by
    ext k; simp only [Finset.mem_filter, Finset.mem_univ, true_and, Finset.mem_insert, Fin.ext_iff]; omega
  rw [e, bigSep_insert (by simp)]
  exact ⟨.rfl, .rfl⟩

theorem done_put {G : S102400x128.Idx → Elt F .f32} {t : ℕ} (h : t < 50) :
    done d L G (t + 2) ⊣⊢ iprop(oblkPts d L ⟨t, h⟩ G ∗ done d L G (t + 1)) := by
  unfold done
  have e : (Finset.univ.filter fun k : Fin 50 => k.val + 1 < t + 2) = insert ⟨t, h⟩ (Finset.univ.filter fun k : Fin 50 => k.val + 1 < t + 1) := by
    ext k; simp only [Finset.mem_filter, Finset.mem_univ, true_and, Finset.mem_insert, Fin.ext_iff]; omega
  rw [e, bigSep_insert (by simp)]
  exact ⟨.rfl, .rfl⟩

theorem done_put' {G : S102400x128.Idx → Elt F .f32} {t : ℕ} (h : 0 < t) (h' : t - 1 < 50) :
    iprop(oblkPts d L ⟨t - 1, h'⟩ G ∗ done d L G t) ⊢ done d L G (t + 1) := by
  obtain ⟨s, rfl⟩ : ∃ s, t = s + 1 := ⟨t - 1, by omega⟩
  exact (done_put (t := s) h').2

theorem done_start {G : S102400x128.Idx → Elt F .f32} : done d L G 1 = done d L G 0 := by
  unfold done; congr 1

/-! ## The invariant -/

section
variable (d L) (q qx : PosShare TreeShare) (fI : S1x102400.Idx → Elt F .i32) (fX : S100000x128.Idx → Elt F .f32)
  (f₀ : S102400x128.Idx → Elt F .f32) (O : CellTallies nD τ sig (HIx 1)) (W : Waits sig (HIx 1))

/-- The token slots before trip `t`. -/
def idxInv (t : ℕ) : sProp 𝕄 :=
  if h : t < 50 then iprop(slotFl d L q fI t ⟨t, h⟩ ∗ slotIdle d L q fI (t + 1)) else iprop(slotIdle d L q fI t ∗ slotIdle d L q fI (t + 1))
/-- The row slots before trip `t`. -/
def rowInv (t : ℕ) : sProp 𝕄 :=
  if h : 0 < t ∧ t ≤ 50 then iprop(rowIdle d L t ∗ rowFl d L (gath fI fX) (t - 1) ⟨t - 1, by omega⟩) else iprop(rowIdle d L t ∗ rowIdle d L (t + 1))

/-- Before trip `t`. -/
def inv (t : ℕ) : sProp 𝕄 :=
  iprop(Transfers.MayWaits (thr d L) (default : HIx 1) O ∗ xAllPts d L qx fX ∗ semVal (thr d L, SemLoc.dma gsem) 0 ∗ owesW d L O W
    ∗ idxInv d L q fI t ∗ rowInv d L fI fX t ∗ todo d L f₀ t ∗ done d L (gath fI fX) t)
end

theorem run_assume {α : Type} {P : Prop} {dec : Decidable P} (h : P) {kk : PLift P → TProg F L α} {Q : α → sProp 𝕄} :
    run d L (kk ⟨h⟩) Q ⊢ run d L (Prog.lift (TpuEff.assume P dec) >>= kk) Q :=
  wp_assume 𝒱₀ _ _ _ h
theorem run_pure {α : Type} {a : α} {Q : α → sProp 𝕄} : Q a ⊢ run d L (pure a) Q :=
  fupd_intro
theorem run_assume' {P : Prop} {dec : Decidable P} (h : P) {Q : PLift P → sProp 𝕄} :
    Q ⟨h⟩ ⊢ run d L (Prog.lift (TpuEff.assume P dec)) Q :=
  BI.Entails.trans (run_pure (a := PLift.up h) (Q := Q)) (wp_assume 𝒱₀ _ _ _ h)
theorem run_bind {α β : Type} {p : TProg F L α} {kk : α → TProg F L β} {Q : β → sProp 𝕄} :
    run d L (p >>= kk) Q = run d L p fun a => run d L (kk a) Q := by
  exact wp_bind _ _ _ _ _ _

/-- The block number a tile's word comes to, its first block being `50 i`. -/
def blkW (i : ℕ) (w : BitVec 32) : BitVec 32 := Scalar.addi w (Scalar.muli (BitVec.ofNat 32 i) 50#32)
def prevW (w : BitVec 32) : BitVec 32 :=
  Scalar.select (Scalar.cmpi .eq (Scalar.select 1#1 (Scalar.subi w 1#32) w) 4294967295#32) 49#32 (Scalar.select 1#1 (Scalar.subi w 1#32) w)
def succW (w : BitVec 32) : BitVec 32 :=
  Scalar.select (Scalar.cmpi .eq (Scalar.select 1#1 (Scalar.addi w 1#32) w) 50#32) 0#32 (Scalar.select 1#1 (Scalar.addi w 1#32) w)

abbrev v0W (L : grid0.Coords) : BitVec 32 := Scalar.muli (BitVec.ofNat 32 (L 1).val) 50#32

/-- The first third of a trip: the next block's fetch, where there is one. -/
theorem part1 {q : PosShare TreeShare} {fI : S1x102400.Idx → Elt F .i32} (t : Fin k0_t1_loop.trips) {Q : _ → sProp 𝕄} :
    slotIdle d L q fI (t.val + 1) ⊢ iprop((∀ r, ⌜r.2.2.2 = ⟨Scf.iv 0#32 1#32 t, Scalar.cmpi .eq (Scf.iv 0#32 1#32 t) 0#32, Scalar.cmpi .eq (Scf.iv 0#32 1#32 t) 49#32,
          Scalar.addi (w10 t) (v0W L), Scalar.addi (prevW (w10 t)) (v0W L), Scalar.addi (succW (w10 t)) (v0W L),
          Scalar.select (Scalar.andi (Scalar.andi (Scalar.cmpi .ne (Scalar.addi (w10 t) (v0W L)) (Scalar.addi (succW (w10 t)) (v0W L)))
            (Scalar.xori (Scalar.cmpi .sge (Scf.iv 0#32 1#32 t) 49#32) 1#1)) 1#1) (Scalar.addi (w6 t) 1#32) (w6 t),
          Scalar.cmpi .ne (Scalar.addi (w10 t) (v0W L)) (Scalar.addi (prevW (w10 t)) (v0W L))⟩⌝
        -∗ (if h : t.val + 1 < 50 then slotFl d L q fI (t.val + 1) ⟨t.val + 1, h⟩ else slotIdle d L q fI (t.val + 1)) -∗ Q r)
      -∗ run d L (k0_part1_skel L xV (Memref.isWhole_whole _) iV (Memref.isWhole_whole _) oV (Memref.isWhole_whole _) aV (Memref.isWhole_whole _) cc0_scoped1 rV (Memref.isWhole_whole _) cc0_scoped3 cc0_scoped4
          (v0W L) 0#32 1#32 t (w6 t) (w7 t) (w7 t) (w9 t) (w10 t)) Q) := by
  unfold k0_part1_skel
  refine .trans ?_ (wand_mono_right (run_assume (Words.chk3 t)))
  refine .trans ?_ (wand_mono_right (run_assume (Words.chk2 t)))
  refine .trans ?_ (wand_mono_right (run_assume (Words.chk1 L t)))
  by_cases h : t.val < 49
  · rw [dif_pos ((Words.cond1 L t).2 h), dif_pos (by omega : t.val + 1 < 50)]
    rw [run_bind]
    iintro Hs HQ
    iapply (fetch (n := t.val + 1) (k := ⟨t.val + 1, by omega⟩) (iblk_of (Words.off5 L t h) _) (islot_of (Words.off4 t h) _) (isem_of (Words.off6 t h) _)) $$ Hs
    iintro Hs
    iapply (run_pure)
    iapply HQ $$ [] Hs
    ipureintro; rfl
  · rw [dif_neg (fun e => h ((Words.cond1 L t).1 e)), dif_neg (by omega : ¬ t.val + 1 < 50)]
    iintro Hs HQ
    iapply (run_pure)
    iapply HQ $$ [] Hs
    ipureintro; rfl

/-- The second third: the block's own wait, the indexed copy and its wait. -/
theorem part2 {q qx : PosShare TreeShare} {fI : S1x102400.Idx → Elt F .i32} {fX : S100000x128.Idx → Elt F .f32} (hI : ∀ j, (fI j).toNat < 100000)
    {O : CellTallies nD τ sig (HIx 1)} {W : Waits sig (HIx 1)} (t : Fin k0_t1_loop.trips) (k : Fin 50) (hk : k.val = t.val)
    {h3 h2 h1} {a5 : BitVec 32} {v60 v61 : BitVec 1} {v62 v67 v72 : BitVec 32} {v92 : BitVec 1} {Q : _ → sProp 𝕄} :
    iprop(Transfers.MayWaits (thr d L) (default : HIx 1) O ∗ slotFl d L q fI t.val k ∗ rowIdle d L t.val ∗ xAllPts d L qx fX
        ∗ semVal (thr d L, SemLoc.dma gsem) 0 ∗ owesW d L O W)
      ⊢ iprop((iprop(rowAt d L (gath fI fX) t.val k ∗ slotIdle d L q fI t.val ∗ xAllPts d L qx fX ∗ semVal (thr d L, SemLoc.dma gsem) 0 ∗ owesW d L O W) -∗ Q ⟨⟩)
      -∗ run d L (k0_part2_skel L xV (Memref.isWhole_whole _) iV (Memref.isWhole_whole _) oV (Memref.isWhole_whole _) aV (Memref.isWhole_whole _) cc0_scoped1 rV (Memref.isWhole_whole _) cc0_scoped3 cc0_scoped4
          t (w6 t) (w7 t) (w7 t) (w9 t) (w10 t) h3 h2 h1 a5 v60 v61 v62 v67 v72 v92) Q) := by
  obtain rfl : k = ⟨t.val, trips_eq ▸ t.isLt⟩ := Fin.ext hk
  unfold k0_part2_skel
  rw [dif_pos (Words.cond2 L t)]
  simp only [ite_self]
  rw [run_bind]
  iintro ⟨#Hmw, Hs, Hr, Hx, Hg, HO⟩ HQ
  iapply (fetched (islot_of (Words.off7 t) _) (isem_of (Words.off9 t) _)) $$ [Hs HO]
  · isplitl [Hs]; · iexact Hs
    isplitl [HO]; · iexact HO
    iexact Hmw
  iintro ⟨Hs, HO⟩
  iapply (gather hI (k := ⟨t.val, trips_eq ▸ t.isLt⟩) rfl (rslot_of (Words.off10 t) _)
    (congrArg (fun M : Memref sig .scVector .vmem S1x128 .i32 => (M.slice (Rect.unit (s := S1x128) ![0, 0] S1x128.size inb_S1x128_S1x128_0_0) (fun _ => rfl)).squeeze S128 squeezes_S1x128_S128)
      (islot_of (n := t.val) (Words.off11 t) _))) $$ [Hs Hr Hx Hg]
  · isplitl [Hs]; · iexact Hs
    isplitl [Hr]; · iexact Hr
    isplitl [Hx]; · iexact Hx
    iexact Hg
  iintro Hf
  rw [run_bind]
  iapply (gathered (rslot_of (Words.off10 t) _)) $$ [Hf HO]
  · isplitl [Hf]; · iexact Hf
    isplitl [HO]; · iexact HO
    iexact Hmw
  iintro H
  iapply (run_pure)
  iapply HQ $$ H

theorem next_words : ∀ (L : grid0.Coords) (t : Fin k0_t1_loop.trips),
    (Scalar.select (Scalar.andi (Scalar.andi (Scalar.cmpi .ne (Scalar.addi (w10 t) (v0W L)) (Scalar.addi (succW (w10 t)) (v0W L)))
        (Scalar.xori (Scalar.cmpi .sge (Scf.iv 0#32 1#32 t) 49#32) 1#1)) 1#1) (Scalar.addi (w6 t) 1#32) (w6 t),
      Scalar.select (Scalar.ori (Scalar.cmpi .ne (Scalar.addi (w10 t) (v0W L)) (Scalar.addi (succW (w10 t)) (v0W L))) (Scalar.cmpi .eq (Scf.iv 0#32 1#32 t) 49#32))
        (Scalar.addi (w7 t) 1#32) (w7 t),
      Scalar.select (Scalar.andi (Scalar.ori (Scalar.cmpi .ne (Scalar.addi (w10 t) (v0W L)) (Scalar.addi (succW (w10 t)) (v0W L))) (Scalar.cmpi .eq (Scf.iv 0#32 1#32 t) 49#32)) 1#1)
        (Scalar.addi (w7 t) 1#32) (w7 t),
      Scalar.select (Scalar.andi (Scalar.andi (Scalar.cmpi .ne (Scalar.addi (w10 t) (v0W L)) (Scalar.addi (prevW (w10 t)) (v0W L)))
        (Scalar.xori (Scalar.cmpi .eq (Scf.iv 0#32 1#32 t) 0#32) 1#1)) 1#1) (Scalar.addi (w9 t) 1#32) (w9 t),
      succW (w10 t)) = words (t.val + 1) := by decide +kernel

abbrev body (L : grid0.Coords) := k0_t1_body (F := F) L xV (Memref.isWhole_whole _) iV (Memref.isWhole_whole _) oV (Memref.isWhole_whole _) aV (Memref.isWhole_whole _) cc0_scoped1 rV (Memref.isWhole_whole _) cc0_scoped3 cc0_scoped4
  (v0W L) (Scalar.addi 0#32 1#32) 0#32 0#32 0#32 0#32

theorem idxInv_pos {q : PosShare TreeShare} {fI : S1x102400.Idx → Elt F .i32} {t : ℕ} (h : t < 50) :
    idxInv d L q fI t = iprop(slotFl d L q fI t ⟨t, h⟩ ∗ slotIdle d L q fI (t + 1)) := dif_pos h
theorem idxInv_next {q : PosShare TreeShare} {fI : S1x102400.Idx → Elt F .i32} {t : ℕ} :
    iprop((if h : t + 1 < 50 then slotFl d L q fI (t + 1) ⟨t + 1, h⟩ else slotIdle d L q fI (t + 1)) ∗ slotIdle d L q fI t) ⊢ idxInv d L q fI (t + 1) := by
  unfold idxInv
  rw [slotIdle_congr (n := t + 1 + 1) (m := t) (by omega)]
  by_cases h : t + 1 < 50
  · rw [dif_pos h, dif_pos h]
  · rw [dif_neg h, dif_neg h]
theorem rowInv_next {fI : S1x102400.Idx → Elt F .i32} {fX : S100000x128.Idx → Elt F .f32} {t : ℕ} (h : t < 50) :
    iprop(rowFl d L (gath fI fX) t ⟨t, h⟩ ∗ rowIdle d L (t + 1)) ⊢ rowInv d L fI fX (t + 1) := by
  unfold rowInv
  rw [dif_pos (⟨by omega, by omega⟩ : 0 < t + 1 ∧ t + 1 ≤ 50)]
  exact sep_comm.1

/-- One trip. -/
theorem trip {q qx : PosShare TreeShare} {fI : S1x102400.Idx → Elt F .i32} {fX : S100000x128.Idx → Elt F .f32}
    {f₀ : S102400x128.Idx → Elt F .f32} {O : CellTallies nD τ sig (HIx 1)} {W : Waits sig (HIx 1)} (hI : ∀ j, (fI j).toNat < 100000)
    (t : Fin k0_t1_loop.trips) :
    inv d L q qx fI fX f₀ O W t.val ⊢ run d L (body L t (words t.val)) fun acc => iprop(⌜acc = words (t.val + 1)⌝ ∗ inv d L q qx fI fX f₀ O W (t.val + 1)) := by
  have ht : t.val < 50 := trips_eq ▸ t.isLt
  show _ ⊢ run d L (k0_t1_body L xV (Memref.isWhole_whole _) iV (Memref.isWhole_whole _) oV (Memref.isWhole_whole _) aV (Memref.isWhole_whole _) cc0_scoped1 rV (Memref.isWhole_whole _) cc0_scoped3 cc0_scoped4
    (v0W L) (Scalar.addi 0#32 1#32) 0#32 0#32 0#32 0#32 t (w6 t, w7 t, w7 t, w9 t, w10 t)) _
  unfold k0_t1_body
  simp only [k0_part1_eq_skeleton, k0_part2_eq_skeleton]
  rw [run_bind]
  unfold inv
  rw [idxInv_pos ht]
  iintro ⟨#Hmw, Hx, Hg, HO, ⟨Hs, Hi⟩, Hr, Ht, Hd⟩
  iapply (part1 t) $$ Hi
  iintro %r %hr Hi
  obtain ⟨h3, h2, h1, rest⟩ := r
  dsimp only at hr
  subst hr
  dsimp only
  rw [run_bind]
  ihave Hr := (show rowInv d L fI fX t.val ⊢ iprop(rowIdle d L t.val ∗ (if h : 0 < t.val then rowFl d L (gath fI fX) (t.val - 1) ⟨t.val - 1, by omega⟩ else rowIdle d L (t.val + 1))) from by
    unfold rowInv
    by_cases h : 0 < t.val
    · rw [dif_pos ⟨h, by omega⟩, dif_pos h]
    · rw [dif_neg (fun e => h e.1), dif_neg h]) $$ Hr
  icases Hr with ⟨Hr, Hp⟩
  iapply (part2 hI t ⟨t.val, ht⟩ rfl) $$ [Hs Hr Hx Hg HO]
  · isplitr; · iexact Hmw
    isplitl [Hs]; · iexact Hs
    isplitl [Hr]; · iexact Hr
    isplitl [Hx]; · iexact Hx
    isplitl [Hg]; · iexact Hg
    iexact HO
  iintro ⟨Hr, Hs, Hx, Hg, HO⟩
  ihave Ht := (todo_take (d := d) (L := L) (f := f₀) ht).1 $$ Ht
  icases Ht with ⟨Hb, Ht⟩
  rw [dif_pos (Words.cond5 L t)]
  simp only [ite_self]
  rw [run_bind]
  iapply (writeOut (k := ⟨t.val, ht⟩) (rslot_of (Words.off12 t) _) (oblk_of (Words.off13 L t) _) (rsem_of (Words.off14 t) _)) $$ [Hr Hb]
  · isplitl [Hr] <;> iassumption
  iintro Hr
  ihave Hi := idxInv_next $$ [Hi Hs]; · isplitl [Hi] <;> iassumption
  by_cases h : 0 < t.val
  · rw [dif_pos ((Words.cond7 L t).2 h), run_bind]
    ihave Hp := (Entails.of_eq (dif_pos h)) $$ Hp
    iapply (written (k := ⟨t.val - 1, by omega⟩) (oblk_of (Words.off16 L t h) _) (rsem_of (Words.off17 t h) _)) $$ [Hp HO]
    · isplitl [Hp]; · iexact Hp
      isplitl [HO]; · iexact HO
      iexact Hmw
    iintro ⟨Hp, Hb, HO⟩
    iapply (run_pure)
    isplitr; · ipureintro; exact next_words L t
    isplitr; · iexact Hmw
    isplitl [Hx]; · iexact Hx
    isplitl [Hg]; · iexact Hg
    isplitl [HO]; · iexact HO
    isplitl [Hi]; · iexact Hi
    isplitl [Hr Hp]
    · iapply (rowInv_next ht)
      isplitl [Hr]; · iexact Hr
      iapply (Entails.of_eq (rowIdle_congr (n := t.val - 1) (m := t.val + 1) (by omega))) $$ Hp
    isplitl [Ht]; · iexact Ht
    iapply (done_put' h (by omega))
    isplitl [Hb] <;> iassumption
  · rw [dif_neg (fun e => h ((Words.cond7 L t).1 e))]
    ihave Hp := (Entails.of_eq (dif_neg h)) $$ Hp
    iapply (run_pure)
    isplitr; · ipureintro; exact next_words L t
    isplitr; · iexact Hmw
    isplitl [Hx]; · iexact Hx
    isplitl [Hg]; · iexact Hg
    isplitl [HO]; · iexact HO
    isplitl [Hi]; · iexact Hi
    isplitl [Hr Hp]
    · iapply (rowInv_next ht)
      isplitl [Hr] <;> iassumption
    isplitl [Ht]; · iexact Ht
    obtain h0 : t.val = 0 := by omega
    rw [h0]
    iapply (Entails.of_eq done_start.symm) $$ Hd

/-- The whole loop, and the last block's wait. -/
theorem loop {q qx : PosShare TreeShare} {fI : S1x102400.Idx → Elt F .i32} {fX : S100000x128.Idx → Elt F .f32}
    {f₀ : S102400x128.Idx → Elt F .f32} {O : CellTallies nD τ sig (HIx 1)} {W : Waits sig (HIx 1)} (hI : ∀ j, (fI j).toNat < 100000) {Q : _ → sProp 𝕄} :
    inv d L q qx fI fX f₀ O W 0 ⊢ iprop((∀ acc, ⌜acc = words 50⌝ -∗ inv d L q qx fI fX f₀ O W 50 -∗ Q acc)
      -∗ run d L (Scf.Loop.for k0_t1_loop k0_t1_ok (Scalar.addi 0#32 1#32, 0#32, 0#32, 0#32, 0#32) (body L)) Q) := by
  have e : Scf.trips k0_t1_loop.lb k0_t1_loop.ub k0_t1_loop.st = 50 := trips_eq
  have w := Scf.wp_for (Q := Q) frame (wpE (defs₀ (F := F)) 𝒱₀ (thr d L) none) Set.univ _ _ _ k0_t1_ok (words 0) (body L)
    (fun t acc => iprop(⌜acc = words t⌝ ∗ inv d L q qx fI fX f₀ O W t)) (fun t acc => by
      iintro ⟨%ha, H⟩
      subst ha
      iapply (trip hI t) $$ H)
  rw [e] at w
  rw [words_init]
  iintro H HQ
  iapply w
  isplitl [H]
  · isplitr; · ipureintro; rfl
    iexact H
  iintro %acc ⟨%ha, H⟩
  iapply HQ $$ [] H
  ipureintro; exact ha

/-- The task: what it is handed, and the blocks of the gathered array it hands back. -/
theorem task {q qx : PosShare TreeShare} {fI : S1x102400.Idx → Elt F .i32} {fX : S100000x128.Idx → Elt F .f32}
    {f₀ : S102400x128.Idx → Elt F .f32} {O : CellTallies nD τ sig (HIx 1)} {W : Waits sig (HIx 1)} (hI : ∀ j, (fI j).toNat < 100000) {Q : _ → sProp 𝕄} :
    iprop(Transfers.MayWaits (thr d L) (default : HIx 1) O ∗ slotIdle d L q fI 0 ∗ slotIdle d L q fI 1 ∗ rowIdle d L 0 ∗ rowIdle d L 1 ∗ xAllPts d L qx fX
        ∗ semVal (thr d L, SemLoc.dma gsem) 0 ∗ owesW d L O W ∗ bigSep Finset.univ fun k : Fin 50 => oblkPts d L k f₀)
      ⊢ iprop((iprop(slotIdle d L q fI 0 ∗ slotIdle d L q fI 1 ∗ rowIdle d L 0 ∗ rowIdle d L 1 ∗ xAllPts d L qx fX
        ∗ semVal (thr d L, SemLoc.dma gsem) 0 ∗ owesW d L O W ∗ bigSep Finset.univ fun k : Fin 50 => oblkPts d L k (gath fI fX)) -∗ Q ⟨⟩)
      -∗ run d L (cc0_gather_kernel L xV (Memref.isWhole_whole _) iV (Memref.isWhole_whole _) oV (Memref.isWhole_whole _) aV (Memref.isWhole_whole _) cc0_scoped1 rV (Memref.isWhole_whole _) cc0_scoped3 cc0_scoped4) Q) := by
  rw [cc0_gather_kernel_eq_skeleton]
  unfold cc0_gather_kernel_skel
  rw [run_bind, k0_part3_eq_skeleton, k0_part4_eq_skeleton]
  unfold k0_part3_skel k0_part4_skel
  simp only [run_bind]
  iintro ⟨#Hmw, Hs, Hi, Hr, Hp, Hx, Hg, HO, Hb⟩ HQ
  iapply (fetch (n := 0) (k := 0) (iblk_of (k0_off2_eq L) _) (islot_of k0_off1_eq _) (isem_of k0_off3_eq _)) $$ Hs
  iintro Hs
  iapply run_pure
  dsimp only
  iapply (loop hI (f₀ := f₀) (W := W) (O := O) (q := q) (qx := qx) (fX := fX)) $$ [Hs Hi Hr Hp Hx Hg HO Hb]
  · unfold inv
    isplitr; · iexact Hmw
    isplitl [Hx]; · iexact Hx
    isplitl [Hg]; · iexact Hg
    isplitl [HO]; · iexact HO
    isplitl [Hs Hi]
    · iapply (Entails.of_eq (idxInv_pos (by omega)).symm)
      isplitl [Hs]; · iexact Hs
      iexact Hi
    isplitl [Hr Hp]
    · iapply (Entails.of_eq (show iprop(rowIdle d L 0 ∗ rowIdle d L 1) = rowInv d L fI fX 0 from by unfold rowInv; rw [dif_neg (by omega)]))
      isplitl [Hr] <;> iassumption
    isplitl [Hb]
    · iapply (Entails.of_eq (show (bigSep Finset.univ fun k : Fin 50 => oblkPts d L k f₀) = todo d L f₀ 0 from by
        unfold todo; rw [Finset.filter_true_of_mem fun k _ => Nat.zero_le _])) $$ Hb
    iapply (show (iprop(emp) : sProp 𝕄) ⊢ done d L (gath fI fX) 0 from by
        unfold done; rw [Finset.filter_false_of_mem (by intro k _; omega), bigSep_empty]; exact .rfl)
    iempintro
  iintro %acc %ha H
  subst ha
  iapply (run_assume' (Words.chk5 L))
  iapply (run_assume' Words.chk4)
  iapply run_pure
  dsimp only
  unfold inv
  icases H with ⟨-, Hx, Hg, HO, Hi, Hr, Ht, Hd⟩
  ihave Hi := (Entails.of_eq (show idxInv d L q fI 50 = iprop(slotIdle d L q fI 50 ∗ slotIdle d L q fI 51) from dif_neg (by omega))) $$ Hi
  ihave Hr := (Entails.of_eq (show rowInv d L fI fX 50 = iprop(rowIdle d L 50 ∗ rowFl d L (gath fI fX) 49 49) from dif_pos (by omega))) $$ Hr
  icases Hi with ⟨Hs, Hi⟩
  icases Hr with ⟨Hr, Hp⟩
  iapply (written (k := 49) (oblk_of (Words.off19 L) _) (rsem_of Words.off20 _)) $$ [Hp HO]
  · isplitl [Hp]; · iexact Hp
    isplitl [HO]; · iexact HO
    iexact Hmw
  iintro ⟨Hp, Hb, HO⟩
  iapply run_pure
  iapply HQ
  isplitl [Hs]; · iapply (Entails.of_eq (slotIdle_congr (n := 50) (m := 0) rfl)) $$ Hs
  isplitl [Hi]; · iapply (Entails.of_eq (slotIdle_congr (n := 51) (m := 1) rfl)) $$ Hi
  isplitl [Hr]; · iapply (Entails.of_eq (rowIdle_congr (n := 50) (m := 0) rfl)) $$ Hr
  isplitl [Hp]; · iapply (Entails.of_eq (rowIdle_congr (n := 49) (m := 1) rfl)) $$ Hp
  isplitl [Hx]; · iexact Hx
  isplitl [Hg]; · iexact Hg
  isplitl [HO]; · iexact HO
  ihave Hd := (done_put (d := d) (L := L) (G := gath fI fX) (t := 49) (by omega)).2 $$ [Hb Hd]
  · isplitl [Hb] <;> iassumption
  iapply (Entails.of_eq (show done d L (gath fI fX) 51 = (bigSep Finset.univ fun k : Fin 50 => oblkPts d L k (gath fI fX)) from by
        unfold done; rw [Finset.filter_true_of_mem fun k _ => by omega])) $$ Hd

end Cert.Proof

end
-- ==== Proof.Task.lean ====
/-
  The gather as one SparseCore call: what the call takes and brings back, how each of the sixteen tasks gets its part of
  it, and that a task, with its two buffers and five semaphores, turns its fifty blocks of the output into the gathered
  rows.
-/
module

public import proofs.«01_k».proof.Proof.Tile
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx Idealize.ShloMosaic.ShareLeaves

variable {F : FTy → Type}

local notation "𝕄" => MT nD τ sig (HIx 1) (Elt F) ℕ UU ℕ

/-! ## The output's blocks -/

theorem oset_inb (i : Fin 16) (k : Fin 50) : ∀ d, (![6400 * i.val + 128 * k.val, 0] : Fin S102400x128.rank → ℕ) d + S128x128.size d ≤ S102400x128.size d := by
  intro d
  match d with
  | 0 => show 6400 * i.val + 128 * k.val + 128 ≤ 102400; omega
  | 1 => show 0 + 128 ≤ 128; omega
abbrev orect (i : Fin 16) (k : Fin 50) : Rect S102400x128 := Rect.unit (s := S102400x128) ![6400 * i.val + 128 * k.val, 0] S128x128.size (oset_inb i k)
/-- The rows of task `i`'s block `k`. -/
def oset (i : Fin 16) (k : Fin 50) : Finset S102400x128.Idx := (orect i k).set

theorem set_oblk (L : grid0.Coords) (k : Fin 50) : (oblk L k).view.set = oset (jL L) k := by
  show ((View.whole (main_v4_scv : Ref sig .scVector)).slice (orect (jL L) k)).set = _
  rw [View.set_slice]; exact Finset.map_refl

theorem mem_oset {i : Fin 16} {k : Fin 50} {y : S102400x128.Idx} :
    y ∈ oset i k ↔ 6400 * i.val + 128 * k.val ≤ (y 0).val ∧ (y 0).val < 6400 * i.val + 128 * k.val + 128 := by
  unfold oset
  rw [Rect.mem_set_unit]
  constructor
  · intro h; exact h 0
  · intro h a
    match a with
    | 0 => exact h
    | 1 => exact ⟨Nat.zero_le _, by have : (y 1).val < 128 := (y 1).isLt; show (y 1).val < 0 + 128; omega⟩

theorem oset_disjoint : ∀ p ∈ (Finset.univ : Finset (Fin 16 × Fin 50)), ∀ p' ∈ (Finset.univ : Finset (Fin 16 × Fin 50)), p ≠ p' →
    Disjoint (oset p.1 p.2) (oset p'.1 p'.2) := by
  rintro ⟨i, k⟩ - ⟨i', k'⟩ - h
  refine Finset.disjoint_left.mpr fun y hy hy' => h ?_
  have h1 := mem_oset.mp hy
  have h2 := mem_oset.mp hy'
  have := k.isLt; have := k'.isLt
  dsimp only at h1 h2
  have e1 : i = i' := Fin.ext (by omega)
  subst e1
  have e2 : k = k' := Fin.ext (by omega)
  rw [e2]

theorem mem_blocks (y : S102400x128.Idx) : ∃ p : Fin 16 × Fin 50, y ∈ oset p.1 p.2 := by
  have hy : (y 0).val < 102400 := (y 0).isLt
  generalize hn : (y 0).val = n at hy
  have h1 : n / 6400 < 16 := by omega
  have h2 : n % 6400 / 128 < 50 := by omega
  refine ⟨(⟨n / 6400, h1⟩, ⟨n % 6400 / 128, h2⟩), mem_oset.mpr ?_⟩
  rw [hn]
  show 6400 * (n / 6400) + 128 * (n % 6400 / 128) ≤ n ∧ n < 6400 * (n / 6400) + 128 * (n % 6400 / 128) + 128
  omega

theorem cover_of {α ι : Type} [Fintype α] [DecidableEq α] [Fintype ι] (f : ι → Finset α)
    (h : ∀ y, ∃ i, y ∈ f i) : Finset.univ.biUnion f = Finset.univ :=
  Finset.eq_univ_iff_forall.mpr fun y => let ⟨i, hi⟩ := h y; Finset.mem_biUnion.mpr ⟨i, Finset.mem_univ i, hi⟩

theorem oset_cover : (Finset.univ : Finset (Fin 16 × Fin 50)).biUnion (fun p => oset p.1 p.2) = Finset.univ :=
  cover_of _ mem_blocks

theorem oPts_blocks (d : Dev nD) (f : Buf (Elt F) (oLoc d)) :
    (oLoc d ↦{fullShare} f : sProp 𝕄) = bigSep Finset.univ fun i : Fin 16 => bigSep Finset.univ fun k : Fin 50 => oLoc d ↦[oset i k]{fullShare} f := by
  rw [← bigSep_univ_prod (fun p : Fin 16 × Fin 50 => (oLoc d ↦[oset p.1 p.2]{fullShare} f : sProp 𝕄)),
    ← pointsTo_biUnion Finset.univ (ℓ := oLoc d) (fun p : Fin 16 × Fin 50 => oset p.1 p.2) oset_disjoint, oset_cover]; try rfl

/-! ## What the handshakes carry -/

/-- Task `i`'s share of an array every task reads. -/
abbrev tq (i : Fin 16) : PosShare TreeShare := leaf 4 fullShare i

abbrev oBlocks (d : Dev nD) (i : Fin 16) (f : Buf (Elt F) (oLoc d)) : sProp 𝕄 :=
  bigSep Finset.univ fun k : Fin 50 => oLoc d ↦[oset i k]{fullShare} f

variable (fI : (d : Dev nD) → Buf (Elt F) (iLoc d)) (fX : (d : Dev nD) → Buf (Elt F) (xLoc d)) (f₀ : (d : Dev nD) → Buf (Elt F) (oLoc d))

/-- The gathered array on device `d`. -/
def gathD (d : Dev nD) : Buf (Elt F) (oLoc d) := gath (F := F) (fI d) (fX d)

abbrev callPts (d : Dev nD) (f : Buf (Elt F) (oLoc d)) : sProp 𝕄 :=
  iprop((iLoc d ↦{fullShare} fI d) ∗ (xLoc d ↦{fullShare} fX d) ∗ oLoc d ↦{fullShare} f)
abbrev taskPts (d : Dev nD) (i : Fin 16) (f : Buf (Elt F) (oLoc d)) : sProp 𝕄 :=
  iprop((iLoc d ↦{tq i} fI d) ∗ (xLoc d ↦{tq i} fX d) ∗ oBlocks d i f)

/-- The call takes the token list, the table and the output whole, and brings them back with the output gathered; a task
    takes a share of the list and of the table and its fifty blocks, and brings those back gathered. -/
def P : (K (F := F)).Pay (nD := nD) (Val := Elt F) (Name := ℕ) (U := UU) where
  st := fun q d _ => match q with | 0 => callPts fI fX d (f₀ d)
  dn := fun q d _ => match q with | 0 => callPts fI fX d (gathD fI fX d)
  go := fun q d _ i => match q with | 0 => taskPts fI fX d (Fin.cast nSub_zero i) (f₀ d)
  td := fun q d _ i => match q with | 0 => taskPts fI fX d (Fin.cast nSub_zero i) (gathD fI fX d)
  x := fun _ _ => iprop(emp)

instance P_storable : (P (F := F) fI fX f₀).IsStorable where
  st q d _ := match q with
    | 0 => (inferInstance : BI.Storable (upEmb : UEmb _ 𝕄) (callPts fI fX d (f₀ d)))
  dn q d _ := match q with
    | 0 => (inferInstance : BI.Storable (upEmb : UEmb _ 𝕄) (callPts fI fX d (gathD fI fX d)))
  go q d _ i := match q with
    | 0 => (inferInstance : BI.Storable (upEmb : UEmb _ 𝕄) (taskPts fI fX d (Fin.cast nSub_zero i) (f₀ d)))
  td q d _ i := match q with
    | 0 => (inferInstance : BI.Storable (upEmb : UEmb _ 𝕄) (taskPts fI fX d (Fin.cast nSub_zero i) (gathD fI fX d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem callPts_tasks (d : Dev nD) (f : Buf (Elt F) (oLoc d)) :
    (callPts fI fX d f : sProp 𝕄) = bigSep Finset.univ fun i : Fin 16 => taskPts fI fX d i f := by
  unfold callPts taskPts oBlocks
  rw [bigSep_sep', bigSep_sep']
  rw [show (iLoc d ↦{fullShare} fI d : sProp 𝕄) = bigSep Finset.univ fun i : Fin 16 => iLoc d ↦{tq i} fI d from pointsTo_leaves Finset.univ (fI d) 4 fullShare,
    show (xLoc d ↦{fullShare} fX d : sProp 𝕄) = bigSep Finset.univ fun i : Fin 16 => xLoc d ↦{tq i} fX d from pointsTo_leaves Finset.univ (fX d) 4 fullShare, oPts_blocks]

theorem vecSplit : (K (F := F)).VecSplit' (P fI fX f₀) 0 := by
  intro d c
  show callPts fI fX d (f₀ d) ⊢ |={Set.univ}=> iprop(
      (bigSep Finset.univ fun i : Fin ((K (F := F)).nSub 0) => taskPts fI fX d (Fin.cast nSub_zero i) (f₀ d))
      ∗ ((bigSep Finset.univ fun i : Fin ((K (F := F)).nSub 0) => taskPts fI fX d (Fin.cast nSub_zero i) (gathD fI fX d))
          -∗ callPts fI fX d (gathD fI fX d)))
  rw [bigSep_tasks (F := F) (fun i => taskPts fI fX d i (f₀ d)),
    bigSep_tasks (F := F) (fun i => taskPts fI fX d i (gathD fI fX d)), ← callPts_tasks, ← callPts_tasks]
  iintro H; imodintro
  isplitl [H]; · iexact H
  iintro H; iexact H

/-! ## A task's own buffers and semaphores -/

section Tile

variable (d : Dev nD) (L : grid0.Coords)

abbrev cellOfSem (s : DmaSem sig) : GSem nD τ sig := (V d (cV L) (jV L), .dma s)

theorem sems_ne : (isem 0 ≠ isem 1 ∧ isem 0 ≠ rsem 0 ∧ isem 0 ≠ rsem 1 ∧ isem 0 ≠ gsem) ∧ (isem 1 ≠ rsem 0 ∧ isem 1 ≠ rsem 1 ∧ isem 1 ≠ gsem)
    ∧ (rsem 0 ≠ rsem 1 ∧ rsem 0 ≠ gsem) ∧ rsem 1 ≠ gsem := by decide
theorem sems_scoped : (SemLoc.dma (isem 0) : SemLoc sig).isScoped .scVector = true ∧ (SemLoc.dma (isem 1) : SemLoc sig).isScoped .scVector = true
    ∧ (SemLoc.dma (rsem 0) : SemLoc sig).isScoped .scVector = true ∧ (SemLoc.dma (rsem 1) : SemLoc sig).isScoped .scVector = true
    ∧ (SemLoc.dma gsem : SemLoc sig).isScoped .scVector = true := by decide

theorem cell_ne {s s' : DmaSem sig} (h : s ≠ s') : cellOfSem d L s ≠ cellOfSem d L s' := fun e => h (by
  have := congrArg Prod.snd e
  exact SemLoc.dma.inj this)
theorem cell_mem {s : DmaSem sig} (h : (SemLoc.dma s : SemLoc sig).isScoped .scVector = true) : cellOfSem d L s ∈ ownCells (V d (cV L) (jV L)) :=
  mem_ownCells.mpr ⟨rfl, h⟩

theorem ownSems0_V :
    (ownSems0 (V d (cV L) (jV L)) : sProp 𝕄)
      = iprop(semVal (cellOfSem d L (isem 0)) 0 ∗ semVal (cellOfSem d L (isem 1)) 0 ∗ semVal (cellOfSem d L (rsem 0)) 0 ∗ semVal (cellOfSem d L (rsem 1)) 0
          ∗ semVal (cellOfSem d L gsem) 0
          ∗ bigSep ((((((ownCells (V d (cV L) (jV L))).erase (cellOfSem d L (isem 0))).erase (cellOfSem d L (isem 1))).erase (cellOfSem d L (rsem 0))).erase
              (cellOfSem d L (rsem 1))).erase (cellOfSem d L gsem)) fun g => semVal g 0) := by
  obtain ⟨⟨n1, n2, n3, n4⟩, ⟨n5, n6, n7⟩, ⟨n8, n9⟩, n10⟩ := sems_ne
  obtain ⟨s1, s2, s3, s4, s5⟩ := sems_scoped
  unfold SparseCore.Cfg.ownSems0
  rw [SparseCore.bigSep_erase' (cell_mem d L s1),
    SparseCore.bigSep_erase' (Finset.mem_erase.mpr ⟨cell_ne d L n1.symm, cell_mem d L s2⟩),
    SparseCore.bigSep_erase' (Finset.mem_erase.mpr ⟨cell_ne d L n5.symm, Finset.mem_erase.mpr ⟨cell_ne d L n2.symm, cell_mem d L s3⟩⟩),
    SparseCore.bigSep_erase' (Finset.mem_erase.mpr ⟨cell_ne d L n8.symm, Finset.mem_erase.mpr ⟨cell_ne d L n6.symm, Finset.mem_erase.mpr ⟨cell_ne d L n3.symm, cell_mem d L s4⟩⟩⟩),
    SparseCore.bigSep_erase' (Finset.mem_erase.mpr ⟨cell_ne d L n10.symm, Finset.mem_erase.mpr ⟨cell_ne d L n9.symm, Finset.mem_erase.mpr ⟨cell_ne d L n7.symm,
      Finset.mem_erase.mpr ⟨cell_ne d L n4.symm, cell_mem d L s5⟩⟩⟩⟩)]

theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! The two slots of a buffer are all of it. -/

theorem set_islot (n : ℕ) : (islot n).view.set = (Rect.unit (s := S2x1x128) ![n % 2, 0, 0] S1x1x128.size (islot_inb n)).set := by
  refine (View.set_reshape _ _).trans ?_
  show ((View.whole (cc0_scoped0 : Ref sig .scVector)).slice _).set = _
  rw [View.set_slice]; exact Finset.map_refl
theorem set_rslot (n : ℕ) : (rslot n).view.set = (Rect.unit (s := S2x128x128) ![n % 2, 0, 0] S1x128x128.size (rslot_inb n)).set := by
  refine (View.set_reshape _ _).trans ?_
  show ((View.whole (cc0_scoped2 : Ref sig .scVector)).slice _).set = _
  rw [View.set_slice]; exact Finset.map_refl
theorem mem_islot (n : ℕ) (y : S2x1x128.Idx) : y ∈ (islot n).view.set ↔ (y 0).val = n % 2 := by
  refine (Eq.to_iff (congrArg (y ∈ ·) (set_islot n))).trans (Rect.mem_set_unit.trans ⟨fun h => ?_, fun h a => ?_⟩)
  · have := h 0
    have h1 : n % 2 ≤ (y 0).val := this.1
    have h2 : (y 0).val < n % 2 + 1 := this.2
    omega
  · match a with
    | 0 => exact ⟨h.ge, by show (y 0).val < n % 2 + 1; omega⟩
    | 1 => exact ⟨Nat.zero_le _, by have : (y 1).val < 1 := (y 1).isLt; show (y 1).val < 0 + 1; omega⟩
    | 2 => exact ⟨Nat.zero_le _, by have : (y 2).val < 128 := (y 2).isLt; show (y 2).val < 0 + 128; omega⟩
theorem mem_rslot (n : ℕ) (y : S2x128x128.Idx) : y ∈ (rslot n).view.set ↔ (y 0).val = n % 2 := by
  refine (Eq.to_iff (congrArg (y ∈ ·) (set_rslot n))).trans (Rect.mem_set_unit.trans ⟨fun h => ?_, fun h a => ?_⟩)
  · have := h 0
    have h1 : n % 2 ≤ (y 0).val := this.1
    have h2 : (y 0).val < n % 2 + 1 := this.2
    omega
  · match a with
    | 0 => exact ⟨h.ge, by show (y 0).val < n % 2 + 1; omega⟩
    | 1 => exact ⟨Nat.zero_le _, by have : (y 1).val < 128 := (y 1).isLt; show (y 1).val < 0 + 128; omega⟩
    | 2 => exact ⟨Nat.zero_le _, by have : (y 2).val < 128 := (y 2).isLt; show (y 2).val < 0 + 128; omega⟩

/-- A buffer of two parts is its parts, whatever each holds. -/
theorem two_parts {ℓ : Loc nD τ sig} (A B : Finset (Idx ℓ)) (hd : Disjoint A B) (hc : A ∪ B = Finset.univ) :
    (iprop(∃ f, ℓ ↦{fullShare} f) : sProp 𝕄) ⊣⊢ iprop((∃ f, ℓ ↦[A]{fullShare} f) ∗ ∃ f, ℓ ↦[B]{fullShare} f) := by
  classical
  constructor
  · iintro ⟨%f, H⟩
    ihave H' := (pointsTo_split_subset (q := fullShare) (f := f) (S := Finset.univ) (Finset.subset_univ A)).1 $$ H
    icases H' with ⟨HA, HB⟩
    isplitl [HA]; · iexists f; iexact HA
    iexists f
    iapply (Entails.of_eq (show (ℓ ↦[Finset.univ \ A]{fullShare} f : sProp 𝕄) = ℓ ↦[B]{fullShare} f by
      rw [← hc, Finset.union_sdiff_left, Finset.sdiff_eq_self_of_disjoint hd.symm])) $$ HB
  · iintro ⟨⟨%f, HA⟩, %g, HB⟩
    iexists (fun y => if y ∈ A then f y else g y)
    iapply (pointsTo_split_subset (q := fullShare) (S := Finset.univ) (Finset.subset_univ A)).2
    isplitl [HA]
    · iapply (Entails.of_eq (pointsTo_congr fun y hy => by rw [if_pos hy])) $$ HA
    iapply (Entails.of_eq (show (ℓ ↦[B]{fullShare} g : sProp 𝕄) = ℓ ↦[Finset.univ \ A]{fullShare} (fun y => if y ∈ A then f y else g y) by
      rw [← hc, Finset.union_sdiff_left, Finset.sdiff_eq_self_of_disjoint hd.symm]
      exact pointsTo_congr fun y hy => by rw [if_neg fun h => Finset.disjoint_left.mp hd h hy])) $$ HB

theorem islots : (iprop(∃ f, (V d (cV L) (jV L)).loc cc0_scoped0 ↦{fullShare} f) : sProp 𝕄)
    ⊣⊢ iprop((∃ f, islotPts d L 0 f) ∗ ∃ f, islotPts d L 1 f) :=
  two_parts (ℓ := (V d (cV L) (jV L)).loc cc0_scoped0) (islot 0).view.set (islot 1).view.set
    (Finset.disjoint_left.mpr fun y h h' => by
      have h1 := (mem_islot 0 y).mp h; have h2 := (mem_islot 1 y).mp h'; omega)
    (Finset.eq_univ_of_forall fun y => by
      have h : ((y : S2x1x128.Idx) 0).val < 2 := ((y : S2x1x128.Idx) 0).isLt
      rcases Nat.lt_or_ge ((y : S2x1x128.Idx) 0).val 1 with h' | h'
      · exact Finset.mem_union_left _ ((mem_islot 0 y).mpr (by omega))
      · exact Finset.mem_union_right _ ((mem_islot 1 y).mpr (by omega)))
theorem rslots : (iprop(∃ f, (V d (cV L) (jV L)).loc cc0_scoped2 ↦{fullShare} f) : sProp 𝕄)
    ⊣⊢ iprop((∃ f, rslotPts d L 0 f) ∗ ∃ f, rslotPts d L 1 f) :=
  two_parts (ℓ := (V d (cV L) (jV L)).loc cc0_scoped2) (rslot 0).view.set (rslot 1).view.set
    (Finset.disjoint_left.mpr fun y h h' => by
      have h1 := (mem_rslot 0 y).mp h; have h2 := (mem_rslot 1 y).mp h'; omega)
    (Finset.eq_univ_of_forall fun y => by
      have h : ((y : S2x128x128.Idx) 0).val < 2 := ((y : S2x128x128.Idx) 0).isLt
      rcases Nat.lt_or_ge ((y : S2x128x128.Idx) 0).val 1 with h' | h'
      · exact Finset.mem_union_left _ ((mem_rslot 0 y).mpr (by omega))
      · exact Finset.mem_union_right _ ((mem_rslot 1 y).mpr (by omega)))

/-! ## The task, from what it is handed -/

variable [FloatOps F]

theorem oBlocks_eq (f : Buf (Elt F) (oLoc d)) : (oBlocks d (jL L) f : sProp 𝕄) = bigSep Finset.univ fun k : Fin 50 => oblkPts d L k f :=
  bigSep_congr fun k _ => by unfold oblkPts; rw [set_oblk]

theorem iShare (q : PosShare TreeShare) (f : S1x102400.Idx → Elt F .i32) :
    (iLoc d ↦{q} f : sProp 𝕄) = iprop(iAllPts d L (hq q 0) f ∗ iAllPts d L (hq q 1) f) :=
  BI.Entails.antisymm (pointsTo_share (PosShare.mem_left_op_right q)).1 (pointsTo_share (PosShare.mem_left_op_right q)).2

theorem taskPts_eq (f : Buf (Elt F) (oLoc d)) :
    (taskPts fI fX d (jL L) f : sProp 𝕄) = iprop((iAllPts d L (hq (tq (jL L)) 0) (fI d) ∗ iAllPts d L (hq (tq (jL L)) 1) (fI d))
      ∗ (xLoc d ↦{tq (jL L)} fX d) ∗ bigSep Finset.univ fun k : Fin 50 => oblkPts d L k f) := by
  rw [← oBlocks_eq d L f, ← iShare d L (tq (jL L)) (fI d)]

set_option maxHeartbeats 1000000 in
theorem tile_body (hF : (K (F := F)).Facts) (hI : ∀ d j, ((fI d : S1x102400.Idx → Elt F .i32) j).toNat < 100000)
    (O : CellTallies nD τ sig (HIx 1)) (W : Waits sig (HIx 1)) (hO : ∀ g, O g none = 0) :
    iprop(levAts (K (F := F)).L (K (F := F)).lev ∗ emp ∗ taskPts fI fX d (jL L) (f₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _) aV (Memref.isWhole_whole _) cc0_scoped1 rV (Memref.isWhole_whole _) cc0_scoped3 cc0_scoped4)
          fun _ => iprop(taskPts fI fX d (jL L) (gathD fI fX d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V,
    taskPts_eq, taskPts_eq]
  iintro ⟨#Hlv, -, ⟨⟨Hi0, Hi1⟩, Hx, Ho⟩, ⟨Hs, Hr, Hbufs⟩, ⟨HA, HB, HC, HD, HG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs := (islots d L).1 $$ Hs
  ihave Hr := (rslots d L).1 $$ Hr
  icases Hs with ⟨Hs0, Hs1⟩
  icases Hr with ⟨Hr0, Hr1⟩
  iapply (task (d := d) (L := L) (q := tq (jL L)) (qx := tq (jL L)) (fI := fI d) (fX := fX d) (f₀ := f₀ d) (O := O) (W := W) (hI d)) $$ [Hmw Hi0 Hi1 Hx Ho Hs0 Hs1 Hr0 Hr1 HA HB HC HD HG HO]
  · unfold slotIdle rowIdle owesW
    isplitl [Hmw]; · iexact Hmw
    isplitl [Hs0 HA Hi0]
    · isplitl [Hs0]; · iexact Hs0
      isplitl [HA]; · iexact HA
      iexact Hi0
    isplitl [Hs1 HB Hi1]
    · isplitl [Hs1]; · iexact Hs1
      isplitl [HB]; · iexact HB
      iexact Hi1
    isplitl [Hr0 HC]; · isplitl [Hr0] <;> iassumption
    isplitl [Hr1 HD]; · isplitl [Hr1] <;> iassumption
    isplitl [Hx]; · iexact Hx
    isplitl [HG]; · iexact HG
    isplitl [HO]
    · iexists W; isplitr; · ipureintro; exact fun p hp => .inl hp
      iexact HO
    iexact Ho
  unfold slotIdle rowIdle owesW
  iintro ⟨⟨Hs0, HA, Hi0⟩, ⟨Hs1, HB, Hi1⟩, ⟨Hr0, HC⟩, ⟨Hr1, HD⟩, Hx, HG, HO, Ho⟩
  isplitl [Hi0 Hi1 Hx Ho]
  · isplitl [Hi0 Hi1]; · isplitl [Hi0] <;> iassumption
    isplitl [Hx]; · iexact Hx
    iexact Ho
  isplitl [Hs0 Hs1 Hr0 Hr1 Hbufs]
  · isplitl [Hs0 Hs1]
    · iapply (islots d L).2; isplitl [Hs0] <;> iassumption
    isplitl [Hr0 Hr1]
    · iapply (rslots d L).2; isplitl [Hr0] <;> iassumption
    iexact Hbufs
  isplitl [HA HB HC HD HG Hsems]
  · isplitl [HA]; · iexact HA
    isplitl [HB]; · iexact HB
    isplitl [HC]; · iexact HC
    isplitl [HD]; · iexact HD
    isplitl [HG]; · iexact HG
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _) aV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d j, ((fI d : S1x102400.Idx → Elt F .i32) j).toNat < 100000) :
    (K (F := F)).TileObl (D (F := F)) 𝒱 (P fI fX f₀) v₀ 0 := by
  intro d c i O W hO _ _
  simp only [show (P fI fX f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fI fX f₀ d (coordsV ⟨_, hci.1⟩ ⟨_, hci.2⟩) hF hI O W hO).trans (wp_mono frame _ _ fun _ => obl_post)

end Tile

end Cert.Proof

end
-- ==== Proof.Regions.lean ====
/-
  The two layers' calls as regions of @main: each takes the TensorCore's unscoped buffers at a valuation to the same
  buffers with its output arrays written.
-/
module

public import proofs.«01_k».proof.Proof.L1Dat
public import proofs.«01_k».proof.Proof.Task
public import Idealize.ShloMosaic.Lib.Pipeline.RegionArrays
public import Idealize.ShloMosaic.Lib.Pipeline.RegionsLoop
public import Idealize.ShloMosaic.Lib.Pipeline.FrameSuffix

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin ucRefs)

variable {F : FTy → Type} [FloatOps F]

local notation "𝕄" => MT nD τ sig (HIx 1) (Elt F) ℕ UU ℕ

/-- The pipelines prefetch nothing. -/
def adm (p : Fin 2) : (pcfgs (F := F) p).Adm := (cfgs p).toPCfg_adm

theorem phinj : Function.Injective (Pipeline.cellOf (nD := nD) (τ := τ) (pin (pcfgs (F := F)) adm)) := cellOf_inj

/-- A valuation of the unscoped buffers of each device, read as the TensorCore's contents. -/
def vals (V : Dev nD → Valuation τ sig (Elt F)) : Vals F := fun c b => V c (Proc.devRef .tc b)

/-- Both pipelines' data: the first layer entered at `VA`, the second at `VB`. -/
def dats (VA VB : Dev nD → Valuation τ sig (Elt F)) :
    (p : Fin 2) → (c : Dev nD) → Dat τ (Elt F) (HIx 1) ℕ UU ℕ (pin (pcfgs (F := F)) adm p) c
  | 0, c => dat1 (vals VA) c
  | 1, c => dat2 (vals VB) c

/-- The buffers after the first layer's call entered at `V`. -/
def after1 (V : Dev nD → Valuation τ sig (Elt F)) (c : Dev nD) : Valuation τ sig (Elt F) :=
  Pipeline.withArrays spec1 c (V c) fun w => (dat1 (vals V) c).arrAt w cfg1.N

/-- The buffers after the second layer's call entered at `V`. -/
def after2 (V : Dev nD → Valuation τ sig (Elt F)) (c : Dev nD) : Valuation τ sig (Elt F) :=
  Pipeline.withArrays spec2 c (V c) fun w => (dat2 (vals V) c).arrAt w cfg2.N

variable (VA VB : Dev nD → Valuation τ sig (Elt F))

/-- The pairs of a core's waits recorded so far, the core owing nothing. -/
def settled (c : Dev nD) : sProp 𝕄 := iprop(∃ W, owes (c.tc : Thread nD τ) (0 : CellTallies nD τ sig (HIx 1)) W)

theorem cut (p : Fin 2) : Pipeline.LevelCut (pcfgs (F := F)) adm (none : HIx 1) (K (F := F)).L (K (F := F)).lev p
    (fun _ => (0 : CellTallies nD τ sig (HIx 1))) fun _ => 0 where
  hι := fun _ _ _ => Finset.mem_univ _
  hιb := fun _ _ _ => le_refl 0
  hD := fun _ _ _ h => absurd h (lt_irrefl 0)

set_option backward.isDefEq.respectTransparency.types false in
def reg1 : Pipeline.RegionSeg (pcfgs (F := F)) adm (dats VA VB) (none : HIx 1) defs₀ 𝒱₀ (K (F := F)).L (K (F := F)).lev 0 :=
  Pipeline.RegionSeg.ofArrays (pcfgs (F := F)) adm (dats VA VB) none defs₀ 𝒱₀ (K (F := F)).L (K (F := F)).lev 0
    (fun _ => 0) (fun _ => iprop(emp)) (fun _ => iprop(emp)) launch₀1.toP rfl (fun c => body1 (vals VA) c) (fun _ _ => rfl) (fun _ => rfl)
    (fun c => hin1 (vals VA) c) (fun c => hout1 (vals VA) c) (fun _ => 0) (cut 0)
    (fun c => Pipeline.unscopedRest (Ix := HIx 1) (Name := ℕ) (U := UU) (Lvl := ℕ) spec1 c (vals VA c))

set_option backward.isDefEq.respectTransparency.types false in
def reg2 : Pipeline.RegionSeg (pcfgs (F := F)) adm (dats VA VB) (none : HIx 1) defs₀ 𝒱₀ (K (F := F)).L (K (F := F)).lev 1 :=
  Pipeline.RegionSeg.ofArrays (pcfgs (F := F)) adm (dats VA VB) none defs₀ 𝒱₀ (K (F := F)).L (K (F := F)).lev 1
    (fun _ => 0) (fun _ => iprop(emp)) (fun _ => iprop(emp)) launch₀2.toP rfl (fun c => body2 (vals VB) c) (fun _ _ => rfl) (fun _ => rfl)
    (fun c => hin2 (vals VB) c) (fun c => hout2 (vals VB) c) (fun _ => 0) (cut 1)
    (fun c => Pipeline.unscopedRest (Ix := HIx 1) (Name := ℕ) (U := UU) (Lvl := ℕ) spec2 c (vals VB c))

theorem after1_arr (c : Dev nD) (w : Fin 8) : after1 VA c (Proc.devRef .tc (Pipeline.arrRef spec1 w)) = (dat1 (vals VA) c).arrAt w cfg1.N :=
  Dat.withArrays_arrAt (dat1 (vals VA) c) sharedIn1 (VA c) (fun _ => rfl) w

theorem after1_ne (c : Dev nD) (b : Ref sig .tc) (hb : ∀ w, Pipeline.arrRef spec1 w ≠ b) : after1 VA c (Proc.devRef .tc b) = VA c (Proc.devRef .tc b) :=
  Pipeline.withArrays_of_ne spec1 c _ _ b hb

theorem after2_arr (c : Dev nD) (w : Fin 11) : after2 VB c (Proc.devRef .tc (Pipeline.arrRef spec2 w)) = (dat2 (vals VB) c).arrAt w cfg2.N :=
  Dat.withArrays_arrAt (dat2 (vals VB) c) sharedIn2 (VB c) (fun _ => rfl) w

theorem after2_ne (c : Dev nD) (b : Ref sig .tc) (hb : ∀ w, Pipeline.arrRef spec2 w ≠ b) : after2 VB c (Proc.devRef .tc b) = VB c (Proc.devRef .tc b) :=
  Pipeline.withArrays_of_ne spec2 c _ _ b hb

theorem ne_of_rest {W gr : ℕ} {win : Fin W → Pipeline.WinSpec sig gr} {b : Ref sig .tc} (h : b ∉ Finset.univ.image (Pipeline.arrRef win)) :
    ∀ w, Pipeline.arrRef win w ≠ b := fun w e => h (Finset.mem_image.mpr ⟨w, Finset.mem_univ _, e⟩)

set_option backward.isDefEq.respectTransparency.types false in
theorem entry1 (c : Dev nD) : iprop(StableHlo.held (c.tc : Thread nD τ) (ucRefs τ sig) (VA c) ∗ settled c) ⊢ ((reg1 VA VB).pre c : sProp 𝕄) := by
  have hsplit := Pipeline.arrays_of_unscopedBufs_shared (pcfgs (F := F)) adm (dats VA VB) (p := 0) winFacts₀1 launch₀1.sharedIn arr_whole1 c
    (fun w _ => rfl) (vals VA c) (fun w => rfl)
  rw [show StableHlo.held (c.tc : Thread nD τ) (ucRefs τ sig) (VA c) = unscopedBufs c (vals VA c)
      from (Pipeline.unscopedBufs_held (Ix := HIx 1) (Name := ℕ) (U := UU) (Lvl := ℕ) c (VA c)).symm]
  show _ ⊢ iprop((dats VA VB 0 c).arrays ((dats VA VB 0 c).arrAt · 0) ∗ emp ∗ Pipeline.unscopedRest spec1 c (vals VA c) ∗ settled c)
  iintro ⟨Hb, Ho⟩
  ihave H := hsplit $$ Hb
  icases H with ⟨Ha, Hr⟩
  isplitl [Ha]; · iexact Ha
  isplitr; · iempintro
  isplitl [Hr]; · iexact Hr
  iexact Ho

set_option backward.isDefEq.respectTransparency.types false in
theorem exit1 (c : Dev nD) : ((reg1 VA VB).post c : sProp 𝕄) ⊢ iprop(StableHlo.held (c.tc : Thread nD τ) (ucRefs τ sig) (after1 VA c) ∗ settled c) := by
  have hjoin := Pipeline.unscopedBufs_of_arrays_shared (pcfgs (F := F)) adm (p := 0) winFacts₀1 launch₀1.sharedIn arr_whole1 c (dats VA VB)
    (fun w _ => rfl) (vals VA c) (fun b => after1 VA c (Proc.devRef .tc b)) ((dats VA VB 0 c).arrAt · cfg1.N)
    (fun w => (after1_arr VA c w).symm) (fun b hb => after1_ne VA c b (ne_of_rest hb))
  rw [show StableHlo.held (c.tc : Thread nD τ) (ucRefs τ sig) (after1 VA c) = unscopedBufs c (fun b => after1 VA c (Proc.devRef .tc b))
      from (Pipeline.unscopedBufs_held (Ix := HIx 1) (Name := ℕ) (U := UU) (Lvl := ℕ) c (after1 VA c)).symm]
  show iprop((dats VA VB 0 c).arrays ((dats VA VB 0 c).arrAt · cfg1.N) ∗ emp ∗ Pipeline.unscopedRest spec1 c (vals VA c) ∗ settled c) ⊢ _
  iintro ⟨Ha, -, Hr, Ho⟩
  isplitr [Ho]
  · iapply hjoin
    isplitl [Ha]; · iexact Ha
    iexact Hr
  iexact Ho

set_option backward.isDefEq.respectTransparency.types false in
theorem entry2 (c : Dev nD) : iprop(StableHlo.held (c.tc : Thread nD τ) (ucRefs τ sig) (VB c) ∗ settled c) ⊢ ((reg2 VA VB).pre c : sProp 𝕄) := by
  have hsplit := Pipeline.arrays_of_unscopedBufs_shared (pcfgs (F := F)) adm (dats VA VB) (p := 1) winFacts₀2 launch₀2.sharedIn arr_whole2 c
    (fun w _ => rfl) (vals VB c) (fun w => rfl)
  rw [show StableHlo.held (c.tc : Thread nD τ) (ucRefs τ sig) (VB c) = unscopedBufs c (vals VB c)
      from (Pipeline.unscopedBufs_held (Ix := HIx 1) (Name := ℕ) (U := UU) (Lvl := ℕ) c (VB c)).symm]
  show _ ⊢ iprop((dats VA VB 1 c).arrays ((dats VA VB 1 c).arrAt · 0) ∗ emp ∗ Pipeline.unscopedRest spec2 c (vals VB c) ∗ settled c)
  iintro ⟨Hb, Ho⟩
  ihave H := hsplit $$ Hb
  icases H with ⟨Ha, Hr⟩
  isplitl [Ha]; · iexact Ha
  isplitr; · iempintro
  isplitl [Hr]; · iexact Hr
  iexact Ho

set_option backward.isDefEq.respectTransparency.types false in
theorem exit2 (c : Dev nD) : ((reg2 VA VB).post c : sProp 𝕄) ⊢ iprop(StableHlo.held (c.tc : Thread nD τ) (ucRefs τ sig) (after2 VB c) ∗ settled c) := by
  have hjoin := Pipeline.unscopedBufs_of_arrays_shared (pcfgs (F := F)) adm (p := 1) winFacts₀2 launch₀2.sharedIn arr_whole2 c (dats VA VB)
    (fun w _ => rfl) (vals VB c) (fun b => after2 VB c (Proc.devRef .tc b)) ((dats VA VB 1 c).arrAt · cfg2.N)
    (fun w => (after2_arr VB c w).symm) (fun b hb => after2_ne VB c b (ne_of_rest hb))
  rw [show StableHlo.held (c.tc : Thread nD τ) (ucRefs τ sig) (after2 VB c) = unscopedBufs c (fun b => after2 VB c (Proc.devRef .tc b))
      from (Pipeline.unscopedBufs_held (Ix := HIx 1) (Name := ℕ) (U := UU) (Lvl := ℕ) c (after2 VB c)).symm]
  show iprop((dats VA VB 1 c).arrays ((dats VA VB 1 c).arrAt · cfg2.N) ∗ emp ∗ Pipeline.unscopedRest spec2 c (vals VB c) ∗ settled c) ⊢ _
  iintro ⟨Ha, -, Hr, Ho⟩
  isplitr [Ho]
  · iapply hjoin
    isplitl [Ha]; · iexact Ha
    iexact Hr
  iexact Ho

/-- What one region takes of the launch element: its cells' ghost state and its tokens. -/
def ghost (p : Fin 2) (c : Dev nD) : sProp 𝕄 :=
  iprop(Pipeline.cellsGhost (pin (pcfgs (F := F)) adm) EP p c ∗ Pipeline.toksInit (pin (pcfgs (F := F)) adm) EP p c)

section Run

/-- The call of pipeline `p` as the pipelines' own program, -/
def enter (p : Fin 2) : Prog (TpuEff nD τ sig (Elt F) (ΛP (F := F)) .tc) PUnit := .op (.customCall (Pipeline.entry p) ()) .ret

/-- which lifted is @main's statement. -/
theorem lift_enter (p : Fin 2) : SparseCore.liftProg (enter (F := F) p)
    = Prog.lift (.customCall (SparseCore.inner (Pipeline.entry p)) () : TpuEff nD τ sig (Elt F) (SparseCore.Sig (ΛP (F := F)) 1) .tc PUnit) := rfl

variable [∀ e, Nonempty (Elt F e)]

set_option backward.isDefEq.respectTransparency.types false in
theorem wp_region1 (c : Dev nD) {Q : PUnit → sProp 𝕄} :
    iprop((iprop(boundary (c.tc : Thread nD τ) ∗ StableHlo.held (c.tc : Thread nD τ) (ucRefs τ sig) (after1 VA c) ∗ settled c) -∗ Q ⟨⟩)
        ∗ boundary (c.tc : Thread nD τ) ∗ StableHlo.held (c.tc : Thread nD τ) (ucRefs τ sig) (VA c) ∗ settled c
        ∗ levAts (K (F := F)).L (K (F := F)).lev ∗ ghost 0 c)
      ⊢ wp frame (wpE ((K (F := F)).defs (D (F := F))) 𝒱 (SparseCore.T c) none) Set.univ
          (Prog.lift (.customCall (SparseCore.inner (Pipeline.entry 0)) ())) Q := by
  refine BI.Entails.trans ?_ ((Entails.of_eq (congrArg (fun p => wp frame (wpE ((K (F := F)).defs (D (F := F))) 𝒱 (SparseCore.T c) none) Set.univ p Q) (lift_enter 0))))
  refine BI.Entails.trans ?_ ((K (F := F)).wp_liftProg (D (F := F)) 𝒱 (SparseCore.T c) Set.univ none (enter 0) Q)
  have key := Pipeline.RegionSeg.wp (pcfgs (F := F)) adm (dats VA VA) none phinj EP defs₀ 𝒱₀ (K (F := F)).L (K (F := F)).lev
    (reg1 VA VA) c none (by intro u hu; cases hu) Prog.ret Q
  unfold ghost
  show (_ : sProp 𝕄) ⊢ (_ : sProp 𝕄)
  iintro ⟨Hk, Hb, Hh, Ho, Hl, Hg, Ht⟩
  iapply key
  isplitl [Hk]
  · iintro ⟨Hb, Hp⟩
    ihave H := (exit1 VA VA c) $$ Hp
    rw [wp_ret]
    imodintro
    iapply Hk $$ [Hb H]
    isplitl [Hb]; · iexact Hb
    iexact H
  isplitl [Hb]; · iexact Hb
  isplitl [Hh Ho]
  · iapply (entry1 VA VA c) $$ [Hh Ho]
    isplitl [Hh] <;> iassumption
  isplitl [Hl]; · iexact Hl
  isplitl [Hg] <;> iassumption

set_option backward.isDefEq.respectTransparency.types false in
theorem wp_region2 (c : Dev nD) {Q : PUnit → sProp 𝕄} :
    iprop((iprop(boundary (c.tc : Thread nD τ) ∗ StableHlo.held (c.tc : Thread nD τ) (ucRefs τ sig) (after2 VB c) ∗ settled c) -∗ Q ⟨⟩)
        ∗ boundary (c.tc : Thread nD τ) ∗ StableHlo.held (c.tc : Thread nD τ) (ucRefs τ sig) (VB c) ∗ settled c
        ∗ levAts (K (F := F)).L (K (F := F)).lev ∗ ghost 1 c)
      ⊢ wp frame (wpE ((K (F := F)).defs (D (F := F))) 𝒱 (SparseCore.T c) none) Set.univ
          (Prog.lift (.customCall (SparseCore.inner (Pipeline.entry 1)) ())) Q := by
  refine BI.Entails.trans ?_ ((Entails.of_eq (congrArg (fun p => wp frame (wpE ((K (F := F)).defs (D (F := F))) 𝒱 (SparseCore.T c) none) Set.univ p Q) (lift_enter 1))))
  refine BI.Entails.trans ?_ ((K (F := F)).wp_liftProg (D (F := F)) 𝒱 (SparseCore.T c) Set.univ none (enter 1) Q)
  have key := Pipeline.RegionSeg.wp (pcfgs (F := F)) adm (dats VB VB) none phinj EP defs₀ 𝒱₀ (K (F := F)).L (K (F := F)).lev
    (reg2 VB VB) c none (by intro u hu; cases hu) Prog.ret Q
  unfold ghost
  show (_ : sProp 𝕄) ⊢ (_ : sProp 𝕄)
  iintro ⟨Hk, Hb, Hh, Ho, Hl, Hg, Ht⟩
  iapply key
  isplitl [Hk]
  · iintro ⟨Hb, Hp⟩
    ihave H := (exit2 VB VB c) $$ Hp
    rw [wp_ret]
    imodintro
    iapply Hk $$ [Hb H]
    isplitl [Hb]; · iexact Hb
    iexact H
  isplitl [Hb]; · iexact Hb
  isplitl [Hh Ho]
  · iapply (entry2 VB VB c) $$ [Hh Ho]
    isplitl [Hh] <;> iassumption
  isplitl [Hl]; · iexact Hl
  isplitl [Hg] <;> iassumption

end Run

end Cert.Proof

end
-- ==== Proof.Main.lean ====
/-
  @main on one device's TensorCore: the host lines before the SparseCore call, the call, the host lines before the first
  layer, the first layer, the host lines before the second, the second. Each device's buffers are followed through.
-/
module

public import proofs.«01_k».proof.Proof.Regions

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin ucRefs)

variable {F : FTy → Type} [FloatOps F]

local notation "𝕄" => MT nD τ sig (HIx 1) (Elt F) ℕ UU ℕ

/-- The host lines before the SparseCore call: the token list. -/
def ops1 : List (HloOp τ sig (Elt F)) :=
  [(StableHlo.unary main_arg0 main_v1 ((transpose S200x512 [1, 0] · transposes_S512x200_S200x512_1_0) : (⟨S512x200, .i32⟩ : BufTy).Contents (Elt F) → (⟨S200x512, .i32⟩ : BufTy).Contents (Elt F))),
   (StableHlo.reshape main_v1 main_v2 (rfl : (.i32 : EltTy) = .i32) shapeCasts_S200x512_S102400),
   (StableHlo.reshape main_v2 main_v3 (rfl : (.i32 : EltTy) = .i32) shapeCasts_S102400_S1x102400)]

/-- The host lines before the first layer: the gathered rows by time step, the weights and the biases. -/
def ops2 : List (HloOp τ sig (Elt F)) :=
  [(StableHlo.reshape main_v4 main_v5 (rfl : (.f32 : EltTy) = .f32) shapeCasts_S102400x128_S200x512x128),
   (StableHlo.unary main_arg2 main_v6 ((transpose S128x2048 [1, 0] · transposes_S2048x128_S128x2048_1_0) : (⟨S2048x128, .f32⟩ : BufTy).Contents (Elt F) → (⟨S128x2048, .f32⟩ : BufTy).Contents (Elt F))),
   (StableHlo.unary main_arg3 main_v7 ((transpose S512x2048 [1, 0] · transposes_S2048x512_S512x2048_1_0) : (⟨S2048x512, .f32⟩ : BufTy).Contents (Elt F) → (⟨S512x2048, .f32⟩ : BufTy).Contents (Elt F))),
   (StableHlo.binary main_v6 main_v7 main_v8 ((fun a b => concatenate S640x2048 0 [⟨S128x2048, a⟩, ⟨S512x2048, b⟩] concatenates_S128x2048_S512x2048_S640x2048_d0) : (⟨S128x2048, .f32⟩ : BufTy).Contents (Elt F) → (⟨S512x2048, .f32⟩ : BufTy).Contents (Elt F) → (⟨S640x2048, .f32⟩ : BufTy).Contents (Elt F))),
   (StableHlo.unary main_v8 main_v9 ((truncf .bf16 · bitsLt_bf16_f32) : (⟨S640x2048, .f32⟩ : BufTy).Contents (Elt F) → (⟨S640x2048, .bf16⟩ : BufTy).Contents (Elt F))),
   (StableHlo.unary main_arg6 main_v10 ((transpose S128x2048 [1, 0] · transposes_S2048x128_S128x2048_1_0) : (⟨S2048x128, .f32⟩ : BufTy).Contents (Elt F) → (⟨S128x2048, .f32⟩ : BufTy).Contents (Elt F))),
   (StableHlo.unary main_arg7 main_v11 ((transpose S512x2048 [1, 0] · transposes_S2048x512_S512x2048_1_0) : (⟨S2048x512, .f32⟩ : BufTy).Contents (Elt F) → (⟨S512x2048, .f32⟩ : BufTy).Contents (Elt F))),
   (StableHlo.binary main_v10 main_v11 main_v12 ((fun a b => concatenate S640x2048 0 [⟨S128x2048, a⟩, ⟨S512x2048, b⟩] concatenates_S128x2048_S512x2048_S640x2048_d0) : (⟨S128x2048, .f32⟩ : BufTy).Contents (Elt F) → (⟨S512x2048, .f32⟩ : BufTy).Contents (Elt F) → (⟨S640x2048, .f32⟩ : BufTy).Contents (Elt F))),
   (StableHlo.unary main_v12 main_v13 ((truncf .bf16 · bitsLt_bf16_f32) : (⟨S640x2048, .f32⟩ : BufTy).Contents (Elt F) → (⟨S640x2048, .bf16⟩ : BufTy).Contents (Elt F))),
   (StableHlo.binary main_arg4 main_arg5 main_v14 (addf : (⟨S2048, .f32⟩ : BufTy).Contents (Elt F) → (⟨S2048, .f32⟩ : BufTy).Contents (Elt F) → (⟨S2048, .f32⟩ : BufTy).Contents (Elt F))),
   (StableHlo.reshape main_v14 main_v15 (rfl : (.f32 : EltTy) = .f32) shapeCasts_S2048_S1x2048),
   (StableHlo.binary main_arg8 main_arg9 main_v16 (addf : (⟨S2048, .f32⟩ : BufTy).Contents (Elt F) → (⟨S2048, .f32⟩ : BufTy).Contents (Elt F) → (⟨S2048, .f32⟩ : BufTy).Contents (Elt F))),
   (StableHlo.reshape main_v16 main_v17 (rfl : (.f32 : EltTy) = .f32) shapeCasts_S2048_S1x2048)]

/-- The host lines before the second layer: its weights and biases. -/
def ops3 : List (HloOp τ sig (Elt F)) :=
  [(StableHlo.unary main_arg10 main_v19 ((transpose S1024x2048 [1, 0] · transposes_S2048x1024_S1024x2048_1_0) : (⟨S2048x1024, .f32⟩ : BufTy).Contents (Elt F) → (⟨S1024x2048, .f32⟩ : BufTy).Contents (Elt F))),
   (StableHlo.unary main_arg11 main_v20 ((transpose S512x2048 [1, 0] · transposes_S2048x512_S512x2048_1_0) : (⟨S2048x512, .f32⟩ : BufTy).Contents (Elt F) → (⟨S512x2048, .f32⟩ : BufTy).Contents (Elt F))),
   (StableHlo.binary main_v19 main_v20 main_v21 ((fun a b => concatenate S1536x2048 0 [⟨S1024x2048, a⟩, ⟨S512x2048, b⟩] concatenates_S1024x2048_S512x2048_S1536x2048_d0) : (⟨S1024x2048, .f32⟩ : BufTy).Contents (Elt F) → (⟨S512x2048, .f32⟩ : BufTy).Contents (Elt F) → (⟨S1536x2048, .f32⟩ : BufTy).Contents (Elt F))),
   (StableHlo.unary main_v21 main_v22 ((truncf .bf16 · bitsLt_bf16_f32) : (⟨S1536x2048, .f32⟩ : BufTy).Contents (Elt F) → (⟨S1536x2048, .bf16⟩ : BufTy).Contents (Elt F))),
   (StableHlo.unary main_arg14 main_v23 ((transpose S1024x2048 [1, 0] · transposes_S2048x1024_S1024x2048_1_0) : (⟨S2048x1024, .f32⟩ : BufTy).Contents (Elt F) → (⟨S1024x2048, .f32⟩ : BufTy).Contents (Elt F))),
   (StableHlo.unary main_arg15 main_v24 ((transpose S512x2048 [1, 0] · transposes_S2048x512_S512x2048_1_0) : (⟨S2048x512, .f32⟩ : BufTy).Contents (Elt F) → (⟨S512x2048, .f32⟩ : BufTy).Contents (Elt F))),
   (StableHlo.binary main_v23 main_v24 main_v25 ((fun a b => concatenate S1536x2048 0 [⟨S1024x2048, a⟩, ⟨S512x2048, b⟩] concatenates_S1024x2048_S512x2048_S1536x2048_d0) : (⟨S1024x2048, .f32⟩ : BufTy).Contents (Elt F) → (⟨S512x2048, .f32⟩ : BufTy).Contents (Elt F) → (⟨S1536x2048, .f32⟩ : BufTy).Contents (Elt F))),
   (StableHlo.unary main_v25 main_v26 ((truncf .bf16 · bitsLt_bf16_f32) : (⟨S1536x2048, .f32⟩ : BufTy).Contents (Elt F) → (⟨S1536x2048, .bf16⟩ : BufTy).Contents (Elt F))),
   (StableHlo.binary main_arg12 main_arg13 main_v27 (addf : (⟨S2048, .f32⟩ : BufTy).Contents (Elt F) → (⟨S2048, .f32⟩ : BufTy).Contents (Elt F) → (⟨S2048, .f32⟩ : BufTy).Contents (Elt F))),
   (StableHlo.reshape main_v27 main_v28 (rfl : (.f32 : EltTy) = .f32) shapeCasts_S2048_S1x2048),
   (StableHlo.binary main_arg16 main_arg17 main_v29 (addf : (⟨S2048, .f32⟩ : BufTy).Contents (Elt F) → (⟨S2048, .f32⟩ : BufTy).Contents (Elt F) → (⟨S2048, .f32⟩ : BufTy).Contents (Elt F))),
   (StableHlo.reshape main_v29 main_v30 (rfl : (.f32 : EltTy) = .f32) shapeCasts_S2048_S1x2048),
   (StableHlo.reshape main_arg19 main_v31 (rfl : (.f32 : EltTy) = .f32) shapeCasts_S1_S1x1)]

/-- @main, its host lines grouped. -/
theorem main_eq (d : Dev nD) : main (F := F) d = StableHlo.seq ops1 >>= fun _ => sc.run d 0 >>= fun _ => StableHlo.seq ops2 >>= fun _ =>
    Prog.lift (.customCall (SparseCore.inner (Pipeline.entry 0)) ()) >>= fun _ => StableHlo.seq ops3 >>= fun _ =>
    Prog.lift (.customCall (SparseCore.inner (Pipeline.entry 1)) ()) := by
  simp only [main, ops1, ops2, ops3, StableHlo.seq, bind_assoc, pure_bind]
  rfl

theorem ops1_sub : ∀ op ∈ (ops1 : List (HloOp τ sig (Elt F))), op.bufs ⊆ ucRefs τ sig := fun op h => Pipeline.sub_ucRefs op
  ((List.forall_iff_forall_mem.mp (by simp [ops1] : (ops1 : List (HloOp τ sig (Elt F))).Forall fun op => op.bufs ⊆ StableHlo.tcRefs τ sig)) op h)
theorem ops2_sub : ∀ op ∈ (ops2 : List (HloOp τ sig (Elt F))), op.bufs ⊆ ucRefs τ sig := fun op h => Pipeline.sub_ucRefs op
  ((List.forall_iff_forall_mem.mp (by simp [ops2] : (ops2 : List (HloOp τ sig (Elt F))).Forall fun op => op.bufs ⊆ StableHlo.tcRefs τ sig)) op h)
theorem ops3_sub : ∀ op ∈ (ops3 : List (HloOp τ sig (Elt F))), op.bufs ⊆ ucRefs τ sig := fun op h => Pipeline.sub_ucRefs op
  ((List.forall_iff_forall_mem.mp (by simp [ops3] : (ops3 : List (HloOp τ sig (Elt F))).Forall fun op => op.bufs ⊆ StableHlo.tcRefs τ sig)) op h)

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

/-! ## The buffers along the run -/

variable (m : (ℓ : Loc nD τ sig) → Buf (Elt F) ℓ) (ρ : Dev nD → PrngReg)

/-- Before the SparseCore call. -/
def V1 (d : Dev nD) : Valuation τ sig (Elt F) := StableHlo.after ops1 (StableHlo.launchContents m d)

/-- What the call reads and what its result held. -/
def fI (d : Dev nD) : Buf (Elt F) (iLoc d) := V1 m d (Proc.devRef .tc main_v3)
def fX (d : Dev nD) : Buf (Elt F) (xLoc d) := V1 m d (Proc.devRef .tc main_arg1)
def f₀ (d : Dev nD) : Buf (Elt F) (oLoc d) := V1 m d (Proc.devRef .tc main_v4)

open Classical in
/-- After it: its result gathered. -/
def V2 (d : Dev nD) : Valuation τ sig (Elt F) := Function.update (V1 m d) (Proc.devRef .tc main_v4) (gathD (fI m) (fX m) d)
/-- Before the first layer, -/
def V3 (d : Dev nD) : Valuation τ sig (Elt F) := StableHlo.after ops2 (V2 m d)
/-- after it, -/
def V4 (d : Dev nD) : Valuation τ sig (Elt F) := after1 (V3 m) d
/-- before the second, -/
def V5 (d : Dev nD) : Valuation τ sig (Elt F) := StableHlo.after ops3 (V4 m d)
/-- and at the end. -/
def V6 (d : Dev nD) : Valuation τ sig (Elt F) := after2 (V5 m) d

/-- The three buffers of the SparseCore call. -/
def callRefs : Finset (DevRef τ sig) := {Proc.devRef .tc main_v3, Proc.devRef .tc main_arg1, Proc.devRef .tc main_v4}

theorem mem_uc (b : Ref sig .tc) (hb : b.isScoped = false) : (Proc.devRef .tc b : DevRef τ sig) ∈ ucRefs τ sig :=
  Finset.mem_filter.mpr ⟨StableHlo.devRef_mem_tcRefs b, by rw [Proc.isScoped_devRef, hb]; exact Bool.false_ne_true⟩

theorem callRefs_sub : callRefs ⊆ ucRefs τ sig := by
  intro b hb
  rcases Finset.mem_insert.mp hb with rfl | hb
  · exact mem_uc _ rfl
  rcases Finset.mem_insert.mp hb with rfl | hb
  · exact mem_uc _ rfl
  · rw [Finset.mem_singleton.mp hb]; exact mem_uc _ rfl

theorem held_call (d : Dev nD) (V : Valuation τ sig (Elt F)) : (StableHlo.held (d.tc : Thread nD τ) callRefs V : sProp 𝕄)
    = iprop((iLoc d ↦{fullShare} V (Proc.devRef .tc main_v3)) ∗ (xLoc d ↦{fullShare} V (Proc.devRef .tc main_arg1)) ∗ oLoc d ↦{fullShare} V (Proc.devRef .tc main_v4)) := by
  unfold StableHlo.held callRefs
  rw [SparseCore.bigSep_insert' (by decide), SparseCore.bigSep_insert' (by decide), bigSep_singleton]

theorem V2_v4 (d : Dev nD) : V2 m d (Proc.devRef .tc main_v4) = gathD (fI m) (fX m) d := by
  unfold V2; exact Function.update_self _ _ _
theorem V2_ne (d : Dev nD) (b : DevRef τ sig) (hb : b ≠ Proc.devRef .tc main_v4) : V2 m d b = V1 m d b := by
  unfold V2; exact Function.update_of_ne hb _ _

/-- Into the call: its operands and its result out of the unscoped buffers. -/
theorem call_in (d : Dev nD) : (StableHlo.held (d.tc : Thread nD τ) (ucRefs τ sig) (V1 m d) : sProp 𝕄)
    = iprop(callPts (fI m) (fX m) d (f₀ m d) ∗ StableHlo.held (d.tc : Thread nD τ) (ucRefs τ sig \ callRefs) (V1 m d)) := by
  rw [StableHlo.held_sub_split _ callRefs_sub, held_call]; rfl

/-- Out of it. -/
theorem call_out (d : Dev nD) : (StableHlo.held (d.tc : Thread nD τ) (ucRefs τ sig) (V2 m d) : sProp 𝕄)
    = iprop(callPts (fI m) (fX m) d (gathD (fI m) (fX m) d) ∗ StableHlo.held (d.tc : Thread nD τ) (ucRefs τ sig \ callRefs) (V1 m d)) := by
  rw [StableHlo.held_sub_split _ callRefs_sub, held_call, V2_v4, V2_ne m d _ (by decide), V2_ne m d _ (by decide),
    StableHlo.held_congr _ (V := V2 m d) (V' := V1 m d) fun b hb => V2_ne m d b fun e => (Finset.mem_sdiff.mp hb).2 (by rw [e]; decide)]
  rfl

theorem st_eq (d : Dev nD) : (bigSep Finset.univ fun c : Fin ((K (F := F)).nCore 0) => (P (fI m) (fX m) (f₀ m)).st 0 d c)
    = callPts (fI m) (fX m) d (f₀ m d) := bigSep_univ_of_subsingleton (0 : Fin 1)
theorem dn_eq (d : Dev nD) : (bigSep Finset.univ fun c : Fin ((K (F := F)).nCore 0) => (P (fI m) (fX m) (f₀ m)).dn 0 d c)
    = callPts (fI m) (fX m) d (gathD (fI m) (fX m) d) := bigSep_univ_of_subsingleton (0 : Fin 1)

/-! ## The owed units between the calls -/

theorem below (thr : Thread nD τ) (W : Waits sig (HIx 1)) : (K (F := F)).WBelow thr W (8 * 1) := by
  intro p _
  have hp : ∀ g : GSem nD τ sig, (K (F := F)).place g ≤ 6 := by
    intro g
    unfold SparseCore.Cfg.place
    split <;> (try split_ifs) <;> omega
  rcases p with ⟨s, _ | q⟩
  · exact Nat.zero_le _
  · have hq : q.val = 0 := by omega
    show 8 * q.val + (K (F := F)).place (thr, s) + 1 ≤ 8 * 1
    have := hp (thr, s)
    omega

/-- The TensorCore's handshake state after the call, its owed units apart. -/
def doneSt (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_split (d : Dev nD) : ((K (F := F)).tcSt EH d 1 : sProp 𝕄) ⊢ iprop(settled d ∗ doneSt d) := by
  unfold SparseCore.Cfg.tcSt settled doneSt
  rw [(K (F := F)).Otc_end d (le_refl 1)]
  iintro ⟨⟨%W, -, HO⟩, H⟩
  isplitl [HO]
  · iexists W; iexact HO
  iexact H

theorem tcSt_join (d : Dev nD) : iprop(settled d ∗ doneSt d) ⊢ ((K (F := F)).tcSt EH d 1 : sProp 𝕄) := by
  unfold SparseCore.Cfg.tcSt settled doneSt
  rw [(K (F := F)).Otc_end d (le_refl 1)]
  iintro ⟨⟨%W, HO⟩, H⟩
  isplitl [HO]
  · iexists W
    isplitr; · ipureintro; exact below _ _
    iexact HO
  iexact H

/-! ## @main -/

variable [∀ e, Nonempty (Elt F e)]

/-- Both regions' ghost state. -/
def ghosts (d : Dev nD) : sProp 𝕄 := iprop(ghost 0 d ∗ ghost 1 d)

theorem hmain (κ : GSem nD τ sig → ℕ) (d : Dev nD) :
    iprop((K (F := F)).ctx EH (P (fI m) (fX m) (f₀ m)) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ StableHlo.held (d.tc : Thread nD τ) (ucRefs τ sig) (V6 m d) ∗ (K (F := F)).tcEnd d) := by
  rw [main_eq]
  unfold SparseCore.Cfg.tcRes SparseCore.Cfg.tcEnd ghosts
  rw [show (unscopedBufs d (fun b => m ((SparseCore.T d).loc b)) : sProp 𝕄) = StableHlo.held (d.tc : Thread nD τ) (ucRefs τ sig) (StableHlo.launchContents m d)
    from Pipeline.unscopedBufs_held (Ix := HIx 1) (Name := ℕ) (U := UU) (Lvl := ℕ) d (StableHlo.launchContents m d)]
  iintro ⟨#Hctx, Hst, ⟨Hb, Hh, Hts, -⟩, Hg0, Hg1⟩
  ihave #Hlev := (SparseCore.Cfg.ctx_levAts κ) $$ Hctx
  iapply (StableHlo.wp_seq (defs := (K (F := F)).defs (D (F := F))) 𝒱 none Set.univ d (ucRefs τ sig) _ ops1 ops1_sub ops1_fresh (StableHlo.launchContents m d)) $$ [Hb Hh]
  · isplitl [Hb] <;> iassumption
  iintro ⟨Hb, Hh⟩
  ihave Hh := (Entails.of_eq (show StableHlo.held (d.tc : Thread nD τ) (ucRefs τ sig) (StableHlo.after ops1 (StableHlo.launchContents m d)) = _ from call_in m d)) $$ Hh
  icases Hh with ⟨Hc, Hh⟩
  iapply (Entails.of_eq (wp_bind _ _ _ _ _ _).symm)
  iapply ((K (F := F)).wp_run (D (F := F)) 𝒱 (EH := EH) (P := P (fI m) (fX m) (f₀ m)) κ d 0)
  isplitr; · iexact Hctx
  isplitl [Hst]; · iexact Hst
  isplitl [Hc]
  · rw [st_eq]; iexact Hc
  iintro ⟨Hst, Hdn⟩
  ihave Hdn := (Entails.of_eq (dn_eq m d)) $$ Hdn
  ihave Hst := (show (K (F := F)).tcSt EH d ((0 : Fin 1).val + 1) ⊢ iprop(settled d ∗ doneSt d) from tcSt_split d) $$ Hst
  icases Hst with ⟨Ho, Hst⟩
  ihave Hh := (Entails.of_eq (call_out m d).symm) $$ [Hdn Hh]
  · isplitl [Hdn] <;> iassumption
  iapply (StableHlo.wp_seq (defs := (K (F := F)).defs (D (F := F))) 𝒱 none Set.univ d (ucRefs τ sig) _ ops2 ops2_sub ops2_fresh (V2 m d)) $$ [Hb Hh]
  · isplitl [Hb] <;> iassumption
  iintro ⟨Hb, Hh⟩
  iapply (Entails.of_eq (wp_bind _ _ _ _ _ _).symm)
  iapply (wp_region1 (V3 m) d)
  isplitr [Hb Hh Ho Hg0]
  · iintro ⟨Hb, Hh, Ho⟩
    iapply (StableHlo.wp_seq (defs := (K (F := F)).defs (D (F := F))) 𝒱 none Set.univ d (ucRefs τ sig) _ ops3 ops3_sub ops3_fresh (V4 m d)) $$ [Hb Hh]
    · isplitl [Hb]; · iexact Hb
      iapply (show StableHlo.held (d.tc : Thread nD τ) (ucRefs τ sig) (after1 (V3 m) d) ⊢ (StableHlo.held (d.tc : Thread nD τ) (ucRefs τ sig) (V4 m d) : sProp 𝕄) from BI.Entails.refl _)
      iexact Hh
    iintro ⟨Hb, Hh⟩
    iapply (wp_region2 (V5 m) d)
    isplitr [Hb Hh Ho Hg1]
    · iintro ⟨Hb, Hh, Ho⟩
      isplitl [Ho Hst]
      · iapply (tcSt_join d)
        isplitl [Ho] <;> iassumption
      isplitl [Hh]; · iexact Hh
      isplitl [Hb]; · iexact Hb
      iexact Hts
    isplitl [Hb]; · iexact Hb
    isplitl [Hh]; · iexact Hh
    isplitl [Ho]; · iexact Ho
    isplitr; · iexact Hlev
    iexact Hg1
  isplitl [Hb]; · iexact Hb
  isplitl [Hh]; · iexact Hh
  isplitl [Ho]; · iexact Ho
  isplitr; · iexact Hlev
  iexact Hg0

end Cert.Proof

end
-- ==== Proof.Launch.lean ====
/-
  The kernel's whole run: the launch's ghost state dealt out, and every unscoped buffer of each device read at the end.
-/
module

public import proofs.«01_k».proof.Proof.Main

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg pin ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipelines' part of the launch element. -/
def uP : UP := initOf (Pipeline.cells (pin (pcfgs (F := F)) adm) phinj) (Pipeline.launchToks (pin (pcfgs (F := F)) adm) phinj)

/-- The launch element: the handshakes' rounds, the pipelines' rounds. -/
def u₀ : UU := (initOf (K (F := F)).hsCells (K (F := F)).hsToks, (uP (F := F), 1))

theorem own_parts : (ownU (u₀ (F := F)) : sProp 𝕄) ⊢ iprop(BI.own (EH (initOf (K (F := F)).hsCells (K (F := F)).hsToks)) ∗ BI.own (EP (uP (F := F)))) := by
  unfold u₀
  iintro Hu
  ihave H := (ownU_pair (initOf (K (F := F)).hsCells (K (F := F)).hsToks) ((uP (F := F), 1) : UP × Counters)) $$ Hu
  icases H with ⟨HH, HR⟩
  isplitl [HH]; · iexact HH
  ihave H := (own_pair_emb (embR : Emb (UP × Counters) 𝕄) (uP (F := F)) (1 : Counters)) $$ HR
  icases H with ⟨H, -⟩
  iexact H

theorem ghosts_eq : (bigSep Finset.univ fun d : Dev nD => (ghosts d : sProp 𝕄))
    = iprop((bigSep Finset.univ fun d : Dev nD => bigSep Finset.univ fun p => Pipeline.cellsGhost (pin (pcfgs (F := F)) adm) EP p d)
        ∗ bigSep Finset.univ fun d : Dev nD => bigSep Finset.univ fun p => Pipeline.toksInit (pin (pcfgs (F := F)) adm) EP p d) := by
  rw [← bigSep_sep']
  refine bigSep_congr fun d _ => ?_
  rw [← bigSep_sep']
  unfold ghosts
  exact (bigSep_univ_eq_bigSepL [(0 : Fin 2), (1 : Fin 2)] (by decide) (by decide) fun p => (ghost p d : sProp 𝕄)).symm

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (fI m) (fX m) (f₀ m)).x q thr) := by
  iintro Hu
  ihave H := own_parts $$ Hu
  icases H with ⟨HH, HP⟩
  unfold uP
  imod (Pipeline.fund_ghost (pin (pcfgs (F := F)) adm) EP phinj) $$ HP with HP
  imodintro
  isplitl [HH]; · iexact HH
  isplitl [HP]
  · rw [ghosts_eq]; iexact HP
  rw [show (bigSep Finset.univ fun thr : Thread nD τ => bigSep Finset.univ fun q : Fin 1 => (P (F := F) (fI m) (fX m) (f₀ m)).x q thr) = bigSep Finset.univ fun _ => iprop(emp) from
    bigSep_congr fun _ _ => bigSep_univ_of_subsingleton (0 : Fin 1),
    show (bigSep (Finset.univ : Finset (Thread nD τ)) fun _ => (iprop(emp) : sProp 𝕄)) = iprop(emp) from bigSep_emp_const _]
  iempintro

/-- What the final memory holds on device `d`. -/
def fq (d : Dev nD) (s' : Phys nD τ sig (Elt F)) : Prop := ∀ b : Ref sig .tc, b.isScoped = false →
  s'.mem.mem ((d.tc : Thread nD τ).loc b) = V6 m d (Proc.devRef .tc b)

theorem hfin (d : Dev nD) (s' : Phys nD τ sig (Elt F)) :
    iprop(StableHlo.held (d.tc : Thread nD τ) (ucRefs τ sig) (V6 m d) ∗ SI s') ⊢ (⌜fq m d s'⌝ : sProp 𝕄) := by
  unfold StableHlo.held
  iintro H
  ihave H := (pointsTo_read_all (ucRefs τ sig) (fun b => ((d.tc : Thread nD τ).1, b)) (V6 m d) s') $$ H
  icases H with ⟨%h, -⟩
  ipureintro
  exact fun b hb => h (Proc.devRef .tc b) (mem_uc b hb)

/-- The run's result: every unscoped buffer at the final valuation, every counter zero. -/
def QC : PUnit × MemSt nD τ sig (Elt F) → Prop := fun r =>
  (∀ (d : Dev nD) (b : Ref sig .tc), b.isScoped = false → r.2.mem ((d.tc : Thread nD τ).loc b) = V6 m d (Proc.devRef .tc b)) ∧ r.2.sem = fun _ => 0

theorem run_main [∀ e, Nonempty (Elt F e)] (hI : ∀ d j, ((fI m d : S1x102400.Idx → Elt F .i32) j).toNat < 100000) :
    θ_run (defs (F := F)) (threads (F := F)) ⟨m, fun _ => 0, ρ⟩ (QC m) :=
  SparseCore.Cfg.θ_run_sc_quiescent (K := K (F := F)) (D := D (F := F)) (𝒱 := 𝒱) (EH := EH) (P := P (fI m) (fX m) (f₀ m)) (A := ∅) facts v₀
    (fun q hq => match q with | 0 => nomatch hq)
    (fun q _ => match q with | 0 => tileObl (fI m) (fX m) (f₀ m) facts hI)
    (fun q _ => match q with | 0 => SparseCore.Cfg.VecSplit.of_plain (vecSplit (fI m) (fX m) (f₀ m)))
    m ρ main ghosts (fun d => StableHlo.held (d.tc : Thread nD τ) (ucRefs τ sig) (V6 m d)) (u₀ (F := F)) (sep_elim_left.trans (hu₀ m)) (hmain m ρ)
    (fq m) (hfin m) (QC m) (fun _ h hz => ⟨h, hz⟩)

end Cert.Proof

end
-- ==== Proof.KFrame.lean ====
/-
  What the kernel's run leaves in the argument arrays and in its result, and the range of the token list.
-/
module

public import proofs.«01_k».proof.Proof.Launch
public import proofs.«01_k».proof.Pre_tokens_in_vocab_Kernel

@[expose] public section

set_option maxRecDepth 16384

noncomputable section

namespace Cert.Proof

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-! ## What each line writes -/

theorem ops1_keep (V : Valuation τ sig (Elt F)) {r : Ref sig .tc} (hr : r ∉ [main_v1, main_v2, main_v3]) :
    StableHlo.after ops1 V (Proc.devRef .tc r) = V (Proc.devRef .tc r) :=
  StableHlo.after_of_writes_sub ops1 V (StableHlo.forall_writes_sub_of_map rfl) hr
theorem ops2_keep (V : Valuation τ sig (Elt F)) {r : Ref sig .tc}
    (hr : r ∉ [main_v5, main_v6, main_v7, main_v8, main_v9, main_v10, main_v11, main_v12, main_v13, main_v14, main_v15, main_v16, main_v17]) :
    StableHlo.after ops2 V (Proc.devRef .tc r) = V (Proc.devRef .tc r) :=
  StableHlo.after_of_writes_sub ops2 V (StableHlo.forall_writes_sub_of_map rfl) hr
theorem ops3_keep (V : Valuation τ sig (Elt F)) {r : Ref sig .tc}
    (hr : r ∉ [main_v19, main_v20, main_v21, main_v22, main_v23, main_v24, main_v25, main_v26, main_v27, main_v28, main_v29, main_v30, main_v31]) :
    StableHlo.after ops3 V (Proc.devRef .tc r) = V (Proc.devRef .tc r) :=
  StableHlo.after_of_writes_sub ops3 V (StableHlo.forall_writes_sub_of_map rfl) hr

theorem isOut1 : ∀ w : Fin 8, (spec1 w).isOut = true → Pipeline.arrRef spec1 w = main_v18_0 ∨ Pipeline.arrRef spec1 w = main_v18_1 := by decide
theorem isOut2 : ∀ w : Fin 11, (spec2 w).isOut = true → Pipeline.arrRef spec2 w = main_v32 := by decide

theorem after1_keep (V : Dev nD → Valuation τ sig (Elt F)) (c : Dev nD) {b : Ref sig .tc} (h0 : b ≠ main_v18_0) (h1 : b ≠ main_v18_1) :
    after1 V c (Proc.devRef .tc b) = V c (Proc.devRef .tc b) := by
  by_cases h : ∃ w, Pipeline.arrRef spec1 w = b
  · obtain ⟨w, rfl⟩ := h
    rw [after1_arr]
    have hw : (spec1 w).isOut = false := by
      cases e : (spec1 w).isOut with
      | false => rfl
      | true => exact absurd (isOut1 w e) (by rintro (e | e); exacts [h0 e, h1 e])
    exact ((dat1 (vals V) c).arrAt_in w hw cfg1.N).trans rfl
  · exact after1_ne V c b fun w e => h ⟨w, e⟩

theorem after2_keep (V : Dev nD → Valuation τ sig (Elt F)) (c : Dev nD) {b : Ref sig .tc} (h0 : b ≠ main_v32) :
    after2 V c (Proc.devRef .tc b) = V c (Proc.devRef .tc b) := by
  by_cases h : ∃ w, Pipeline.arrRef spec2 w = b
  · obtain ⟨w, rfl⟩ := h
    rw [after2_arr]
    have hw : (spec2 w).isOut = false := by
      cases e : (spec2 w).isOut with
      | false => rfl
      | true => exact absurd (isOut2 w e) h0
    exact ((dat2 (vals V) c).arrAt_in w hw cfg2.N).trans rfl
  · exact after2_ne V c b fun w e => h ⟨w, e⟩

/-- Every buffer @main writes. -/
def wrote : List (Ref sig .tc) := [main_v1, main_v2, main_v3, main_v4, main_v5, main_v6, main_v7, main_v8, main_v9, main_v10, main_v11,
  main_v12, main_v13, main_v14, main_v15, main_v16, main_v17, main_v18_0, main_v18_1, main_v19, main_v20, main_v21, main_v22, main_v23,
  main_v24, main_v25, main_v26, main_v27, main_v28, main_v29, main_v30, main_v31, main_v32]

theorem V1_keep (d : Dev nD) {b : Ref sig .tc} (hb : b ∉ wrote) : V1 m d (Proc.devRef .tc b) = m ((d.tc : Thread nD τ).loc b) :=
  (ops1_keep _ fun h => hb (by revert h; simp only [wrote, List.mem_cons]; tauto)).trans rfl
theorem V2_keep (d : Dev nD) {b : Ref sig .tc} (hb : b ∉ wrote) : V2 m d (Proc.devRef .tc b) = m ((d.tc : Thread nD τ).loc b) :=
  (V2_ne m d _ fun e => hb (by rw [Proc.devRef_injective _ e]; decide)).trans (V1_keep m d hb)
theorem V3_keep (d : Dev nD) {b : Ref sig .tc} (hb : b ∉ wrote) : V3 m d (Proc.devRef .tc b) = m ((d.tc : Thread nD τ).loc b) :=
  (ops2_keep _ fun h => hb (by revert h; simp only [wrote, List.mem_cons]; tauto)).trans (V2_keep m d hb)
theorem V4_keep (d : Dev nD) {b : Ref sig .tc} (hb : b ∉ wrote) : V4 m d (Proc.devRef .tc b) = m ((d.tc : Thread nD τ).loc b) :=
  (after1_keep (V3 m) d (fun e => hb (by rw [e]; decide)) (fun e => hb (by rw [e]; decide))).trans (V3_keep m d hb)
theorem V5_keep (d : Dev nD) {b : Ref sig .tc} (hb : b ∉ wrote) : V5 m d (Proc.devRef .tc b) = m ((d.tc : Thread nD τ).loc b) :=
  (ops3_keep _ fun h => hb (by revert h; simp only [wrote, List.mem_cons]; tauto)).trans (V4_keep m d hb)
theorem V6_keep (d : Dev nD) {b : Ref sig .tc} (hb : b ∉ wrote) : V6 m d (Proc.devRef .tc b) = m ((d.tc : Thread nD τ).loc b) :=
  (after2_keep (V5 m) d fun e => hb (by rw [e]; decide)).trans (V5_keep m d hb)

/-! ## The token list -/

/-- The list the SparseCore call reads: the tokens transposed, then as one row. -/
def tokRow (a : S512x200.Idx → Elt F .i32) : S1x102400.Idx → Elt F .i32 :=
  shapeCast S1x102400 (shapeCast S102400 (transpose S200x512 [1, 0] a transposes_S512x200_S200x512_1_0) shapeCasts_S200x512_S102400) shapeCasts_S102400_S1x102400

theorem fI_eq (d : Dev nD) : fI m d = tokRow (F := F) (m ((d.tc : Thread nD τ).loc main_arg0)) := by
  unfold fI V1 ops1
  after_results
  rfl

/-- An element of the token list is a token. -/
theorem fI_mem (d : Dev nD) (j : S1x102400.Idx) : ∃ i : S512x200.Idx, (fI m d : S1x102400.Idx → Elt F .i32) j = (m ((d.tc : Thread nD τ).loc main_arg0) : S512x200.Idx → Elt F .i32) i := by
  rw [fI_eq]
  exact ⟨_, rfl⟩

/-- The precondition on one device's tokens bounds every one of them. -/
theorem tok_lt [Cert.Pre_tokens_in_vocab_Kernel.Facts] {a0 : S512x200.Idx → Elt F .i32} {a1 a2 a3 a4 a5 a6 a7 a8 a9 a10 a11 a12 a13 a14 a15 a16 a17 a18 a19}
    (h : Cert.Pre_tokens_in_vocab_Kernel.fn (F := F) a0 a1 a2 a3 a4 a5 a6 a7 a8 a9 a10 a11 a12 a13 a14 a15 a16 a17 a18 a19 = fun _ => 1#1) (i : S512x200.Idx) :
    (a0 i).toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 100000#32) = 1#1 → v.toNat < 100000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h i
  simp only [Cert.Pre_tokens_in_vocab_Kernel.fn, andi, cmpi, broadcastInDim, constantI] at e
  exact key _ e

end Cert.Proof

end
-- ==== Proof.Frames.lean ====
/-
  The kernel's two frames: at both values of the floats the run leaves the twenty arguments as they were and every counter zero.
-/
module

public import proofs.«01_k».proof.Proof.KFrame
public import proofs.«01_k».proof.Proof.Gen.Kernel
public import proofs.«01_k».proof.Defs

@[expose] public section

set_option maxRecDepth 16384

noncomputable section

namespace Cert.Proof

open Cert.KernelIdeal Cert.KernelIdeal.Gen
open Idealize.ShloMosaic Idealize.ShloMosaic.TcCoe
open Idealize.SL.Sem

variable {F : FTy → Type} [FloatOps F]

/-- The run leaves argument `b` as it was. -/
theorem kept {m : (ℓ : Loc nD τ sig) → Buf (Elt F) ℓ} {r} (h : QC m r) (d : Dev nD) {b : Ref sig .tc} (hs : b.isScoped = false) (hb : b ∉ wrote) :
    r.2.mem ((d.tc : Thread nD τ).loc b) = m ((d.tc : Thread nD τ).loc b) :=
  (h.1 d b hs).trans (V6_keep m d hb)

/-- The range of the token list, from the precondition on each device's tokens. -/
theorem fI_lt {m : (ℓ : Loc nD τ sig) → Buf (Elt F) ℓ} (h : ∀ (d : Dev nD) (i : S512x200.Idx), ((m ((d.tc : Thread nD τ).loc main_arg0) : S512x200.Idx → Elt F .i32) i).toNat < 100000)
    (d : Dev nD) (j : S1x102400.Idx) : ((fI m d : S1x102400.Idx → Elt F .i32) j).toNat < 100000 := by
  obtain ⟨i, e⟩ := fI_mem m d j
  rw [e]
  exact h d i

/-- The frame at any values of the floats. -/
theorem frame_at [∀ e, Nonempty (Elt F e)] (m : (ℓ : Loc nD τ sig) → Buf (Elt F) ℓ) (ρ : Dev nD → PrngReg)
    (h : ∀ (d : Dev nD) (i : S512x200.Idx), ((m ((d.tc : Thread nD τ).loc main_arg0) : S512x200.Idx → Elt F .i32) i).toNat < 100000) :
    θ_run (defs (F := F)) (threads (F := F)) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19)) ∧ r.2.sem = fun _ => 0) :=
  (θ_run (defs (F := F)) _ _).mono (fun r h => ⟨fun d =>
    ⟨kept h d (b := main_arg0) rfl (by decide),
     kept h d (b := main_arg1) rfl (by decide),
     kept h d (b := main_arg2) rfl (by decide),
     kept h d (b := main_arg3) rfl (by decide),
     kept h d (b := main_arg4) rfl (by decide),
     kept h d (b := main_arg5) rfl (by decide),
     kept h d (b := main_arg6) rfl (by decide),
     kept h d (b := main_arg7) rfl (by decide),
     kept h d (b := main_arg8) rfl (by decide),
     kept h d (b := main_arg9) rfl (by decide),
     kept h d (b := main_arg10) rfl (by decide),
     kept h d (b := main_arg11) rfl (by decide),
     kept h d (b := main_arg12) rfl (by decide),
     kept h d (b := main_arg13) rfl (by decide),
     kept h d (b := main_arg14) rfl (by decide),
     kept h d (b := main_arg15) rfl (by decide),
     kept h d (b := main_arg16) rfl (by decide),
     kept h d (b := main_arg17) rfl (by decide),
     kept h d (b := main_arg18) rfl (by decide),
     kept h d (b := main_arg19) rfl (by decide)⟩, h.2⟩)
    (run_main (F := F) m ρ (fI_lt h))

theorem frame_ideal [Cert.Pre_tokens_in_vocab_Kernel.Facts] : Cert.quiescent_KernelIdeal := fun m ρ hpre =>
  frame_at (F := Ideal) m ρ fun d i => tok_lt (hpre d) i

end Cert.Proof

end
-- ==== Proof.KernelFrame.lean ====
/-
  The frame of the kernel as printed: its program is the ideal one's, so its run is the same run with the floats as bit patterns.
-/
module

public import proofs.«01_k».proof.Proof.Frames
public import proofs.«01_k».proof.Proof.Gen.Kernel

@[expose] public section

set_option maxRecDepth 16384
set_option maxHeartbeats 4000000

noncomputable section

namespace Cert.Proof

attribute [local instance] Cert.Kernel.Gen.facts

open Idealize.ShloMosaic Idealize.ShloMosaic.TcCoe
open Idealize.SL.Sem

/-- The two programs' kernel bodies are the same, label by label. -/
theorem defs₀_eq : (Cert.Kernel.defs₀ (F := Bits)) = Cert.KernelIdeal.defs₀ := by
  funext p ℓ a
  cases p <;> (fin_cases ℓ <;> rfl)

theorem defs_eq : (Cert.Kernel.defs (F := Bits)) = Cert.KernelIdeal.defs := by
  unfold Cert.Kernel.defs
  rw [defs₀_eq]
  rfl

theorem frame_kernel [Cert.Pre_tokens_in_vocab_Kernel.Facts] : Cert.quiescent_Kernel (hKernel := Cert.Kernel.Gen.facts) := fun m ρ hpre => by
  rw [defs_eq]
  exact frame_at (F := Bits) m ρ fun d i => tok_lt (F := Bits) (hpre d) i

end Cert.Proof

end
-- ==== Proof.RefOps.lean ====
/-
  The reference's lines as lists of operations: the five stretches of @main between its four scans, and each scan's condition and body.
-/
module

public import proofs.«01_k».proof.Proof.Gen.ReferenceIdeal
public import Idealize.ShloMosaic.Lib.StableHlo.RunLoop
public import Idealize.ShloMosaic.Lib.StableHlo.ReadAt

@[expose] public section

set_option maxRecDepth 16384

noncomputable section

namespace Cert.Proof.Ref

open Cert.ReferenceIdeal Cert.ReferenceIdeal.Gen
open Idealize.ShloMosaic Idealize.ShloMosaic.TcCoe

variable {F : FTy → Type} [FloatOps F]

/-- The programs of the reference. -/
abbrev RP (F : FTy → Type) [FloatOps F] (α : Type) := Idealize.SL.Sem.Prog (TpuEff nD τ sig (Elt F) (HostLoop.Sig (Pipeline.Sig Λ₀ (Fin 0) fun p => (pcfgs (F := F) p).Adm) 4) .tc) α

/-- @main's stretch 0. -/
def main0 : List (HloOp τ sig (Elt F)) :=
  [StableHlo.nullary main_call0_c ((constantI S_ 32 0#32) : (⟨S_, .i32⟩ : BufTy).Contents (Elt F)),
   StableHlo.unary main_call0_c main_call0_v0 ((broadcastInDim S1024x200 ![] bcast_S_S1024x200) : (⟨S_, .i32⟩ : BufTy).Contents (Elt F) → (⟨S1024x200, .i32⟩ : BufTy).Contents (Elt F)),
   StableHlo.binary main_arg0 main_call0_v0 main_call0_v1 ((cmpi .slt) : (⟨S1024x200, .i32⟩ : BufTy).Contents (Elt F) → (⟨S1024x200, .i32⟩ : BufTy).Contents (Elt F) → (⟨S1024x200, .i1⟩ : BufTy).Contents (Elt F)),
   StableHlo.nullary main_call0_c_0 ((constantI S_ 32 100000#32) : (⟨S_, .i32⟩ : BufTy).Contents (Elt F)),
   StableHlo.unary main_call0_c_0 main_call0_v2 ((broadcastInDim S1024x200 ![] bcast_S_S1024x200) : (⟨S_, .i32⟩ : BufTy).Contents (Elt F) → (⟨S1024x200, .i32⟩ : BufTy).Contents (Elt F)),
   StableHlo.binary main_arg0 main_call0_v2 main_call0_v3 (addi : (⟨S1024x200, .i32⟩ : BufTy).Contents (Elt F) → (⟨S1024x200, .i32⟩ : BufTy).Contents (Elt F) → (⟨S1024x200, .i32⟩ : BufTy).Contents (Elt F)),
   StableHlo.ternary main_call0_v1 main_call0_v3 main_arg0 main_call0_v4 (select : (⟨S1024x200, .i1⟩ : BufTy).Contents (Elt F) → (⟨S1024x200, .i32⟩ : BufTy).Contents (Elt F) → (⟨S1024x200, .i32⟩ : BufTy).Contents (Elt F) → (⟨S1024x200, .i32⟩ : BufTy).Contents (Elt F)),
   StableHlo.unary main_call0_v4 main_call0_v5 ((broadcastInDim S1024x200x1 ![0, 1] bcast_S1024x200_S1024x200x1_0_1) : (⟨S1024x200, .i32⟩ : BufTy).Contents (Elt F) → (⟨S1024x200x1, .i32⟩ : BufTy).Contents (Elt F)),
   StableHlo.nullary main_call0_c_1 ((constantI S1 32 99999#32) : (⟨S1, .i32⟩ : BufTy).Contents (Elt F)),
   StableHlo.nullary main_call0_c_2 ((constantI S_ 32 0#32) : (⟨S_, .i32⟩ : BufTy).Contents (Elt F)),
   StableHlo.unary main_call0_c_2 main_call0_v6 ((broadcastInDim S1024x200x1 ![] bcast_S_S1024x200x1) : (⟨S_, .i32⟩ : BufTy).Contents (Elt F) → (⟨S1024x200x1, .i32⟩ : BufTy).Contents (Elt F)),
   StableHlo.binary main_call0_v5 main_call0_v6 main_call0_v7 ((cmpi .sge) : (⟨S1024x200x1, .i32⟩ : BufTy).Contents (Elt F) → (⟨S1024x200x1, .i32⟩ : BufTy).Contents (Elt F) → (⟨S1024x200x1, .i1⟩ : BufTy).Contents (Elt F)),
   StableHlo.unary main_call0_c_1 main_call0_v8 ((broadcastInDim S1x1x1 ![2] bcast_S1_S1x1x1_2) : (⟨S1, .i32⟩ : BufTy).Contents (Elt F) → (⟨S1x1x1, .i32⟩ : BufTy).Contents (Elt F)),
   StableHlo.unary main_call0_v8 main_call0_v9 ((broadcastInDim S1024x200x1 ![0, 1, 2] bcast_S1x1x1_S1024x200x1_0_1_2) : (⟨S1x1x1, .i32⟩ : BufTy).Contents (Elt F) → (⟨S1024x200x1, .i32⟩ : BufTy).Contents (Elt F)),
   StableHlo.binary main_call0_v5 main_call0_v9 main_call0_v10 ((cmpi .sle) : (⟨S1024x200x1, .i32⟩ : BufTy).Contents (Elt F) → (⟨S1024x200x1, .i32⟩ : BufTy).Contents (Elt F) → (⟨S1024x200x1, .i1⟩ : BufTy).Contents (Elt F)),
   StableHlo.binary main_call0_v7 main_call0_v10 main_call0_v11 (andi : (⟨S1024x200x1, .i1⟩ : BufTy).Contents (Elt F) → (⟨S1024x200x1, .i1⟩ : BufTy).Contents (Elt F) → (⟨S1024x200x1, .i1⟩ : BufTy).Contents (Elt F)),
   StableHlo.nullary main_call0_c_3 ((constantI S_ 1 1#1) : (⟨S_, .i1⟩ : BufTy).Contents (Elt F)),
   StableHlo.binary main_call0_v11 main_call0_c_3 main_call0_v12 ((fun x v => Host.reduce IntOp.andi x v reducesTo_S1024x200x1_S1024x200_d2 h_S_) : (⟨S1024x200x1, .i1⟩ : BufTy).Contents (Elt F) → (⟨S_, .i1⟩ : BufTy).Contents (Elt F) → (⟨S1024x200, .i1⟩ : BufTy).Contents (Elt F)),
   StableHlo.binary main_arg1 main_call0_v5 main_call0_v13 ((fun x i => Host.gather gather_S100000x128_S1024x200x1_S1024x200x128_2_0_n_n_0_2_1128 x i) : (⟨S100000x128, .f32⟩ : BufTy).Contents (Elt F) → (⟨S1024x200x1, .i32⟩ : BufTy).Contents (Elt F) → (⟨S1024x200x128, .f32⟩ : BufTy).Contents (Elt F)),
   StableHlo.unary main_call0_v12 main_call0_v14 ((broadcastInDim S1024x200x128 ![0, 1] bcast_S1024x200_S1024x200x128_0_1) : (⟨S1024x200, .i1⟩ : BufTy).Contents (Elt F) → (⟨S1024x200x128, .i1⟩ : BufTy).Contents (Elt F)),
   StableHlo.nullary main_call0_cst ((constant S_ .f32 0x7FC00000#32) : (⟨S_, .f32⟩ : BufTy).Contents (Elt F)),
   StableHlo.unary main_call0_cst main_call0_v15 ((broadcastInDim S1024x200x128 ![] bcast_S_S1024x200x128) : (⟨S_, .f32⟩ : BufTy).Contents (Elt F) → (⟨S1024x200x128, .f32⟩ : BufTy).Contents (Elt F)),
   StableHlo.ternary main_call0_v14 main_call0_v13 main_call0_v15 main_v0 (select : (⟨S1024x200x128, .i1⟩ : BufTy).Contents (Elt F) → (⟨S1024x200x128, .f32⟩ : BufTy).Contents (Elt F) → (⟨S1024x200x128, .f32⟩ : BufTy).Contents (Elt F) → (⟨S1024x200x128, .f32⟩ : BufTy).Contents (Elt F)),
   StableHlo.unary main_v0 main_v1 ((transpose S200x1024x128 [1, 0, 2] · transposes_S1024x200x128_S200x1024x128_1_0_2) : (⟨S1024x200x128, .f32⟩ : BufTy).Contents (Elt F) → (⟨S200x1024x128, .f32⟩ : BufTy).Contents (Elt F)),
   StableHlo.binary main_arg4 main_arg5 main_v2 (addf : (⟨S2048, .f32⟩ : BufTy).Contents (Elt F) → (⟨S2048, .f32⟩ : BufTy).Contents (Elt F) → (⟨S2048, .f32⟩ : BufTy).Contents (Elt F)),
   StableHlo.nullary main_cst (constant S_ .f32 0x00000000#32),
   StableHlo.unary main_cst main_v3 (broadcastInDim S1024x512 ![] bcast_S_S1024x512 : (⟨S_, .f32⟩ : BufTy).Contents (Elt F) → (⟨S1024x512, .f32⟩ : BufTy).Contents (Elt F)),
   StableHlo.nullary main_cst_0 (constant S_ .f32 0x00000000#32),
   StableHlo.unary main_cst_0 main_v4 (broadcastInDim S1024x512 ![] bcast_S_S1024x512 : (⟨S_, .f32⟩ : BufTy).Contents (Elt F) → (⟨S1024x512, .f32⟩ : BufTy).Contents (Elt F)),
   StableHlo.nullary main_cst_1 (constant S_ .f32 0x00000000#32),
   StableHlo.unary main_cst_1 main_v5 (broadcastInDim S200x1024x512 ![] bcast_S_S200x1024x512 : (⟨S_, .f32⟩ : BufTy).Contents (Elt F) → (⟨S200x1024x512, .f32⟩ : BufTy).Contents (Elt F)),
   StableHlo.nullary main_c (constantI S_ 32 0#32),
   StableHlo.unary main_v1 main_v6_0 id,
   StableHlo.unary main_arg2 main_v6_1 id,
   StableHlo.unary main_arg3 main_v6_2 id,
   StableHlo.unary main_v2 main_v6_3 id,
   StableHlo.unary main_c main_v6_4 id,
   StableHlo.unary main_v3 main_v6_5 id,
   StableHlo.unary main_v4 main_v6_6 id,
   StableHlo.unary main_v5 main_v6_7 id]

/-- @main's stretch 1. -/
def main1 : List (HloOp τ sig (Elt F)) :=
  [StableHlo.binary main_arg8 main_arg9 main_v7 (addf : (⟨S2048, .f32⟩ : BufTy).Contents (Elt F) → (⟨S2048, .f32⟩ : BufTy).Contents (Elt F) → (⟨S2048, .f32⟩ : BufTy).Contents (Elt F)),
   StableHlo.nullary main_cst_2 (constant S_ .f32 0x00000000#32),
   StableHlo.unary main_cst_2 main_v8 (broadcastInDim S1024x512 ![] bcast_S_S1024x512 : (⟨S_, .f32⟩ : BufTy).Contents (Elt F) → (⟨S1024x512, .f32⟩ : BufTy).Contents (Elt F)),
   StableHlo.nullary main_cst_3 (constant S_ .f32 0x00000000#32),
   StableHlo.unary main_cst_3 main_v9 (broadcastInDim S1024x512 ![] bcast_S_S1024x512 : (⟨S_, .f32⟩ : BufTy).Contents (Elt F) → (⟨S1024x512, .f32⟩ : BufTy).Contents (Elt F)),
   StableHlo.nullary main_cst_4 (constant S_ .f32 0x00000000#32),
   StableHlo.unary main_cst_4 main_v10 (broadcastInDim S200x1024x512 ![] bcast_S_S200x1024x512 : (⟨S_, .f32⟩ : BufTy).Contents (Elt F) → (⟨S200x1024x512, .f32⟩ : BufTy).Contents (Elt F)),
   StableHlo.nullary main_c_5 (constantI S_ 32 0#32),
   StableHlo.unary main_v1 main_v11_0 id,
   StableHlo.unary main_arg6 main_v11_1 id,
   StableHlo.unary main_arg7 main_v11_2 id,
   StableHlo.unary main_v7 main_v11_3 id,
   StableHlo.unary main_c_5 main_v11_4 id,
   StableHlo.unary main_v8 main_v11_5 id,
   StableHlo.unary main_v9 main_v11_6 id,
   StableHlo.unary main_v10 main_v11_7 id]

/-- @main's stretch 2. -/
def main2 : List (HloOp τ sig (Elt F)) :=
  [StableHlo.binary main_v6_7 main_v11_7 main_v12 ((fun a b => concatenate S200x1024x1024 2 [⟨S200x1024x512, a⟩, ⟨S200x1024x512, b⟩] concatenates_S200x1024x512_S200x1024x512_S200x1024x1024_d2) : (⟨S200x1024x512, .f32⟩ : BufTy).Contents (Elt F) → (⟨S200x1024x512, .f32⟩ : BufTy).Contents (Elt F) → (⟨S200x1024x1024, .f32⟩ : BufTy).Contents (Elt F)),
   StableHlo.binary main_arg12 main_arg13 main_v13 (addf : (⟨S2048, .f32⟩ : BufTy).Contents (Elt F) → (⟨S2048, .f32⟩ : BufTy).Contents (Elt F) → (⟨S2048, .f32⟩ : BufTy).Contents (Elt F)),
   StableHlo.nullary main_cst_6 (constant S_ .f32 0x00000000#32),
   StableHlo.unary main_cst_6 main_v14 (broadcastInDim S1024x512 ![] bcast_S_S1024x512 : (⟨S_, .f32⟩ : BufTy).Contents (Elt F) → (⟨S1024x512, .f32⟩ : BufTy).Contents (Elt F)),
   StableHlo.nullary main_cst_7 (constant S_ .f32 0x00000000#32),
   StableHlo.unary main_cst_7 main_v15 (broadcastInDim S1024x512 ![] bcast_S_S1024x512 : (⟨S_, .f32⟩ : BufTy).Contents (Elt F) → (⟨S1024x512, .f32⟩ : BufTy).Contents (Elt F)),
   StableHlo.nullary main_cst_8 (constant S_ .f32 0x00000000#32),
   StableHlo.unary main_cst_8 main_v16 (broadcastInDim S200x1024x512 ![] bcast_S_S200x1024x512 : (⟨S_, .f32⟩ : BufTy).Contents (Elt F) → (⟨S200x1024x512, .f32⟩ : BufTy).Contents (Elt F)),
   StableHlo.nullary main_c_9 (constantI S_ 32 0#32),
   StableHlo.unary main_v12 main_v17_0 id,
   StableHlo.unary main_arg10 main_v17_1 id,
   StableHlo.unary main_arg11 main_v17_2 id,
   StableHlo.unary main_v13 main_v17_3 id,
   StableHlo.unary main_c_9 main_v17_4 id,
   StableHlo.unary main_v14 main_v17_5 id,
   StableHlo.unary main_v15 main_v17_6 id,
   StableHlo.unary main_v16 main_v17_7 id]

/-- @main's stretch 3. -/
def main3 : List (HloOp τ sig (Elt F)) :=
  [StableHlo.binary main_arg16 main_arg17 main_v18 (addf : (⟨S2048, .f32⟩ : BufTy).Contents (Elt F) → (⟨S2048, .f32⟩ : BufTy).Contents (Elt F) → (⟨S2048, .f32⟩ : BufTy).Contents (Elt F)),
   StableHlo.nullary main_cst_10 (constant S_ .f32 0x00000000#32),
   StableHlo.unary main_cst_10 main_v19 (broadcastInDim S1024x512 ![] bcast_S_S1024x512 : (⟨S_, .f32⟩ : BufTy).Contents (Elt F) → (⟨S1024x512, .f32⟩ : BufTy).Contents (Elt F)),
   StableHlo.nullary main_cst_11 (constant S_ .f32 0x00000000#32),
   StableHlo.unary main_cst_11 main_v20 (broadcastInDim S1024x512 ![] bcast_S_S1024x512 : (⟨S_, .f32⟩ : BufTy).Contents (Elt F) → (⟨S1024x512, .f32⟩ : BufTy).Contents (Elt F)),
   StableHlo.nullary main_cst_12 (constant S_ .f32 0x00000000#32),
   StableHlo.unary main_cst_12 main_v21 (broadcastInDim S200x1024x512 ![] bcast_S_S200x1024x512 : (⟨S_, .f32⟩ : BufTy).Contents (Elt F) → (⟨S200x1024x512, .f32⟩ : BufTy).Contents (Elt F)),
   StableHlo.nullary main_c_13 (constantI S_ 32 0#32),
   StableHlo.unary main_v12 main_v22_0 id,
   StableHlo.unary main_arg14 main_v22_1 id,
   StableHlo.unary main_arg15 main_v22_2 id,
   StableHlo.unary main_v18 main_v22_3 id,
   StableHlo.unary main_c_13 main_v22_4 id,
   StableHlo.unary main_v19 main_v22_5 id,
   StableHlo.unary main_v20 main_v22_6 id,
   StableHlo.unary main_v21 main_v22_7 id]

/-- @main's stretch 4. -/
def main4 : List (HloOp τ sig (Elt F)) :=
  [StableHlo.binary main_v17_5 main_v22_5 main_v23 ((fun a b => concatenate S1024x1024 1 [⟨S1024x512, a⟩, ⟨S1024x512, b⟩] concatenates_S1024x512_S1024x512_S1024x1024_d1) : (⟨S1024x512, .f32⟩ : BufTy).Contents (Elt F) → (⟨S1024x512, .f32⟩ : BufTy).Contents (Elt F) → (⟨S1024x1024, .f32⟩ : BufTy).Contents (Elt F)),
   StableHlo.unary main_arg18 main_v24 ((transpose S1024x1 [1, 0] · transposes_S1x1024_S1024x1_1_0) : (⟨S1x1024, .f32⟩ : BufTy).Contents (Elt F) → (⟨S1024x1, .f32⟩ : BufTy).Contents (Elt F)),
   StableHlo.binary main_v23 main_v24 main_v25 ((fun l r => Host.dotGeneral dot_S1024x1024_S1024x1_S1024x1_1_0_0_1_n_n none l r) : (⟨S1024x1024, .f32⟩ : BufTy).Contents (Elt F) → (⟨S1024x1, .f32⟩ : BufTy).Contents (Elt F) → (⟨S1024x1, .f32⟩ : BufTy).Contents (Elt F)),
   StableHlo.unary main_arg19 main_v26 (broadcastInDim S1x1 ![1] bcast_S1_S1x1_1 : (⟨S1, .f32⟩ : BufTy).Contents (Elt F) → (⟨S1x1, .f32⟩ : BufTy).Contents (Elt F)),
   StableHlo.unary main_v26 main_v27 (broadcastInDim S1024x1 ![0, 1] bcast_S1x1_S1024x1_0_1 : (⟨S1x1, .f32⟩ : BufTy).Contents (Elt F) → (⟨S1024x1, .f32⟩ : BufTy).Contents (Elt F)),
   StableHlo.binary main_v25 main_v27 main_v28 (addf : (⟨S1024x1, .f32⟩ : BufTy).Contents (Elt F) → (⟨S1024x1, .f32⟩ : BufTy).Contents (Elt F) → (⟨S1024x1, .f32⟩ : BufTy).Contents (Elt F)),
   StableHlo.unary main_v28 main_v29 (Host.negf : (⟨S1024x1, .f32⟩ : BufTy).Contents (Elt F) → (⟨S1024x1, .f32⟩ : BufTy).Contents (Elt F)),
   StableHlo.unary main_v29 main_v30 (Host.exp : (⟨S1024x1, .f32⟩ : BufTy).Contents (Elt F) → (⟨S1024x1, .f32⟩ : BufTy).Contents (Elt F)),
   StableHlo.nullary main_cst_14 (constant S_ .f32 0x3F800000#32),
   StableHlo.unary main_cst_14 main_v31 (broadcastInDim S1024x1 ![] bcast_S_S1024x1 : (⟨S_, .f32⟩ : BufTy).Contents (Elt F) → (⟨S1024x1, .f32⟩ : BufTy).Contents (Elt F)),
   StableHlo.binary main_v31 main_v30 main_v32 (addf : (⟨S1024x1, .f32⟩ : BufTy).Contents (Elt F) → (⟨S1024x1, .f32⟩ : BufTy).Contents (Elt F) → (⟨S1024x1, .f32⟩ : BufTy).Contents (Elt F)),
   StableHlo.nullary main_cst_15 (constant S_ .f32 0x3F800000#32),
   StableHlo.unary main_cst_15 main_v33 (broadcastInDim S1024x1 ![] bcast_S_S1024x1 : (⟨S_, .f32⟩ : BufTy).Contents (Elt F) → (⟨S1024x1, .f32⟩ : BufTy).Contents (Elt F)),
   StableHlo.binary main_v33 main_v32 main_v34 (Host.divf : (⟨S1024x1, .f32⟩ : BufTy).Contents (Elt F) → (⟨S1024x1, .f32⟩ : BufTy).Contents (Elt F) → (⟨S1024x1, .f32⟩ : BufTy).Contents (Elt F))]

/-- Scan 0's condition. -/
def cond0 : List (HloOp τ sig (Elt F)) :=
  [StableHlo.nullary main_while0c_c_23 (constantI S_ 32 200#32),
   StableHlo.binary main_v6_4 main_while0c_c_23 main_while0c_v35 (cmpi .slt : (⟨S_, .i32⟩ : BufTy).Contents (Elt F) → (⟨S_, .i32⟩ : BufTy).Contents (Elt F) → (⟨S_, .i1⟩ : BufTy).Contents (Elt F))]

/-- Scan 0's body up to the sum of the gates. -/
def gates0 : List (HloOp τ sig (Elt F)) :=
  [StableHlo.nullary main_while0b_call1_c ((constantI S_ 32 0#32) : (⟨S_, .i32⟩ : BufTy).Contents (Elt F)),
   StableHlo.nullary main_while0b_call1_c_0 ((constantI S_ 32 0#32) : (⟨S_, .i32⟩ : BufTy).Contents (Elt F)),
   StableHlo.TRef.unaryIndexed (.of main_v6_0 : StableHlo.TRef sig ⟨S200x1024x128, .f32⟩) ![(.of main_v6_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1024x128, .f32⟩) (fun x i => Host.dynamicSlice S1x1024x128 x (fun k => (i k (Shape.Idx.first h_S_)).toInt) sliceFits_S200x1024x128_S1x1024x128),
   StableHlo.reshape main_while0b_call1_v0 main_while0b_v35 (rfl : (.f32 : EltTy) = .f32) shapeCasts_S1x1024x128_S1024x128,
   StableHlo.unary main_v6_1 main_while0b_v36 ((transpose S128x2048 [1, 0] · transposes_S2048x128_S128x2048_1_0) : (⟨S2048x128, .f32⟩ : BufTy).Contents (Elt F) → (⟨S128x2048, .f32⟩ : BufTy).Contents (Elt F)),
   StableHlo.binary main_while0b_v35 main_while0b_v36 main_while0b_v37 ((fun l r => Host.dotGeneral dot_S1024x128_S128x2048_S1024x2048_1_0_0_1_n_n none l r) : (⟨S1024x128, .f32⟩ : BufTy).Contents (Elt F) → (⟨S128x2048, .f32⟩ : BufTy).Contents (Elt F) → (⟨S1024x2048, .f32⟩ : BufTy).Contents (Elt F)),
   StableHlo.unary main_v6_2 main_while0b_v38 ((transpose S512x2048 [1, 0] · transposes_S2048x512_S512x2048_1_0) : (⟨S2048x512, .f32⟩ : BufTy).Contents (Elt F) → (⟨S512x2048, .f32⟩ : BufTy).Contents (Elt F)),
   StableHlo.binary main_v6_5 main_while0b_v38 main_while0b_v39 ((fun l r => Host.dotGeneral dot_S1024x512_S512x2048_S1024x2048_1_0_0_1_n_n none l r) : (⟨S1024x512, .f32⟩ : BufTy).Contents (Elt F) → (⟨S512x2048, .f32⟩ : BufTy).Contents (Elt F) → (⟨S1024x2048, .f32⟩ : BufTy).Contents (Elt F)),
   StableHlo.binary main_while0b_v37 main_while0b_v39 main_while0b_v40 (addf : (⟨S1024x2048, .f32⟩ : BufTy).Contents (Elt F) → (⟨S1024x2048, .f32⟩ : BufTy).Contents (Elt F) → (⟨S1024x2048, .f32⟩ : BufTy).Contents (Elt F)),
   StableHlo.unary main_v6_3 main_while0b_v41 (broadcastInDim S1x2048 ![1] bcast_S2048_S1x2048_1 : (⟨S2048, .f32⟩ : BufTy).Contents (Elt F) → (⟨S1x2048, .f32⟩ : BufTy).Contents (Elt F)),
   StableHlo.unary main_while0b_v41 main_while0b_v42 (broadcastInDim S1024x2048 ![0, 1] bcast_S1x2048_S1024x2048_0_1 : (⟨S1x2048, .f32⟩ : BufTy).Contents (Elt F) → (⟨S1024x2048, .f32⟩ : BufTy).Contents (Elt F)),
   StableHlo.binary main_while0b_v40 main_while0b_v42 main_while0b_v43 (addf : (⟨S1024x2048, .f32⟩ : BufTy).Contents (Elt F) → (⟨S1024x2048, .f32⟩ : BufTy).Contents (Elt F) → (⟨S1024x2048, .f32⟩ : BufTy).Contents (Elt F))]

/-- The rest of scan 0's body. -/
def cell0 : List (HloOp τ sig (Elt F)) :=
  [StableHlo.unary main_while0b_v43 main_while0b_v44 ((extractStridedSlice S1024x512 ![0, 0] · slices_S1024x2048_S1024x512_0_0) : (⟨S1024x2048, .f32⟩ : BufTy).Contents (Elt F) → (⟨S1024x512, .f32⟩ : BufTy).Contents (Elt F)),
   StableHlo.unary main_while0b_v43 main_while0b_v45 ((extractStridedSlice S1024x512 ![0, 512] · slices_S1024x2048_S1024x512_0_512) : (⟨S1024x2048, .f32⟩ : BufTy).Contents (Elt F) → (⟨S1024x512, .f32⟩ : BufTy).Contents (Elt F)),
   StableHlo.unary main_while0b_v43 main_while0b_v46 ((extractStridedSlice S1024x512 ![0, 1024] · slices_S1024x2048_S1024x512_0_1024) : (⟨S1024x2048, .f32⟩ : BufTy).Contents (Elt F) → (⟨S1024x512, .f32⟩ : BufTy).Contents (Elt F)),
   StableHlo.unary main_while0b_v43 main_while0b_v47 ((extractStridedSlice S1024x512 ![0, 1536] · slices_S1024x2048_S1024x512_0_1536) : (⟨S1024x2048, .f32⟩ : BufTy).Contents (Elt F) → (⟨S1024x512, .f32⟩ : BufTy).Contents (Elt F)),
   StableHlo.unary main_while0b_v44 main_while0b_v48 (Host.negf : (⟨S1024x512, .f32⟩ : BufTy).Contents (Elt F) → (⟨S1024x512, .f32⟩ : BufTy).Contents (Elt F)),
   StableHlo.unary main_while0b_v48 main_while0b_v49 (Host.exp : (⟨S1024x512, .f32⟩ : BufTy).Contents (Elt F) → (⟨S1024x512, .f32⟩ : BufTy).Contents (Elt F)),
   StableHlo.nullary main_while0b_cst_23 (constant S_ .f32 0x3F800000#32),
   StableHlo.unary main_while0b_cst_23 main_while0b_v50 (broadcastInDim S1024x512 ![] bcast_S_S1024x512 : (⟨S_, .f32⟩ : BufTy).Contents (Elt F) → (⟨S1024x512, .f32⟩ : BufTy).Contents (Elt F)),
   StableHlo.binary main_while0b_v50 main_while0b_v49 main_while0b_v51 (addf : (⟨S1024x512, .f32⟩ : BufTy).Contents (Elt F) → (⟨S1024x512, .f32⟩ : BufTy).Contents (Elt F) → (⟨S1024x512, .f32⟩ : BufTy).Contents (Elt F)),
   StableHlo.nullary main_while0b_cst_24 (constant S_ .f32 0x3F800000#32),
   StableHlo.unary main_while0b_cst_24 main_while0b_v52 (broadcastInDim S1024x512 ![] bcast_S_S1024x512 : (⟨S_, .f32⟩ : BufTy).Contents (Elt F) → (⟨S1024x512, .f32⟩ : BufTy).Contents (Elt F)),
   StableHlo.binary main_while0b_v52 main_while0b_v51 main_while0b_v53 (Host.divf : (⟨S1024x512, .f32⟩ : BufTy).Contents (Elt F) → (⟨S1024x512, .f32⟩ : BufTy).Contents (Elt F) → (⟨S1024x512, .f32⟩ : BufTy).Contents (Elt F)),
   StableHlo.unary main_while0b_v45 main_while0b_v54 (Host.negf : (⟨S1024x512, .f32⟩ : BufTy).Contents (Elt F) → (⟨S1024x512, .f32⟩ : BufTy).Contents (Elt F)),
   StableHlo.unary main_while0b_v54 main_while0b_v55 (Host.exp : (⟨S1024x512, .f32⟩ : BufTy).Contents (Elt F) → (⟨S1024x512, .f32⟩ : BufTy).Contents (Elt F)),
   StableHlo.nullary main_while0b_cst_25 (constant S_ .f32 0x3F800000#32),
   StableHlo.unary main_while0b_cst_25 main_while0b_v56 (broadcastInDim S1024x512 ![] bcast_S_S1024x512 : (⟨S_, .f32⟩ : BufTy).Contents (Elt F) → (⟨S1024x512, .f32⟩ : BufTy).Contents (Elt F)),
   StableHlo.binary main_while0b_v56 main_while0b_v55 main_while0b_v57 (addf : (⟨S1024x512, .f32⟩ : BufTy).Contents (Elt F) → (⟨S1024x512, .f32⟩ : BufTy).Contents (Elt F) → (⟨S1024x512, .f32⟩ : BufTy).Contents (Elt F)),
   StableHlo.nullary main_while0b_cst_26 (constant S_ .f32 0x3F800000#32),
   StableHlo.unary main_while0b_cst_26 main_while0b_v58 (broadcastInDim S1024x512 ![] bcast_S_S1024x512 : (⟨S_, .f32⟩ : BufTy).Contents (Elt F) → (⟨S1024x512, .f32⟩ : BufTy).Contents (Elt F)),
   StableHlo.binary main_while0b_v58 main_while0b_v57 main_while0b_v59 (Host.divf : (⟨S1024x512, .f32⟩ : BufTy).Contents (Elt F) → (⟨S1024x512, .f32⟩ : BufTy).Contents (Elt F) → (⟨S1024x512, .f32⟩ : BufTy).Contents (Elt F)),
   StableHlo.unary main_while0b_v46 main_while0b_v60 (Host.tanh : (⟨S1024x512, .f32⟩ : BufTy).Contents (Elt F) → (⟨S1024x512, .f32⟩ : BufTy).Contents (Elt F)),
   StableHlo.unary main_while0b_v47 main_while0b_v61 (Host.negf : (⟨S1024x512, .f32⟩ : BufTy).Contents (Elt F) → (⟨S1024x512, .f32⟩ : BufTy).Contents (Elt F)),
   StableHlo.unary main_while0b_v61 main_while0b_v62 (Host.exp : (⟨S1024x512, .f32⟩ : BufTy).Contents (Elt F) → (⟨S1024x512, .f32⟩ : BufTy).Contents (Elt F)),
   StableHlo.nullary main_while0b_cst_27 (constant S_ .f32 0x3F800000#32),
   StableHlo.unary main_while0b_cst_27 main_while0b_v63 (broadcastInDim S1024x512 ![] bcast_S_S1024x512 : (⟨S_, .f32⟩ : BufTy).Contents (Elt F) → (⟨S1024x512, .f32⟩ : BufTy).Contents (Elt F)),
   StableHlo.binary main_while0b_v63 main_while0b_v62 main_while0b_v64 (addf : (⟨S1024x512, .f32⟩ : BufTy).Contents (Elt F) → (⟨S1024x512, .f32⟩ : BufTy).Contents (Elt F) → (⟨S1024x512, .f32⟩ : BufTy).Contents (Elt F)),
   StableHlo.nullary main_while0b_cst_28 (constant S_ .f32 0x3F800000#32),
   StableHlo.unary main_while0b_cst_28 main_while0b_v65 (broadcastInDim S1024x512 ![] bcast_S_S1024x512 : (⟨S_, .f32⟩ : BufTy).Contents (Elt F) → (⟨S1024x512, .f32⟩ : BufTy).Contents (Elt F)),
   StableHlo.binary main_while0b_v65 main_while0b_v64 main_while0b_v66 (Host.divf : (⟨S1024x512, .f32⟩ : BufTy).Contents (Elt F) → (⟨S1024x512, .f32⟩ : BufTy).Contents (Elt F) → (⟨S1024x512, .f32⟩ : BufTy).Contents (Elt F)),
   StableHlo.binary main_while0b_v59 main_v6_6 main_while0b_v67 (mulf : (⟨S1024x512, .f32⟩ : BufTy).Contents (Elt F) → (⟨S1024x512, .f32⟩ : BufTy).Contents (Elt F) → (⟨S1024x512, .f32⟩ : BufTy).Contents (Elt F)),
   StableHlo.binary main_while0b_v53 main_while0b_v60 main_while0b_v68 (mulf : (⟨S1024x512, .f32⟩ : BufTy).Contents (Elt F) → (⟨S1024x512, .f32⟩ : BufTy).Contents (Elt F) → (⟨S1024x512, .f32⟩ : BufTy).Contents (Elt F)),
   StableHlo.binary main_while0b_v67 main_while0b_v68 main_while0b_v69 (addf : (⟨S1024x512, .f32⟩ : BufTy).Contents (Elt F) → (⟨S1024x512, .f32⟩ : BufTy).Contents (Elt F) → (⟨S1024x512, .f32⟩ : BufTy).Contents (Elt F)),
   StableHlo.unary main_while0b_v69 main_while0b_v70 (Host.tanh : (⟨S1024x512, .f32⟩ : BufTy).Contents (Elt F) → (⟨S1024x512, .f32⟩ : BufTy).Contents (Elt F)),
   StableHlo.binary main_while0b_v66 main_while0b_v70 main_while0b_v71 (mulf : (⟨S1024x512, .f32⟩ : BufTy).Contents (Elt F) → (⟨S1024x512, .f32⟩ : BufTy).Contents (Elt F) → (⟨S1024x512, .f32⟩ : BufTy).Contents (Elt F)),
   StableHlo.unary main_while0b_v71 main_while0b_call2_v0 ((broadcastInDim S1x1024x512 ![1, 2] bcast_S1024x512_S1x1024x512_1_2) : (⟨S1024x512, .f32⟩ : BufTy).Contents (Elt F) → (⟨S1x1024x512, .f32⟩ : BufTy).Contents (Elt F)),
   StableHlo.nullary main_while0b_call2_c ((constantI S_ 32 0#32) : (⟨S_, .i32⟩ : BufTy).Contents (Elt F)),
   StableHlo.nullary main_while0b_call2_c_0 ((constantI S_ 32 0#32) : (⟨S_, .i32⟩ : BufTy).Contents (Elt F)),
   StableHlo.TRef.binaryIndexed (.of main_v6_7 : StableHlo.TRef sig ⟨S200x1024x512, .f32⟩) (.of main_while0b_call2_v0 : StableHlo.TRef sig ⟨S1x1024x512, .f32⟩) ![(.of main_v6_4 : StableHlo.TRef sig ⟨S_, .i32⟩), (.of main_while0b_call2_c : StableHlo.TRef sig ⟨S_, .i32⟩), (.of main_while0b_call2_c_0 : StableHlo.TRef sig ⟨S_, .i32⟩)] (.of main_while0b_v72 : StableHlo.TRef sig ⟨S200x1024x512, .f32⟩) (fun x u i => Host.dynamicUpdateSlice x u (fun k => (i k (Shape.Idx.first h_S_)).toInt) updateFits_S200x1024x512_S1x1024x512),
   StableHlo.nullary main_while0b_c_29 (constantI S_ 32 1#32),
   StableHlo.binary main_v6_4 main_while0b_c_29 main_while0b_v73 (addi : (⟨S_, .i32⟩ : BufTy).Contents (Elt F) → (⟨S_, .i32⟩ : BufTy).Contents (Elt F) → (⟨S_, .i32⟩ : BufTy).Contents (Elt F)),
   StableHlo.unary main_while0b_v73 main_v6_4 id,
   StableHlo.unary main_while0b_v71 main_v6_5 id,
   StableHlo.unary main_while0b_v69 main_v6_6 id,
   StableHlo.unary main_while0b_v72 main_v6_7 id]

/-- Scan 1's condition. -/
def cond1 : List (HloOp τ sig (Elt F)) :=
  [StableHlo.nullary main_while1c_c_23 (constantI S_ 32 200#32),
   StableHlo.binary main_v11_4 main_while1c_c_23 main_while1c_v35 (cmpi .slt : (⟨S_, .i32⟩ : BufTy).Contents (Elt F) → (⟨S_, .i32⟩ : BufTy).Contents (Elt F) → (⟨S_, .i1⟩ : BufTy).Contents (Elt F))]

/-- Scan 1's body up to the sum of the gates. -/
def gates1 : List (HloOp τ sig (Elt F)) :=
  [StableHlo.nullary main_while1b_c_23 (constantI S_ 32 200#32),
   StableHlo.binary main_while1b_c_23 main_v11_4 main_while1b_v35 (subi : (⟨S_, .i32⟩ : BufTy).Contents (Elt F) → (⟨S_, .i32⟩ : BufTy).Contents (Elt F) → (⟨S_, .i32⟩ : BufTy).Contents (Elt F)),
   StableHlo.nullary main_while1b_c_24 (constantI S_ 32 1#32),
   StableHlo.binary main_while1b_v35 main_while1b_c_24 main_while1b_v36 (subi : (⟨S_, .i32⟩ : BufTy).Contents (Elt F) → (⟨S_, .i32⟩ : BufTy).Contents (Elt F) → (⟨S_, .i32⟩ : BufTy).Contents (Elt F)),
   StableHlo.nullary main_while1b_call3_c ((constantI S_ 32 0#32) : (⟨S_, .i32⟩ : BufTy).Contents (Elt F)),
   StableHlo.nullary main_while1b_call3_c_0 ((constantI S_ 32 0#32) : (⟨S_, .i32⟩ : BufTy).Contents (Elt F)),
   StableHlo.TRef.unaryIndexed (.of main_v11_0 : StableHlo.TRef sig ⟨S200x1024x128, .f32⟩) ![(.of main_while1b_v36 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x1024x128, .f32⟩) (fun x i => Host.dynamicSlice S1x1024x128 x (fun k => (i k (Shape.Idx.first h_S_)).toInt) sliceFits_S200x1024x128_S1x1024x128),
   StableHlo.reshape main_while1b_call3_v0 main_while1b_v37 (rfl : (.f32 : EltTy) = .f32) shapeCasts_S1x1024x128_S1024x128,
   StableHlo.unary main_v11_1 main_while1b_v38 ((transpose S128x2048 [1, 0] · transposes_S2048x128_S128x2048_1_0) : (⟨S2048x128, .f32⟩ : BufTy).Contents (Elt F) → (⟨S128x2048, .f32⟩ : BufTy).Contents (Elt F)),
   StableHlo.binary main_while1b_v37 main_while1b_v38 main_while1b_v39 ((fun l r => Host.dotGeneral dot_S1024x128_S128x2048_S1024x2048_1_0_0_1_n_n none l r) : (⟨S1024x128, .f32⟩ : BufTy).Contents (Elt F) → (⟨S128x2048, .f32⟩ : BufTy).Contents (Elt F) → (⟨S1024x2048, .f32⟩ : BufTy).Contents (Elt F)),
   StableHlo.unary main_v11_2 main_while1b_v40 ((transpose S512x2048 [1, 0] · transposes_S2048x512_S512x2048_1_0) : (⟨S2048x512, .f32⟩ : BufTy).Contents (Elt F) → (⟨S512x2048, .f32⟩ : BufTy).Contents (Elt F)),
   StableHlo.binary main_v11_5 main_while1b_v40 main_while1b_v41 ((fun l r => Host.dotGeneral dot_S1024x512_S512x2048_S1024x2048_1_0_0_1_n_n none l r) : (⟨S1024x512, .f32⟩ : BufTy).Contents (Elt F) → (⟨S512x2048, .f32⟩ : BufTy).Contents (Elt F) → (⟨S1024x2048, .f32⟩ : BufTy).Contents (Elt F)),
   StableHlo.binary main_while1b_v39 main_while1b_v41 main_while1b_v42 (addf : (⟨S1024x2048, .f32⟩ : BufTy).Contents (Elt F) → (⟨S1024x2048, .f32⟩ : BufTy).Contents (Elt F) → (⟨S1024x2048, .f32⟩ : BufTy).Contents (Elt F)),
   StableHlo.unary main_v11_3 main_while1b_v43 (broadcastInDim S1x2048 ![1] bcast_S2048_S1x2048_1 : (⟨S2048, .f32⟩ : BufTy).Contents (Elt F) → (⟨S1x2048, .f32⟩ : BufTy).Contents (Elt F)),
   StableHlo.unary main_while1b_v43 main_while1b_v44 (broadcastInDim S1024x2048 ![0, 1] bcast_S1x2048_S1024x2048_0_1 : (⟨S1x2048, .f32⟩ : BufTy).Contents (Elt F) → (⟨S1024x2048, .f32⟩ : BufTy).Contents (Elt F)),
   StableHlo.binary main_while1b_v42 main_while1b_v44 main_while1b_v45 (addf : (⟨S1024x2048, .f32⟩ : BufTy).Contents (Elt F) → (⟨S1024x2048, .f32⟩ : BufTy).Contents (Elt F) → (⟨S1024x2048, .f32⟩ : BufTy).Contents (Elt F))]

/-- The rest of scan 1's body. -/
def cell1 : List (HloOp τ sig (Elt F)) :=
  [StableHlo.unary main_while1b_v45 main_while1b_v46 ((extractStridedSlice S1024x512 ![0, 0] · slices_S1024x2048_S1024x512_0_0) : (⟨S1024x2048, .f32⟩ : BufTy).Contents (Elt F) → (⟨S1024x512, .f32⟩ : BufTy).Contents (Elt F)),
   StableHlo.unary main_while1b_v45 main_while1b_v47 ((extractStridedSlice S1024x512 ![0, 512] · slices_S1024x2048_S1024x512_0_512) : (⟨S1024x2048, .f32⟩ : BufTy).Contents (Elt F) → (⟨S1024x512, .f32⟩ : BufTy).Contents (Elt F)),
   StableHlo.unary main_while1b_v45 main_while1b_v48 ((extractStridedSlice S1024x512 ![0, 1024] · slices_S1024x2048_S1024x512_0_1024) : (⟨S1024x2048, .f32⟩ : BufTy).Contents (Elt F) → (⟨S1024x512, .f32⟩ : BufTy).Contents (Elt F)),
   StableHlo.unary main_while1b_v45 main_while1b_v49 ((extractStridedSlice S1024x512 ![0, 1536] · slices_S1024x2048_S1024x512_0_1536) : (⟨S1024x2048, .f32⟩ : BufTy).Contents (Elt F) → (⟨S1024x512, .f32⟩ : BufTy).Contents (Elt F)),
   StableHlo.unary main_while1b_v46 main_while1b_v50 (Host.negf : (⟨S1024x512, .f32⟩ : BufTy).Contents (Elt F) → (⟨S1024x512, .f32⟩ : BufTy).Contents (Elt F)),
   StableHlo.unary main_while1b_v50 main_while1b_v51 (Host.exp : (⟨S1024x512, .f32⟩ : BufTy).Contents (Elt F) → (⟨S1024x512, .f32⟩ : BufTy).Contents (Elt F)),
   StableHlo.nullary main_while1b_cst_25 (constant S_ .f32 0x3F800000#32),
   StableHlo.unary main_while1b_cst_25 main_while1b_v52 (broadcastInDim S1024x512 ![] bcast_S_S1024x512 : (⟨S_, .f32⟩ : BufTy).Contents (Elt F) → (⟨S1024x512, .f32⟩ : BufTy).Contents (Elt F)),
   StableHlo.binary main_while1b_v52 main_while1b_v51 main_while1b_v53 (addf : (⟨S1024x512, .f32⟩ : BufTy).Contents (Elt F) → (⟨S1024x512, .f32⟩ : BufTy).Contents (Elt F) → (⟨S1024x512, .f32⟩ : BufTy).Contents (Elt F)),
   StableHlo.nullary main_while1b_cst_26 (constant S_ .f32 0x3F800000#32),
   StableHlo.unary main_while1b_cst_26 main_while1b_v54 (broadcastInDim S1024x512 ![] bcast_S_S1024x512 : (⟨S_, .f32⟩ : BufTy).Contents (Elt F) → (⟨S1024x512, .f32⟩ : BufTy).Contents (Elt F)),
   StableHlo.binary main_while1b_v54 main_while1b_v53 main_while1b_v55 (Host.divf : (⟨S1024x512, .f32⟩ : BufTy).Contents (Elt F) → (⟨S1024x512, .f32⟩ : BufTy).Contents (Elt F) → (⟨S1024x512, .f32⟩ : BufTy).Contents (Elt F)),
   StableHlo.unary main_while1b_v47 main_while1b_v56 (Host.negf : (⟨S1024x512, .f32⟩ : BufTy).Contents (Elt F) → (⟨S1024x512, .f32⟩ : BufTy).Contents (Elt F)),
   StableHlo.unary main_while1b_v56 main_while1b_v57 (Host.exp : (⟨S1024x512, .f32⟩ : BufTy).Contents (Elt F) → (⟨S1024x512, .f32⟩ : BufTy).Contents (Elt F)),
   StableHlo.nullary main_while1b_cst_27 (constant S_ .f32 0x3F800000#32),
   StableHlo.unary main_while1b_cst_27 main_while1b_v58 (broadcastInDim S1024x512 ![] bcast_S_S1024x512 : (⟨S_, .f32⟩ : BufTy).Contents (Elt F) → (⟨S1024x512, .f32⟩ : BufTy).Contents (Elt F)),
   StableHlo.binary main_while1b_v58 main_while1b_v57 main_while1b_v59 (addf : (⟨S1024x512, .f32⟩ : BufTy).Contents (Elt F) → (⟨S1024x512, .f32⟩ : BufTy).Contents (Elt F) → (⟨S1024x512, .f32⟩ : BufTy).Contents (Elt F)),
   StableHlo.nullary main_while1b_cst_28 (constant S_ .f32 0x3F800000#32),
   StableHlo.unary main_while1b_cst_28 main_while1b_v60 (broadcastInDim S1024x512 ![] bcast_S_S1024x512 : (⟨S_, .f32⟩ : BufTy).Contents (Elt F) → (⟨S1024x512, .f32⟩ : BufTy).Contents (Elt F)),
   StableHlo.binary main_while1b_v60 main_while1b_v59 main_while1b_v61 (Host.divf : (⟨S1024x512, .f32⟩ : BufTy).Contents (Elt F) → (⟨S1024x512, .f32⟩ : BufTy).Contents (Elt F) → (⟨S1024x512, .f32⟩ : BufTy).Contents (Elt F)),
   StableHlo.unary main_while1b_v48 main_while1b_v62 (Host.tanh : (⟨S1024x512, .f32⟩ : BufTy).Contents (Elt F) → (⟨S1024x512, .f32⟩ : BufTy).Contents (Elt F)),
   StableHlo.unary main_while1b_v49 main_while1b_v63 (Host.negf : (⟨S1024x512, .f32⟩ : BufTy).Contents (Elt F) → (⟨S1024x512, .f32⟩ : BufTy).Contents (Elt F)),
   StableHlo.unary main_while1b_v63 main_while1b_v64 (Host.exp : (⟨S1024x512, .f32⟩ : BufTy).Contents (Elt F) → (⟨S1024x512, .f32⟩ : BufTy).Contents (Elt F)),
   StableHlo.nullary main_while1b_cst_29 (constant S_ .f32 0x3F800000#32),
   StableHlo.unary main_while1b_cst_29 main_while1b_v65 (broadcastInDim S1024x512 ![] bcast_S_S1024x512 : (⟨S_, .f32⟩ : BufTy).Contents (Elt F) → (⟨S1024x512, .f32⟩ : BufTy).Contents (Elt F)),
   StableHlo.binary main_while1b_v65 main_while1b_v64 main_while1b_v66 (addf : (⟨S1024x512, .f32⟩ : BufTy).Contents (Elt F) → (⟨S1024x512, .f32⟩ : BufTy).Contents (Elt F) → (⟨S1024x512, .f32⟩ : BufTy).Contents (Elt F)),
   StableHlo.nullary main_while1b_cst_30 (constant S_ .f32 0x3F800000#32),
   StableHlo.unary main_while1b_cst_30 main_while1b_v67 (broadcastInDim S1024x512 ![] bcast_S_S1024x512 : (⟨S_, .f32⟩ : BufTy).Contents (Elt F) → (⟨S1024x512, .f32⟩ : BufTy).Contents (Elt F)),
   StableHlo.binary main_while1b_v67 main_while1b_v66 main_while1b_v68 (Host.divf : (⟨S1024x512, .f32⟩ : BufTy).Contents (Elt F) → (⟨S1024x512, .f32⟩ : BufTy).Contents (Elt F) → (⟨S1024x512, .f32⟩ : BufTy).Contents (Elt F)),
   StableHlo.binary main_while1b_v61 main_v11_6 main_while1b_v69 (mulf : (⟨S1024x512, .f32⟩ : BufTy).Contents (Elt F) → (⟨S1024x512, .f32⟩ : BufTy).Contents (Elt F) → (⟨S1024x512, .f32⟩ : BufTy).Contents (Elt F)),
   StableHlo.binary main_while1b_v55 main_while1b_v62 main_while1b_v70 (mulf : (⟨S1024x512, .f32⟩ : BufTy).Contents (Elt F) → (⟨S1024x512, .f32⟩ : BufTy).Contents (Elt F) → (⟨S1024x512, .f32⟩ : BufTy).Contents (Elt F)),
   StableHlo.binary main_while1b_v69 main_while1b_v70 main_while1b_v71 (addf : (⟨S1024x512, .f32⟩ : BufTy).Contents (Elt F) → (⟨S1024x512, .f32⟩ : BufTy).Contents (Elt F) → (⟨S1024x512, .f32⟩ : BufTy).Contents (Elt F)),
   StableHlo.unary main_while1b_v71 main_while1b_v72 (Host.tanh : (⟨S1024x512, .f32⟩ : BufTy).Contents (Elt F) → (⟨S1024x512, .f32⟩ : BufTy).Contents (Elt F)),
   StableHlo.binary main_while1b_v68 main_while1b_v72 main_while1b_v73 (mulf : (⟨S1024x512, .f32⟩ : BufTy).Contents (Elt F) → (⟨S1024x512, .f32⟩ : BufTy).Contents (Elt F) → (⟨S1024x512, .f32⟩ : BufTy).Contents (Elt F)),
   StableHlo.unary main_while1b_v73 main_while1b_call4_v0 ((broadcastInDim S1x1024x512 ![1, 2] bcast_S1024x512_S1x1024x512_1_2) : (⟨S1024x512, .f32⟩ : BufTy).Contents (Elt F) → (⟨S1x1024x512, .f32⟩ : BufTy).Contents (Elt F)),
   StableHlo.nullary main_while1b_call4_c ((constantI S_ 32 0#32) : (⟨S_, .i32⟩ : BufTy).Contents (Elt F)),
   StableHlo.nullary main_while1b_call4_c_0 ((constantI S_ 32 0#32) : (⟨S_, .i32⟩ : BufTy).Contents (Elt F)),
   StableHlo.TRef.binaryIndexed (.of main_v11_7 : StableHlo.TRef sig ⟨S200x1024x512, .f32⟩) (.of main_while1b_call4_v0 : StableHlo.TRef sig ⟨S1x1024x512, .f32⟩) ![(.of main_while1b_v36 : StableHlo.TRef sig ⟨S_, .i32⟩), (.of main_while1b_call4_c : StableHlo.TRef sig ⟨S_, .i32⟩), (.of main_while1b_call4_c_0 : StableHlo.TRef sig ⟨S_, .i32⟩)] (.of main_while1b_v74 : StableHlo.TRef sig ⟨S200x1024x512, .f32⟩) (fun x u i => Host.dynamicUpdateSlice x u (fun k => (i k (Shape.Idx.first h_S_)).toInt) updateFits_S200x1024x512_S1x1024x512),
   StableHlo.nullary main_while1b_c_31 (constantI S_ 32 1#32),
   StableHlo.binary main_v11_4 main_while1b_c_31 main_while1b_v75 (addi : (⟨S_, .i32⟩ : BufTy).Contents (Elt F) → (⟨S_, .i32⟩ : BufTy).Contents (Elt F) → (⟨S_, .i32⟩ : BufTy).Contents (Elt F)),
   StableHlo.unary main_while1b_v75 main_v11_4 id,
   StableHlo.unary main_while1b_v73 main_v11_5 id,
   StableHlo.unary main_while1b_v71 main_v11_6 id,
   StableHlo.unary main_while1b_v74 main_v11_7 id]

/-- Scan 2's condition. -/
def cond2 : List (HloOp τ sig (Elt F)) :=
  [StableHlo.nullary main_while2c_c_23 (constantI S_ 32 200#32),
   StableHlo.binary main_v17_4 main_while2c_c_23 main_while2c_v35 (cmpi .slt : (⟨S_, .i32⟩ : BufTy).Contents (Elt F) → (⟨S_, .i32⟩ : BufTy).Contents (Elt F) → (⟨S_, .i1⟩ : BufTy).Contents (Elt F))]

/-- Scan 2's body up to the sum of the gates. -/
def gates2 : List (HloOp τ sig (Elt F)) :=
  [StableHlo.nullary main_while2b_call5_c ((constantI S_ 32 0#32) : (⟨S_, .i32⟩ : BufTy).Contents (Elt F)),
   StableHlo.nullary main_while2b_call5_c_0 ((constantI S_ 32 0#32) : (⟨S_, .i32⟩ : BufTy).Contents (Elt F)),
   StableHlo.TRef.unaryIndexed (.of main_v17_0 : StableHlo.TRef sig ⟨S200x1024x1024, .f32⟩) ![(.of main_v17_4 : StableHlo.TRef sig ⟨S_, .i32⟩), (.of main_while2b_call5_c : StableHlo.TRef sig ⟨S_, .i32⟩), (.of main_while2b_call5_c_0 : StableHlo.TRef sig ⟨S_, .i32⟩)] (.of main_while2b_call5_v0 : StableHlo.TRef sig ⟨S1x1024x1024, .f32⟩) (fun x i => Host.dynamicSlice S1x1024x1024 x (fun k => (i k (Shape.Idx.first h_S_)).toInt) sliceFits_S200x1024x1024_S1x1024x1024),
   StableHlo.reshape main_while2b_call5_v0 main_while2b_v35 (rfl : (.f32 : EltTy) = .f32) shapeCasts_S1x1024x1024_S1024x1024,
   StableHlo.unary main_v17_1 main_while2b_v36 ((transpose S1024x2048 [1, 0] · transposes_S2048x1024_S1024x2048_1_0) : (⟨S2048x1024, .f32⟩ : BufTy).Contents (Elt F) → (⟨S1024x2048, .f32⟩ : BufTy).Contents (Elt F)),
   StableHlo.binary main_while2b_v35 main_while2b_v36 main_while2b_v37 ((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F)),
   StableHlo.unary main_v17_2 main_while2b_v38 ((transpose S512x2048 [1, 0] · transposes_S2048x512_S512x2048_1_0) : (⟨S2048x512, .f32⟩ : BufTy).Contents (Elt F) → (⟨S512x2048, .f32⟩ : BufTy).Contents (Elt F)),
   StableHlo.binary main_v17_5 main_while2b_v38 main_while2b_v39 ((fun l r => Host.dotGeneral dot_S1024x512_S512x2048_S1024x2048_1_0_0_1_n_n none l r) : (⟨S1024x512, .f32⟩ : BufTy).Contents (Elt F) → (⟨S512x2048, .f32⟩ : BufTy).Contents (Elt F) → (⟨S1024x2048, .f32⟩ : BufTy).Contents (Elt F)),
   StableHlo.binary main_while2b_v37 main_while2b_v39 main_while2b_v40 (addf : (⟨S1024x2048, .f32⟩ : BufTy).Contents (Elt F) → (⟨S1024x2048, .f32⟩ : BufTy).Contents (Elt F) → (⟨S1024x2048, .f32⟩ : BufTy).Contents (Elt F)),
   StableHlo.unary main_v17_3 main_while2b_v41 (broadcastInDim S1x2048 ![1] bcast_S2048_S1x2048_1 : (⟨S2048, .f32⟩ : BufTy).Contents (Elt F) → (⟨S1x2048, .f32⟩ : BufTy).Contents (Elt F)),
   StableHlo.unary main_while2b_v41 main_while2b_v42 (broadcastInDim S1024x2048 ![0, 1] bcast_S1x2048_S1024x2048_0_1 : (⟨S1x2048, .f32⟩ : BufTy).Contents (Elt F) → (⟨S1024x2048, .f32⟩ : BufTy).Contents (Elt F)),
   StableHlo.binary main_while2b_v40 main_while2b_v42 main_while2b_v43 (addf : (⟨S1024x2048, .f32⟩ : BufTy).Contents (Elt F) → (⟨S1024x2048, .f32⟩ : BufTy).Contents (Elt F) → (⟨S1024x2048, .f32⟩ : BufTy).Contents (Elt F))]

/-- The rest of scan 2's body. -/
def cell2 : List (HloOp τ sig (Elt F)) :=
  [StableHlo.unary main_while2b_v43 main_while2b_v44 ((extractStridedSlice S1024x512 ![0, 0] · slices_S1024x2048_S1024x512_0_0) : (⟨S1024x2048, .f32⟩ : BufTy).Contents (Elt F) → (⟨S1024x512, .f32⟩ : BufTy).Contents (Elt F)),
   StableHlo.unary main_while2b_v43 main_while2b_v45 ((extractStridedSlice S1024x512 ![0, 512] · slices_S1024x2048_S1024x512_0_512) : (⟨S1024x2048, .f32⟩ : BufTy).Contents (Elt F) → (⟨S1024x512, .f32⟩ : BufTy).Contents (Elt F)),
   StableHlo.unary main_while2b_v43 main_while2b_v46 ((extractStridedSlice S1024x512 ![0, 1024] · slices_S1024x2048_S1024x512_0_1024) : (⟨S1024x2048, .f32⟩ : BufTy).Contents (Elt F) → (⟨S1024x512, .f32⟩ : BufTy).Contents (Elt F)),
   StableHlo.unary main_while2b_v43 main_while2b_v47 ((extractStridedSlice S1024x512 ![0, 1536] · slices_S1024x2048_S1024x512_0_1536) : (⟨S1024x2048, .f32⟩ : BufTy).Contents (Elt F) → (⟨S1024x512, .f32⟩ : BufTy).Contents (Elt F)),
   StableHlo.unary main_while2b_v44 main_while2b_v48 (Host.negf : (⟨S1024x512, .f32⟩ : BufTy).Contents (Elt F) → (⟨S1024x512, .f32⟩ : BufTy).Contents (Elt F)),
   StableHlo.unary main_while2b_v48 main_while2b_v49 (Host.exp : (⟨S1024x512, .f32⟩ : BufTy).Contents (Elt F) → (⟨S1024x512, .f32⟩ : BufTy).Contents (Elt F)),
   StableHlo.nullary main_while2b_cst_23 (constant S_ .f32 0x3F800000#32),
   StableHlo.unary main_while2b_cst_23 main_while2b_v50 (broadcastInDim S1024x512 ![] bcast_S_S1024x512 : (⟨S_, .f32⟩ : BufTy).Contents (Elt F) → (⟨S1024x512, .f32⟩ : BufTy).Contents (Elt F)),
   StableHlo.binary main_while2b_v50 main_while2b_v49 main_while2b_v51 (addf : (⟨S1024x512, .f32⟩ : BufTy).Contents (Elt F) → (⟨S1024x512, .f32⟩ : BufTy).Contents (Elt F) → (⟨S1024x512, .f32⟩ : BufTy).Contents (Elt F)),
   StableHlo.nullary main_while2b_cst_24 (constant S_ .f32 0x3F800000#32),
   StableHlo.unary main_while2b_cst_24 main_while2b_v52 (broadcastInDim S1024x512 ![] bcast_S_S1024x512 : (⟨S_, .f32⟩ : BufTy).Contents (Elt F) → (⟨S1024x512, .f32⟩ : BufTy).Contents (Elt F)),
   StableHlo.binary main_while2b_v52 main_while2b_v51 main_while2b_v53 (Host.divf : (⟨S1024x512, .f32⟩ : BufTy).Contents (Elt F) → (⟨S1024x512, .f32⟩ : BufTy).Contents (Elt F) → (⟨S1024x512, .f32⟩ : BufTy).Contents (Elt F)),
   StableHlo.unary main_while2b_v45 main_while2b_v54 (Host.negf : (⟨S1024x512, .f32⟩ : BufTy).Contents (Elt F) → (⟨S1024x512, .f32⟩ : BufTy).Contents (Elt F)),
   StableHlo.unary main_while2b_v54 main_while2b_v55 (Host.exp : (⟨S1024x512, .f32⟩ : BufTy).Contents (Elt F) → (⟨S1024x512, .f32⟩ : BufTy).Contents (Elt F)),
   StableHlo.nullary main_while2b_cst_25 (constant S_ .f32 0x3F800000#32),
   StableHlo.unary main_while2b_cst_25 main_while2b_v56 (broadcastInDim S1024x512 ![] bcast_S_S1024x512 : (⟨S_, .f32⟩ : BufTy).Contents (Elt F) → (⟨S1024x512, .f32⟩ : BufTy).Contents (Elt F)),
   StableHlo.binary main_while2b_v56 main_while2b_v55 main_while2b_v57 (addf : (⟨S1024x512, .f32⟩ : BufTy).Contents (Elt F) → (⟨S1024x512, .f32⟩ : BufTy).Contents (Elt F) → (⟨S1024x512, .f32⟩ : BufTy).Contents (Elt F)),
   StableHlo.nullary main_while2b_cst_26 (constant S_ .f32 0x3F800000#32),
   StableHlo.unary main_while2b_cst_26 main_while2b_v58 (broadcastInDim S1024x512 ![] bcast_S_S1024x512 : (⟨S_, .f32⟩ : BufTy).Contents (Elt F) → (⟨S1024x512, .f32⟩ : BufTy).Contents (Elt F)),
   StableHlo.binary main_while2b_v58 main_while2b_v57 main_while2b_v59 (Host.divf : (⟨S1024x512, .f32⟩ : BufTy).Contents (Elt F) → (⟨S1024x512, .f32⟩ : BufTy).Contents (Elt F) → (⟨S1024x512, .f32⟩ : BufTy).Contents (Elt F)),
   StableHlo.unary main_while2b_v46 main_while2b_v60 (Host.tanh : (⟨S1024x512, .f32⟩ : BufTy).Contents (Elt F) → (⟨S1024x512, .f32⟩ : BufTy).Contents (Elt F)),
   StableHlo.unary main_while2b_v47 main_while2b_v61 (Host.negf : (⟨S1024x512, .f32⟩ : BufTy).Contents (Elt F) → (⟨S1024x512, .f32⟩ : BufTy).Contents (Elt F)),
   StableHlo.unary main_while2b_v61 main_while2b_v62 (Host.exp : (⟨S1024x512, .f32⟩ : BufTy).Contents (Elt F) → (⟨S1024x512, .f32⟩ : BufTy).Contents (Elt F)),
   StableHlo.nullary main_while2b_cst_27 (constant S_ .f32 0x3F800000#32),
   StableHlo.unary main_while2b_cst_27 main_while2b_v63 (broadcastInDim S1024x512 ![] bcast_S_S1024x512 : (⟨S_, .f32⟩ : BufTy).Contents (Elt F) → (⟨S1024x512, .f32⟩ : BufTy).Contents (Elt F)),
   StableHlo.binary main_while2b_v63 main_while2b_v62 main_while2b_v64 (addf : (⟨S1024x512, .f32⟩ : BufTy).Contents (Elt F) → (⟨S1024x512, .f32⟩ : BufTy).Contents (Elt F) → (⟨S1024x512, .f32⟩ : BufTy).Contents (Elt F)),
   StableHlo.nullary main_while2b_cst_28 (constant S_ .f32 0x3F800000#32),
   StableHlo.unary main_while2b_cst_28 main_while2b_v65 (broadcastInDim S1024x512 ![] bcast_S_S1024x512 : (⟨S_, .f32⟩ : BufTy).Contents (Elt F) → (⟨S1024x512, .f32⟩ : BufTy).Contents (Elt F)),
   StableHlo.binary main_while2b_v65 main_while2b_v64 main_while2b_v66 (Host.divf : (⟨S1024x512, .f32⟩ : BufTy).Contents (Elt F) → (⟨S1024x512, .f32⟩ : BufTy).Contents (Elt F) → (⟨S1024x512, .f32⟩ : BufTy).Contents (Elt F)),
   StableHlo.binary main_while2b_v59 main_v17_6 main_while2b_v67 (mulf : (⟨S1024x512, .f32⟩ : BufTy).Contents (Elt F) → (⟨S1024x512, .f32⟩ : BufTy).Contents (Elt F) → (⟨S1024x512, .f32⟩ : BufTy).Contents (Elt F)),
   StableHlo.binary main_while2b_v53 main_while2b_v60 main_while2b_v68 (mulf : (⟨S1024x512, .f32⟩ : BufTy).Contents (Elt F) → (⟨S1024x512, .f32⟩ : BufTy).Contents (Elt F) → (⟨S1024x512, .f32⟩ : BufTy).Contents (Elt F)),
   StableHlo.binary main_while2b_v67 main_while2b_v68 main_while2b_v69 (addf : (⟨S1024x512, .f32⟩ : BufTy).Contents (Elt F) → (⟨S1024x512, .f32⟩ : BufTy).Contents (Elt F) → (⟨S1024x512, .f32⟩ : BufTy).Contents (Elt F)),
   StableHlo.unary main_while2b_v69 main_while2b_v70 (Host.tanh : (⟨S1024x512, .f32⟩ : BufTy).Contents (Elt F) → (⟨S1024x512, .f32⟩ : BufTy).Contents (Elt F)),
   StableHlo.binary main_while2b_v66 main_while2b_v70 main_while2b_v71 (mulf : (⟨S1024x512, .f32⟩ : BufTy).Contents (Elt F) → (⟨S1024x512, .f32⟩ : BufTy).Contents (Elt F) → (⟨S1024x512, .f32⟩ : BufTy).Contents (Elt F)),
   StableHlo.unary main_while2b_v71 main_while2b_call6_v0 ((broadcastInDim S1x1024x512 ![1, 2] bcast_S1024x512_S1x1024x512_1_2) : (⟨S1024x512, .f32⟩ : BufTy).Contents (Elt F) → (⟨S1x1024x512, .f32⟩ : BufTy).Contents (Elt F)),
   StableHlo.nullary main_while2b_call6_c ((constantI S_ 32 0#32) : (⟨S_, .i32⟩ : BufTy).Contents (Elt F)),
   StableHlo.nullary main_while2b_call6_c_0 ((constantI S_ 32 0#32) : (⟨S_, .i32⟩ : BufTy).Contents (Elt F)),
   StableHlo.TRef.binaryIndexed (.of main_v17_7 : StableHlo.TRef sig ⟨S200x1024x512, .f32⟩) (.of main_while2b_call6_v0 : StableHlo.TRef sig ⟨S1x1024x512, .f32⟩) ![(.of main_v17_4 : StableHlo.TRef sig ⟨S_, .i32⟩), (.of main_while2b_call6_c : StableHlo.TRef sig ⟨S_, .i32⟩), (.of main_while2b_call6_c_0 : StableHlo.TRef sig ⟨S_, .i32⟩)] (.of main_while2b_v72 : StableHlo.TRef sig ⟨S200x1024x512, .f32⟩) (fun x u i => Host.dynamicUpdateSlice x u (fun k => (i k (Shape.Idx.first h_S_)).toInt) updateFits_S200x1024x512_S1x1024x512),
   StableHlo.nullary main_while2b_c_29 (constantI S_ 32 1#32),
   StableHlo.binary main_v17_4 main_while2b_c_29 main_while2b_v73 (addi : (⟨S_, .i32⟩ : BufTy).Contents (Elt F) → (⟨S_, .i32⟩ : BufTy).Contents (Elt F) → (⟨S_, .i32⟩ : BufTy).Contents (Elt F)),
   StableHlo.unary main_while2b_v73 main_v17_4 id,
   StableHlo.unary main_while2b_v71 main_v17_5 id,
   StableHlo.unary main_while2b_v69 main_v17_6 id,
   StableHlo.unary main_while2b_v72 main_v17_7 id]

/-- Scan 3's condition. -/
def cond3 : List (HloOp τ sig (Elt F)) :=
  [StableHlo.nullary main_while3c_c_23 (constantI S_ 32 200#32),
   StableHlo.binary main_v22_4 main_while3c_c_23 main_while3c_v35 (cmpi .slt : (⟨S_, .i32⟩ : BufTy).Contents (Elt F) → (⟨S_, .i32⟩ : BufTy).Contents (Elt F) → (⟨S_, .i1⟩ : BufTy).Contents (Elt F))]

/-- Scan 3's body up to the sum of the gates. -/
def gates3 : List (HloOp τ sig (Elt F)) :=
  [StableHlo.nullary main_while3b_c_23 (constantI S_ 32 200#32),
   StableHlo.binary main_while3b_c_23 main_v22_4 main_while3b_v35 (subi : (⟨S_, .i32⟩ : BufTy).Contents (Elt F) → (⟨S_, .i32⟩ : BufTy).Contents (Elt F) → (⟨S_, .i32⟩ : BufTy).Contents (Elt F)),
   StableHlo.nullary main_while3b_c_24 (constantI S_ 32 1#32),
   StableHlo.binary main_while3b_v35 main_while3b_c_24 main_while3b_v36 (subi : (⟨S_, .i32⟩ : BufTy).Contents (Elt F) → (⟨S_, .i32⟩ : BufTy).Contents (Elt F) → (⟨S_, .i32⟩ : BufTy).Contents (Elt F)),
   StableHlo.nullary main_while3b_call7_c ((constantI S_ 32 0#32) : (⟨S_, .i32⟩ : BufTy).Contents (Elt F)),
   StableHlo.nullary main_while3b_call7_c_0 ((constantI S_ 32 0#32) : (⟨S_, .i32⟩ : BufTy).Contents (Elt F)),
   StableHlo.TRef.unaryIndexed (.of main_v22_0 : StableHlo.TRef sig ⟨S200x1024x1024, .f32⟩) ![(.of main_while3b_v36 : StableHlo.TRef sig ⟨S_, .i32⟩), (.of main_while3b_call7_c : StableHlo.TRef sig ⟨S_, .i32⟩), (.of main_while3b_call7_c_0 : StableHlo.TRef sig ⟨S_, .i32⟩)] (.of main_while3b_call7_v0 : StableHlo.TRef sig ⟨S1x1024x1024, .f32⟩) (fun x i => Host.dynamicSlice S1x1024x1024 x (fun k => (i k (Shape.Idx.first h_S_)).toInt) sliceFits_S200x1024x1024_S1x1024x1024),
   StableHlo.reshape main_while3b_call7_v0 main_while3b_v37 (rfl : (.f32 : EltTy) = .f32) shapeCasts_S1x1024x1024_S1024x1024,
   StableHlo.unary main_v22_1 main_while3b_v38 ((transpose S1024x2048 [1, 0] · transposes_S2048x1024_S1024x2048_1_0) : (⟨S2048x1024, .f32⟩ : BufTy).Contents (Elt F) → (⟨S1024x2048, .f32⟩ : BufTy).Contents (Elt F)),
   StableHlo.binary main_while3b_v37 main_while3b_v38 main_while3b_v39 ((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F)),
   StableHlo.unary main_v22_2 main_while3b_v40 ((transpose S512x2048 [1, 0] · transposes_S2048x512_S512x2048_1_0) : (⟨S2048x512, .f32⟩ : BufTy).Contents (Elt F) → (⟨S512x2048, .f32⟩ : BufTy).Contents (Elt F)),
   StableHlo.binary main_v22_5 main_while3b_v40 main_while3b_v41 ((fun l r => Host.dotGeneral dot_S1024x512_S512x2048_S1024x2048_1_0_0_1_n_n none l r) : (⟨S1024x512, .f32⟩ : BufTy).Contents (Elt F) → (⟨S512x2048, .f32⟩ : BufTy).Contents (Elt F) → (⟨S1024x2048, .f32⟩ : BufTy).Contents (Elt F)),
   StableHlo.binary main_while3b_v39 main_while3b_v41 main_while3b_v42 (addf : (⟨S1024x2048, .f32⟩ : BufTy).Contents (Elt F) → (⟨S1024x2048, .f32⟩ : BufTy).Contents (Elt F) → (⟨S1024x2048, .f32⟩ : BufTy).Contents (Elt F)),
   StableHlo.unary main_v22_3 main_while3b_v43 (broadcastInDim S1x2048 ![1] bcast_S2048_S1x2048_1 : (⟨S2048, .f32⟩ : BufTy).Contents (Elt F) → (⟨S1x2048, .f32⟩ : BufTy).Contents (Elt F)),
   StableHlo.unary main_while3b_v43 main_while3b_v44 (broadcastInDim S1024x2048 ![0, 1] bcast_S1x2048_S1024x2048_0_1 : (⟨S1x2048, .f32⟩ : BufTy).Contents (Elt F) → (⟨S1024x2048, .f32⟩ : BufTy).Contents (Elt F)),
   StableHlo.binary main_while3b_v42 main_while3b_v44 main_while3b_v45 (addf : (⟨S1024x2048, .f32⟩ : BufTy).Contents (Elt F) → (⟨S1024x2048, .f32⟩ : BufTy).Contents (Elt F) → (⟨S1024x2048, .f32⟩ : BufTy).Contents (Elt F))]

/-- The rest of scan 3's body. -/
def cell3 : List (HloOp τ sig (Elt F)) :=
  [StableHlo.unary main_while3b_v45 main_while3b_v46 ((extractStridedSlice S1024x512 ![0, 0] · slices_S1024x2048_S1024x512_0_0) : (⟨S1024x2048, .f32⟩ : BufTy).Contents (Elt F) → (⟨S1024x512, .f32⟩ : BufTy).Contents (Elt F)),
   StableHlo.unary main_while3b_v45 main_while3b_v47 ((extractStridedSlice S1024x512 ![0, 512] · slices_S1024x2048_S1024x512_0_512) : (⟨S1024x2048, .f32⟩ : BufTy).Contents (Elt F) → (⟨S1024x512, .f32⟩ : BufTy).Contents (Elt F)),
   StableHlo.unary main_while3b_v45 main_while3b_v48 ((extractStridedSlice S1024x512 ![0, 1024] · slices_S1024x2048_S1024x512_0_1024) : (⟨S1024x2048, .f32⟩ : BufTy).Contents (Elt F) → (⟨S1024x512, .f32⟩ : BufTy).Contents (Elt F)),
   StableHlo.unary main_while3b_v45 main_while3b_v49 ((extractStridedSlice S1024x512 ![0, 1536] · slices_S1024x2048_S1024x512_0_1536) : (⟨S1024x2048, .f32⟩ : BufTy).Contents (Elt F) → (⟨S1024x512, .f32⟩ : BufTy).Contents (Elt F)),
   StableHlo.unary main_while3b_v46 main_while3b_v50 (Host.negf : (⟨S1024x512, .f32⟩ : BufTy).Contents (Elt F) → (⟨S1024x512, .f32⟩ : BufTy).Contents (Elt F)),
   StableHlo.unary main_while3b_v50 main_while3b_v51 (Host.exp : (⟨S1024x512, .f32⟩ : BufTy).Contents (Elt F) → (⟨S1024x512, .f32⟩ : BufTy).Contents (Elt F)),
   StableHlo.nullary main_while3b_cst_25 (constant S_ .f32 0x3F800000#32),
   StableHlo.unary main_while3b_cst_25 main_while3b_v52 (broadcastInDim S1024x512 ![] bcast_S_S1024x512 : (⟨S_, .f32⟩ : BufTy).Contents (Elt F) → (⟨S1024x512, .f32⟩ : BufTy).Contents (Elt F)),
   StableHlo.binary main_while3b_v52 main_while3b_v51 main_while3b_v53 (addf : (⟨S1024x512, .f32⟩ : BufTy).Contents (Elt F) → (⟨S1024x512, .f32⟩ : BufTy).Contents (Elt F) → (⟨S1024x512, .f32⟩ : BufTy).Contents (Elt F)),
   StableHlo.nullary main_while3b_cst_26 (constant S_ .f32 0x3F800000#32),
   StableHlo.unary main_while3b_cst_26 main_while3b_v54 (broadcastInDim S1024x512 ![] bcast_S_S1024x512 : (⟨S_, .f32⟩ : BufTy).Contents (Elt F) → (⟨S1024x512, .f32⟩ : BufTy).Contents (Elt F)),
   StableHlo.binary main_while3b_v54 main_while3b_v53 main_while3b_v55 (Host.divf : (⟨S1024x512, .f32⟩ : BufTy).Contents (Elt F) → (⟨S1024x512, .f32⟩ : BufTy).Contents (Elt F) → (⟨S1024x512, .f32⟩ : BufTy).Contents (Elt F)),
   StableHlo.unary main_while3b_v47 main_while3b_v56 (Host.negf : (⟨S1024x512, .f32⟩ : BufTy).Contents (Elt F) → (⟨S1024x512, .f32⟩ : BufTy).Contents (Elt F)),
   StableHlo.unary main_while3b_v56 main_while3b_v57 (Host.exp : (⟨S1024x512, .f32⟩ : BufTy).Contents (Elt F) → (⟨S1024x512, .f32⟩ : BufTy).Contents (Elt F)),
   StableHlo.nullary main_while3b_cst_27 (constant S_ .f32 0x3F800000#32),
   StableHlo.unary main_while3b_cst_27 main_while3b_v58 (broadcastInDim S1024x512 ![] bcast_S_S1024x512 : (⟨S_, .f32⟩ : BufTy).Contents (Elt F) → (⟨S1024x512, .f32⟩ : BufTy).Contents (Elt F)),
   StableHlo.binary main_while3b_v58 main_while3b_v57 main_while3b_v59 (addf : (⟨S1024x512, .f32⟩ : BufTy).Contents (Elt F) → (⟨S1024x512, .f32⟩ : BufTy).Contents (Elt F) → (⟨S1024x512, .f32⟩ : BufTy).Contents (Elt F)),
   StableHlo.nullary main_while3b_cst_28 (constant S_ .f32 0x3F800000#32),
   StableHlo.unary main_while3b_cst_28 main_while3b_v60 (broadcastInDim S1024x512 ![] bcast_S_S1024x512 : (⟨S_, .f32⟩ : BufTy).Contents (Elt F) → (⟨S1024x512, .f32⟩ : BufTy).Contents (Elt F)),
   StableHlo.binary main_while3b_v60 main_while3b_v59 main_while3b_v61 (Host.divf : (⟨S1024x512, .f32⟩ : BufTy).Contents (Elt F) → (⟨S1024x512, .f32⟩ : BufTy).Contents (Elt F) → (⟨S1024x512, .f32⟩ : BufTy).Contents (Elt F)),
   StableHlo.unary main_while3b_v48 main_while3b_v62 (Host.tanh : (⟨S1024x512, .f32⟩ : BufTy).Contents (Elt F) → (⟨S1024x512, .f32⟩ : BufTy).Contents (Elt F)),
   StableHlo.unary main_while3b_v49 main_while3b_v63 (Host.negf : (⟨S1024x512, .f32⟩ : BufTy).Contents (Elt F) → (⟨S1024x512, .f32⟩ : BufTy).Contents (Elt F)),
   StableHlo.unary main_while3b_v63 main_while3b_v64 (Host.exp : (⟨S1024x512, .f32⟩ : BufTy).Contents (Elt F) → (⟨S1024x512, .f32⟩ : BufTy).Contents (Elt F)),
   StableHlo.nullary main_while3b_cst_29 (constant S_ .f32 0x3F800000#32),
   StableHlo.unary main_while3b_cst_29 main_while3b_v65 (broadcastInDim S1024x512 ![] bcast_S_S1024x512 : (⟨S_, .f32⟩ : BufTy).Contents (Elt F) → (⟨S1024x512, .f32⟩ : BufTy).Contents (Elt F)),
   StableHlo.binary main_while3b_v65 main_while3b_v64 main_while3b_v66 (addf : (⟨S1024x512, .f32⟩ : BufTy).Contents (Elt F) → (⟨S1024x512, .f32⟩ : BufTy).Contents (Elt F) → (⟨S1024x512, .f32⟩ : BufTy).Contents (Elt F)),
   StableHlo.nullary main_while3b_cst_30 (constant S_ .f32 0x3F800000#32),
   StableHlo.unary main_while3b_cst_30 main_while3b_v67 (broadcastInDim S1024x512 ![] bcast_S_S1024x512 : (⟨S_, .f32⟩ : BufTy).Contents (Elt F) → (⟨S1024x512, .f32⟩ : BufTy).Contents (Elt F)),
   StableHlo.binary main_while3b_v67 main_while3b_v66 main_while3b_v68 (Host.divf : (⟨S1024x512, .f32⟩ : BufTy).Contents (Elt F) → (⟨S1024x512, .f32⟩ : BufTy).Contents (Elt F) → (⟨S1024x512, .f32⟩ : BufTy).Contents (Elt F)),
   StableHlo.binary main_while3b_v61 main_v22_6 main_while3b_v69 (mulf : (⟨S1024x512, .f32⟩ : BufTy).Contents (Elt F) → (⟨S1024x512, .f32⟩ : BufTy).Contents (Elt F) → (⟨S1024x512, .f32⟩ : BufTy).Contents (Elt F)),
   StableHlo.binary main_while3b_v55 main_while3b_v62 main_while3b_v70 (mulf : (⟨S1024x512, .f32⟩ : BufTy).Contents (Elt F) → (⟨S1024x512, .f32⟩ : BufTy).Contents (Elt F) → (⟨S1024x512, .f32⟩ : BufTy).Contents (Elt F)),
   StableHlo.binary main_while3b_v69 main_while3b_v70 main_while3b_v71 (addf : (⟨S1024x512, .f32⟩ : BufTy).Contents (Elt F) → (⟨S1024x512, .f32⟩ : BufTy).Contents (Elt F) → (⟨S1024x512, .f32⟩ : BufTy).Contents (Elt F)),
   StableHlo.unary main_while3b_v71 main_while3b_v72 (Host.tanh : (⟨S1024x512, .f32⟩ : BufTy).Contents (Elt F) → (⟨S1024x512, .f32⟩ : BufTy).Contents (Elt F)),
   StableHlo.binary main_while3b_v68 main_while3b_v72 main_while3b_v73 (mulf : (⟨S1024x512, .f32⟩ : BufTy).Contents (Elt F) → (⟨S1024x512, .f32⟩ : BufTy).Contents (Elt F) → (⟨S1024x512, .f32⟩ : BufTy).Contents (Elt F)),
   StableHlo.unary main_while3b_v73 main_while3b_call8_v0 ((broadcastInDim S1x1024x512 ![1, 2] bcast_S1024x512_S1x1024x512_1_2) : (⟨S1024x512, .f32⟩ : BufTy).Contents (Elt F) → (⟨S1x1024x512, .f32⟩ : BufTy).Contents (Elt F)),
   StableHlo.nullary main_while3b_call8_c ((constantI S_ 32 0#32) : (⟨S_, .i32⟩ : BufTy).Contents (Elt F)),
   StableHlo.nullary main_while3b_call8_c_0 ((constantI S_ 32 0#32) : (⟨S_, .i32⟩ : BufTy).Contents (Elt F)),
   StableHlo.TRef.binaryIndexed (.of main_v22_7 : StableHlo.TRef sig ⟨S200x1024x512, .f32⟩) (.of main_while3b_call8_v0 : StableHlo.TRef sig ⟨S1x1024x512, .f32⟩) ![(.of main_while3b_v36 : StableHlo.TRef sig ⟨S_, .i32⟩), (.of main_while3b_call8_c : StableHlo.TRef sig ⟨S_, .i32⟩), (.of main_while3b_call8_c_0 : StableHlo.TRef sig ⟨S_, .i32⟩)] (.of main_while3b_v74 : StableHlo.TRef sig ⟨S200x1024x512, .f32⟩) (fun x u i => Host.dynamicUpdateSlice x u (fun k => (i k (Shape.Idx.first h_S_)).toInt) updateFits_S200x1024x512_S1x1024x512),
   StableHlo.nullary main_while3b_c_31 (constantI S_ 32 1#32),
   StableHlo.binary main_v22_4 main_while3b_c_31 main_while3b_v75 (addi : (⟨S_, .i32⟩ : BufTy).Contents (Elt F) → (⟨S_, .i32⟩ : BufTy).Contents (Elt F) → (⟨S_, .i32⟩ : BufTy).Contents (Elt F)),
   StableHlo.unary main_while3b_v75 main_v22_4 id,
   StableHlo.unary main_while3b_v73 main_v22_5 id,
   StableHlo.unary main_while3b_v71 main_v22_6 id,
   StableHlo.unary main_while3b_v74 main_v22_7 id]

theorem main0_sub : (main0 : List (HloOp τ sig (Elt F))).Forall fun op => op.bufs ⊆ StableHlo.tcRefs τ sig := by simp [main0]
theorem main1_sub : (main1 : List (HloOp τ sig (Elt F))).Forall fun op => op.bufs ⊆ StableHlo.tcRefs τ sig := by simp [main1]
theorem main2_sub : (main2 : List (HloOp τ sig (Elt F))).Forall fun op => op.bufs ⊆ StableHlo.tcRefs τ sig := by simp [main2]
theorem main3_sub : (main3 : List (HloOp τ sig (Elt F))).Forall fun op => op.bufs ⊆ StableHlo.tcRefs τ sig := by simp [main3]
theorem main4_sub : (main4 : List (HloOp τ sig (Elt F))).Forall fun op => op.bufs ⊆ StableHlo.tcRefs τ sig := by simp [main4]
theorem cond0_sub : (cond0 : List (HloOp τ sig (Elt F))).Forall fun op => op.bufs ⊆ StableHlo.tcRefs τ sig := by simp [cond0]
theorem gates0_sub : (gates0 : List (HloOp τ sig (Elt F))).Forall fun op => op.bufs ⊆ StableHlo.tcRefs τ sig := by simp [gates0]
theorem cell0_sub : (cell0 : List (HloOp τ sig (Elt F))).Forall fun op => op.bufs ⊆ StableHlo.tcRefs τ sig := by simp [cell0]
theorem cond1_sub : (cond1 : List (HloOp τ sig (Elt F))).Forall fun op => op.bufs ⊆ StableHlo.tcRefs τ sig := by simp [cond1]
theorem gates1_sub : (gates1 : List (HloOp τ sig (Elt F))).Forall fun op => op.bufs ⊆ StableHlo.tcRefs τ sig := by simp [gates1]
theorem cell1_sub : (cell1 : List (HloOp τ sig (Elt F))).Forall fun op => op.bufs ⊆ StableHlo.tcRefs τ sig := by simp [cell1]
theorem cond2_sub : (cond2 : List (HloOp τ sig (Elt F))).Forall fun op => op.bufs ⊆ StableHlo.tcRefs τ sig := by simp [cond2]
theorem gates2_sub : (gates2 : List (HloOp τ sig (Elt F))).Forall fun op => op.bufs ⊆ StableHlo.tcRefs τ sig := by simp [gates2]
theorem cell2_sub : (cell2 : List (HloOp τ sig (Elt F))).Forall fun op => op.bufs ⊆ StableHlo.tcRefs τ sig := by simp [cell2]
theorem cond3_sub : (cond3 : List (HloOp τ sig (Elt F))).Forall fun op => op.bufs ⊆ StableHlo.tcRefs τ sig := by simp [cond3]
theorem gates3_sub : (gates3 : List (HloOp τ sig (Elt F))).Forall fun op => op.bufs ⊆ StableHlo.tcRefs τ sig := by simp [gates3]
theorem cell3_sub : (cell3 : List (HloOp τ sig (Elt F))).Forall fun op => op.bufs ⊆ StableHlo.tcRefs τ sig := by simp [cell3]

theorem body0_eq : (main_while0_body : RP F PUnit) = Pipeline.chain ([gates0, cell0].map fun ops => (StableHlo.seq ops : RP F PUnit)) := by
  simp only [main_while0_body, fn_dynamic_index_in_dim.body, fn_dynamic_update_index_in_dim.body, gates0, cell0, List.map, Pipeline.chain, StableHlo.seq, bind_assoc, pure_bind, bind_pure_unit]
  chain_rfl

theorem body1_eq : (main_while1_body : RP F PUnit) = Pipeline.chain ([gates1, cell1].map fun ops => (StableHlo.seq ops : RP F PUnit)) := by
  simp only [main_while1_body, fn_dynamic_index_in_dim.body, fn_dynamic_update_index_in_dim.body, gates1, cell1, List.map, Pipeline.chain, StableHlo.seq, bind_assoc, pure_bind, bind_pure_unit]
  chain_rfl

theorem body2_eq : (main_while2_body : RP F PUnit) = Pipeline.chain ([gates2, cell2].map fun ops => (StableHlo.seq ops : RP F PUnit)) := by
  simp only [main_while2_body, fn_dynamic_index_in_dim_0.body, fn_dynamic_update_index_in_dim.body, gates2, cell2, List.map, Pipeline.chain, StableHlo.seq, bind_assoc, pure_bind, bind_pure_unit]
  chain_rfl

theorem body3_eq : (main_while3_body : RP F PUnit) = Pipeline.chain ([gates3, cell3].map fun ops => (StableHlo.seq ops : RP F PUnit)) := by
  simp only [main_while3_body, fn_dynamic_index_in_dim_0.body, fn_dynamic_update_index_in_dim.body, gates3, cell3, List.map, Pipeline.chain, StableHlo.seq, bind_assoc, pure_bind, bind_pure_unit]
  chain_rfl

theorem main_eq (d : Dev nD) : (main d : RP F PUnit) = Pipeline.chain [StableHlo.seq main0, HostLoop.enter 0, StableHlo.seq main1, HostLoop.enter 1,
    StableHlo.seq main2, HostLoop.enter 2, StableHlo.seq main3, HostLoop.enter 3, StableHlo.seq main4] := by
  simp only [main, main_part0, main_part1, fn_take.body, fn_where.body, main0, main1, main2, main3, main4, Pipeline.chain, StableHlo.seq, bind_assoc, pure_bind, bind_pure_unit]
  chain_rfl

end Cert.Proof.Ref

end
-- ==== Proof.RefFns.lean ====
/-
  One trip of a scan of the reference, as functions of vectors: the step's input, the gates' sum, the new cell state, the new hidden state,
  and the outputs with this step's written.
-/
module

public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe

variable {F : FTy → Type} [FloatOps F]

/-- The zero index. -/
abbrev zI : IVec S_ 32 := constantI S_ 32 0#32

/-- Step `i`'s input of the first layer. -/
def pick0 (X : FVec F S200x1024x128 .f32) (i : IVec S_ 32) : FVec F S1024x128 .f32 :=
  shapeCast S1024x128 (Host.dynamicSlice S1x1024x128 X (fun k => ((![i, zI, zI] : Fin 3 → IVec S_ 32) k (Shape.Idx.first h_S_)).toInt) sliceFits_S200x1024x128_S1x1024x128) shapeCasts_S1x1024x128_S1024x128

/-- Step `i`'s input of the second layer. -/
def pick1 (X : FVec F S200x1024x1024 .f32) (i : IVec S_ 32) : FVec F S1024x1024 .f32 :=
  shapeCast S1024x1024 (Host.dynamicSlice S1x1024x1024 X (fun k => ((![i, zI, zI] : Fin 3 → IVec S_ 32) k (Shape.Idx.first h_S_)).toInt) sliceFits_S200x1024x1024_S1x1024x1024) shapeCasts_S1x1024x1024_S1024x1024

/-- The gates of the first layer before their nonlinearities. -/
def gate0 (x : FVec F S1024x128 .f32) (Wi : FVec F S2048x128 .f32) (Wh : FVec F S2048x512 .f32) (b : FVec F S2048 .f32) (h : FVec F S1024x512 .f32) : FVec F S1024x2048 .f32 :=
  addf (addf (Host.dotGeneral dot_S1024x128_S128x2048_S1024x2048_1_0_0_1_n_n none x (transpose S128x2048 [1, 0] Wi transposes_S2048x128_S128x2048_1_0))
      (Host.dotGeneral dot_S1024x512_S512x2048_S1024x2048_1_0_0_1_n_n none h (transpose S512x2048 [1, 0] Wh transposes_S2048x512_S512x2048_1_0)))
    (broadcastInDim S1024x2048 ![0, 1] bcast_S1x2048_S1024x2048_0_1 (broadcastInDim S1x2048 ![1] bcast_S2048_S1x2048_1 b))

/-- The gates of the second layer before their nonlinearities. -/
def gate1 (x : FVec F S1024x1024 .f32) (Wi : FVec F S2048x1024 .f32) (Wh : FVec F S2048x512 .f32) (b : FVec F S2048 .f32) (h : FVec F S1024x512 .f32) : FVec F S1024x2048 .f32 :=
  addf (addf (Host.dotGeneral dot_S1024x1024_S1024x2048_S1024x2048_1_0_0_1_n_n none x (transpose S1024x2048 [1, 0] Wi transposes_S2048x1024_S1024x2048_1_0))
      (Host.dotGeneral dot_S1024x512_S512x2048_S1024x2048_1_0_0_1_n_n none h (transpose S512x2048 [1, 0] Wh transposes_S2048x512_S512x2048_1_0)))
    (broadcastInDim S1024x2048 ![0, 1] bcast_S1x2048_S1024x2048_0_1 (broadcastInDim S1x2048 ![1] bcast_S2048_S1x2048_1 b))

/-- The sigmoid, as the reference writes it. -/
def sigV (z : FVec F S1024x512 .f32) : FVec F S1024x512 .f32 :=
  Host.divf (broadcastInDim S1024x512 ![] bcast_S_S1024x512 (constant S_ .f32 0x3F800000#32))
    (addf (broadcastInDim S1024x512 ![] bcast_S_S1024x512 (constant S_ .f32 0x3F800000#32)) (Host.exp (Host.negf z)))

/-- The new cell state. -/
def cellV (g : FVec F S1024x2048 .f32) (c : FVec F S1024x512 .f32) : FVec F S1024x512 .f32 :=
  addf (mulf (sigV (extractStridedSlice S1024x512 ![0, 512] g slices_S1024x2048_S1024x512_0_512)) c)
    (mulf (sigV (extractStridedSlice S1024x512 ![0, 0] g slices_S1024x2048_S1024x512_0_0))
      (Host.tanh (extractStridedSlice S1024x512 ![0, 1024] g slices_S1024x2048_S1024x512_0_1024)))

/-- The new hidden state. -/
def hidV (g : FVec F S1024x2048 .f32) (c : FVec F S1024x512 .f32) : FVec F S1024x512 .f32 :=
  mulf (sigV (extractStridedSlice S1024x512 ![0, 1536] g slices_S1024x2048_S1024x512_0_1536)) (Host.tanh (cellV g c))

/-- The outputs with step `i`'s written. -/
def putV (ys : FVec F S200x1024x512 .f32) (h : FVec F S1024x512 .f32) (i : IVec S_ 32) : FVec F S200x1024x512 .f32 :=
  Host.dynamicUpdateSlice ys (broadcastInDim S1x1024x512 ![1, 2] bcast_S1024x512_S1x1024x512_1_2 h)
    (fun k => ((![i, zI, zI] : Fin 3 → IVec S_ 32) k (Shape.Idx.first h_S_)).toInt) updateFits_S200x1024x512_S1x1024x512

/-- The step counter after a trip. -/
def incV (i : IVec S_ 32) : IVec S_ 32 := addi i (constantI S_ 32 1#32)

/-- The step a reversed scan takes at counter `i`. -/
def revV (i : IVec S_ 32) : IVec S_ 32 := subi (subi (constantI S_ 32 200#32) i) (constantI S_ 32 1#32)

/-- The row numbers, a negative one counted from the table's end. -/
def wrapV (a : IVec S1024x200 32) : IVec S1024x200x1 32 :=
  broadcastInDim S1024x200x1 ![0, 1] bcast_S1024x200_S1024x200x1_0_1
    (select (cmpi .slt a (broadcastInDim S1024x200 ![] bcast_S_S1024x200 zI))
      (addi a (broadcastInDim S1024x200 ![] bcast_S_S1024x200 (constantI S_ 32 100000#32))) a)

/-- Whether a row number names a row of the table. -/
def inV (i : IVec S1024x200x1 32) : IVec S1024x200 1 :=
  Host.reduce IntOp.andi
    (andi (cmpi .sge i (broadcastInDim S1024x200x1 ![] bcast_S_S1024x200x1 zI))
      (cmpi .sle i (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- The rows of the table that the row numbers name. -/
def takeV (a : IVec S1024x200 32) (t : FVec F S100000x128 .f32) : FVec F S1024x200x128 .f32 :=
  select (broadcastInDim S1024x200x128 ![0, 1] bcast_S1024x200_S1024x200x128_0_1 (inV (wrapV a)))
    (Host.gather gather_S100000x128_S1024x200x1_S1024x200x128_2_0_n_n_0_2_1128 t (wrapV a))
    (broadcastInDim S1024x200x128 ![] bcast_S_S1024x200x128 (constant S_ .f32 0x7FC00000#32))

/-- The rows, steps first. -/
def embV (x : FVec F S1024x200x128 .f32) : FVec F S200x1024x128 .f32 := transpose S200x1024x128 [1, 0, 2] x transposes_S1024x200x128_S200x1024x128_1_0_2

/-- The second layer's input: the two directions' outputs side by side. -/
def catV (a b : FVec F S200x1024x512 .f32) : FVec F S200x1024x1024 .f32 :=
  concatenate S200x1024x1024 2 [⟨S200x1024x512, a⟩, ⟨S200x1024x512, b⟩] concatenates_S200x1024x512_S200x1024x512_S200x1024x1024_d2

/-- A scan's first state. -/
def zH : FVec F S1024x512 .f32 := broadcastInDim S1024x512 ![] bcast_S_S1024x512 (constant S_ .f32 0x00000000#32)

/-- A scan's first outputs. -/
def zY : FVec F S200x1024x512 .f32 := broadcastInDim S200x1024x512 ![] bcast_S_S200x1024x512 (constant S_ .f32 0x00000000#32)

/-- The last layer before its sigmoid. -/
def scoreV (hf hb : FVec F S1024x512 .f32) (w : FVec F S1x1024 .f32) (b : FVec F S1 .f32) : FVec F S1024x1 .f32 :=
  addf (Host.dotGeneral dot_S1024x1024_S1024x1_S1024x1_1_0_0_1_n_n none
      (concatenate S1024x1024 1 [⟨S1024x512, hf⟩, ⟨S1024x512, hb⟩] concatenates_S1024x512_S1024x512_S1024x1024_d1)
      (transpose S1024x1 [1, 0] w transposes_S1x1024_S1024x1_1_0))
    (broadcastInDim S1024x1 ![0, 1] bcast_S1x1_S1024x1_0_1 (broadcastInDim S1x1 ![1] bcast_S1_S1x1_1 b))

/-- The result. -/
def headV (hf hb : FVec F S1024x512 .f32) (w : FVec F S1x1024 .f32) (b : FVec F S1 .f32) : FVec F S1024x1 .f32 :=
  Host.divf (broadcastInDim S1024x1 ![] bcast_S_S1024x1 (constant S_ .f32 0x3F800000#32))
    (addf (broadcastInDim S1024x1 ![] bcast_S_S1024x1 (constant S_ .f32 0x3F800000#32)) (Host.exp (Host.negf (scoreV hf hb w b))))

end Cert.Proof.Ref

end
-- ==== Proof.RefStep.lean ====
/-
  What one trip of each scan leaves in the buffers.
-/
module

public import proofs.«01_k».proof.Proof.RefOps
public import proofs.«01_k».proof.Proof.RefFns
public import Idealize.ShloMosaic.Lib.StableHlo.RunClose

@[expose] public section

set_option maxRecDepth 16384
set_option maxHeartbeats 4000000

noncomputable section

namespace Cert.Proof.Ref

open Cert.ReferenceIdeal Cert.ReferenceIdeal.Gen
open Idealize.ShloMosaic Idealize.ShloMosaic.TcCoe

variable {F : FTy → Type} [FloatOps F]

/-- The buffers `cond0` writes. -/
def cond0W : List (Ref sig .tc) := [main_while0c_c_23, main_while0c_v35]

theorem cond0_keep (V : Valuation τ sig (Elt F)) {r : Ref sig .tc} (hr : r ∉ cond0W) : StableHlo.after cond0 V (Proc.devRef .tc r) = V (Proc.devRef .tc r) :=
  StableHlo.after_of_writes_sub cond0 V (StableHlo.forall_writes_sub_of_map rfl) hr

/-- The buffers `gates0` writes. -/
def gates0W : List (Ref sig .tc) := [main_while0b_call1_c, main_while0b_call1_c_0, main_while0b_call1_v0, main_while0b_v35, main_while0b_v36, main_while0b_v37, main_while0b_v38, main_while0b_v39, main_while0b_v40, main_while0b_v41, main_while0b_v42, main_while0b_v43]

theorem gates0_keep (V : Valuation τ sig (Elt F)) {r : Ref sig .tc} (hr : r ∉ gates0W) : StableHlo.after gates0 V (Proc.devRef .tc r) = V (Proc.devRef .tc r) :=
  StableHlo.after_of_writes_sub gates0 V (StableHlo.forall_writes_sub_of_map rfl) hr

/-- The buffers `cell0` writes. -/
def cell0W : List (Ref sig .tc) := [main_while0b_v44, main_while0b_v45, main_while0b_v46, main_while0b_v47, main_while0b_v48, main_while0b_v49, main_while0b_cst_23, main_while0b_v50, main_while0b_v51, main_while0b_cst_24, main_while0b_v52, main_while0b_v53, main_while0b_v54, main_while0b_v55, main_while0b_cst_25, main_while0b_v56, main_while0b_v57, main_while0b_cst_26, main_while0b_v58, main_while0b_v59, main_while0b_v60, main_while0b_v61, main_while0b_v62, main_while0b_cst_27, main_while0b_v63, main_while0b_v64, main_while0b_cst_28, main_while0b_v65, main_while0b_v66, main_while0b_v67, main_while0b_v68, main_while0b_v69, main_while0b_v70, main_while0b_v71, main_while0b_call2_v0, main_while0b_call2_c, main_while0b_call2_c_0, main_while0b_v72, main_while0b_c_29, main_while0b_v73, main_v6_4, main_v6_5, main_v6_6, main_v6_7]

theorem cell0_keep (V : Valuation τ sig (Elt F)) {r : Ref sig .tc} (hr : r ∉ cell0W) : StableHlo.after cell0 V (Proc.devRef .tc r) = V (Proc.devRef .tc r) :=
  StableHlo.after_of_writes_sub cell0 V (StableHlo.forall_writes_sub_of_map rfl) hr

theorem gates0_g (V : Valuation τ sig (Elt F)) : StableHlo.after gates0 V (Proc.devRef .tc main_while0b_v43) =
    gate0 (F := F) (pick0 (V (Proc.devRef .tc main_v6_0)) (V (Proc.devRef .tc main_v6_4))) (V (Proc.devRef .tc main_v6_1)) (V (Proc.devRef .tc main_v6_2)) (V (Proc.devRef .tc main_v6_3)) (V (Proc.devRef .tc main_v6_5)) := by
  unfold gates0
  after_results_simp_entrywise
  all_goals rfl

theorem cell0_4 (V : Valuation τ sig (Elt F)) : StableHlo.after cell0 V (Proc.devRef .tc main_v6_4) =
    incV (V (Proc.devRef .tc main_v6_4)) := by
  unfold cell0
  after_results_simp_entrywise
  all_goals rfl

theorem cell0_5 (V : Valuation τ sig (Elt F)) : StableHlo.after cell0 V (Proc.devRef .tc main_v6_5) =
    hidV (F := F) (V (Proc.devRef .tc main_while0b_v43)) (V (Proc.devRef .tc main_v6_6)) := by
  unfold cell0
  after_results_simp_entrywise
  all_goals rfl

theorem cell0_6 (V : Valuation τ sig (Elt F)) : StableHlo.after cell0 V (Proc.devRef .tc main_v6_6) =
    cellV (F := F) (V (Proc.devRef .tc main_while0b_v43)) (V (Proc.devRef .tc main_v6_6)) := by
  unfold cell0
  after_results_simp_entrywise
  all_goals rfl

theorem cell0_7 (V : Valuation τ sig (Elt F)) : StableHlo.after cell0 V (Proc.devRef .tc main_v6_7) =
    putV (F := F) (V (Proc.devRef .tc main_v6_7)) (hidV (V (Proc.devRef .tc main_while0b_v43)) (V (Proc.devRef .tc main_v6_6))) (V (Proc.devRef .tc main_v6_4)) := by
  unfold cell0
  after_results_simp_entrywise
  all_goals rfl

/-- One trip of scan 0. -/
def trip0 (V : Valuation τ sig (Elt F)) : Valuation τ sig (Elt F) := StableHlo.afterL [gates0, cell0] (StableHlo.after cond0 V)

theorem trip0_eq (V : Valuation τ sig (Elt F)) : trip0 V = StableHlo.after cell0 (StableHlo.after gates0 (StableHlo.after cond0 V)) := rfl

theorem trip0_keep (V : Valuation τ sig (Elt F)) {r : Ref sig .tc} (h0 : r ∉ cond0W) (h1 : r ∉ gates0W) (h2 : r ∉ cell0W) : trip0 V (Proc.devRef .tc r) = V (Proc.devRef .tc r) := by
  rw [trip0_eq, cell0_keep _ h2, gates0_keep _ h1, cond0_keep _ h0]

theorem trip0_4 (V : Valuation τ sig (Elt F)) : trip0 V (Proc.devRef .tc main_v6_4) =
    incV (V (Proc.devRef .tc main_v6_4)) := by
  rw [trip0_eq, cell0_4, gates0_keep _ (r := main_v6_4) (by decide), cond0_keep V (r := main_v6_4) (by decide)]

theorem trip0_5 (V : Valuation τ sig (Elt F)) : trip0 V (Proc.devRef .tc main_v6_5) =
    hidV (F := F) (gate0 (pick0 (V (Proc.devRef .tc main_v6_0)) (V (Proc.devRef .tc main_v6_4))) (V (Proc.devRef .tc main_v6_1)) (V (Proc.devRef .tc main_v6_2)) (V (Proc.devRef .tc main_v6_3)) (V (Proc.devRef .tc main_v6_5))) (V (Proc.devRef .tc main_v6_6)) := by
  rw [trip0_eq, cell0_5, gates0_keep _ (r := main_v6_6) (by decide), gates0_g, cond0_keep V (r := main_v6_0) (by decide), cond0_keep V (r := main_v6_4) (by decide), cond0_keep V (r := main_v6_1) (by decide), cond0_keep V (r := main_v6_2) (by decide), cond0_keep V (r := main_v6_3) (by decide), cond0_keep V (r := main_v6_5) (by decide), cond0_keep V (r := main_v6_6) (by decide)]

theorem trip0_6 (V : Valuation τ sig (Elt F)) : trip0 V (Proc.devRef .tc main_v6_6) =
    cellV (F := F) (gate0 (pick0 (V (Proc.devRef .tc main_v6_0)) (V (Proc.devRef .tc main_v6_4))) (V (Proc.devRef .tc main_v6_1)) (V (Proc.devRef .tc main_v6_2)) (V (Proc.devRef .tc main_v6_3)) (V (Proc.devRef .tc main_v6_5))) (V (Proc.devRef .tc main_v6_6)) := by
  rw [trip0_eq, cell0_6, gates0_keep _ (r := main_v6_6) (by decide), gates0_g, cond0_keep V (r := main_v6_0) (by decide), cond0_keep V (r := main_v6_4) (by decide), cond0_keep V (r := main_v6_1) (by decide), cond0_keep V (r := main_v6_2) (by decide), cond0_keep V (r := main_v6_3) (by decide), cond0_keep V (r := main_v6_5) (by decide), cond0_keep V (r := main_v6_6) (by decide)]

theorem trip0_7 (V : Valuation τ sig (Elt F)) : trip0 V (Proc.devRef .tc main_v6_7) =
    putV (F := F) (V (Proc.devRef .tc main_v6_7)) (hidV (gate0 (pick0 (V (Proc.devRef .tc main_v6_0)) (V (Proc.devRef .tc main_v6_4))) (V (Proc.devRef .tc main_v6_1)) (V (Proc.devRef .tc main_v6_2)) (V (Proc.devRef .tc main_v6_3)) (V (Proc.devRef .tc main_v6_5))) (V (Proc.devRef .tc main_v6_6))) (V (Proc.devRef .tc main_v6_4)) := by
  rw [trip0_eq, cell0_7, gates0_keep _ (r := main_v6_6) (by decide), gates0_keep _ (r := main_v6_7) (by decide), gates0_keep _ (r := main_v6_4) (by decide), gates0_g, cond0_keep V (r := main_v6_0) (by decide), cond0_keep V (r := main_v6_4) (by decide), cond0_keep V (r := main_v6_1) (by decide), cond0_keep V (r := main_v6_2) (by decide), cond0_keep V (r := main_v6_3) (by decide), cond0_keep V (r := main_v6_5) (by decide), cond0_keep V (r := main_v6_6) (by decide), cond0_keep V (r := main_v6_7) (by decide)]

/-- The buffers `cond1` writes. -/
def cond1W : List (Ref sig .tc) := [main_while1c_c_23, main_while1c_v35]

theorem cond1_keep (V : Valuation τ sig (Elt F)) {r : Ref sig .tc} (hr : r ∉ cond1W) : StableHlo.after cond1 V (Proc.devRef .tc r) = V (Proc.devRef .tc r) :=
  StableHlo.after_of_writes_sub cond1 V (StableHlo.forall_writes_sub_of_map rfl) hr

/-- The buffers `gates1` writes. -/
def gates1W : List (Ref sig .tc) := [main_while1b_c_23, main_while1b_v35, main_while1b_c_24, main_while1b_v36, main_while1b_call3_c, main_while1b_call3_c_0, main_while1b_call3_v0, main_while1b_v37, main_while1b_v38, main_while1b_v39, main_while1b_v40, main_while1b_v41, main_while1b_v42, main_while1b_v43, main_while1b_v44, main_while1b_v45]

theorem gates1_keep (V : Valuation τ sig (Elt F)) {r : Ref sig .tc} (hr : r ∉ gates1W) : StableHlo.after gates1 V (Proc.devRef .tc r) = V (Proc.devRef .tc r) :=
  StableHlo.after_of_writes_sub gates1 V (StableHlo.forall_writes_sub_of_map rfl) hr

/-- The buffers `cell1` writes. -/
def cell1W : List (Ref sig .tc) := [main_while1b_v46, main_while1b_v47, main_while1b_v48, main_while1b_v49, main_while1b_v50, main_while1b_v51, main_while1b_cst_25, main_while1b_v52, main_while1b_v53, main_while1b_cst_26, main_while1b_v54, main_while1b_v55, main_while1b_v56, main_while1b_v57, main_while1b_cst_27, main_while1b_v58, main_while1b_v59, main_while1b_cst_28, main_while1b_v60, main_while1b_v61, main_while1b_v62, main_while1b_v63, main_while1b_v64, main_while1b_cst_29, main_while1b_v65, main_while1b_v66, main_while1b_cst_30, main_while1b_v67, main_while1b_v68, main_while1b_v69, main_while1b_v70, main_while1b_v71, main_while1b_v72, main_while1b_v73, main_while1b_call4_v0, main_while1b_call4_c, main_while1b_call4_c_0, main_while1b_v74, main_while1b_c_31, main_while1b_v75, main_v11_4, main_v11_5, main_v11_6, main_v11_7]

theorem cell1_keep (V : Valuation τ sig (Elt F)) {r : Ref sig .tc} (hr : r ∉ cell1W) : StableHlo.after cell1 V (Proc.devRef .tc r) = V (Proc.devRef .tc r) :=
  StableHlo.after_of_writes_sub cell1 V (StableHlo.forall_writes_sub_of_map rfl) hr

theorem gates1_g (V : Valuation τ sig (Elt F)) : StableHlo.after gates1 V (Proc.devRef .tc main_while1b_v45) =
    gate0 (F := F) (pick0 (V (Proc.devRef .tc main_v11_0)) (revV (V (Proc.devRef .tc main_v11_4)))) (V (Proc.devRef .tc main_v11_1)) (V (Proc.devRef .tc main_v11_2)) (V (Proc.devRef .tc main_v11_3)) (V (Proc.devRef .tc main_v11_5)) := by
  unfold gates1
  after_results_simp_entrywise
  all_goals rfl

theorem gates1_i (V : Valuation τ sig (Elt F)) : StableHlo.after gates1 V (Proc.devRef .tc main_while1b_v36) =
    revV (V (Proc.devRef .tc main_v11_4)) := by
  unfold gates1
  after_results_simp_entrywise
  all_goals rfl

theorem cell1_4 (V : Valuation τ sig (Elt F)) : StableHlo.after cell1 V (Proc.devRef .tc main_v11_4) =
    incV (V (Proc.devRef .tc main_v11_4)) := by
  unfold cell1
  after_results_simp_entrywise
  all_goals rfl

theorem cell1_5 (V : Valuation τ sig (Elt F)) : StableHlo.after cell1 V (Proc.devRef .tc main_v11_5) =
    hidV (F := F) (V (Proc.devRef .tc main_while1b_v45)) (V (Proc.devRef .tc main_v11_6)) := by
  unfold cell1
  after_results_simp_entrywise
  all_goals rfl

theorem cell1_6 (V : Valuation τ sig (Elt F)) : StableHlo.after cell1 V (Proc.devRef .tc main_v11_6) =
    cellV (F := F) (V (Proc.devRef .tc main_while1b_v45)) (V (Proc.devRef .tc main_v11_6)) := by
  unfold cell1
  after_results_simp_entrywise
  all_goals rfl

theorem cell1_7 (V : Valuation τ sig (Elt F)) : StableHlo.after cell1 V (Proc.devRef .tc main_v11_7) =
    putV (F := F) (V (Proc.devRef .tc main_v11_7)) (hidV (V (Proc.devRef .tc main_while1b_v45)) (V (Proc.devRef .tc main_v11_6))) (V (Proc.devRef .tc main_while1b_v36)) := by
  unfold cell1
  after_results_simp_entrywise
  all_goals rfl

/-- One trip of scan 1. -/
def trip1 (V : Valuation τ sig (Elt F)) : Valuation τ sig (Elt F) := StableHlo.afterL [gates1, cell1] (StableHlo.after cond1 V)

theorem trip1_eq (V : Valuation τ sig (Elt F)) : trip1 V = StableHlo.after cell1 (StableHlo.after gates1 (StableHlo.after cond1 V)) := rfl

theorem trip1_keep (V : Valuation τ sig (Elt F)) {r : Ref sig .tc} (h0 : r ∉ cond1W) (h1 : r ∉ gates1W) (h2 : r ∉ cell1W) : trip1 V (Proc.devRef .tc r) = V (Proc.devRef .tc r) := by
  rw [trip1_eq, cell1_keep _ h2, gates1_keep _ h1, cond1_keep _ h0]

theorem trip1_4 (V : Valuation τ sig (Elt F)) : trip1 V (Proc.devRef .tc main_v11_4) =
    incV (V (Proc.devRef .tc main_v11_4)) := by
  rw [trip1_eq, cell1_4, gates1_keep _ (r := main_v11_4) (by decide), cond1_keep V (r := main_v11_4) (by decide)]

theorem trip1_5 (V : Valuation τ sig (Elt F)) : trip1 V (Proc.devRef .tc main_v11_5) =
    hidV (F := F) (gate0 (pick0 (V (Proc.devRef .tc main_v11_0)) (revV (V (Proc.devRef .tc main_v11_4)))) (V (Proc.devRef .tc main_v11_1)) (V (Proc.devRef .tc main_v11_2)) (V (Proc.devRef .tc main_v11_3)) (V (Proc.devRef .tc main_v11_5))) (V (Proc.devRef .tc main_v11_6)) := by
  rw [trip1_eq, cell1_5, gates1_keep _ (r := main_v11_6) (by decide), gates1_g, cond1_keep V (r := main_v11_0) (by decide), cond1_keep V (r := main_v11_4) (by decide), cond1_keep V (r := main_v11_1) (by decide), cond1_keep V (r := main_v11_2) (by decide), cond1_keep V (r := main_v11_3) (by decide), cond1_keep V (r := main_v11_5) (by decide), cond1_keep V (r := main_v11_6) (by decide)]

theorem trip1_6 (V : Valuation τ sig (Elt F)) : trip1 V (Proc.devRef .tc main_v11_6) =
    cellV (F := F) (gate0 (pick0 (V (Proc.devRef .tc main_v11_0)) (revV (V (Proc.devRef .tc main_v11_4)))) (V (Proc.devRef .tc main_v11_1)) (V (Proc.devRef .tc main_v11_2)) (V (Proc.devRef .tc main_v11_3)) (V (Proc.devRef .tc main_v11_5))) (V (Proc.devRef .tc main_v11_6)) := by
  rw [trip1_eq, cell1_6, gates1_keep _ (r := main_v11_6) (by decide), gates1_g, cond1_keep V (r := main_v11_0) (by decide), cond1_keep V (r := main_v11_4) (by decide), cond1_keep V (r := main_v11_1) (by decide), cond1_keep V (r := main_v11_2) (by decide), cond1_keep V (r := main_v11_3) (by decide), cond1_keep V (r := main_v11_5) (by decide), cond1_keep V (r := main_v11_6) (by decide)]

theorem trip1_7 (V : Valuation τ sig (Elt F)) : trip1 V (Proc.devRef .tc main_v11_7) =
    putV (F := F) (V (Proc.devRef .tc main_v11_7)) (hidV (gate0 (pick0 (V (Proc.devRef .tc main_v11_0)) (revV (V (Proc.devRef .tc main_v11_4)))) (V (Proc.devRef .tc main_v11_1)) (V (Proc.devRef .tc main_v11_2)) (V (Proc.devRef .tc main_v11_3)) (V (Proc.devRef .tc main_v11_5))) (V (Proc.devRef .tc main_v11_6))) (revV (V (Proc.devRef .tc main_v11_4))) := by
  rw [trip1_eq, cell1_7, gates1_keep _ (r := main_v11_6) (by decide), gates1_keep _ (r := main_v11_7) (by decide), gates1_i, gates1_g, cond1_keep V (r := main_v11_0) (by decide), cond1_keep V (r := main_v11_4) (by decide), cond1_keep V (r := main_v11_1) (by decide), cond1_keep V (r := main_v11_2) (by decide), cond1_keep V (r := main_v11_3) (by decide), cond1_keep V (r := main_v11_5) (by decide), cond1_keep V (r := main_v11_6) (by decide), cond1_keep V (r := main_v11_7) (by decide)]

/-- The buffers `cond2` writes. -/
def cond2W : List (Ref sig .tc) := [main_while2c_c_23, main_while2c_v35]

theorem cond2_keep (V : Valuation τ sig (Elt F)) {r : Ref sig .tc} (hr : r ∉ cond2W) : StableHlo.after cond2 V (Proc.devRef .tc r) = V (Proc.devRef .tc r) :=
  StableHlo.after_of_writes_sub cond2 V (StableHlo.forall_writes_sub_of_map rfl) hr

/-- The buffers `gates2` writes. -/
def gates2W : List (Ref sig .tc) := [main_while2b_call5_c, main_while2b_call5_c_0, main_while2b_call5_v0, main_while2b_v35, main_while2b_v36, main_while2b_v37, main_while2b_v38, main_while2b_v39, main_while2b_v40, main_while2b_v41, main_while2b_v42, main_while2b_v43]

theorem gates2_keep (V : Valuation τ sig (Elt F)) {r : Ref sig .tc} (hr : r ∉ gates2W) : StableHlo.after gates2 V (Proc.devRef .tc r) = V (Proc.devRef .tc r) :=
  StableHlo.after_of_writes_sub gates2 V (StableHlo.forall_writes_sub_of_map rfl) hr

/-- The buffers `cell2` writes. -/
def cell2W : List (Ref sig .tc) := [main_while2b_v44, main_while2b_v45, main_while2b_v46, main_while2b_v47, main_while2b_v48, main_while2b_v49, main_while2b_cst_23, main_while2b_v50, main_while2b_v51, main_while2b_cst_24, main_while2b_v52, main_while2b_v53, main_while2b_v54, main_while2b_v55, main_while2b_cst_25, main_while2b_v56, main_while2b_v57, main_while2b_cst_26, main_while2b_v58, main_while2b_v59, main_while2b_v60, main_while2b_v61, main_while2b_v62, main_while2b_cst_27, main_while2b_v63, main_while2b_v64, main_while2b_cst_28, main_while2b_v65, main_while2b_v66, main_while2b_v67, main_while2b_v68, main_while2b_v69, main_while2b_v70, main_while2b_v71, main_while2b_call6_v0, main_while2b_call6_c, main_while2b_call6_c_0, main_while2b_v72, main_while2b_c_29, main_while2b_v73, main_v17_4, main_v17_5, main_v17_6, main_v17_7]

theorem cell2_keep (V : Valuation τ sig (Elt F)) {r : Ref sig .tc} (hr : r ∉ cell2W) : StableHlo.after cell2 V (Proc.devRef .tc r) = V (Proc.devRef .tc r) :=
  StableHlo.after_of_writes_sub cell2 V (StableHlo.forall_writes_sub_of_map rfl) hr

theorem gates2_g (V : Valuation τ sig (Elt F)) : StableHlo.after gates2 V (Proc.devRef .tc main_while2b_v43) =
    gate1 (F := F) (pick1 (V (Proc.devRef .tc main_v17_0)) (V (Proc.devRef .tc main_v17_4))) (V (Proc.devRef .tc main_v17_1)) (V (Proc.devRef .tc main_v17_2)) (V (Proc.devRef .tc main_v17_3)) (V (Proc.devRef .tc main_v17_5)) := by
  unfold gates2
  after_results_simp_entrywise
  all_goals rfl

theorem cell2_4 (V : Valuation τ sig (Elt F)) : StableHlo.after cell2 V (Proc.devRef .tc main_v17_4) =
    incV (V (Proc.devRef .tc main_v17_4)) := by
  unfold cell2
  after_results_simp_entrywise
  all_goals rfl

theorem cell2_5 (V : Valuation τ sig (Elt F)) : StableHlo.after cell2 V (Proc.devRef .tc main_v17_5) =
    hidV (F := F) (V (Proc.devRef .tc main_while2b_v43)) (V (Proc.devRef .tc main_v17_6)) := by
  unfold cell2
  after_results_simp_entrywise
  all_goals rfl

theorem cell2_6 (V : Valuation τ sig (Elt F)) : StableHlo.after cell2 V (Proc.devRef .tc main_v17_6) =
    cellV (F := F) (V (Proc.devRef .tc main_while2b_v43)) (V (Proc.devRef .tc main_v17_6)) := by
  unfold cell2
  after_results_simp_entrywise
  all_goals rfl

theorem cell2_7 (V : Valuation τ sig (Elt F)) : StableHlo.after cell2 V (Proc.devRef .tc main_v17_7) =
    putV (F := F) (V (Proc.devRef .tc main_v17_7)) (hidV (V (Proc.devRef .tc main_while2b_v43)) (V (Proc.devRef .tc main_v17_6))) (V (Proc.devRef .tc main_v17_4)) := by
  unfold cell2
  after_results_simp_entrywise
  all_goals rfl

/-- One trip of scan 2. -/
def trip2 (V : Valuation τ sig (Elt F)) : Valuation τ sig (Elt F) := StableHlo.afterL [gates2, cell2] (StableHlo.after cond2 V)

theorem trip2_eq (V : Valuation τ sig (Elt F)) : trip2 V = StableHlo.after cell2 (StableHlo.after gates2 (StableHlo.after cond2 V)) := rfl

theorem trip2_keep (V : Valuation τ sig (Elt F)) {r : Ref sig .tc} (h0 : r ∉ cond2W) (h1 : r ∉ gates2W) (h2 : r ∉ cell2W) : trip2 V (Proc.devRef .tc r) = V (Proc.devRef .tc r) := by
  rw [trip2_eq, cell2_keep _ h2, gates2_keep _ h1, cond2_keep _ h0]

theorem trip2_4 (V : Valuation τ sig (Elt F)) : trip2 V (Proc.devRef .tc main_v17_4) =
    incV (V (Proc.devRef .tc main_v17_4)) := by
  rw [trip2_eq, cell2_4, gates2_keep _ (r := main_v17_4) (by decide), cond2_keep V (r := main_v17_4) (by decide)]

theorem trip2_5 (V : Valuation τ sig (Elt F)) : trip2 V (Proc.devRef .tc main_v17_5) =
    hidV (F := F) (gate1 (pick1 (V (Proc.devRef .tc main_v17_0)) (V (Proc.devRef .tc main_v17_4))) (V (Proc.devRef .tc main_v17_1)) (V (Proc.devRef .tc main_v17_2)) (V (Proc.devRef .tc main_v17_3)) (V (Proc.devRef .tc main_v17_5))) (V (Proc.devRef .tc main_v17_6)) := by
  rw [trip2_eq, cell2_5, gates2_keep _ (r := main_v17_6) (by decide), gates2_g, cond2_keep V (r := main_v17_0) (by decide), cond2_keep V (r := main_v17_4) (by decide), cond2_keep V (r := main_v17_1) (by decide), cond2_keep V (r := main_v17_2) (by decide), cond2_keep V (r := main_v17_3) (by decide), cond2_keep V (r := main_v17_5) (by decide), cond2_keep V (r := main_v17_6) (by decide)]

theorem trip2_6 (V : Valuation τ sig (Elt F)) : trip2 V (Proc.devRef .tc main_v17_6) =
    cellV (F := F) (gate1 (pick1 (V (Proc.devRef .tc main_v17_0)) (V (Proc.devRef .tc main_v17_4))) (V (Proc.devRef .tc main_v17_1)) (V (Proc.devRef .tc main_v17_2)) (V (Proc.devRef .tc main_v17_3)) (V (Proc.devRef .tc main_v17_5))) (V (Proc.devRef .tc main_v17_6)) := by
  rw [trip2_eq, cell2_6, gates2_keep _ (r := main_v17_6) (by decide), gates2_g, cond2_keep V (r := main_v17_0) (by decide), cond2_keep V (r := main_v17_4) (by decide), cond2_keep V (r := main_v17_1) (by decide), cond2_keep V (r := main_v17_2) (by decide), cond2_keep V (r := main_v17_3) (by decide), cond2_keep V (r := main_v17_5) (by decide), cond2_keep V (r := main_v17_6) (by decide)]

theorem trip2_7 (V : Valuation τ sig (Elt F)) : trip2 V (Proc.devRef .tc main_v17_7) =
    putV (F := F) (V (Proc.devRef .tc main_v17_7)) (hidV (gate1 (pick1 (V (Proc.devRef .tc main_v17_0)) (V (Proc.devRef .tc main_v17_4))) (V (Proc.devRef .tc main_v17_1)) (V (Proc.devRef .tc main_v17_2)) (V (Proc.devRef .tc main_v17_3)) (V (Proc.devRef .tc main_v17_5))) (V (Proc.devRef .tc main_v17_6))) (V (Proc.devRef .tc main_v17_4)) := by
  rw [trip2_eq, cell2_7, gates2_keep _ (r := main_v17_6) (by decide), gates2_keep _ (r := main_v17_7) (by decide), gates2_keep _ (r := main_v17_4) (by decide), gates2_g, cond2_keep V (r := main_v17_0) (by decide), cond2_keep V (r := main_v17_4) (by decide), cond2_keep V (r := main_v17_1) (by decide), cond2_keep V (r := main_v17_2) (by decide), cond2_keep V (r := main_v17_3) (by decide), cond2_keep V (r := main_v17_5) (by decide), cond2_keep V (r := main_v17_6) (by decide), cond2_keep V (r := main_v17_7) (by decide)]

/-- The buffers `cond3` writes. -/
def cond3W : List (Ref sig .tc) := [main_while3c_c_23, main_while3c_v35]

theorem cond3_keep (V : Valuation τ sig (Elt F)) {r : Ref sig .tc} (hr : r ∉ cond3W) : StableHlo.after cond3 V (Proc.devRef .tc r) = V (Proc.devRef .tc r) :=
  StableHlo.after_of_writes_sub cond3 V (StableHlo.forall_writes_sub_of_map rfl) hr

/-- The buffers `gates3` writes. -/
def gates3W : List (Ref sig .tc) := [main_while3b_c_23, main_while3b_v35, main_while3b_c_24, main_while3b_v36, main_while3b_call7_c, main_while3b_call7_c_0, main_while3b_call7_v0, main_while3b_v37, main_while3b_v38, main_while3b_v39, main_while3b_v40, main_while3b_v41, main_while3b_v42, main_while3b_v43, main_while3b_v44, main_while3b_v45]

theorem gates3_keep (V : Valuation τ sig (Elt F)) {r : Ref sig .tc} (hr : r ∉ gates3W) : StableHlo.after gates3 V (Proc.devRef .tc r) = V (Proc.devRef .tc r) :=
  StableHlo.after_of_writes_sub gates3 V (StableHlo.forall_writes_sub_of_map rfl) hr

/-- The buffers `cell3` writes. -/
def cell3W : List (Ref sig .tc) := [main_while3b_v46, main_while3b_v47, main_while3b_v48, main_while3b_v49, main_while3b_v50, main_while3b_v51, main_while3b_cst_25, main_while3b_v52, main_while3b_v53, main_while3b_cst_26, main_while3b_v54, main_while3b_v55, main_while3b_v56, main_while3b_v57, main_while3b_cst_27, main_while3b_v58, main_while3b_v59, main_while3b_cst_28, main_while3b_v60, main_while3b_v61, main_while3b_v62, main_while3b_v63, main_while3b_v64, main_while3b_cst_29, main_while3b_v65, main_while3b_v66, main_while3b_cst_30, main_while3b_v67, main_while3b_v68, main_while3b_v69, main_while3b_v70, main_while3b_v71, main_while3b_v72, main_while3b_v73, main_while3b_call8_v0, main_while3b_call8_c, main_while3b_call8_c_0, main_while3b_v74, main_while3b_c_31, main_while3b_v75, main_v22_4, main_v22_5, main_v22_6, main_v22_7]

theorem cell3_keep (V : Valuation τ sig (Elt F)) {r : Ref sig .tc} (hr : r ∉ cell3W) : StableHlo.after cell3 V (Proc.devRef .tc r) = V (Proc.devRef .tc r) :=
  StableHlo.after_of_writes_sub cell3 V (StableHlo.forall_writes_sub_of_map rfl) hr

theorem gates3_g (V : Valuation τ sig (Elt F)) : StableHlo.after gates3 V (Proc.devRef .tc main_while3b_v45) =
    gate1 (F := F) (pick1 (V (Proc.devRef .tc main_v22_0)) (revV (V (Proc.devRef .tc main_v22_4)))) (V (Proc.devRef .tc main_v22_1)) (V (Proc.devRef .tc main_v22_2)) (V (Proc.devRef .tc main_v22_3)) (V (Proc.devRef .tc main_v22_5)) := by
  unfold gates3
  after_results_simp_entrywise
  all_goals rfl

theorem gates3_i (V : Valuation τ sig (Elt F)) : StableHlo.after gates3 V (Proc.devRef .tc main_while3b_v36) =
    revV (V (Proc.devRef .tc main_v22_4)) := by
  unfold gates3
  after_results_simp_entrywise
  all_goals rfl

theorem cell3_4 (V : Valuation τ sig (Elt F)) : StableHlo.after cell3 V (Proc.devRef .tc main_v22_4) =
    incV (V (Proc.devRef .tc main_v22_4)) := by
  unfold cell3
  after_results_simp_entrywise
  all_goals rfl

theorem cell3_5 (V : Valuation τ sig (Elt F)) : StableHlo.after cell3 V (Proc.devRef .tc main_v22_5) =
    hidV (F := F) (V (Proc.devRef .tc main_while3b_v45)) (V (Proc.devRef .tc main_v22_6)) := by
  unfold cell3
  after_results_simp_entrywise
  all_goals rfl

theorem cell3_6 (V : Valuation τ sig (Elt F)) : StableHlo.after cell3 V (Proc.devRef .tc main_v22_6) =
    cellV (F := F) (V (Proc.devRef .tc main_while3b_v45)) (V (Proc.devRef .tc main_v22_6)) := by
  unfold cell3
  after_results_simp_entrywise
  all_goals rfl

theorem cell3_7 (V : Valuation τ sig (Elt F)) : StableHlo.after cell3 V (Proc.devRef .tc main_v22_7) =
    putV (F := F) (V (Proc.devRef .tc main_v22_7)) (hidV (V (Proc.devRef .tc main_while3b_v45)) (V (Proc.devRef .tc main_v22_6))) (V (Proc.devRef .tc main_while3b_v36)) := by
  unfold cell3
  after_results_simp_entrywise
  all_goals rfl

/-- One trip of scan 3. -/
def trip3 (V : Valuation τ sig (Elt F)) : Valuation τ sig (Elt F) := StableHlo.afterL [gates3, cell3] (StableHlo.after cond3 V)

theorem trip3_eq (V : Valuation τ sig (Elt F)) : trip3 V = StableHlo.after cell3 (StableHlo.after gates3 (StableHlo.after cond3 V)) := rfl

theorem trip3_keep (V : Valuation τ sig (Elt F)) {r : Ref sig .tc} (h0 : r ∉ cond3W) (h1 : r ∉ gates3W) (h2 : r ∉ cell3W) : trip3 V (Proc.devRef .tc r) = V (Proc.devRef .tc r) := by
  rw [trip3_eq, cell3_keep _ h2, gates3_keep _ h1, cond3_keep _ h0]

theorem trip3_4 (V : Valuation τ sig (Elt F)) : trip3 V (Proc.devRef .tc main_v22_4) =
    incV (V (Proc.devRef .tc main_v22_4)) := by
  rw [trip3_eq, cell3_4, gates3_keep _ (r := main_v22_4) (by decide), cond3_keep V (r := main_v22_4) (by decide)]

theorem trip3_5 (V : Valuation τ sig (Elt F)) : trip3 V (Proc.devRef .tc main_v22_5) =
    hidV (F := F) (gate1 (pick1 (V (Proc.devRef .tc main_v22_0)) (revV (V (Proc.devRef .tc main_v22_4)))) (V (Proc.devRef .tc main_v22_1)) (V (Proc.devRef .tc main_v22_2)) (V (Proc.devRef .tc main_v22_3)) (V (Proc.devRef .tc main_v22_5))) (V (Proc.devRef .tc main_v22_6)) := by
  rw [trip3_eq, cell3_5, gates3_keep _ (r := main_v22_6) (by decide), gates3_g, cond3_keep V (r := main_v22_0) (by decide), cond3_keep V (r := main_v22_4) (by decide), cond3_keep V (r := main_v22_1) (by decide), cond3_keep V (r := main_v22_2) (by decide), cond3_keep V (r := main_v22_3) (by decide), cond3_keep V (r := main_v22_5) (by decide), cond3_keep V (r := main_v22_6) (by decide)]

theorem trip3_6 (V : Valuation τ sig (Elt F)) : trip3 V (Proc.devRef .tc main_v22_6) =
    cellV (F := F) (gate1 (pick1 (V (Proc.devRef .tc main_v22_0)) (revV (V (Proc.devRef .tc main_v22_4)))) (V (Proc.devRef .tc main_v22_1)) (V (Proc.devRef .tc main_v22_2)) (V (Proc.devRef .tc main_v22_3)) (V (Proc.devRef .tc main_v22_5))) (V (Proc.devRef .tc main_v22_6)) := by
  rw [trip3_eq, cell3_6, gates3_keep _ (r := main_v22_6) (by decide), gates3_g, cond3_keep V (r := main_v22_0) (by decide), cond3_keep V (r := main_v22_4) (by decide), cond3_keep V (r := main_v22_1) (by decide), cond3_keep V (r := main_v22_2) (by decide), cond3_keep V (r := main_v22_3) (by decide), cond3_keep V (r := main_v22_5) (by decide), cond3_keep V (r := main_v22_6) (by decide)]

theorem trip3_7 (V : Valuation τ sig (Elt F)) : trip3 V (Proc.devRef .tc main_v22_7) =
    putV (F := F) (V (Proc.devRef .tc main_v22_7)) (hidV (gate1 (pick1 (V (Proc.devRef .tc main_v22_0)) (revV (V (Proc.devRef .tc main_v22_4)))) (V (Proc.devRef .tc main_v22_1)) (V (Proc.devRef .tc main_v22_2)) (V (Proc.devRef .tc main_v22_3)) (V (Proc.devRef .tc main_v22_5))) (V (Proc.devRef .tc main_v22_6))) (revV (V (Proc.devRef .tc main_v22_4))) := by
  rw [trip3_eq, cell3_7, gates3_keep _ (r := main_v22_6) (by decide), gates3_keep _ (r := main_v22_7) (by decide), gates3_i, gates3_g, cond3_keep V (r := main_v22_0) (by decide), cond3_keep V (r := main_v22_4) (by decide), cond3_keep V (r := main_v22_1) (by decide), cond3_keep V (r := main_v22_2) (by decide), cond3_keep V (r := main_v22_3) (by decide), cond3_keep V (r := main_v22_5) (by decide), cond3_keep V (r := main_v22_6) (by decide), cond3_keep V (r := main_v22_7) (by decide)]

/-- The buffers `main0` writes. -/
def main0W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_v1, main_v2, main_cst, main_v3, main_cst_0, main_v4, main_cst_1, main_v5, main_c, main_v6_0, main_v6_1, main_v6_2, main_v6_3, main_v6_4, main_v6_5, main_v6_6, main_v6_7]

theorem main0_keep (V : Valuation τ sig (Elt F)) {r : Ref sig .tc} (hr : r ∉ main0W) : StableHlo.after main0 V (Proc.devRef .tc r) = V (Proc.devRef .tc r) :=
  StableHlo.after_of_writes_sub main0 V (StableHlo.forall_writes_sub_of_map rfl) hr

/-- The buffers `main1` writes. -/
def main1W : List (Ref sig .tc) := [main_v7, main_cst_2, main_v8, main_cst_3, main_v9, main_cst_4, main_v10, main_c_5, main_v11_0, main_v11_1, main_v11_2, main_v11_3, main_v11_4, main_v11_5, main_v11_6, main_v11_7]

theorem main1_keep (V : Valuation τ sig (Elt F)) {r : Ref sig .tc} (hr : r ∉ main1W) : StableHlo.after main1 V (Proc.devRef .tc r) = V (Proc.devRef .tc r) :=
  StableHlo.after_of_writes_sub main1 V (StableHlo.forall_writes_sub_of_map rfl) hr

/-- The buffers `main2` writes. -/
def main2W : List (Ref sig .tc) := [main_v12, main_v13, main_cst_6, main_v14, main_cst_7, main_v15, main_cst_8, main_v16, main_c_9, main_v17_0, main_v17_1, main_v17_2, main_v17_3, main_v17_4, main_v17_5, main_v17_6, main_v17_7]

theorem main2_keep (V : Valuation τ sig (Elt F)) {r : Ref sig .tc} (hr : r ∉ main2W) : StableHlo.after main2 V (Proc.devRef .tc r) = V (Proc.devRef .tc r) :=
  StableHlo.after_of_writes_sub main2 V (StableHlo.forall_writes_sub_of_map rfl) hr

/-- The buffers `main3` writes. -/
def main3W : List (Ref sig .tc) := [main_v18, main_cst_10, main_v19, main_cst_11, main_v20, main_cst_12, main_v21, main_c_13, main_v22_0, main_v22_1, main_v22_2, main_v22_3, main_v22_4, main_v22_5, main_v22_6, main_v22_7]

theorem main3_keep (V : Valuation τ sig (Elt F)) {r : Ref sig .tc} (hr : r ∉ main3W) : StableHlo.after main3 V (Proc.devRef .tc r) = V (Proc.devRef .tc r) :=
  StableHlo.after_of_writes_sub main3 V (StableHlo.forall_writes_sub_of_map rfl) hr

/-- The buffers `main4` writes. -/
def main4W : List (Ref sig .tc) := [main_v23, main_v24, main_v25, main_v26, main_v27, main_v28, main_v29, main_v30, main_cst_14, main_v31, main_v32, main_cst_15, main_v33, main_v34]

theorem main4_keep (V : Valuation τ sig (Elt F)) {r : Ref sig .tc} (hr : r ∉ main4W) : StableHlo.after main4 V (Proc.devRef .tc r) = V (Proc.devRef .tc r) :=
  StableHlo.after_of_writes_sub main4 V (StableHlo.forall_writes_sub_of_map rfl) hr

theorem main0_v1 (V : Valuation τ sig (Elt F)) : StableHlo.after main0 V (Proc.devRef .tc main_v1) =
    embV (F := F) (takeV (V (Proc.devRef .tc main_arg0)) (V (Proc.devRef .tc main_arg1))) := by
  unfold main0
  after_results_simp_entrywise
  all_goals rfl

theorem main0_0 (V : Valuation τ sig (Elt F)) : StableHlo.after main0 V (Proc.devRef .tc main_v6_0) =
    embV (F := F) (takeV (V (Proc.devRef .tc main_arg0)) (V (Proc.devRef .tc main_arg1))) := by
  unfold main0
  after_results_simp_entrywise
  dsimp only [id_eq]
  rfl

theorem main0_1 (V : Valuation τ sig (Elt F)) : StableHlo.after main0 V (Proc.devRef .tc main_v6_1) =
    (V (Proc.devRef .tc main_arg2)) := by
  unfold main0
  after_results_simp_entrywise
  all_goals rfl

theorem main0_2 (V : Valuation τ sig (Elt F)) : StableHlo.after main0 V (Proc.devRef .tc main_v6_2) =
    (V (Proc.devRef .tc main_arg3)) := by
  unfold main0
  after_results_simp_entrywise
  all_goals rfl

theorem main0_3 (V : Valuation τ sig (Elt F)) : StableHlo.after main0 V (Proc.devRef .tc main_v6_3) =
    addf (F := F) (s := S2048) (φ := .f32) (V (Proc.devRef .tc main_arg4)) (V (Proc.devRef .tc main_arg5)) := by
  unfold main0
  after_results_simp_entrywise
  all_goals rfl

theorem main0_4 (V : Valuation τ sig (Elt F)) : StableHlo.after main0 V (Proc.devRef .tc main_v6_4) =
    zI := by
  unfold main0
  after_results_simp_entrywise
  all_goals rfl

theorem main0_5 (V : Valuation τ sig (Elt F)) : StableHlo.after main0 V (Proc.devRef .tc main_v6_5) =
    zH (F := F) := by
  unfold main0
  after_results_simp_entrywise
  all_goals rfl

theorem main0_6 (V : Valuation τ sig (Elt F)) : StableHlo.after main0 V (Proc.devRef .tc main_v6_6) =
    zH (F := F) := by
  unfold main0
  after_results_simp_entrywise
  all_goals rfl

theorem main0_7 (V : Valuation τ sig (Elt F)) : StableHlo.after main0 V (Proc.devRef .tc main_v6_7) =
    zY (F := F) := by
  unfold main0
  after_results_simp_entrywise
  all_goals rfl

theorem main1_0 (V : Valuation τ sig (Elt F)) : StableHlo.after main1 V (Proc.devRef .tc main_v11_0) =
    (V (Proc.devRef .tc main_v1)) := by
  unfold main1
  after_results_simp_entrywise
  all_goals rfl

theorem main1_1 (V : Valuation τ sig (Elt F)) : StableHlo.after main1 V (Proc.devRef .tc main_v11_1) =
    (V (Proc.devRef .tc main_arg6)) := by
  unfold main1
  after_results_simp_entrywise
  all_goals rfl

theorem main1_2 (V : Valuation τ sig (Elt F)) : StableHlo.after main1 V (Proc.devRef .tc main_v11_2) =
    (V (Proc.devRef .tc main_arg7)) := by
  unfold main1
  after_results_simp_entrywise
  all_goals rfl

theorem main1_3 (V : Valuation τ sig (Elt F)) : StableHlo.after main1 V (Proc.devRef .tc main_v11_3) =
    addf (F := F) (s := S2048) (φ := .f32) (V (Proc.devRef .tc main_arg8)) (V (Proc.devRef .tc main_arg9)) := by
  unfold main1
  after_results_simp_entrywise
  all_goals rfl

theorem main1_4 (V : Valuation τ sig (Elt F)) : StableHlo.after main1 V (Proc.devRef .tc main_v11_4) =
    zI := by
  unfold main1
  after_results_simp_entrywise
  all_goals rfl

theorem main1_5 (V : Valuation τ sig (Elt F)) : StableHlo.after main1 V (Proc.devRef .tc main_v11_5) =
    zH (F := F) := by
  unfold main1
  after_results_simp_entrywise
  all_goals rfl

theorem main1_6 (V : Valuation τ sig (Elt F)) : StableHlo.after main1 V (Proc.devRef .tc main_v11_6) =
    zH (F := F) := by
  unfold main1
  after_results_simp_entrywise
  all_goals rfl

theorem main1_7 (V : Valuation τ sig (Elt F)) : StableHlo.after main1 V (Proc.devRef .tc main_v11_7) =
    zY (F := F) := by
  unfold main1
  after_results_simp_entrywise
  all_goals rfl

theorem main2_0 (V : Valuation τ sig (Elt F)) : StableHlo.after main2 V (Proc.devRef .tc main_v17_0) =
    catV (F := F) (V (Proc.devRef .tc main_v6_7)) (V (Proc.devRef .tc main_v11_7)) := by
  unfold main2
  after_results_simp_entrywise
  all_goals rfl

theorem main2_1 (V : Valuation τ sig (Elt F)) : StableHlo.after main2 V (Proc.devRef .tc main_v17_1) =
    (V (Proc.devRef .tc main_arg10)) := by
  unfold main2
  after_results_simp_entrywise
  all_goals rfl

theorem main2_2 (V : Valuation τ sig (Elt F)) : StableHlo.after main2 V (Proc.devRef .tc main_v17_2) =
    (V (Proc.devRef .tc main_arg11)) := by
  unfold main2
  after_results_simp_entrywise
  all_goals rfl

theorem main2_3 (V : Valuation τ sig (Elt F)) : StableHlo.after main2 V (Proc.devRef .tc main_v17_3) =
    addf (F := F) (s := S2048) (φ := .f32) (V (Proc.devRef .tc main_arg12)) (V (Proc.devRef .tc main_arg13)) := by
  unfold main2
  after_results_simp_entrywise
  all_goals rfl

theorem main2_4 (V : Valuation τ sig (Elt F)) : StableHlo.after main2 V (Proc.devRef .tc main_v17_4) =
    zI := by
  unfold main2
  after_results_simp_entrywise
  all_goals rfl

theorem main2_5 (V : Valuation τ sig (Elt F)) : StableHlo.after main2 V (Proc.devRef .tc main_v17_5) =
    zH (F := F) := by
  unfold main2
  after_results_simp_entrywise
  all_goals rfl

theorem main2_6 (V : Valuation τ sig (Elt F)) : StableHlo.after main2 V (Proc.devRef .tc main_v17_6) =
    zH (F := F) := by
  unfold main2
  after_results_simp_entrywise
  all_goals rfl

theorem main2_7 (V : Valuation τ sig (Elt F)) : StableHlo.after main2 V (Proc.devRef .tc main_v17_7) =
    zY (F := F) := by
  unfold main2
  after_results_simp_entrywise
  all_goals rfl

theorem main3_0 (V : Valuation τ sig (Elt F)) : StableHlo.after main3 V (Proc.devRef .tc main_v22_0) =
    (V (Proc.devRef .tc main_v12)) := by
  unfold main3
  after_results_simp_entrywise
  all_goals rfl

theorem main3_1 (V : Valuation τ sig (Elt F)) : StableHlo.after main3 V (Proc.devRef .tc main_v22_1) =
    (V (Proc.devRef .tc main_arg14)) := by
  unfold main3
  after_results_simp_entrywise
  all_goals rfl

theorem main3_2 (V : Valuation τ sig (Elt F)) : StableHlo.after main3 V (Proc.devRef .tc main_v22_2) =
    (V (Proc.devRef .tc main_arg15)) := by
  unfold main3
  after_results_simp_entrywise
  all_goals rfl

theorem main3_3 (V : Valuation τ sig (Elt F)) : StableHlo.after main3 V (Proc.devRef .tc main_v22_3) =
    addf (F := F) (s := S2048) (φ := .f32) (V (Proc.devRef .tc main_arg16)) (V (Proc.devRef .tc main_arg17)) := by
  unfold main3
  after_results_simp_entrywise
  all_goals rfl

theorem main3_4 (V : Valuation τ sig (Elt F)) : StableHlo.after main3 V (Proc.devRef .tc main_v22_4) =
    zI := by
  unfold main3
  after_results_simp_entrywise
  all_goals rfl

theorem main3_5 (V : Valuation τ sig (Elt F)) : StableHlo.after main3 V (Proc.devRef .tc main_v22_5) =
    zH (F := F) := by
  unfold main3
  after_results_simp_entrywise
  all_goals rfl

theorem main3_6 (V : Valuation τ sig (Elt F)) : StableHlo.after main3 V (Proc.devRef .tc main_v22_6) =
    zH (F := F) := by
  unfold main3
  after_results_simp_entrywise
  all_goals rfl

theorem main3_7 (V : Valuation τ sig (Elt F)) : StableHlo.after main3 V (Proc.devRef .tc main_v22_7) =
    zY (F := F) := by
  unfold main3
  after_results_simp_entrywise
  all_goals rfl

theorem main2_v12 (V : Valuation τ sig (Elt F)) : StableHlo.after main2 V (Proc.devRef .tc main_v12) =
    catV (F := F) (V (Proc.devRef .tc main_v6_7)) (V (Proc.devRef .tc main_v11_7)) := by
  unfold main2
  after_results_simp_entrywise
  all_goals rfl

theorem main4_v34 (V : Valuation τ sig (Elt F)) : StableHlo.after main4 V (Proc.devRef .tc main_v34) =
    headV (F := F) (V (Proc.devRef .tc main_v17_5)) (V (Proc.devRef .tc main_v22_5)) (V (Proc.devRef .tc main_arg18)) (V (Proc.devRef .tc main_arg19)) := by
  unfold main4
  after_results_simp_entrywise
  all_goals rfl

end Cert.Proof.Ref

end
-- ==== Proof.RefRun.lean ====
/-
  The reference's run: what its buffers hold from stretch to stretch, the scans' counters, and the run itself.
-/
module

public import proofs.«01_k».proof.Proof.RefStep
public import Idealize.ShloMosaic.Lib.Pipeline.RegionsLoop
public import Idealize.ShloMosaic.Lib.Scf.ExitTest

@[expose] public section

set_option maxRecDepth 16384
set_option maxHeartbeats 1000000

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg LoopSeg Ticket ucRefs sub_ucRefs)

variable {F : FTy → Type} [FloatOps F]

local notation "𝕄" => MT nD τ sig Unit (Elt F) ℕ (Option PUnit) ℕ

/-- No pipeline to admit. -/
abbrev adm : (p : Fin 0) → (pcfgs (F := F) p).Adm := fun p => p.elim0
/-- No ticket. -/
abbrev tk : Fin 0 → Ticket (Ix := Unit) (Name := ℕ) (U := Option PUnit) (Lvl := ℕ) (nD := nD) (τ := τ) (pcfgs (F := F)) adm := fun j => j.elim0
/-- No semaphore is of interest. -/
abbrev L₀ : GSem nD τ sig → Finset Unit := fun _ => ∅
abbrev lv₀ : GSem nD τ sig → Unit → ℕ := fun _ _ => 0
/-- What rides along beside the buffers. -/
abbrev Rw (c : Dev nD) : sProp 𝕄 := iprop(∃ W, owes (c : Thread nD τ) (0 : CellTallies nD τ sig Unit) W)

/-- The counter before trip `k`. -/
abbrev ctr (k : ℕ) : IVec S_ 32 := fun _ => BitVec.ofNat 32 k

theorem incV_ctr (k : ℕ) : incV (ctr k) = ctr (k + 1) := by
  funext i
  exact BitVec.eq_of_toNat_eq (by simp [incV, addi, constantI, IntOp.addi, BitVec.toNat_add, BitVec.toNat_ofNat, Nat.add_mod])

theorem zI_ctr : zI = ctr 0 := rfl

/-- The exit test of a scan. -/
theorem test_iff (k : ℕ) (hk : k ≤ 200) : IntOp.cmpi .slt (BitVec.ofNat 32 k) 200#32 = 1#1 ↔ k < 200 := by
  revert hk; revert k
  decide +kernel

/-! ## Scan 0 -/

section Scan0

variable (W₀ : Dev nD → Valuation τ sig (Elt F))

/-- The buffers before trip `k` of scan 0. -/
abbrev at0 (k : ℕ) (c : Dev nD) : Valuation τ sig (Elt F) := atTrip cond0 [gates0, cell0] W₀ k c

theorem at0_succ (k : ℕ) (c : Dev nD) : at0 W₀ (k + 1) c = trip0 (at0 W₀ k c) := rfl

theorem at0_keep (k : ℕ) (c : Dev nD) {r : Ref sig .tc} (h0 : r ∉ cond0W) (h1 : r ∉ gates0W) (h2 : r ∉ cell0W) :
    at0 W₀ k c (Proc.devRef .tc r) = W₀ c (Proc.devRef .tc r) := by
  induction k with
  | zero => rfl
  | succ k ih => rw [at0_succ, trip0_keep _ h0 h1 h2, ih]

theorem at0_ctr (c : Dev nD) (h : W₀ c (Proc.devRef .tc main_v6_4) = zI) (k : ℕ) : at0 W₀ k c (Proc.devRef .tc main_v6_4) = ctr k := by
  induction k with
  | zero => exact h
  | succ k ih => rw [at0_succ, trip0_4, ih, incV_ctr]

theorem cond0_spec (Rc : Dev nD → sProp 𝕄) (h : ∀ c, W₀ c (Proc.devRef .tc main_v6_4) = zI) :
    LoopCond (pcfgs (F := F)) defs₀ Variants.none loops Rc main_while0_cond cond0 [gates0, cell0] W₀ 200 := by
  intro k hk c bd
  have hctr := at0_ctr W₀ c (h c) k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt; rw [wp_ret]; imodintro
  isplitr
  · ipureintro
    show Iff (IntOp.cmpi .slt (HloOp.result _ (at0 W₀ k c) (Proc.devRef .tc main_v6_4) HostLoop.idx0)
        (HloOp.result _ (at0 W₀ k c) (Proc.devRef .tc main_while0c_c_23) HostLoop.idx0) = 1#1) (k < 200)
    rw [StableHlo.nullary_result_ne _ _ _ _ (by decide), StableHlo.nullary_result, hctr]
    exact test_iff k hk
  isplitl [Hb]; · iexact Hb
  isplitl [Hh]; · unfold cond0; rw [StableHlo.after_cons, StableHlo.after_cons, StableHlo.after_nil]; iexact Hh
  iexact HR

theorem body0_plain : Plain (τ := τ) (sig := sig) (F := F) [gates0, cell0] := Plain.cons gates0_sub (Plain.cons cell0_sub Plain.nil)

end Scan0

/-! ## Scan 1 -/

section Scan1

variable (W₀ : Dev nD → Valuation τ sig (Elt F))

/-- The buffers before trip `k` of scan 1. -/
abbrev at1 (k : ℕ) (c : Dev nD) : Valuation τ sig (Elt F) := atTrip cond1 [gates1, cell1] W₀ k c

theorem at1_succ (k : ℕ) (c : Dev nD) : at1 W₀ (k + 1) c = trip1 (at1 W₀ k c) := rfl

theorem at1_keep (k : ℕ) (c : Dev nD) {r : Ref sig .tc} (h0 : r ∉ cond1W) (h1 : r ∉ gates1W) (h2 : r ∉ cell1W) :
    at1 W₀ k c (Proc.devRef .tc r) = W₀ c (Proc.devRef .tc r) := by
  induction k with
  | zero => rfl
  | succ k ih => rw [at1_succ, trip1_keep _ h0 h1 h2, ih]

theorem at1_ctr (c : Dev nD) (h : W₀ c (Proc.devRef .tc main_v11_4) = zI) (k : ℕ) : at1 W₀ k c (Proc.devRef .tc main_v11_4) = ctr k := by
  induction k with
  | zero => exact h
  | succ k ih => rw [at1_succ, trip1_4, ih, incV_ctr]

theorem cond1_spec (Rc : Dev nD → sProp 𝕄) (h : ∀ c, W₀ c (Proc.devRef .tc main_v11_4) = zI) :
    LoopCond (pcfgs (F := F)) defs₀ Variants.none loops Rc main_while1_cond cond1 [gates1, cell1] W₀ 200 := by
  intro k hk c bd
  have hctr := at1_ctr W₀ c (h c) k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt; rw [wp_ret]; imodintro
  isplitr
  · ipureintro
    show Iff (IntOp.cmpi .slt (HloOp.result _ (at1 W₀ k c) (Proc.devRef .tc main_v11_4) HostLoop.idx0)
        (HloOp.result _ (at1 W₀ k c) (Proc.devRef .tc main_while1c_c_23) HostLoop.idx0) = 1#1) (k < 200)
    rw [StableHlo.nullary_result_ne _ _ _ _ (by decide), StableHlo.nullary_result, hctr]
    exact test_iff k hk
  isplitl [Hb]; · iexact Hb
  isplitl [Hh]; · unfold cond1; rw [StableHlo.after_cons, StableHlo.after_cons, StableHlo.after_nil]; iexact Hh
  iexact HR

theorem body1_plain : Plain (τ := τ) (sig := sig) (F := F) [gates1, cell1] := Plain.cons gates1_sub (Plain.cons cell1_sub Plain.nil)

end Scan1

/-! ## Scan 2 -/

section Scan2

variable (W₀ : Dev nD → Valuation τ sig (Elt F))

/-- The buffers before trip `k` of scan 2. -/
abbrev at2 (k : ℕ) (c : Dev nD) : Valuation τ sig (Elt F) := atTrip cond2 [gates2, cell2] W₀ k c

theorem at2_succ (k : ℕ) (c : Dev nD) : at2 W₀ (k + 1) c = trip2 (at2 W₀ k c) := rfl

theorem at2_keep (k : ℕ) (c : Dev nD) {r : Ref sig .tc} (h0 : r ∉ cond2W) (h1 : r ∉ gates2W) (h2 : r ∉ cell2W) :
    at2 W₀ k c (Proc.devRef .tc r) = W₀ c (Proc.devRef .tc r) := by
  induction k with
  | zero => rfl
  | succ k ih => rw [at2_succ, trip2_keep _ h0 h1 h2, ih]

theorem at2_ctr (c : Dev nD) (h : W₀ c (Proc.devRef .tc main_v17_4) = zI) (k : ℕ) : at2 W₀ k c (Proc.devRef .tc main_v17_4) = ctr k := by
  induction k with
  | zero => exact h
  | succ k ih => rw [at2_succ, trip2_4, ih, incV_ctr]

theorem cond2_spec (Rc : Dev nD → sProp 𝕄) (h : ∀ c, W₀ c (Proc.devRef .tc main_v17_4) = zI) :
    LoopCond (pcfgs (F := F)) defs₀ Variants.none loops Rc main_while2_cond cond2 [gates2, cell2] W₀ 200 := by
  intro k hk c bd
  have hctr := at2_ctr W₀ c (h c) k
  unfold main_while2_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt; rw [wp_ret]; imodintro
  isplitr
  · ipureintro
    show Iff (IntOp.cmpi .slt (HloOp.result _ (at2 W₀ k c) (Proc.devRef .tc main_v17_4) HostLoop.idx0)
        (HloOp.result _ (at2 W₀ k c) (Proc.devRef .tc main_while2c_c_23) HostLoop.idx0) = 1#1) (k < 200)
    rw [StableHlo.nullary_result_ne _ _ _ _ (by decide), StableHlo.nullary_result, hctr]
    exact test_iff k hk
  isplitl [Hb]; · iexact Hb
  isplitl [Hh]; · unfold cond2; rw [StableHlo.after_cons, StableHlo.after_cons, StableHlo.after_nil]; iexact Hh
  iexact HR

theorem body2_plain : Plain (τ := τ) (sig := sig) (F := F) [gates2, cell2] := Plain.cons gates2_sub (Plain.cons cell2_sub Plain.nil)

end Scan2

/-! ## Scan 3 -/

section Scan3

variable (W₀ : Dev nD → Valuation τ sig (Elt F))

/-- The buffers before trip `k` of scan 3. -/
abbrev at3 (k : ℕ) (c : Dev nD) : Valuation τ sig (Elt F) := atTrip cond3 [gates3, cell3] W₀ k c

theorem at3_succ (k : ℕ) (c : Dev nD) : at3 W₀ (k + 1) c = trip3 (at3 W₀ k c) := rfl

theorem at3_keep (k : ℕ) (c : Dev nD) {r : Ref sig .tc} (h0 : r ∉ cond3W) (h1 : r ∉ gates3W) (h2 : r ∉ cell3W) :
    at3 W₀ k c (Proc.devRef .tc r) = W₀ c (Proc.devRef .tc r) := by
  induction k with
  | zero => rfl
  | succ k ih => rw [at3_succ, trip3_keep _ h0 h1 h2, ih]

theorem at3_ctr (c : Dev nD) (h : W₀ c (Proc.devRef .tc main_v22_4) = zI) (k : ℕ) : at3 W₀ k c (Proc.devRef .tc main_v22_4) = ctr k := by
  induction k with
  | zero => exact h
  | succ k ih => rw [at3_succ, trip3_4, ih, incV_ctr]

theorem cond3_spec (Rc : Dev nD → sProp 𝕄) (h : ∀ c, W₀ c (Proc.devRef .tc main_v22_4) = zI) :
    LoopCond (pcfgs (F := F)) defs₀ Variants.none loops Rc main_while3_cond cond3 [gates3, cell3] W₀ 200 := by
  intro k hk c bd
  have hctr := at3_ctr W₀ c (h c) k
  unfold main_while3_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt; rw [wp_ret]; imodintro
  isplitr
  · ipureintro
    show Iff (IntOp.cmpi .slt (HloOp.result _ (at3 W₀ k c) (Proc.devRef .tc main_v22_4) HostLoop.idx0)
        (HloOp.result _ (at3 W₀ k c) (Proc.devRef .tc main_while3c_c_23) HostLoop.idx0) = 1#1) (k < 200)
    rw [StableHlo.nullary_result_ne _ _ _ _ (by decide), StableHlo.nullary_result, hctr]
    exact test_iff k hk
  isplitl [Hb]; · iexact Hb
  isplitl [Hh]; · unfold cond3; rw [StableHlo.after_cons, StableHlo.after_cons, StableHlo.after_nil]; iexact Hh
  iexact HR

theorem body3_plain : Plain (τ := τ) (sig := sig) (F := F) [gates3, cell3] := Plain.cons gates3_sub (Plain.cons cell3_sub Plain.nil)

end Scan3

/-! ## The buffers from stretch to stretch -/

section Run

variable (m : (ℓ : Loc nD τ sig) → Buf (Elt F) ℓ)

/-- The buffers after @main's stretch 0. -/
def U0 (c : Dev nD) : Valuation τ sig (Elt F) := StableHlo.after main0 (launchContents m c)

/-- The buffers after scan 0. -/
def E0 (c : Dev nD) : Valuation τ sig (Elt F) := StableHlo.after cond0 (at0 (U0 m) 200 c)

theorem U0_ctr (c : Dev nD) : U0 m c (Proc.devRef .tc main_v6_4) = zI := main0_4 _

/-- The buffers after @main's stretch 1. -/
def U1 (c : Dev nD) : Valuation τ sig (Elt F) := StableHlo.after main1 (E0 m c)

/-- The buffers after scan 1. -/
def E1 (c : Dev nD) : Valuation τ sig (Elt F) := StableHlo.after cond1 (at1 (U1 m) 200 c)

theorem U1_ctr (c : Dev nD) : U1 m c (Proc.devRef .tc main_v11_4) = zI := main1_4 _

/-- The buffers after @main's stretch 2. -/
def U2 (c : Dev nD) : Valuation τ sig (Elt F) := StableHlo.after main2 (E1 m c)

/-- The buffers after scan 2. -/
def E2 (c : Dev nD) : Valuation τ sig (Elt F) := StableHlo.after cond2 (at2 (U2 m) 200 c)

theorem U2_ctr (c : Dev nD) : U2 m c (Proc.devRef .tc main_v17_4) = zI := main2_4 _

/-- The buffers after @main's stretch 3. -/
def U3 (c : Dev nD) : Valuation τ sig (Elt F) := StableHlo.after main3 (E2 m c)

/-- The buffers after scan 3. -/
def E3 (c : Dev nD) : Valuation τ sig (Elt F) := StableHlo.after cond3 (at3 (U3 m) 200 c)

theorem U3_ctr (c : Dev nD) : U3 m c (Proc.devRef .tc main_v22_4) = zI := main3_4 _

/-- The buffers after @main's stretch 4. -/
def U4 (c : Dev nD) : Valuation τ sig (Elt F) := StableHlo.after main4 (E3 m c)

theorem plain0 : Plain (τ := τ) (sig := sig) (F := F) [main0] := Plain.cons main0_sub Plain.nil

theorem plain1 : Plain (τ := τ) (sig := sig) (F := F) [main1] := Plain.cons main1_sub Plain.nil

theorem plain2 : Plain (τ := τ) (sig := sig) (F := F) [main2] := Plain.cons main2_sub Plain.nil

theorem plain3 : Plain (τ := τ) (sig := sig) (F := F) [main3] := Plain.cons main3_sub Plain.nil

theorem plain4 : Plain (τ := τ) (sig := sig) (F := F) [main4] := Plain.cons main4_sub Plain.nil

/-- @main's segments. -/
def segs : List (CSeg (pcfgs (F := F)) adm defs₀ Variants.none L₀ lv₀ loops tk) :=
  segsOf (pcfgs (F := F)) adm defs₀ Variants.none L₀ lv₀ loops tk Rw [main0] plain0 (launchContents m) ++
  (loopSeg (pcfgs (F := F)) adm defs₀ Variants.none L₀ lv₀ loops tk 0 main_while0_cond main_while0_body rfl cond0 [gates0, cell0] body0_plain body0_eq 200 (U0 m) Rw (cond0_spec (U0 m) Rw (U0_ctr m)) ::
  (segsOf (pcfgs (F := F)) adm defs₀ Variants.none L₀ lv₀ loops tk Rw [main1] plain1 (E0 m) ++
  (loopSeg (pcfgs (F := F)) adm defs₀ Variants.none L₀ lv₀ loops tk 1 main_while1_cond main_while1_body rfl cond1 [gates1, cell1] body1_plain body1_eq 200 (U1 m) Rw (cond1_spec (U1 m) Rw (U1_ctr m)) ::
  (segsOf (pcfgs (F := F)) adm defs₀ Variants.none L₀ lv₀ loops tk Rw [main2] plain2 (E1 m) ++
  (loopSeg (pcfgs (F := F)) adm defs₀ Variants.none L₀ lv₀ loops tk 2 main_while2_cond main_while2_body rfl cond2 [gates2, cell2] body2_plain body2_eq 200 (U2 m) Rw (cond2_spec (U2 m) Rw (U2_ctr m)) ::
  (segsOf (pcfgs (F := F)) adm defs₀ Variants.none L₀ lv₀ loops tk Rw [main3] plain3 (E2 m) ++
  (loopSeg (pcfgs (F := F)) adm defs₀ Variants.none L₀ lv₀ loops tk 3 main_while3_cond main_while3_body rfl cond3 [gates3, cell3] body3_plain body3_eq 200 (U3 m) Rw (cond3_spec (U3 m) Rw (U3_ctr m)) ::
  (segsOf (pcfgs (F := F)) adm defs₀ Variants.none L₀ lv₀ loops tk Rw [main4] plain4 (E3 m)))))))))

theorem segs_prog : (segs m).map CSeg.prog = [(StableHlo.seq main0 : RP F PUnit), HostLoop.enter 0, StableHlo.seq main1, HostLoop.enter 1,
    StableHlo.seq main2, HostLoop.enter 2, StableHlo.seq main3, HostLoop.enter 3, StableHlo.seq main4] := by
  unfold segs
  simp only [List.map_append, List.map_cons, segsOf_prog]
  rfl

theorem segs_chains : CSeg.Chains (fun c => iprop(held (c : Thread nD τ) (ucRefs τ sig) (launchContents m c) ∗ Rw c)) (segs m)
    (fun c => iprop(held (c : Thread nD τ) (ucRefs τ sig) (U4 m c) ∗ Rw c)) := by
  unfold segs
  exact CSeg.Chains.append (segsOf_chains _ _ _ _ _ _ _ _ Rw [main0] plain0 _) ⟨fun _ => .rfl, CSeg.Chains.append (segsOf_chains _ _ _ _ _ _ _ _ Rw [main1] plain1 _) ⟨fun _ => .rfl, CSeg.Chains.append (segsOf_chains _ _ _ _ _ _ _ _ Rw [main2] plain2 _) ⟨fun _ => .rfl, CSeg.Chains.append (segsOf_chains _ _ _ _ _ _ _ _ Rw [main3] plain3 _) ⟨fun _ => .rfl, segsOf_chains _ _ _ _ _ _ _ _ Rw [main4] plain4 _⟩⟩⟩⟩

/-- What the reference's run leaves: every buffer at the last stretch's contents, every counter zero. -/
def QR (r : PUnit × MemSt nD τ sig (Elt F)) : Prop :=
  (∀ (c : Dev nD) (b : Ref sig .tc), (Proc.devRef .tc b : DevRef τ sig).isScoped = false → r.2.mem ((c.tc : Thread nD τ).loc b) = U4 m c (Proc.devRef .tc b))
    ∧ r.2.sem = fun _ => 0

theorem cells_inj : Function.Injective (Pipeline.cellOf (nD := nD) (τ := τ) (Pipeline.pin (pcfgs (F := F)) adm)) := fun k => k.1.elim0

theorem sem_scoped (g : GSem nD τ sig) : g.1.2 ≠ .tc ∨ g.2.isScoped .tc = true := by
  obtain ⟨t, s⟩ := g
  cases s with
  | reg s => exact s.elim0
  | dma s => exact s.elim0

theorem run_ref [∀ e, Nonempty (Elt F e)] (ρ : Dev nD → PrngReg) : θ_run (defs (F := F)) (onTc (τ := τ) main) ⟨m, fun _ => 0, ρ⟩ (QR m) :=
  Pipeline.θ_run_regions_loop_kit_sems (Ix := Unit) (Name := ℕ) (U := Option PUnit) (Lvl := ℕ) (J := Fin 0) (P := Fin 0) (Val := Elt F)
    (pcfgs (F := F)) adm cells_inj defs₀ Variants.none L₀ lv₀ loops tk m ρ main (segs m)
    (fun c Q => by
      rw [main_eq c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (U4 m c)))
    (hch := segs_chains m)
    (hinit := by
      refine Pipeline.initEach L₀ lv₀ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = U4 m c b)
    (hfin := fun c s' => by
      unfold held
      iintro ⟨Hh, HSI⟩
      ihave Hr := (pointsTo_read_all (ucRefs τ sig) (fun b => ((c : Dev nD), b)) (fun b => U4 m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (sem_scoped g)⟩)

end Run

end Cert.Proof.Ref

end
-- ==== Proof.RefFrame.lean ====
/-
  The reference's frame: its run ends without a fault, keeps its arguments, and leaves every counter zero.
-/
module

public import proofs.«01_k».proof.Proof.RefRun
public import proofs.«01_k».proof.Defs

@[expose] public section

set_option maxRecDepth 16384
set_option maxHeartbeats 1000000

noncomputable section

namespace Cert.Proof.Ref

open Cert.ReferenceIdeal Cert.ReferenceIdeal.Gen
open Idealize.ShloMosaic Idealize.ShloMosaic.TcCoe

variable {F : FTy → Type} [FloatOps F]

variable (m : (ℓ : Loc nD τ sig) → Buf (Elt F) ℓ)

/-- Not written by any operation of the reference. -/
structure Kept (r : Ref sig .tc) : Prop where
  main0 : r ∉ main0W
  cond0 : r ∉ cond0W
  gates0 : r ∉ gates0W
  cell0 : r ∉ cell0W
  main1 : r ∉ main1W
  cond1 : r ∉ cond1W
  gates1 : r ∉ gates1W
  cell1 : r ∉ cell1W
  main2 : r ∉ main2W
  cond2 : r ∉ cond2W
  gates2 : r ∉ gates2W
  cell2 : r ∉ cell2W
  main3 : r ∉ main3W
  cond3 : r ∉ cond3W
  gates3 : r ∉ gates3W
  cell3 : r ∉ cell3W
  main4 : r ∉ main4W

variable {m} {r : Ref sig .tc}

theorem U0_keep (h : Kept r) (c : Dev nD) : U0 m c (Proc.devRef .tc r) = m ((c.tc : Thread nD τ).loc r) :=
  (main0_keep _ h.main0).trans (rfl)
theorem E0_keep (h : Kept r) (c : Dev nD) : E0 m c (Proc.devRef .tc r) = m ((c.tc : Thread nD τ).loc r) :=
  (cond0_keep _ h.cond0).trans ((at0_keep _ _ _ h.cond0 h.gates0 h.cell0).trans (U0_keep h c))
theorem U1_keep (h : Kept r) (c : Dev nD) : U1 m c (Proc.devRef .tc r) = m ((c.tc : Thread nD τ).loc r) :=
  (main1_keep _ h.main1).trans (E0_keep h c)
theorem E1_keep (h : Kept r) (c : Dev nD) : E1 m c (Proc.devRef .tc r) = m ((c.tc : Thread nD τ).loc r) :=
  (cond1_keep _ h.cond1).trans ((at1_keep _ _ _ h.cond1 h.gates1 h.cell1).trans (U1_keep h c))
theorem U2_keep (h : Kept r) (c : Dev nD) : U2 m c (Proc.devRef .tc r) = m ((c.tc : Thread nD τ).loc r) :=
  (main2_keep _ h.main2).trans (E1_keep h c)
theorem E2_keep (h : Kept r) (c : Dev nD) : E2 m c (Proc.devRef .tc r) = m ((c.tc : Thread nD τ).loc r) :=
  (cond2_keep _ h.cond2).trans ((at2_keep _ _ _ h.cond2 h.gates2 h.cell2).trans (U2_keep h c))
theorem U3_keep (h : Kept r) (c : Dev nD) : U3 m c (Proc.devRef .tc r) = m ((c.tc : Thread nD τ).loc r) :=
  (main3_keep _ h.main3).trans (E2_keep h c)
theorem E3_keep (h : Kept r) (c : Dev nD) : E3 m c (Proc.devRef .tc r) = m ((c.tc : Thread nD τ).loc r) :=
  (cond3_keep _ h.cond3).trans ((at3_keep _ _ _ h.cond3 h.gates3 h.cell3).trans (U3_keep h c))
theorem U4_keep (h : Kept r) (c : Dev nD) : U4 m c (Proc.devRef .tc r) = m ((c.tc : Thread nD τ).loc r) :=
  (main4_keep _ h.main4).trans (E3_keep h c)

theorem kept0 : Kept main_arg0 := ⟨by decide, by decide, by decide, by decide, by decide, by decide, by decide, by decide, by decide, by decide, by decide, by decide, by decide, by decide, by decide, by decide, by decide⟩
theorem kept1 : Kept main_arg1 := ⟨by decide, by decide, by decide, by decide, by decide, by decide, by decide, by decide, by decide, by decide, by decide, by decide, by decide, by decide, by decide, by decide, by decide⟩
theorem kept2 : Kept main_arg2 := ⟨by decide, by decide, by decide, by decide, by decide, by decide, by decide, by decide, by decide, by decide, by decide, by decide, by decide, by decide, by decide, by decide, by decide⟩
theorem kept3 : Kept main_arg3 := ⟨by decide, by decide, by decide, by decide, by decide, by decide, by decide, by decide, by decide, by decide, by decide, by decide, by decide, by decide, by decide, by decide, by decide⟩
theorem kept4 : Kept main_arg4 := ⟨by decide, by decide, by decide, by decide, by decide, by decide, by decide, by decide, by decide, by decide, by decide, by decide, by decide, by decide, by decide, by decide, by decide⟩
theorem kept5 : Kept main_arg5 := ⟨by decide, by decide, by decide, by decide, by decide, by decide, by decide, by decide, by decide, by decide, by decide, by decide, by decide, by decide, by decide, by decide, by decide⟩
theorem kept6 : Kept main_arg6 := ⟨by decide, by decide, by decide, by decide, by decide, by decide, by decide, by decide, by decide, by decide, by decide, by decide, by decide, by decide, by decide, by decide, by decide⟩
theorem kept7 : Kept main_arg7 := ⟨by decide, by decide, by decide, by decide, by decide, by decide, by decide, by decide, by decide, by decide, by decide, by decide, by decide, by decide, by decide, by decide, by decide⟩
theorem kept8 : Kept main_arg8 := ⟨by decide, by decide, by decide, by decide, by decide, by decide, by decide, by decide, by decide, by decide, by decide, by decide, by decide, by decide, by decide, by decide, by decide⟩
theorem kept9 : Kept main_arg9 := ⟨by decide, by decide, by decide, by decide, by decide, by decide, by decide, by decide, by decide, by decide, by decide, by decide, by decide, by decide, by decide, by decide, by decide⟩
theorem kept10 : Kept main_arg10 := ⟨by decide, by decide, by decide, by decide, by decide, by decide, by decide, by decide, by decide, by decide, by decide, by decide, by decide, by decide, by decide, by decide, by decide⟩
theorem kept11 : Kept main_arg11 := ⟨by decide, by decide, by decide, by decide, by decide, by decide, by decide, by decide, by decide, by decide, by decide, by decide, by decide, by decide, by decide, by decide, by decide⟩
theorem kept12 : Kept main_arg12 := ⟨by decide, by decide, by decide, by decide, by decide, by decide, by decide, by decide, by decide, by decide, by decide, by decide, by decide, by decide, by decide, by decide, by decide⟩
theorem kept13 : Kept main_arg13 := ⟨by decide, by decide, by decide, by decide, by decide, by decide, by decide, by decide, by decide, by decide, by decide, by decide, by decide, by decide, by decide, by decide, by decide⟩
theorem kept14 : Kept main_arg14 := ⟨by decide, by decide, by decide, by decide, by decide, by decide, by decide, by decide, by decide, by decide, by decide, by decide, by decide, by decide, by decide, by decide, by decide⟩
theorem kept15 : Kept main_arg15 := ⟨by decide, by decide, by decide, by decide, by decide, by decide, by decide, by decide, by decide, by decide, by decide, by decide, by decide, by decide, by decide, by decide, by decide⟩
theorem kept16 : Kept main_arg16 := ⟨by decide, by decide, by decide, by decide, by decide, by decide, by decide, by decide, by decide, by decide, by decide, by decide, by decide, by decide, by decide, by decide, by decide⟩
theorem kept17 : Kept main_arg17 := ⟨by decide, by decide, by decide, by decide, by decide, by decide, by decide, by decide, by decide, by decide, by decide, by decide, by decide, by decide, by decide, by decide, by decide⟩
theorem kept18 : Kept main_arg18 := ⟨by decide, by decide, by decide, by decide, by decide, by decide, by decide, by decide, by decide, by decide, by decide, by decide, by decide, by decide, by decide, by decide, by decide⟩
theorem kept19 : Kept main_arg19 := ⟨by decide, by decide, by decide, by decide, by decide, by decide, by decide, by decide, by decide, by decide, by decide, by decide, by decide, by decide, by decide, by decide, by decide⟩

/-- The frame at any float operations. -/
theorem frame_at [∀ e, Nonempty (Elt F e)] (m : (ℓ : Loc nD τ sig) → Buf (Elt F) ℓ) (ρ : Dev nD → PrngReg) :
    θ_run (defs (F := F)) (onTc (τ := τ) main) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19)) ∧ r.2.sem = fun _ => 0) :=
  (θ_run (defs (F := F)) _ _).mono (fun r h => ⟨fun d =>
    ⟨(h.1 d main_arg0 rfl).trans (U4_keep kept0 d),
     (h.1 d main_arg1 rfl).trans (U4_keep kept1 d),
     (h.1 d main_arg2 rfl).trans (U4_keep kept2 d),
     (h.1 d main_arg3 rfl).trans (U4_keep kept3 d),
     (h.1 d main_arg4 rfl).trans (U4_keep kept4 d),
     (h.1 d main_arg5 rfl).trans (U4_keep kept5 d),
     (h.1 d main_arg6 rfl).trans (U4_keep kept6 d),
     (h.1 d main_arg7 rfl).trans (U4_keep kept7 d),
     (h.1 d main_arg8 rfl).trans (U4_keep kept8 d),
     (h.1 d main_arg9 rfl).trans (U4_keep kept9 d),
     (h.1 d main_arg10 rfl).trans (U4_keep kept10 d),
     (h.1 d main_arg11 rfl).trans (U4_keep kept11 d),
     (h.1 d main_arg12 rfl).trans (U4_keep kept12 d),
     (h.1 d main_arg13 rfl).trans (U4_keep kept13 d),
     (h.1 d main_arg14 rfl).trans (U4_keep kept14 d),
     (h.1 d main_arg15 rfl).trans (U4_keep kept15 d),
     (h.1 d main_arg16 rfl).trans (U4_keep kept16 d),
     (h.1 d main_arg17 rfl).trans (U4_keep kept17 d),
     (h.1 d main_arg18 rfl).trans (U4_keep kept18 d),
     (h.1 d main_arg19 rfl).trans (U4_keep kept19 d)⟩, h.2⟩)
    (run_ref (F := F) m ρ)

theorem frame_ref : Cert.quiescent_ReferenceIdeal := fun m ρ _ => frame_at (F := Ideal) m ρ

end Cert.Proof.Ref

end
-- ==== Proof.Lstm.lean ====
module

public import Idealize.ShloMosaic.PureOps.Ideal
public import Idealize.ShloMosaic.PureOps.Ideal.Laws
public import Idealize.ShloMosaic.Lib.MatmulPlain

/-!
# The recurrent network, one example at a time

The functions both programs compute over the extended reals: the sigmoid in its two spellings, the four
gates of one step, the new cell and hidden state, the scan of a sequence, and the network's score.
An example is one row of the arrays; every function here takes the row's numbers alone.
-/

@[expose] public section

noncomputable section
namespace Cert.Proof.Lstm
open Idealize.ShloMosaic Idealize.ShloMosaic.ValueIdx

/-- One half. -/
def half : EReal := ((1 / 2 : ℝ) : EReal)

theorem half_f32 : Ideal.ofBits .f32 0x3F000000#32 = half := by
  show Ideal.ieee 8 23 (0x3F000000#32) = _
  have e1 : ((0x3F000000#32).extractLsb' 23 8).toNat = 126 := by decide
  have e2 : ((0x3F000000#32).extractLsb' 0 23).toNat = 0 := by decide
  have e3 : ((0x3F000000#32).extractLsb' (8 + 23) 1 == 1#1) = false := by decide
  unfold Ideal.ieee half
  simp only [e1, e2, e3]
  norm_num

theorem one_f32 : Ideal.ofBits .f32 0x3F800000#32 = 1 := by
  show Ideal.ieee 8 23 (0x3F800000#32) = _
  have e1 : ((0x3F800000#32).extractLsb' 23 8).toNat = 127 := by decide
  have e2 : ((0x3F800000#32).extractLsb' 0 23).toNat = 0 := by decide
  have e3 : ((0x3F800000#32).extractLsb' (8 + 23) 1 == 1#1) = false := by decide
  unfold Ideal.ieee
  simp only [e1, e2, e3]
  norm_num

theorem zero_f32 : Ideal.ofBits .f32 0x00000000#32 = 0 := by
  show Ideal.ieee 8 23 (0x00000000#32) = _
  unfold Ideal.ieee
  norm_num [BitVec.extractLsb'_toNat]

theorem zero_bf16 : Ideal.ofBits .bf16 0x0000#16 = 0 := by
  show Ideal.ieee 8 7 (0x0000#16) = _
  unfold Ideal.ieee
  norm_num [BitVec.extractLsb'_toNat]

/-- The sigmoid. -/
def sg (z : EReal) : EReal := Ideal.logistic z

/-- The sigmoid is half of one plus the hyperbolic tangent of the half: at every extended real. -/
theorem half_tanh (z : EReal) : half + half * Ideal.tanh (half * z) = sg z := by
  have hp : (0 : ℝ) < 1 / 2 := by norm_num
  induction z with
  | bot =>
    have : half * (⊥ : EReal) = ⊥ := EReal.coe_mul_bot_of_pos hp
    rw [this, Ideal.tanh_bot, sg, Ideal.logistic_bot]
    show ((1 / 2 : ℝ) : EReal) + ((1 / 2 : ℝ) : EReal) * ((-1 : ℝ) : EReal) = ((0 : ℝ) : EReal)
    rw [← EReal.coe_mul, ← EReal.coe_add]; norm_num
  | top =>
    have : half * (⊤ : EReal) = ⊤ := EReal.coe_mul_top_of_pos hp
    rw [this, Ideal.tanh_top, sg, Ideal.logistic_top]
    show ((1 / 2 : ℝ) : EReal) + ((1 / 2 : ℝ) : EReal) * ((1 : ℝ) : EReal) = ((1 : ℝ) : EReal)
    rw [← EReal.coe_mul, ← EReal.coe_add]; norm_num
  | coe r =>
    have e : half * (r : EReal) = ((r / 2 : ℝ) : EReal) := by
      rw [half, ← EReal.coe_mul]; congr 1; ring
    rw [e, Ideal.tanh_coe, sg, Ideal.logistic_coe, half, ← EReal.coe_mul, ← EReal.coe_add]
    congr 1
    rw [Real.tanh_eq_sinh_div_cosh, Real.sinh_eq, Real.cosh_eq]
    have h1 : Real.exp (-r) = Real.exp (-(r / 2)) * Real.exp (-(r / 2)) := by rw [← Real.exp_add]; congr 1; ring
    have h2 : Real.exp (r / 2) * Real.exp (-(r / 2)) = 1 := by rw [← Real.exp_add]; simp
    have p1 := Real.exp_pos (r / 2)
    have p2 := Real.exp_pos (-(r / 2))
    rw [h1]
    generalize Real.exp (r / 2) = a at *
    generalize Real.exp (-(r / 2)) = b at *
    have : a + b ≠ 0 := by positivity
    have : 1 + b * b ≠ 0 := by positivity
    field_simp
    nlinarith

/-- The gates before their nonlinearities: input times input weights, plus hidden state times recurrent weights, plus the bias. -/
def gate {n : ℕ} (x : Fin n → EReal) (h : Fin 512 → EReal) (Wi : Fin 2048 → Fin n → EReal) (Wh : Fin 2048 → Fin 512 → EReal)
    (b : Fin 2048 → EReal) (j : Fin 2048) : EReal :=
  (∑ k, x k * Wi j k + ∑ k, h k * Wh j k) + b j

/-- The new cell state from the gates and the old cell state. -/
def cell (g : Fin 2048 → EReal) (c : Fin 512 → EReal) (j : Fin 512) : EReal :=
  sg (g ⟨512 + j, by omega⟩) * c j + sg (g ⟨j, by omega⟩) * Ideal.tanh (g ⟨1024 + j, by omega⟩)

/-- The new hidden state from the gates and the old cell state. -/
def hid (g : Fin 2048 → EReal) (c : Fin 512 → EReal) (j : Fin 512) : EReal :=
  sg (g ⟨1536 + j, by omega⟩) * Ideal.tanh (cell g c j)

/-- Hidden and cell state after `t` steps over the inputs `x`. -/
def scan {n : ℕ} (Wi : Fin 2048 → Fin n → EReal) (Wh : Fin 2048 → Fin 512 → EReal) (b : Fin 2048 → EReal)
    (x : ℕ → Fin n → EReal) : ℕ → (Fin 512 → EReal) × (Fin 512 → EReal)
  | 0 => (fun _ => 0, fun _ => 0)
  | t + 1 =>
    (hid (gate (x t) (scan Wi Wh b x t).1 Wi Wh b) (scan Wi Wh b x t).2,
     cell (gate (x t) (scan Wi Wh b x t).1 Wi Wh b) (scan Wi Wh b x t).2)

/-- Step `t`'s position in the sequence. -/
def pos (t : ℕ) : Fin 200 := ⟨t % 200, Nat.mod_lt _ (by omega)⟩

theorem pos_val (t : Fin 200) : pos t = t := Fin.ext (Nat.mod_eq_of_lt t.2)

/-- Two rows side by side. -/
def join (a b : Fin 512 → EReal) (k : Fin 1024) : EReal :=
  if h : (k : ℕ) < 512 then a ⟨k, h⟩ else b ⟨k - 512, by omega⟩

/-- A sum over two rows side by side is the sum over each. -/
theorem sum_join (a b : Fin 512 → EReal) (w : Fin 1024 → EReal) :
    ∑ k, join a b k * w k = ∑ k : Fin 512, a k * w ⟨k, by omega⟩ + ∑ k : Fin 512, b k * w ⟨512 + k, by omega⟩ := by
  refine (Fin.sum_univ_add (a := 512) (b := 512) (fun k : Fin (512 + 512) => join a b k * w k)).trans ?_
  refine congrArg₂ (· + ·) (Finset.sum_congr rfl fun k _ => ?_) (Finset.sum_congr rfl fun k _ => ?_)
  · have : join a b (Fin.castAdd 512 k) = a k := by
      unfold join; rw [dif_pos (by simp)]; rfl
    rw [this]; rfl
  · have : join a b (Fin.natAdd 512 k) = b k := by
      unfold join
      rw [dif_neg (by simp)]
      exact congrArg b (Fin.ext (by simp))
    rw [this]; rfl

/-- The weights of one direction of one layer. -/
structure Wts (n : ℕ) where
  /-- input weights -/
  i : Fin 2048 → Fin n → EReal
  /-- recurrent weights -/
  h : Fin 2048 → Fin 512 → EReal
  /-- bias -/
  b : Fin 2048 → EReal

/-- The states of the forward scan over a sequence. -/
abbrev fwd {n : ℕ} (W : Wts n) (x : Fin 200 → Fin n → EReal) (t : ℕ) : (Fin 512 → EReal) × (Fin 512 → EReal) :=
  scan W.i W.h W.b (fun s => x (pos s)) t

/-- The states of the backward scan over a sequence: step `s` reads position `199 - s`. -/
abbrev bwd {n : ℕ} (W : Wts n) (x : Fin 200 → Fin n → EReal) (t : ℕ) : (Fin 512 → EReal) × (Fin 512 → EReal) :=
  scan W.i W.h W.b (fun s => x (pos (199 - s))) t

/-- The first layer's outputs at a position: the forward scan's hidden state there, then the backward scan's. -/
def layer {n : ℕ} (Wf Wb : Wts n) (x : Fin 200 → Fin n → EReal) (t : Fin 200) : Fin 1024 → EReal :=
  join (fwd Wf x (t + 1)).1 (bwd Wb x (200 - t)).1

/-- The score of one example from its inputs and the weights. -/
def score {n : ℕ} (Wf Wb : Wts n) (Vf Vb : Wts 1024) (w : Fin 1024 → EReal) (b : EReal) (x : Fin 200 → Fin n → EReal) : EReal :=
  sg ((∑ k : Fin 512, (fwd Vf (layer Wf Wb x) 200).1 k * w ⟨k, by omega⟩
      + ∑ k : Fin 512, (bwd Vb (layer Wf Wb x) 200).1 k * w ⟨512 + k, by omega⟩) + b)

/-- The weights of one direction from the arrays that hold them: its bias is the sum of two. -/
def wtsOf {n : ℕ} (Wi : (⟨2, ![2048, n]⟩ : Shape).Idx → EReal) (Wh : (⟨2, ![2048, 512]⟩ : Shape).Idx → EReal)
    (b b' : (⟨1, ![2048]⟩ : Shape).Idx → EReal) : Wts n where
  i := fun j k => Wi (ix2 j k)
  h := fun j k => Wh (ix2 j k)
  b := fun j => b (ix1 j) + b' (ix1 j)

/-- The weights of one direction from the two arrays a kernel reads: input weights above recurrent weights, and the bias. -/
def wtsK {n : ℕ} (W : (⟨2, ![n + 512, 2048]⟩ : Shape).Idx → EReal) (b : (⟨2, ![1, 2048]⟩ : Shape).Idx → EReal) : Wts n where
  i := fun j k => W (ix2 (Fin.castAdd 512 k) j)
  h := fun j k => W (ix2 (Fin.natAdd n k) j)
  b := fun j => b (ix2 0 j)

/-- One product of a row holding the inputs beside the hidden state is the sum of the two products. -/
theorem gate_row {n : ℕ} (z : Fin (n + 512) → EReal) (W : (⟨2, ![n + 512, 2048]⟩ : Shape).Idx → EReal)
    (b : (⟨2, ![1, 2048]⟩ : Shape).Idx → EReal) (j : Fin 2048) :
    ∑ k, z k * W (ix2 k j) + b (ix2 0 j)
      = gate (fun k => z (Fin.castAdd 512 k)) (fun k => z (Fin.natAdd n k)) (wtsK W b).i (wtsK W b).h (wtsK W b).b j := by
  unfold gate wtsK
  rw [Fin.sum_univ_add]

/-- One step of a direction. -/
def step {n : ℕ} (W : Wts n) (x : Fin n → EReal) (s : (Fin 512 → EReal) × (Fin 512 → EReal)) : (Fin 512 → EReal) × (Fin 512 → EReal) :=
  (hid (gate x s.1 W.i W.h W.b) s.2, cell (gate x s.1 W.i W.h W.b) s.2)

theorem scan_succ {n : ℕ} (W : Wts n) (x : ℕ → Fin n → EReal) (t : ℕ) :
    scan W.i W.h W.b x (t + 1) = step W (x t) (scan W.i W.h W.b x t) := rfl

end Cert.Proof.Lstm

end
-- ==== Proof.KCell.lean ====
/-
  What the kernel's bodies compute at one element, over the extended reals: the gates of a row, its new cell and hidden state, and its score.
-/
module

public import proofs.«01_k».proof.Proof.L0Run
public import proofs.«01_k».proof.Proof.L1Run
public import proofs.«01_k».proof.Proof.Lstm
public import Idealize.ShloMosaic.Lib.Pointwise

@[expose] public section

set_option maxRecDepth 16384

noncomputable section
namespace Cert.Proof
open Cert.KernelIdeal Cert.KernelIdeal.Gen
open Idealize.ShloMosaic Idealize.ShloMosaic.TcCoe

variable (r : Fin 512) (j : Fin 512)

theorem half_add (z : EReal) : Ideal.ofBits .f32 0x3F000000#32 + Ideal.ofBits .f32 0x3F000000#32 * Ideal.tanh (Ideal.ofBits .f32 0x3F000000#32 * z) = Lstm.sg z := by
  rw [Lstm.half_f32]
  exact Lstm.half_tanh z

/-! ## The first layer -/

theorem pay12_apply (g : FVec Ideal S512x2048 .f32) (c : FVec Ideal S512x512 .f32) :
    k1_pay12 g c (ix2 r j) = Lstm.cell (fun k => g (ix2 r k)) (fun k => c (ix2 r k)) j := by
  unfold k1_pay12
  pointwise
  simp only [half_add, Lstm.cell]

theorem pay13_apply (g : FVec Ideal S512x2048 .f32) (c : FVec Ideal S512x512 .f32) :
    k1_pay13 g c (ix2 r j) = Lstm.hid (fun k => g (ix2 r k)) (fun k => c (ix2 r k)) j := by
  unfold k1_pay13
  pointwise
  simp only [half_add, Lstm.hid, pay12_apply]

theorem pay18_apply (g : FVec Ideal S512x2048 .f32) (z : FVec Ideal S512x512 .f32) (hz : ∀ r j : Fin 512, z (ix2 r j) = g (ix2 r ⟨j, by omega⟩)) (c : FVec Ideal S512x512 .f32) :
    k1_pay18 g z k1_pay17 c (ix2 r j) = Lstm.cell (fun k => g (ix2 r k)) (fun k => c (ix2 r k)) j := by
  unfold k1_pay18 k1_pay17
  pointwise
  simp only [half_add, Lstm.cell, hz]

theorem pay19_apply (g : FVec Ideal S512x2048 .f32) (z : FVec Ideal S512x512 .f32) (hz : ∀ r j : Fin 512, z (ix2 r j) = g (ix2 r ⟨j, by omega⟩)) (c : FVec Ideal S512x512 .f32) :
    k1_pay19 g z k1_pay17 c (ix2 r j) = Lstm.hid (fun k => g (ix2 r k)) (fun k => c (ix2 r k)) j := by
  unfold k1_pay19
  pointwise
  simp only [half_add, Lstm.hid, pay18_apply r j g z hz]

/-- Row `r` of a step's input block. -/
def rowX (x : Vec Ideal S1x512x128 .f32) (r : Fin 512) (k : Fin 128) : EReal := x (ix3 0 r k)

/-- Row `r` of the hidden state that a block holds beside the inputs. -/
def rowH (xc : Vec Ideal S512x640 .bf16) (r : Fin 512) (k : Fin 512) : EReal := xc (ix2 r (Fin.natAdd 128 k))

/-- Row `r` of a state. -/
def rowC (c : Vec Ideal S512x512 .f32) (r : Fin 512) (k : Fin 512) : EReal := c (ix2 r k)

theorem putX_apply (xc : Vec Ideal S512x640 .bf16) (x : FVec Ideal S512x128 .bf16) (k : Fin 640) :
    putX xc x (ix2 r k) = if h : (k : ℕ) < 128 then x (ix2 r ⟨k, h⟩) else xc (ix2 r k) := by
  unfold putX
  rw [VecWindow.put_eq_updateSlice _ _ _ (by decide)]
  pointwise

theorem putX_left (xc : Vec Ideal S512x640 .bf16) (x : FVec Ideal S512x128 .bf16) (k : Fin 128) :
    putX xc x (ix2 r (Fin.castAdd 512 k)) = x (ix2 r k) := by
  refine (putX_apply r xc x (Fin.castAdd 512 k)).trans ?_
  rw [dif_pos (show ((Fin.castAdd 512 k : Fin (128 + 512)) : ℕ) < 128 from k.2)]
  rfl

theorem putX_right (xc : Vec Ideal S512x640 .bf16) (x : FVec Ideal S512x128 .bf16) (k : Fin 512) :
    putX xc x (ix2 r (Fin.natAdd 128 k)) = xc (ix2 r (Fin.natAdd 128 k)) := by
  refine (putX_apply r xc x (Fin.natAdd 128 k)).trans ?_
  rw [dif_neg (show ¬ ((Fin.natAdd 128 k : Fin (128 + 512)) : ℕ) < 128 by simp)]

theorem putH_row (xc : Vec Ideal S512x640 .bf16) (h : FVec Ideal S512x512 .bf16) : rowH (putH xc h) r = fun k => h (ix2 r k) := by
  funext k
  unfold rowH putH
  rw [VecWindow.put_eq_updateSlice _ _ _ (by decide)]
  pointwise
  simp

theorem pay6_apply (x : Vec Ideal S1x512x128 .f32) (k : Fin 128) : (k1_pay6 x (ix2 r k) : EReal) = rowX x r k := by
  unfold k1_pay6
  pointwise
  rfl

theorem pay7_apply (x : Vec Ideal S1x512x128 .f32) (k : Fin 128) : (k1_pay7 x (ix2 r k) : EReal) = rowX x r k := by
  unfold k1_pay7
  pointwise
  rfl

/-- The gates of a row. -/
abbrev gates1 (W : Vec Ideal S640x2048 .bf16) (b : Vec Ideal S1x2048 .f32) (x : Fin 128 → EReal) (h : Fin 512 → EReal) : Fin 2048 → EReal :=
  Lstm.gate x h (Lstm.wtsK (n := 128) W b).i (Lstm.wtsK (n := 128) W b).h (Lstm.wtsK (n := 128) W b).b

theorem gF_row (xc : Vec Ideal S512x640 .bf16) (x : Vec Ideal S1x512x128 .f32) (W : Vec Ideal S640x2048 .bf16) (b : Vec Ideal S1x2048 .f32) :
    (fun k => gF xc x W b (ix2 r k) : Fin 2048 → EReal) = gates1 W b (rowX x r) (rowH xc r) := by
  funext k
  unfold gF k1_pay8
  pointwise
  refine (Lstm.gate_row (n := 128) (fun k => putX xc (k1_pay6 x) (ix2 r k)) W b k).trans ?_
  refine congrArg₂ (fun x h => gates1 W b x h k) (funext fun k => ?_) (funext fun k => ?_)
  · exact (putX_left r xc _ k).trans (pay6_apply r x k)
  · exact putX_right r xc _ k

theorem gB_row (xc : Vec Ideal S512x640 .bf16) (x : Vec Ideal S1x512x128 .f32) (W : Vec Ideal S640x2048 .bf16) (b : Vec Ideal S1x2048 .f32) :
    (fun k => k1_pay11 (gB xc x W) (k1_pay10 b) (ix2 r k) : Fin 2048 → EReal) = gates1 W b (rowX x r) (rowH xc r) := by
  funext k
  unfold k1_pay11 gB k1_pay9 k1_pay10
  pointwise
  refine (Lstm.gate_row (n := 128) (fun k => putX xc (k1_pay7 x) (ix2 r k)) W b k).trans ?_
  refine congrArg₂ (fun x h => gates1 W b x h k) (funext fun k => ?_) (funext fun k => ?_)
  · exact (putX_left r xc _ k).trans (pay7_apply r x k)
  · exact putX_right r xc _ k

/-- Row `r` of the forward direction's new state, and of its output. -/
theorem stepF_row (xc : Vec Ideal S512x640 .bf16) (c : Vec Ideal S512x512 .f32) (x : Vec Ideal S1x512x128 .f32) (W : Vec Ideal S640x2048 .bf16) (b : Vec Ideal S1x2048 .f32) :
    (rowH (xcF xc c x W b) r, rowC (cF xc c x W b) r) = Lstm.step (Lstm.wtsK (n := 128) W b) (rowX x r) (rowH xc r, rowC c r) := by
  unfold xcF cF Lstm.step
  rw [putH_row]
  refine Prod.ext (funext fun k => ?_) (funext fun k => ?_)
  · unfold k1_pay15
    pointwise
    rw [pay13_apply, gF_row]
    rfl
  · unfold rowC k1_pay14
    pointwise
    rw [pay12_apply, gF_row]

theorem oF_row (xc : Vec Ideal S512x640 .bf16) (c : Vec Ideal S512x512 .f32) (x : Vec Ideal S1x512x128 .f32) (W : Vec Ideal S640x2048 .bf16) (b : Vec Ideal S1x2048 .f32) :
    (oF xc c x W b (ix3 0 r j) : EReal) = (Lstm.step (Lstm.wtsK (n := 128) W b) (rowX x r) (rowH xc r, rowC c r)).1 j := by
  unfold oF k1_pay22
  pointwise
  rw [pay13_apply, gF_row]
  rfl

theorem slice16 (A : FVec Ideal S512x2048 .f32) (B : FVec Ideal S512x2048 .f32) (r j : Fin 512) :
    k1_pay16 A B (ix2 r j) = k1_pay11 A B (ix2 r ⟨j, by omega⟩) := by
  unfold k1_pay16
  pointwise

/-- Row `r` of the backward direction's new state, and of its output. -/
theorem stepB_row (xc : Vec Ideal S512x640 .bf16) (c : Vec Ideal S512x512 .f32) (x : Vec Ideal S1x512x128 .f32) (W : Vec Ideal S640x2048 .bf16) (b : Vec Ideal S1x2048 .f32) :
    (rowH (xcB xc c x W b) r, rowC (cB xc c x W b) r) = Lstm.step (Lstm.wtsK (n := 128) W b) (rowX x r) (rowH xc r, rowC c r) := by
  unfold xcB cB Lstm.step
  rw [putH_row]
  refine Prod.ext (funext fun k => ?_) (funext fun k => ?_)
  · unfold k1_pay21
    pointwise
    rw [pay19_apply _ _ _ _ (slice16 _ _), gB_row]
    rfl
  · unfold rowC k1_pay20
    pointwise
    rw [pay18_apply _ _ _ _ (slice16 _ _), gB_row]

theorem oB_row (xc : Vec Ideal S512x640 .bf16) (c : Vec Ideal S512x512 .f32) (x : Vec Ideal S1x512x128 .f32) (W : Vec Ideal S640x2048 .bf16) (b : Vec Ideal S1x2048 .f32) :
    (oB xc c x W b (ix3 0 r j) : EReal) = (Lstm.step (Lstm.wtsK (n := 128) W b) (rowX x r) (rowH xc r, rowC c r)).1 j := by
  unfold oB k1_pay1
  pointwise
  rw [pay19_apply _ _ _ _ (slice16 _ _), gB_row]
  rfl

/-- The states the first layer starts from. -/
theorem start1_row : (rowH (k1_pay2 (F := Ideal)) r, rowC (k1_pay3 (F := Ideal)) r) = (fun _ => (0 : EReal), fun _ => (0 : EReal)) := by
  refine Prod.ext (funext fun k => ?_) (funext fun k => ?_)
  · unfold rowH k1_pay2
    pointwise
  · unfold rowC k1_pay3
    pointwise

theorem start1_row' : (rowH (k1_pay4 (F := Ideal)) r, rowC (k1_pay5 (F := Ideal)) r) = (fun _ => (0 : EReal), fun _ => (0 : EReal)) := by
  refine Prod.ext (funext fun k => ?_) (funext fun k => ?_)
  · unfold rowH k1_pay4
    pointwise
  · unfold rowC k1_pay5
    pointwise

end Cert.Proof

end
-- ==== Proof.KCell2.lean ====
/-
  What the second layer's body computes at one element, over the extended reals: a row's gates, its new state, and its score.
-/
module

public import proofs.«01_k».proof.Proof.KCell

@[expose] public section

set_option maxRecDepth 16384

noncomputable section
namespace Cert.Proof
open Cert.KernelIdeal Cert.KernelIdeal.Gen
open Idealize.ShloMosaic Idealize.ShloMosaic.TcCoe

variable (r : Fin 512) (j : Fin 512)

/-- Row `r` of a step's two input blocks, side by side. -/
def rowXY (x y : Vec Ideal S1x512x512 .bf16) (r : Fin 512) : Fin 1024 → EReal := Lstm.join (fun k => x (ix3 0 r k)) (fun k => y (ix3 0 r k))

/-- Row `r` of the hidden state that a block holds beside the inputs. -/
def rowH2 (xc : Vec Ideal S512x1536 .bf16) (r : Fin 512) (k : Fin 512) : EReal := xc (ix2 r (Fin.natAdd 1024 k))

theorem put2X_left (xc : Vec Ideal S512x1536 .bf16) (a b : FVec Ideal S512x512 .bf16) (k : Fin 1024) :
    (put2X xc a b (ix2 r (Fin.castAdd 512 k)) : EReal) = Lstm.join (fun k => a (ix2 r k)) (fun k => b (ix2 r k)) k := by
  unfold put2X Lstm.join
  rw [VecWindow.put_eq_updateSlice _ _ _ (by decide), VecWindow.put_eq_updateSlice _ _ _ (by decide)]
  pointwise
  by_cases h : (k : ℕ) < 512
  · rw [dif_pos h, dif_neg (by simp; omega), dif_pos (by simpa using h)]
    rfl
  · rw [dif_neg h, dif_pos (by simp; omega)]
    rfl

theorem put2X_right (xc : Vec Ideal S512x1536 .bf16) (a b : FVec Ideal S512x512 .bf16) (k : Fin 512) :
    put2X xc a b (ix2 r (Fin.natAdd 1024 k)) = xc (ix2 r (Fin.natAdd 1024 k)) := by
  unfold put2X
  rw [VecWindow.put_eq_updateSlice _ _ _ (by decide), VecWindow.put_eq_updateSlice _ _ _ (by decide)]
  pointwise
  rw [dif_neg (by simp), dif_neg (by simp; omega)]

theorem put2H_row (xc : Vec Ideal S512x1536 .bf16) (h : FVec Ideal S512x512 .bf16) : rowH2 (put2H xc h) r = fun k => h (ix2 r k) := by
  funext k
  unfold rowH2 put2H
  rw [VecWindow.put_eq_updateSlice _ _ _ (by decide)]
  pointwise
  simp

theorem in2_apply (x : Vec Ideal S1x512x512 .bf16) (k : Fin 512) :
    k2_pay8 x (ix2 r k) = x (ix3 0 r k) ∧ k2_pay9 x (ix2 r k) = x (ix3 0 r k) ∧ k2_pay10 x (ix2 r k) = x (ix3 0 r k) ∧ k2_pay11 x (ix2 r k) = x (ix3 0 r k) := by
  unfold k2_pay8 k2_pay9 k2_pay10 k2_pay11
  refine ⟨?_, ?_, ?_, ?_⟩ <;> pointwise

/-- The gates of a row. -/
abbrev gates2 (W : Vec Ideal S1536x2048 .bf16) (b : Vec Ideal S1x2048 .f32) (x : Fin 1024 → EReal) (h : Fin 512 → EReal) : Fin 2048 → EReal :=
  Lstm.gate x h (Lstm.wtsK (n := 1024) W b).i (Lstm.wtsK (n := 1024) W b).h (Lstm.wtsK (n := 1024) W b).b

theorem gF2_row (xc : Vec Ideal S512x1536 .bf16) (x y : Vec Ideal S1x512x512 .bf16) (W : Vec Ideal S1536x2048 .bf16) (b : Vec Ideal S1x2048 .f32) :
    (fun k => k2_pay13 (mF2 xc x y W) b (ix2 r k) : Fin 2048 → EReal) = gates2 W b (rowXY x y r) (rowH2 xc r) := by
  funext k
  unfold k2_pay13 mF2 k2_pay12
  pointwise
  refine (Lstm.gate_row (n := 1024) (fun k => put2X xc (k2_pay8 x) (k2_pay9 y) (ix2 r k)) W b k).trans ?_
  refine congrArg₂ (fun x h => gates2 W b x h k) (funext fun k => ?_) (funext fun k => ?_)
  · refine (put2X_left r xc _ _ k).trans ?_
    exact congrArg₂ (fun a b => Lstm.join a b k) (funext fun k => (in2_apply r x k).1) (funext fun k => (in2_apply r y k).2.1)
  · exact put2X_right r xc _ _ k

theorem gB2_row (xc : Vec Ideal S512x1536 .bf16) (x y : Vec Ideal S1x512x512 .bf16) (W : Vec Ideal S1536x2048 .bf16) (b : Vec Ideal S1x2048 .f32) :
    (fun k => gB2 xc x y W b (ix2 r k) : Fin 2048 → EReal) = gates2 W b (rowXY x y r) (rowH2 xc r) := by
  funext k
  unfold gB2 k2_pay14
  pointwise
  refine (Lstm.gate_row (n := 1024) (fun k => put2X xc (k2_pay10 x) (k2_pay11 y) (ix2 r k)) W b k).trans ?_
  refine congrArg₂ (fun x h => gates2 W b x h k) (funext fun k => ?_) (funext fun k => ?_)
  · refine (put2X_left r xc _ _ k).trans ?_
    exact congrArg₂ (fun a b => Lstm.join a b k) (funext fun k => (in2_apply r x k).2.2.1) (funext fun k => (in2_apply r y k).2.2.2)
  · exact put2X_right r xc _ _ k

theorem p2cellF (M : FVec Ideal S512x2048 .f32) (b : Vec Ideal S1x2048 .f32) (c : FVec Ideal S512x512 .f32) :
    k2_pay19 (k2_pay15 M b) (k2_pay16 M b) (k2_pay18 M b c) (ix2 r j) = Lstm.cell (fun k => k2_pay13 M b (ix2 r k)) (fun k => c (ix2 r k)) j := by
  unfold k2_pay19 k2_pay15 k2_pay16 k2_pay18
  generalize k2_pay13 M b = g
  pointwise
  simp only [half_add, Lstm.cell]

theorem p2hidF (M : FVec Ideal S512x2048 .f32) (b : Vec Ideal S1x2048 .f32) (c : FVec Ideal S512x512 .f32) :
    k2_pay20 (k2_pay15 M b) (k2_pay16 M b) (k2_pay17 M b) (k2_pay18 M b c) (ix2 r j) = Lstm.hid (fun k => k2_pay13 M b (ix2 r k)) (fun k => c (ix2 r k)) j := by
  unfold k2_pay20
  pointwise
  rw [p2cellF]
  unfold k2_pay17
  generalize k2_pay13 M b = g
  pointwise
  simp only [half_add, Lstm.hid]

theorem p2cellB (g : FVec Ideal S512x2048 .f32) (c : FVec Ideal S512x512 .f32) :
    k2_pay23 g c (ix2 r j) = Lstm.cell (fun k => g (ix2 r k)) (fun k => c (ix2 r k)) j := by
  unfold k2_pay23
  pointwise
  simp only [half_add, Lstm.cell]

theorem p2hidB (g : FVec Ideal S512x2048 .f32) (c : FVec Ideal S512x512 .f32) :
    k2_pay24 g c (ix2 r j) = Lstm.hid (fun k => g (ix2 r k)) (fun k => c (ix2 r k)) j := by
  unfold k2_pay24
  pointwise
  simp only [half_add, Lstm.hid, p2cellB]

/-- Row `r` of the forward direction's new state, and of its hidden state as the last layer reads it. -/
theorem stepF2_row (xc : Vec Ideal S512x1536 .bf16) (c : Vec Ideal S512x512 .f32) (x y : Vec Ideal S1x512x512 .bf16) (W : Vec Ideal S1536x2048 .bf16) (b : Vec Ideal S1x2048 .f32) :
    (rowH2 (xcF2 xc c x y W b) r, rowC (cF2 xc c x y W b) r) = Lstm.step (Lstm.wtsK (n := 1024) W b) (rowXY x y r) (rowH2 xc r, rowC c r) := by
  unfold xcF2 cF2 Lstm.step
  rw [put2H_row]
  refine Prod.ext (funext fun k => ?_) (funext fun k => ?_)
  · unfold k2_pay22
    pointwise
    rw [p2hidF, gF2_row]
    rfl
  · unfold rowC k2_pay21
    pointwise
    rw [p2cellF, gF2_row]

theorem hF2_row (xc : Vec Ideal S512x1536 .bf16) (c : Vec Ideal S512x512 .f32) (x y : Vec Ideal S1x512x512 .bf16) (W : Vec Ideal S1536x2048 .bf16) (b : Vec Ideal S1x2048 .f32) :
    (hF2 xc c x y W b (ix2 r j) : EReal) = (Lstm.step (Lstm.wtsK (n := 1024) W b) (rowXY x y r) (rowH2 xc r, rowC c r)).1 j := by
  unfold hF2
  rw [p2hidF, gF2_row]
  rfl

/-- Row `r` of the backward direction's new state, and of its hidden state as the last layer reads it. -/
theorem stepB2_row (xc : Vec Ideal S512x1536 .bf16) (c : Vec Ideal S512x512 .f32) (x y : Vec Ideal S1x512x512 .bf16) (W : Vec Ideal S1536x2048 .bf16) (b : Vec Ideal S1x2048 .f32) :
    (rowH2 (xcB2 xc c x y W b) r, rowC (cB2 xc c x y W b) r) = Lstm.step (Lstm.wtsK (n := 1024) W b) (rowXY x y r) (rowH2 xc r, rowC c r) := by
  unfold xcB2 cB2 Lstm.step
  rw [put2H_row]
  refine Prod.ext (funext fun k => ?_) (funext fun k => ?_)
  · unfold k2_pay2
    pointwise
    rw [p2hidB, gB2_row]
    rfl
  · unfold rowC k2_pay1
    pointwise
    rw [p2cellB, gB2_row]

theorem hB2_row (xc : Vec Ideal S512x1536 .bf16) (c : Vec Ideal S512x512 .f32) (x y : Vec Ideal S1x512x512 .bf16) (W : Vec Ideal S1536x2048 .bf16) (b : Vec Ideal S1x2048 .f32) :
    (hB2 xc c x y W b (ix2 r j) : EReal) = (Lstm.step (Lstm.wtsK (n := 1024) W b) (rowXY x y r) (rowH2 xc r, rowC c r)).1 j := by
  unfold hB2
  rw [p2hidB, gB2_row]
  rfl

/-- The states the second layer starts from. -/
theorem start2_row : (rowH2 (k2_pay4 (F := Ideal)) r, rowC (k2_pay5 (F := Ideal)) r) = (fun _ => (0 : EReal), fun _ => (0 : EReal)) := by
  refine Prod.ext (funext fun k => ?_) (funext fun k => ?_)
  · unfold rowH2 k2_pay4
    pointwise
  · unfold rowC k2_pay5
    pointwise

theorem start2_row' : (rowH2 (k2_pay6 (F := Ideal)) r, rowC (k2_pay7 (F := Ideal)) r) = (fun _ => (0 : EReal), fun _ => (0 : EReal)) := by
  refine Prod.ext (funext fun k => ?_) (funext fun k => ?_)
  · unfold rowH2 k2_pay6
    pointwise
  · unfold rowC k2_pay7
    pointwise

/-- The score of row `r`. -/
theorem yL_row (hf hb : FVec Ideal S512x512 .f32) (w : Vec Ideal S1x1024 .f32) (b : Vec Ideal S1x1 .f32) :
    (yL hf hb w b (ix2 r 0) : EReal) = Lstm.sg ((∑ k : Fin 512, (hf (ix2 r k) : EReal) * w (ix2 0 ⟨k, by omega⟩)
      + ∑ k : Fin 512, (hb (ix2 r k) : EReal) * w (ix2 0 ⟨512 + k, by omega⟩)) + b (ix2 0 0)) := by
  unfold yL k2_pay3
  simp only [VecWindow.window_eq_ld]
  pointwise
  rfl

end Cert.Proof

end
-- ==== Proof.KBlocks.lean ====
module

public import proofs.«01_k».proof.Proof.KCell2
public import proofs.«01_k».proof.Proof.Regions
public import Idealize.ShloMosaic.Lib.Pipeline.ValueKit

/-!
What each call's windows hold at a point: the embedded tokens of one position (the forward direction reads position `t`
at point `t`, the backward direction position `199 - t`), and the weights whole at every point.
-/

@[expose] public section
set_option maxRecDepth 16384
noncomputable section
namespace Cert.Proof
open Cert.KernelIdeal Cert.KernelIdeal.Gen
open Idealize.ShloMosaic Idealize.ShloMosaic.TcCoe
open Idealize.ShloMosaic.Pipeline
variable (V : Vals Ideal) (c : Dev nD)

/-- Where the blocks of the first call lie. -/
theorem idx1 : ∀ t : Fin cfg1.N, win1_0.index t = ![t.val, 0, 0] ∧ win1_1.index t = ![199 - t.val, 0, 0]
    ∧ win1_2.index t = ![0, 0] ∧ win1_3.index t = ![0, 0] ∧ win1_4.index t = ![0, 0] ∧ win1_5.index t = ![0, 0]
    ∧ win1_6.index t = ![t.val, 0, 0] ∧ win1_7.index t = ![199 - t.val, 0, 0] :=
  (by decide +kernel : ∀ t : Fin grid1.N, _)

/-- Where the blocks of the second call lie. -/
theorem idx2 : ∀ t : Fin cfg2.N, win2_0.index t = ![t.val, 0, 0] ∧ win2_1.index t = ![t.val, 0, 0]
    ∧ win2_2.index t = ![199 - t.val, 0, 0] ∧ win2_3.index t = ![199 - t.val, 0, 0]
    ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![0, 0] :=
  (by decide +kernel : ∀ t : Fin grid2.N, _)

theorem t200 (t : Fin cfg1.N) : t.val < 200 := lt_of_lt_of_eq t.isLt N_1
theorem t200' (t : Fin cfg2.N) : t.val < 200 := lt_of_lt_of_eq t.isLt N_2

theorem pos_fwd (s : Nat) (h : s < 200) : Lstm.pos s = ⟨s, h⟩ := Fin.ext (Nat.mod_eq_of_lt h)

theorem blk1_0 (t : Fin cfg1.N) (r : Fin 512) (k : Fin 128) :
    (iblk1 V c 0 t : Vec Ideal S1x512x128 .f32) (ix3 0 r k) = V c main_v5 (ix3 (Lstm.pos t.val) r k) := by
  rw [pos_fwd _ (t200 t)]
  blk_ext! [iblk1, idx1 t]

theorem blk1_1 (t : Fin cfg1.N) (r : Fin 512) (k : Fin 128) :
    (iblk1 V c 1 t : Vec Ideal S1x512x128 .f32) (ix3 0 r k) = V c main_v5 (ix3 (Lstm.pos (199 - t.val)) r k) := by
  rw [pos_fwd (199 - t.val) (by omega)]
  blk_ext! [iblk1, idx1 t]

theorem blk1_2 (t : Fin cfg1.N) : iblk1 V c 2 t = V c main_v9 := by blk_ext! [iblk1, idx1 t]
theorem blk1_3 (t : Fin cfg1.N) : iblk1 V c 3 t = V c main_v15 := by blk_ext! [iblk1, idx1 t]
theorem blk1_4 (t : Fin cfg1.N) : iblk1 V c 4 t = V c main_v13 := by blk_ext! [iblk1, idx1 t]
theorem blk1_5 (t : Fin cfg1.N) : iblk1 V c 5 t = V c main_v17 := by blk_ext! [iblk1, idx1 t]

theorem blk2_0 (t : Fin cfg2.N) (r : Fin 512) (k : Fin 512) :
    (iblk2 V c 0 t : Vec Ideal S1x512x512 .bf16) (ix3 0 r k) = V c main_v18_0 (ix3 (Lstm.pos t.val) r k) := by
  rw [pos_fwd _ (t200' t)]
  blk_ext! [iblk2, idx2 t]
theorem blk2_1 (t : Fin cfg2.N) (r : Fin 512) (k : Fin 512) :
    (iblk2 V c 1 t : Vec Ideal S1x512x512 .bf16) (ix3 0 r k) = V c main_v18_1 (ix3 (Lstm.pos t.val) r k) := by
  rw [pos_fwd _ (t200' t)]
  blk_ext! [iblk2, idx2 t]
theorem blk2_2 (t : Fin cfg2.N) (r : Fin 512) (k : Fin 512) :
    (iblk2 V c 2 t : Vec Ideal S1x512x512 .bf16) (ix3 0 r k) = V c main_v18_0 (ix3 (Lstm.pos (199 - t.val)) r k) := by
  rw [pos_fwd (199 - t.val) (by omega)]
  blk_ext! [iblk2, idx2 t]
theorem blk2_3 (t : Fin cfg2.N) (r : Fin 512) (k : Fin 512) :
    (iblk2 V c 3 t : Vec Ideal S1x512x512 .bf16) (ix3 0 r k) = V c main_v18_1 (ix3 (Lstm.pos (199 - t.val)) r k) := by
  rw [pos_fwd (199 - t.val) (by omega)]
  blk_ext! [iblk2, idx2 t]

theorem blk2_4 (t : Fin cfg2.N) : iblk2 V c 4 t = V c main_v22 := by blk_ext! [iblk2, idx2 t]
theorem blk2_5 (t : Fin cfg2.N) : iblk2 V c 5 t = V c main_v28 := by blk_ext! [iblk2, idx2 t]
theorem blk2_6 (t : Fin cfg2.N) : iblk2 V c 6 t = V c main_v26 := by blk_ext! [iblk2, idx2 t]
theorem blk2_7 (t : Fin cfg2.N) : iblk2 V c 7 t = V c main_v30 := by blk_ext! [iblk2, idx2 t]
theorem blk2_8 (t : Fin cfg2.N) : iblk2 V c 8 t = V c main_arg18 := by blk_ext! [iblk2, idx2 t]
theorem blk2_9 (t : Fin cfg2.N) : iblk2 V c 9 t = V c main_v31 := by blk_ext! [iblk2, idx2 t]

end Cert.Proof
end
-- ==== Proof.KScan1.lean ====
module

public import proofs.«01_k».proof.Proof.KBlocks

/-!
What the first recurrent call leaves: the hidden state of each direction, at every position of every example of the
device.
-/

@[expose] public section
set_option maxRecDepth 16384
noncomputable section
namespace Cert.Proof
open Cert.KernelIdeal Cert.KernelIdeal.Gen
open Idealize.ShloMosaic Idealize.ShloMosaic.TcCoe
open Idealize.ShloMosaic.Pipeline
variable (V : Vals Ideal) (c : Dev nD)

theorem fwd_succ {n : Nat} (W : Lstm.Wts n) (x : Fin 200 → Fin n → EReal) (t : Nat) :
    Lstm.fwd W x (t + 1) = Lstm.step W (x (Lstm.pos t)) (Lstm.fwd W x t) := rfl
theorem bwd_succ {n : Nat} (W : Lstm.Wts n) (x : Fin 200 → Fin n → EReal) (t : Nat) :
    Lstm.bwd W x (t + 1) = Lstm.step W (x (Lstm.pos (199 - t))) (Lstm.bwd W x t) := rfl

/-- An index of a one-row block, by its coordinates. -/
theorem row_eta {a b : Nat} (y : (⟨3, ![1, a, b]⟩ : Shape).Idx) : y = ix3 (0 : Fin 1) (y 1 : Fin a) (y 2 : Fin b) := by
  funext i
  match i with
  | ⟨0, _⟩ => exact Fin.ext (Nat.lt_one_iff.1 (y 0).isLt)
  | ⟨1, _⟩ => rfl
  | ⟨2, _⟩ => rfl

/-- The embedded tokens of one example of the device, by position. -/
def emb1 (r : Fin 512) : Fin 200 → Fin 128 → EReal := fun t k => (V c main_v5 : Vec Ideal S200x512x128 .f32) (ix3 t r k)
/-- The forward weights of the first layer. -/
abbrev wF1 : Lstm.Wts 128 := Lstm.wtsK (n := 128) (V c main_v9) (V c main_v15)
/-- The backward weights of the first layer. -/
abbrev wB1 : Lstm.Wts 128 := Lstm.wtsK (n := 128) (V c main_v13) (V c main_v17)

theorem x_row0 (t : Fin cfg1.N) (r : Fin 512) : rowX (iblk1 V c 0 t) r = emb1 V c r (Lstm.pos t.val) := funext fun k => blk1_0 V c t r k
theorem x_row1 (t : Fin cfg1.N) (r : Fin 512) : rowX (iblk1 V c 1 t) r = emb1 V c r (Lstm.pos (199 - t.val)) :=
  funext fun k => blk1_1 V c t r k

/-- The forward state before point `n` is the forward recurrence after `n` positions. -/
theorem stF1_row (r : Fin 512) : ∀ n : Nat, n ≤ 200 →
    (rowH (stF1 V c n).1 r, rowC (stF1 V c n).2 r) = Lstm.fwd (wF1 V c) (emb1 V c r) n
  | 0, _ => start1_row r
  | n + 1, h => by
    have hn : n < cfg1.N := lt_of_lt_of_eq (by omega) N_1.symm
    have e := stF1_succ V c ⟨n, hn⟩
    dsimp only at e
    rw [e]
    dsimp only
    rw [stepF_row, stF1_row r n (by omega), blk1_2, blk1_3, x_row0, fwd_succ]

/-- The backward state before point `n` is the backward recurrence after `n` positions. -/
theorem stB1_row (r : Fin 512) : ∀ n : Nat, n ≤ 200 →
    (rowH (stB1 V c n).1 r, rowC (stB1 V c n).2 r) = Lstm.bwd (wB1 V c) (emb1 V c r) n
  | 0, _ => start1_row' r
  | n + 1, h => by
    have hn : n < cfg1.N := lt_of_lt_of_eq (by omega) N_1.symm
    have e := stB1_succ V c ⟨n, hn⟩
    dsimp only at e
    rw [e]
    dsimp only
    rw [stepB_row, stB1_row r n (by omega), blk1_4, blk1_5, x_row1, bwd_succ]

/-- What the forward window is left with at point `t`. -/
theorem outF1_row (t : Fin cfg1.N) (r j : Fin 512) :
    (outF1 V c t (ix3 0 r j) : EReal) = (Lstm.fwd (wF1 V c) (emb1 V c r) (t.val + 1)).1 j := by
  have ht := t200 t
  unfold outF1
  rw [oF_row, stF1_row V c r t.val (by omega), blk1_2, blk1_3, x_row0, fwd_succ]

/-- What the backward window is left with at point `t`. -/
theorem outB1_row (t : Fin cfg1.N) (r j : Fin 512) :
    (outB1 V c t (ix3 0 r j) : EReal) = (Lstm.bwd (wB1 V c) (emb1 V c r) (t.val + 1)).1 j := by
  have ht := t200 t
  unfold outB1
  rw [oB_row, stB1_row V c r t.val (by omega), blk1_4, blk1_5, x_row1, bwd_succ]

/-- The forward hidden states of the first layer. -/
def seqF : Vec Ideal S200x512x512 .bf16 := fun i => (Lstm.fwd (wF1 V c) (emb1 V c (i 1)) ((i 0).val + 1)).1 (i 2)
/-- The backward hidden states of the first layer. -/
def seqB : Vec Ideal S200x512x512 .bf16 := fun i => (Lstm.bwd (wB1 V c) (emb1 V c (i 1)) (200 - (i 0).val)).1 (i 2)

theorem arr1_6 : (dat1 V c).arrAt 6 cfg1.N = seqF V c := by
  refine (dat1 V c).arrAt_eq_of_covers 6 (seqF V c) (by decide +kernel : (cfg1.win 6).Covers) fun t hf y => ?_
  blk_simp
  rw [after1_6]
  have e0 : (((cfg1.win 6).blk t).view.emb y 0).val = t.val := by
    have := Nat.lt_one_iff.1 (y 0).isLt
    blk_simp [idx1 t]
  have e1 : ((cfg1.win 6).blk t).view.emb y 1 = y 1 := by apply Fin.ext; blk_simp [idx1 t]
  have e2 : ((cfg1.win 6).blk t).view.emb y 2 = y 2 := by apply Fin.ext; blk_simp [idx1 t]
  have h := outF1_row V c t (y 1) (y 2)
  refine (congrArg (outF1 V c t) (row_eta y)).trans (h.trans ?_)
  unfold seqF
  rw [e0, e1, e2]

theorem arr1_7 : (dat1 V c).arrAt 7 cfg1.N = seqB V c := by
  refine (dat1 V c).arrAt_eq_of_covers 7 (seqB V c) (by decide +kernel : (cfg1.win 7).Covers) fun t hf y => ?_
  blk_simp
  rw [after1_7]
  have e0 : (((cfg1.win 7).blk t).view.emb y 0).val = 199 - t.val := by
    have := Nat.lt_one_iff.1 (y 0).isLt
    blk_simp [idx1 t]
  have e1 : ((cfg1.win 7).blk t).view.emb y 1 = y 1 := by apply Fin.ext; blk_simp [idx1 t]
  have e2 : ((cfg1.win 7).blk t).view.emb y 2 = y 2 := by apply Fin.ext; blk_simp [idx1 t]
  have h := outB1_row V c t (y 1) (y 2)
  refine (congrArg (outB1 V c t) (row_eta y)).trans (h.trans ?_)
  unfold seqB
  have e3 : 200 - (199 - t.val) = t.val + 1 := by have := t200 t; omega
  rw [e0, e1, e2, e3]

end Cert.Proof
end
-- ==== Proof.KScan2.lean ====
module

public import proofs.«01_k».proof.Proof.KScan1

/-!
What the second recurrent call leaves: the score of every example of the device, from the last hidden state of each
direction.
-/

@[expose] public section
set_option maxRecDepth 16384
noncomputable section
namespace Cert.Proof
open Cert.KernelIdeal Cert.KernelIdeal.Gen
open Idealize.ShloMosaic Idealize.ShloMosaic.TcCoe
open Idealize.ShloMosaic.Pipeline
variable (V : Vals Ideal) (c : Dev nD)

/-- The second layer's inputs for one example of the device, by position: the two directions of the first, joined. -/
def emb2 (r : Fin 512) : Fin 200 → Fin 1024 → EReal := fun t =>
  Lstm.join (fun k => (V c main_v18_0 : Vec Ideal S200x512x512 .bf16) (ix3 t r k))
    (fun k => (V c main_v18_1 : Vec Ideal S200x512x512 .bf16) (ix3 t r k))
/-- The forward weights of the second layer. -/
abbrev wF2 : Lstm.Wts 1024 := Lstm.wtsK (n := 1024) (V c main_v22) (V c main_v28)
/-- The backward weights of the second layer. -/
abbrev wB2 : Lstm.Wts 1024 := Lstm.wtsK (n := 1024) (V c main_v26) (V c main_v30)

theorem xy_row0 (t : Fin cfg2.N) (r : Fin 512) :
    rowXY (iblk2 V c 0 t) (iblk2 V c 1 t) r = emb2 V c r (Lstm.pos t.val) :=
  congrArg₂ Lstm.join (funext fun k => blk2_0 V c t r k) (funext fun k => blk2_1 V c t r k)
theorem xy_row1 (t : Fin cfg2.N) (r : Fin 512) :
    rowXY (iblk2 V c 2 t) (iblk2 V c 3 t) r = emb2 V c r (Lstm.pos (199 - t.val)) :=
  congrArg₂ Lstm.join (funext fun k => blk2_2 V c t r k) (funext fun k => blk2_3 V c t r k)

theorem stF2_row (r : Fin 512) : ∀ n : Nat, n ≤ 200 →
    (rowH2 (stF2 V c n).1 r, rowC (stF2 V c n).2 r) = Lstm.fwd (wF2 V c) (emb2 V c r) n
  | 0, _ => start2_row r
  | n + 1, h => by
    have hn : n < cfg2.N := lt_of_lt_of_eq (by omega) N_2.symm
    have e := stF2_succ V c ⟨n, hn⟩
    dsimp only at e
    rw [e]
    dsimp only
    rw [stepF2_row, stF2_row r n (by omega), blk2_4, blk2_5, xy_row0, fwd_succ]

theorem stB2_row (r : Fin 512) : ∀ n : Nat, n ≤ 200 →
    (rowH2 (stB2 V c n).1 r, rowC (stB2 V c n).2 r) = Lstm.bwd (wB2 V c) (emb2 V c r) n
  | 0, _ => start2_row' r
  | n + 1, h => by
    have hn : n < cfg2.N := lt_of_lt_of_eq (by omega) N_2.symm
    have e := stB2_succ V c ⟨n, hn⟩
    dsimp only at e
    rw [e]
    dsimp only
    rw [stepB2_row, stB2_row r n (by omega), blk2_6, blk2_7, xy_row1, bwd_succ]

/-- The score of one example, from the last states and the last layer's weights. -/
def outRow (r : Fin 512) : EReal :=
  Lstm.sg ((∑ k : Fin 512, (Lstm.fwd (wF2 V c) (emb2 V c r) 200).1 k * (V c main_arg18 : Vec Ideal S1x1024 .f32) (ix2 0 ⟨k, by omega⟩)
      + ∑ k : Fin 512, (Lstm.bwd (wB2 V c) (emb2 V c r) 200).1 k * (V c main_arg18 : Vec Ideal S1x1024 .f32) (ix2 0 ⟨512 + k, by omega⟩))
    + (V c main_v31 : Vec Ideal S1x1 .f32) (ix2 0 0))

theorem outY_row (t : Fin cfg2.N) (ht : t.val = 199) (r : Fin 512) : (outY V c t (ix2 r 0) : EReal) = outRow V c r := by
  unfold outY
  rw [yL_row]
  unfold outRow
  have eF := stF2_row V c r t.val (by omega)
  have eB := stB2_row V c r t.val (by omega)
  have hF : ∀ k : Fin 512, (hF2 (stF2 V c t.val).1 (stF2 V c t.val).2 (iblk2 V c 0 t) (iblk2 V c 1 t) (iblk2 V c 4 t) (iblk2 V c 5 t) (ix2 r k) : EReal)
      = (Lstm.fwd (wF2 V c) (emb2 V c r) 200).1 k := fun k => by
    rw [hF2_row, eF, blk2_4, blk2_5, xy_row0, ht]
    rfl
  have hB : ∀ k : Fin 512, (hB2 (stB2 V c t.val).1 (stB2 V c t.val).2 (iblk2 V c 2 t) (iblk2 V c 3 t) (iblk2 V c 6 t) (iblk2 V c 7 t) (ix2 r k) : EReal)
      = (Lstm.bwd (wB2 V c) (emb2 V c r) 200).1 k := fun k => by
    rw [hB2_row, eB, blk2_6, blk2_7, xy_row1, ht]
    rfl
  simp only [hF, hB, blk2_8, blk2_9]

/-- The last point of the second call. -/
def tLast : Fin cfg2.N := ⟨199, lt_of_lt_of_eq (by decide) N_2.symm⟩

/-- The scores of the device's examples. -/
def outCol : Vec Ideal S512x1 .f32 := fun i => outRow V c (i 0)

theorem arr2_10 : (dat2 V c).arrAt 10 cfg2.N = outCol V c := by
  refine (dat2 V c).arrAt_eq_of_after_last 10 tLast (by decide +kernel) (outCol V c) fun y => ?_
  blk_simp
  rw [after2_10]
  have ey : y = ix2 (y 0 : Fin 512) (0 : Fin 1) := by
    funext i
    match i with
    | ⟨0, _⟩ => rfl
    | ⟨1, _⟩ => exact Fin.ext (Nat.lt_one_iff.1 (y 1).isLt)
  exact (congrArg (outY V c tLast) ey).trans (outY_row V c tLast rfl (y 0))

end Cert.Proof
end
-- ==== Proof.KHost.lean ====
module

public import proofs.«01_k».proof.Proof.KCell2
public import proofs.«01_k».proof.Proof.KFrame
public import Idealize.ShloMosaic.Lib.StableHlo.RunClose

/-!
What the host lines between the calls make of the arguments: the weights the calls multiply by are the arguments'
transposes stacked, their biases the sums of the arguments' pairs.
-/

@[expose] public section
set_option maxRecDepth 16384
noncomputable section
namespace Cert.Proof
open Cert.KernelIdeal Cert.KernelIdeal.Gen
open Idealize.ShloMosaic Idealize.ShloMosaic.TcCoe
open Idealize.ShloMosaic.StableHlo

/-- Weights are equal where their parts are, each read at an index. -/
theorem wts_ext {n : Nat} (W : (⟨2, ![n + 512, 2048]⟩ : Shape).Idx → EReal) (r : (⟨2, ![1, 2048]⟩ : Shape).Idx → EReal)
    (Wi : (⟨2, ![2048, n]⟩ : Shape).Idx → EReal) (Wh : (⟨2, ![2048, 512]⟩ : Shape).Idx → EReal)
    (b b' : (⟨1, ![2048]⟩ : Shape).Idx → EReal)
    (hi : ∀ (k : Fin n) (j : Fin 2048), W (ix2 (Fin.castAdd 512 k) j) = Wi (ix2 j k))
    (hh : ∀ (j : Fin 2048) (k : Fin 512), W (ix2 (Fin.natAdd n k) j) = Wh (ix2 j k))
    (hb : ∀ j : Fin 2048, r (ix2 (0 : Fin 1) j) = b (ix1 j) + b' (ix1 j)) : Lstm.wtsK W r = Lstm.wtsOf Wi Wh b b' := by
  unfold Lstm.wtsK Lstm.wtsOf
  congr 1
  · funext j k
    exact hi k j
  · funext j k
    exact hh j k
  · funext j
    exact hb j

/-- Two stacked transposes, and a sum of two biases as a row, are the weights the arguments give. -/
theorem wts1 (Wi : Vec Ideal S2048x128 .f32) (Wh : Vec Ideal S2048x512 .f32) (b b' : Vec Ideal S2048 .f32) :
    Lstm.wtsK (n := 128)
      (truncf (F := Ideal) .bf16 (concatenate (α := Ideal .f32) S640x2048 0 [⟨S128x2048, transpose S128x2048 [1, 0] Wi transposes_S2048x128_S128x2048_1_0⟩,
        ⟨S512x2048, transpose S512x2048 [1, 0] Wh transposes_S2048x512_S512x2048_1_0⟩] concatenates_S128x2048_S512x2048_S640x2048_d0) bitsLt_bf16_f32)
      (shapeCast S1x2048 (addf (F := Ideal) (φ := .f32) b b') shapeCasts_S2048_S1x2048) = Lstm.wtsOf Wi Wh b b' := by
  refine wts_ext (n := 128) _ _ _ _ _ _ (fun k j => ?_) (fun j k => ?_) fun j => ?_
  · pointwise
    exact dif_pos (by simp)
  · pointwise
    refine (dif_neg (by simp)).trans ?_
    congr 2
    exact Fin.ext (by simp)
  · pointwise

/-- The same for the second layer's wider weights. -/
theorem wts2 (Wi : Vec Ideal S2048x1024 .f32) (Wh : Vec Ideal S2048x512 .f32) (b b' : Vec Ideal S2048 .f32) :
    Lstm.wtsK (n := 1024)
      (truncf (F := Ideal) .bf16 (concatenate (α := Ideal .f32) S1536x2048 0 [⟨S1024x2048, transpose S1024x2048 [1, 0] Wi transposes_S2048x1024_S1024x2048_1_0⟩,
        ⟨S512x2048, transpose S512x2048 [1, 0] Wh transposes_S2048x512_S512x2048_1_0⟩] concatenates_S1024x2048_S512x2048_S1536x2048_d0) bitsLt_bf16_f32)
      (shapeCast S1x2048 (addf (F := Ideal) (φ := .f32) b b') shapeCasts_S2048_S1x2048) = Lstm.wtsOf Wi Wh b b' := by
  refine wts_ext (n := 1024) _ _ _ _ _ _ (fun k j => ?_) (fun j k => ?_) fun j => ?_
  · pointwise
    exact dif_pos (by simp)
  · pointwise
    refine (dif_neg (by simp)).trans ?_
    congr 2
    exact Fin.ext (by simp)
  · pointwise

variable (V : Valuation τ sig (Elt Ideal))

/-- First layer, forward. -/
theorem host_F1 : Lstm.wtsK (n := 128) (after ops2 V (Proc.devRef .tc main_v9)) (after ops2 V (Proc.devRef .tc main_v15))
    = Lstm.wtsOf (V (Proc.devRef .tc main_arg2)) (V (Proc.devRef .tc main_arg3)) (V (Proc.devRef .tc main_arg4)) (V (Proc.devRef .tc main_arg5)) := by
  rw [← wts1]
  unfold ops2
  after_results
  rfl

/-- First layer, backward. -/
theorem host_B1 : Lstm.wtsK (n := 128) (after ops2 V (Proc.devRef .tc main_v13)) (after ops2 V (Proc.devRef .tc main_v17))
    = Lstm.wtsOf (V (Proc.devRef .tc main_arg6)) (V (Proc.devRef .tc main_arg7)) (V (Proc.devRef .tc main_arg8)) (V (Proc.devRef .tc main_arg9)) := by
  rw [← wts1]
  unfold ops2
  after_results
  rfl

/-- Second layer, forward. -/
theorem host_F2 : Lstm.wtsK (n := 1024) (after ops3 V (Proc.devRef .tc main_v22)) (after ops3 V (Proc.devRef .tc main_v28))
    = Lstm.wtsOf (V (Proc.devRef .tc main_arg10)) (V (Proc.devRef .tc main_arg11)) (V (Proc.devRef .tc main_arg12)) (V (Proc.devRef .tc main_arg13)) := by
  rw [← wts2]
  unfold ops3
  after_results
  rfl

/-- Second layer, backward. -/
theorem host_B2 : Lstm.wtsK (n := 1024) (after ops3 V (Proc.devRef .tc main_v26)) (after ops3 V (Proc.devRef .tc main_v30))
    = Lstm.wtsOf (V (Proc.devRef .tc main_arg14)) (V (Proc.devRef .tc main_arg15)) (V (Proc.devRef .tc main_arg16)) (V (Proc.devRef .tc main_arg17)) := by
  rw [← wts2]
  unfold ops3
  after_results
  rfl

/-- The last layer's bias. -/
theorem host_b : (after ops3 V (Proc.devRef .tc main_v31) : Vec Ideal S1x1 .f32) (ix2 0 0) = (V (Proc.devRef .tc main_arg19) : Vec Ideal S1 .f32) (ix1 0) := by
  have e : after ops3 V (Proc.devRef .tc main_v31) = shapeCast S1x1 (V (Proc.devRef .tc main_arg19) : Vec Ideal S1 .f32) shapeCasts_S1_S1x1 := by
    unfold ops3
    after_results
    rfl
  rw [e]
  pointwise

/-- Where example `r` of position `t` lies among the gathered rows. -/
def slot (t : Fin 200) (r : Fin 512) : Fin 102400 := ⟨t.val * 512 + r.val, by omega⟩

/-- The gathered rows, by position and example. -/
theorem host_rows (t : Fin 200) (r : Fin 512) (k : Fin 128) :
    (after ops2 V (Proc.devRef .tc main_v5) : Vec Ideal S200x512x128 .f32) (ix3 t r k)
      = (V (Proc.devRef .tc main_v4) : Vec Ideal S102400x128 .f32) (ix2 (slot t r) k) := by
  have e : after ops2 V (Proc.devRef .tc main_v5) = shapeCast S200x512x128 (V (Proc.devRef .tc main_v4) : Vec Ideal S102400x128 .f32) shapeCasts_S102400x128_S200x512x128 := by
    unfold ops2
    after_results
    rfl
  rw [e]
  pointwise
  rfl

/-- The token at that place of the list. -/
theorem tok_slot (a : S512x200.Idx → Elt Ideal .i32) (t : Fin 200) (r : Fin 512) :
    tokRow (F := Ideal) a (ix2 0 (slot t r)) = a (ix2 r t) := by
  unfold tokRow
  pointwise
  congr 2
  · exact Fin.ext (by show (t.val * 512 + r.val) % 512 = r.val; omega)
  · exact Fin.ext (by show (t.val * 512 + r.val) / 512 = t.val; omega)

end Cert.Proof
end
-- ==== Proof.KValue.lean ====
module

public import proofs.«01_k».proof.Proof.KScan2
public import proofs.«01_k».proof.Proof.KHost

/-!
What the kernel's run leaves in its result, example by example: the score that the two recurrent layers and the last
layer give to the embedded tokens, in the arguments alone.
-/

@[expose] public section
set_option maxRecDepth 16384
noncomputable section
namespace Cert.Proof
open Cert.KernelIdeal Cert.KernelIdeal.Gen
open Idealize.ShloMosaic Idealize.ShloMosaic.TcCoe
open Idealize.ShloMosaic.StableHlo

variable (m : (ℓ : Loc nD τ sig) → Buf (Elt Ideal) ℓ) (d : Dev nD)

/-- What argument `b` holds on device `d`. -/
abbrev karg (b : Ref sig .tc) : Buf (Elt Ideal) ((d.tc : Thread nD τ).loc b) := m ((d.tc : Thread nD τ).loc b)

/-- The weights: first layer, forward and backward, -/
def K0 : Lstm.Wts 128 := Lstm.wtsOf (karg m d main_arg2) (karg m d main_arg3) (karg m d main_arg4) (karg m d main_arg5)
def K1 : Lstm.Wts 128 := Lstm.wtsOf (karg m d main_arg6) (karg m d main_arg7) (karg m d main_arg8) (karg m d main_arg9)
/-- second layer, forward and backward. -/
def K2 : Lstm.Wts 1024 := Lstm.wtsOf (karg m d main_arg10) (karg m d main_arg11) (karg m d main_arg12) (karg m d main_arg13)
def K3 : Lstm.Wts 1024 := Lstm.wtsOf (karg m d main_arg14) (karg m d main_arg15) (karg m d main_arg16) (karg m d main_arg17)

theorem wF1_eq : wF1 (vals (V3 m)) d = K0 m d := by
  refine (host_F1 (V2 m d)).trans ?_
  rw [V2_keep m d (b := main_arg2) (by decide), V2_keep m d (b := main_arg3) (by decide), V2_keep m d (b := main_arg4) (by decide), V2_keep m d (b := main_arg5) (by decide)]
  rfl
theorem wB1_eq : wB1 (vals (V3 m)) d = K1 m d := by
  refine (host_B1 (V2 m d)).trans ?_
  rw [V2_keep m d (b := main_arg6) (by decide), V2_keep m d (b := main_arg7) (by decide), V2_keep m d (b := main_arg8) (by decide), V2_keep m d (b := main_arg9) (by decide)]
  rfl
theorem wF2_eq : wF2 (vals (V5 m)) d = K2 m d := by
  refine (host_F2 (V4 m d)).trans ?_
  rw [V4_keep m d (b := main_arg10) (by decide), V4_keep m d (b := main_arg11) (by decide), V4_keep m d (b := main_arg12) (by decide), V4_keep m d (b := main_arg13) (by decide)]
  rfl
theorem wB2_eq : wB2 (vals (V5 m)) d = K3 m d := by
  refine (host_B2 (V4 m d)).trans ?_
  rw [V4_keep m d (b := main_arg14) (by decide), V4_keep m d (b := main_arg15) (by decide), V4_keep m d (b := main_arg16) (by decide), V4_keep m d (b := main_arg17) (by decide)]
  rfl

/-- The embedded tokens of one example, by position. -/
def embK (h : ∀ i, (karg m d main_arg0 i : BitVec 32).toNat < 100000) (r : Fin 512) : Fin 200 → Fin 128 → EReal :=
  fun t j => karg m d main_arg1 (ix2 ⟨(karg m d main_arg0 (ix2 r t) : BitVec 32).toNat, h _⟩ j)

theorem emb1_eq (h : ∀ i, (karg m d main_arg0 i : BitVec 32).toNat < 100000) (r : Fin 512) : emb1 (vals (V3 m)) d r = embK m d h r := by
  funext t k
  refine (host_rows (V2 m d) t r k).trans ?_
  rw [V2_v4]
  have e : (fI m d : S1x102400.Idx → Elt Ideal .i32) (ix2 (0 : Fin 1) (slot t r)) = karg m d main_arg0 (ix2 r t) := by
    rw [fI_eq]
    exact tok_slot _ t r
  have ex : fX m d = karg m d main_arg1 := V1_keep m d (b := main_arg1) (by decide)
  show fX m d (ix2 (rowN ((fI m d : S1x102400.Idx → Elt Ideal .i32) (ix2 (0 : Fin 1) (slot t r)))) k) = _
  rw [e, ex]
  unfold embK
  congr 2
  exact Fin.ext (Nat.mod_eq_of_lt (h _))

theorem seqF_eq : V5 m d (Proc.devRef .tc main_v18_0) = seqF (vals (V3 m)) d :=
  (ops3_keep (V4 m d) (r := main_v18_0) (by decide)).trans ((after1_arr (V3 m) d 6).trans (arr1_6 (vals (V3 m)) d))
theorem seqB_eq : V5 m d (Proc.devRef .tc main_v18_1) = seqB (vals (V3 m)) d :=
  (ops3_keep (V4 m d) (r := main_v18_1) (by decide)).trans ((after1_arr (V3 m) d 7).trans (arr1_7 (vals (V3 m)) d))

/-- The second layer reads the first layer's states. -/
theorem emb2_eq (h : ∀ i, (karg m d main_arg0 i : BitVec 32).toNat < 100000) (r : Fin 512) :
    emb2 (vals (V5 m)) d r = Lstm.layer (K0 m d) (K1 m d) (embK m d h r) := by
  funext t
  unfold emb2 Lstm.layer
  refine congrArg₂ Lstm.join (funext fun k => ?_) (funext fun k => ?_)
  · refine (congrFun (seqF_eq m d) (ix3 t r k)).trans ?_
    show (Lstm.fwd (wF1 (vals (V3 m)) d) (emb1 (vals (V3 m)) d r) (t.val + 1)).1 k = _
    rw [wF1_eq, emb1_eq m d h]
  · refine (congrFun (seqB_eq m d) (ix3 t r k)).trans ?_
    show (Lstm.bwd (wB1 (vals (V3 m)) d) (emb1 (vals (V3 m)) d r) (200 - t.val)).1 k = _
    rw [wB1_eq, emb1_eq m d h]

/-- The kernel's result for one example. -/
theorem kernel_row (h : ∀ i, (karg m d main_arg0 i : BitVec 32).toNat < 100000) (r : Fin 512) :
    ((V6 m d (Proc.devRef .tc main_v32) : Vec Ideal S512x1 .f32) (ix2 r 0) : EReal)
      = Lstm.score (K0 m d) (K1 m d) (K2 m d) (K3 m d) (fun k => karg m d main_arg18 (ix2 0 k)) (karg m d main_arg19 (ix1 0)) (embK m d h r) := by
  refine (congrFun ((after2_arr (V5 m) d 10).trans (arr2_10 (vals (V5 m)) d)) (ix2 r 0)).trans ?_
  show outRow (vals (V5 m)) d r = _
  have e18 : vals (V5 m) d main_arg18 = karg m d main_arg18 := V5_keep m d (b := main_arg18) (by decide)
  have e31 : (vals (V5 m) d main_v31 : Vec Ideal S1x1 .f32) (ix2 0 0) = karg m d main_arg19 (ix1 0) :=
    (host_b (V4 m d)).trans (congrFun (V4_keep m d (b := main_arg19) (by decide)) _)
  unfold outRow Lstm.score
  rw [wF2_eq, wB2_eq, emb2_eq m d h, e18, e31]

end Cert.Proof
end
-- ==== Proof.RefElem.lean ====
/-
  The reference's vector functions read at one element, over the extended reals: the step's input, the gates, the new cell and
  hidden state, the outputs with a step's row written, the rows taken from the table, and the last layer.
-/
module

public import proofs.«01_k».proof.Proof.RefFns
public import proofs.«01_k».proof.Proof.Lstm
public import Idealize.ShloMosaic.Lib.Pointwise
public import Idealize.ShloMosaic.Lib.DynamicIndex
public import Idealize.ShloMosaic.Lib.ReduceAll
public import Idealize.ShloMosaic.Lib.ValueIdxCore

@[expose] public section

set_option maxRecDepth 16384

noncomputable section
namespace Cert.Proof.Ref
open Cert.ReferenceIdeal Cert.ReferenceIdeal.Gen
open Idealize.ShloMosaic Idealize.ShloMosaic.TcCoe

variable (r : Fin 1024)

theorem sigV_apply (z : FVec Ideal S1024x512 .f32) (y : S1024x512.Idx) : sigV z y = Lstm.sg (z y) := by
  unfold sigV
  pointwise
  rfl

/-- Row `r` of the new cell state. -/
theorem cellV_apply (g : FVec Ideal S1024x2048 .f32) (c : FVec Ideal S1024x512 .f32) (j : Fin 512) :
    cellV g c (ix2 r j) = Lstm.cell (fun k => g (ix2 r k)) (fun k => c (ix2 r k)) j := by
  unfold cellV
  pointwise
  simp only [sigV_apply]
  pointwise
  simp only [Lstm.cell]

/-- Row `r` of the new hidden state. -/
theorem hidV_apply (g : FVec Ideal S1024x2048 .f32) (c : FVec Ideal S1024x512 .f32) (j : Fin 512) :
    hidV g c (ix2 r j) = Lstm.hid (fun k => g (ix2 r k)) (fun k => c (ix2 r k)) j := by
  unfold hidV
  pointwise
  simp only [sigV_apply, cellV_apply]
  pointwise
  simp only [Lstm.hid]

/-- Row `r` of the first layer's gates. -/
theorem gate0_apply (x : FVec Ideal S1024x128 .f32) (Wi : FVec Ideal S2048x128 .f32) (Wh : FVec Ideal S2048x512 .f32)
    (b : FVec Ideal S2048 .f32) (h : FVec Ideal S1024x512 .f32) (j : Fin 2048) :
    gate0 x Wi Wh b h (ix2 r j) = Lstm.gate (fun k => x (ix2 r k)) (fun k => h (ix2 r k)) (fun j k => Wi (ix2 j k))
      (fun j k => Wh (ix2 j k)) (fun j => b (ix1 j)) j := by
  unfold gate0
  pointwise
  simp only [Lstm.gate]

/-- Row `r` of the second layer's gates. -/
theorem gate1_apply (x : FVec Ideal S1024x1024 .f32) (Wi : FVec Ideal S2048x1024 .f32) (Wh : FVec Ideal S2048x512 .f32)
    (b : FVec Ideal S2048 .f32) (h : FVec Ideal S1024x512 .f32) (j : Fin 2048) :
    gate1 x Wi Wh b h (ix2 r j) = Lstm.gate (fun k => x (ix2 r k)) (fun k => h (ix2 r k)) (fun j k => Wi (ix2 j k))
      (fun j k => Wh (ix2 j k)) (fun j => b (ix1 j)) j := by
  unfold gate1
  pointwise
  simp only [Lstm.gate]

theorem pick0_apply (X : FVec Ideal S200x1024x128 .f32) (i : IVec S_ 32) (k : Fin 200) (hi : (i (Shape.Idx.first h_S_)).toInt = k)
    (j : Fin 128) : pick0 X i (ix2 r j) = X (ix3 k r j) := by
  unfold pick0
  rw [Host.dynamicSlice_eq_extractStridedSlice S1x1024x128 X (fun k => ((![i, zI, zI] : Fin 3 → IVec S_ 32) k (Shape.Idx.first h_S_)).toInt)
    ![k, 0, 0] sliceFits_S200x1024x128_S1x1024x128 (hoff := ⟨rfl, fun a => by
      match a with
      | ⟨0, _⟩ => exact k.2
      | ⟨1, _⟩ => exact le_rfl
      | ⟨2, _⟩ => exact le_rfl⟩) (hs := fun a => by
      match a with
      | ⟨0, _⟩ => exact hi
      | ⟨1, _⟩ => rfl
      | ⟨2, _⟩ => rfl)]
  pointwise

theorem pick1_apply (X : FVec Ideal S200x1024x1024 .f32) (i : IVec S_ 32) (k : Fin 200) (hi : (i (Shape.Idx.first h_S_)).toInt = k)
    (j : Fin 1024) : pick1 X i (ix2 r j) = X (ix3 k r j) := by
  unfold pick1
  rw [Host.dynamicSlice_eq_extractStridedSlice S1x1024x1024 X (fun k => ((![i, zI, zI] : Fin 3 → IVec S_ 32) k (Shape.Idx.first h_S_)).toInt)
    ![k, 0, 0] sliceFits_S200x1024x1024_S1x1024x1024 (hoff := ⟨rfl, fun a => by
      match a with
      | ⟨0, _⟩ => exact k.2
      | ⟨1, _⟩ => exact le_rfl
      | ⟨2, _⟩ => exact le_rfl⟩) (hs := fun a => by
      match a with
      | ⟨0, _⟩ => exact hi
      | ⟨1, _⟩ => rfl
      | ⟨2, _⟩ => rfl)]
  pointwise

/-- The outputs with step `k`'s written: step `k` holds the new rows, every other step what it held. -/
theorem putV_apply (ys : FVec Ideal S200x1024x512 .f32) (h : FVec Ideal S1024x512 .f32) (i : IVec S_ 32) (k : Fin 200)
    (hi : (i (Shape.Idx.first h_S_)).toInt = k) (t : Fin 200) (j : Fin 512) :
    putV ys h i (ix3 t r j) = if t = k then h (ix2 r j) else ys (ix3 t r j) := by
  unfold putV
  have c0 : Host.clampedStart S200x1024x512 S1x1024x512 rfl
      (fun k => ((![i, zI, zI] : Fin 3 → IVec S_ 32) k (Shape.Idx.first h_S_)).toInt) 0 = k :=
    Host.clampedStart_of_le _ _ _ _ hi k.2
  have c1 : Host.clampedStart S200x1024x512 S1x1024x512 rfl
      (fun k => ((![i, zI, zI] : Fin 3 → IVec S_ 32) k (Shape.Idx.first h_S_)).toInt) 1 = 0 :=
    Host.clampedStart_of_le _ _ _ 0 rfl le_rfl
  have c2 : Host.clampedStart S200x1024x512 S1x1024x512 rfl
      (fun k => ((![i, zI, zI] : Fin 3 → IVec S_ 32) k (Shape.Idx.first h_S_)).toInt) 2 = 0 :=
    Host.clampedStart_of_le _ _ _ 0 rfl le_rfl
  pointwise
  simp only [c0, c1, c2]
  by_cases e : t = k
  · subst e
    rw [dif_pos (by simp), if_pos rfl]
    rfl
  · rw [dif_neg (fun h => e (Fin.ext (by have := h.1; omega))), if_neg e]

theorem embV_apply (x : FVec Ideal S1024x200x128 .f32) (t : Fin 200) (j : Fin 128) : embV x (ix3 t r j) = x (ix3 r t j) := by
  unfold embV
  pointwise

/-- The second layer's input at a position: the two directions' rows side by side. -/
theorem catV_apply (a b : FVec Ideal S200x1024x512 .f32) (t : Fin 200) (j : Fin 1024) :
    catV a b (ix3 t r j) = Lstm.join (fun k => a (ix3 t r k)) (fun k => b (ix3 t r k)) j := by
  unfold catV
  pointwise
  simp only [Lstm.join]

theorem zH_apply (j : Fin 512) : (zH : FVec Ideal S1024x512 .f32) (ix2 r j) = 0 := by
  unfold zH
  pointwise

/-- The result for example `r`. -/
theorem headV_apply (hf hb : FVec Ideal S1024x512 .f32) (w : FVec Ideal S1x1024 .f32) (b : FVec Ideal S1 .f32) :
    headV hf hb w b (ix2 r 0) = Lstm.sg ((∑ k : Fin 512, hf (ix2 r k) * w (ix2 0 ⟨k, by omega⟩)
      + ∑ k : Fin 512, hb (ix2 r k) * w (ix2 0 ⟨512 + k, by omega⟩)) + b (ix1 0)) := by
  unfold headV scoreV
  pointwise
  rfl

/-- The gather of table rows at `(r, p, j)`: element `j` of the row that start `(r, p)` names. -/
theorem gather_row (x : FVec Ideal S100000x128 .f32) (idx : IVec S1024x200x1 32) (p : Fin 200) (j : Fin 128) :
    Host.gather gather_S100000x128_S1024x200x1_S1024x200x128_2_0_n_n_0_2_1128 x idx (ix3 r p j)
      = x (ix2 ⟨min (idx (ix3 r p 0)).toInt.toNat 99999, by omega⟩ j) := by
  unfold Host.gather
  refine congrArg x (funext fun a => Fin.ext ?_)
  set d := gather_S100000x128_S1024x200x1_S1024x200x128_2_0_n_n_0_2_1128 with hd
  show d.start (ix3 r p j) idx a + d.batchCoord (ix3 r p j) a + d.offCoord (ix3 r p j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ d.startIndexMap from List.mem_singleton.mpr rfl)).trans ?_
    have hsi : d.siIdx (ix3 r p j) ⟨List.idxOf (0 : Fin 2) d.startIndexMap, List.idxOf_lt_length_iff.2 (List.mem_singleton.mpr rfl)⟩
        = ix3 r p (0 : Fin 1) := by
      funext b; refine Fin.ext ?_
      match b with
      | ⟨0, _⟩ => rfl
      | ⟨1, _⟩ => rfl
      | ⟨2, _⟩ => rfl
    exact congrArg (fun i => min (idx i).toInt.toNat 99999) hsi
  | ⟨1, _⟩ =>
    have h0 : d.start (ix3 r p j) idx 1 = 0 := by
      unfold GatherDims.start
      exact dif_neg (by rw [hd]; decide)
    have h1 : d.offCoord (ix3 r p j) 1 = j := by
      unfold GatherDims.offCoord
      rw [dif_pos (by rw [hd]; decide)]
      rfl
    exact (congrArg₂ (· + ·) h0 h1).trans (Nat.zero_add _)

/-- A word below a hundred thousand read signed is the word. -/
theorem toInt_tok {w : BitVec 32} (h : w.toNat < 100000) : w.toInt = w.toNat := BitVec.toInt_eq_toNat_of_lt (by omega)

theorem wrapV_apply (a : IVec S1024x200 32) (h : ∀ i, (a i).toNat < 100000) (p : Fin 200) (q : Fin 1) :
    wrapV a (ix3 r p q) = a (ix2 r p) := by
  unfold wrapV
  pointwise
  have e : (a (ix2 r p)).slt 0#32 = false := by
    simp only [BitVec.slt, BitVec.toInt_zero, decide_eq_false_iff_not, Int.not_lt, toInt_tok (h _)]
    omega
  simp [IntOp.cmpi, Scalar.select, e]

theorem inV_wrapV (a : IVec S1024x200 32) (h : ∀ i, (a i).toNat < 100000) (y : S1024x200.Idx) : inV (wrapV a) y = 1#1 := by
  unfold inV
  refine Host.reduce_andi_one _ _ _ _ _ rfl fun i => ?_
  have hi : ∃ (r : Fin 1024) (p : Fin 200) (q : Fin 1), i = ix3 r p q := ⟨i 0, i 1, i 2, by
    funext b
    match b with
    | ⟨0, _⟩ => rfl
    | ⟨1, _⟩ => rfl
    | ⟨2, _⟩ => rfl⟩
  obtain ⟨r, p, q, rfl⟩ := hi
  pointwise
  rw [wrapV_apply r a h p q]
  have hw := h (ix2 r p)
  generalize a (ix2 r p) = w at hw
  have e1 : (0#32).sle w = true := by
    simp only [BitVec.sle, BitVec.toInt_zero, decide_eq_true_eq, toInt_tok hw]; omega
  have e2 : w.sle 99999#32 = true := by
    have : (99999#32).toInt = 99999 := by decide
    simp only [BitVec.sle, this, decide_eq_true_eq, toInt_tok hw]; omega
  simp [IntOp.cmpi, IntOp.andi, e1, e2]

/-- A token's row of the table. -/
theorem takeV_apply (a : IVec S1024x200 32) (h : ∀ i, (a i).toNat < 100000) (t : FVec Ideal S100000x128 .f32) (p : Fin 200) (j : Fin 128) :
    takeV a t (ix3 r p j) = t (ix2 ⟨(a (ix2 r p)).toNat, h _⟩ j) := by
  unfold takeV
  pointwise
  rw [inV_wrapV a h]
  refine (if_pos rfl).trans ?_
  rw [gather_row]
  refine congrArg (fun k => t (ix2 k j)) (Fin.ext ?_)
  show min (wrapV a (ix3 r p 0)).toInt.toNat 99999 = _
  rw [wrapV_apply r a h, toInt_tok (h _)]
  have := h (ix2 r p)
  simp only [Int.toNat_natCast]
  omega

end Cert.Proof.Ref

end
-- ==== Proof.RefScan.lean ====
/-
  The reference's scans over the extended reals: row `r` of the states after `k` trips is the scan of row `r`, and the outputs
  hold at each step's position the hidden state after that step.
-/
module

public import proofs.«01_k».proof.Proof.RefElem
public import proofs.«01_k».proof.Proof.RefRun

@[expose] public section

set_option maxRecDepth 16384

noncomputable section
namespace Cert.Proof.Ref
open Cert.ReferenceIdeal Cert.ReferenceIdeal.Gen
open Idealize.ShloMosaic Idealize.ShloMosaic.TcCoe

theorem ctr_pos (k : ℕ) (hk : k < 200) : (ctr k (Shape.Idx.first h_S_)).toInt = (Lstm.pos k : ℕ) := by
  show (BitVec.ofNat 32 k).toInt = ((k % 200 : ℕ) : Int)
  revert hk; revert k
  decide +kernel

theorem revV_pos (k : ℕ) (hk : k < 200) : (revV (ctr k) (Shape.Idx.first h_S_)).toInt = (Lstm.pos (199 - k) : ℕ) := by
  show ((200#32 - BitVec.ofNat 32 k) - 1#32).toInt = (((199 - k) % 200 : ℕ) : Int)
  revert hk; revert k
  decide +kernel

theorem pos_inj {s k : ℕ} (hs : s < 200) (hk : k < 200) (e : Lstm.pos s = Lstm.pos k) : s = k := by
  have := congrArg Fin.val e
  simpa [Lstm.pos, Nat.mod_eq_of_lt hs, Nat.mod_eq_of_lt hk] using this

/-- The outputs: at each position stepped over, the hidden state after that step. -/
theorem outs_rows (q : ℕ → Fin 200) (hinj : ∀ {s k : ℕ}, s < 200 → k < 200 → q s = q k → s = k) (i : ℕ → IVec S_ 32)
    (hq : ∀ k < 200, (i k (Shape.Idx.first h_S_)).toInt = (q k : ℕ))
    (H : ℕ → FVec Ideal S1024x512 .f32) (Y : ℕ → FVec Ideal S200x1024x512 .f32)
    (hy : ∀ k, Y (k + 1) = putV (Y k) (H (k + 1)) (i k)) (r : Fin 1024) (j : Fin 512) :
    ∀ k ≤ 200, ∀ s < k, Y k (ix3 (q s) r j) = H (s + 1) (ix2 r j) := by
  intro k
  induction k with
  | zero => intro _ s hs; omega
  | succ k ih =>
    intro hk s hs
    rw [hy, putV_apply r _ _ _ (q k) (hq k (by omega))]
    by_cases e : s = k
    · subst e; rw [if_pos rfl]
    · rw [if_neg (fun h => e (hinj (by omega) (by omega) h)), ih (by omega) s (by omega)]

/-- Row `r` of the states of a scan of layer 0. -/
theorem states0_rows (X : FVec Ideal S200x1024x128 .f32) (Wi : FVec Ideal S2048x128 .f32) (Wh : FVec Ideal S2048x512 .f32)
    (b : FVec Ideal S2048 .f32) (q : ℕ → Fin 200) (i : ℕ → IVec S_ 32)
    (hq : ∀ k < 200, (i k (Shape.Idx.first h_S_)).toInt = (q k : ℕ)) (H C : ℕ → FVec Ideal S1024x512 .f32)
    (h0 : H 0 = zH) (c0 : C 0 = zH)
    (hh : ∀ k, H (k + 1) = hidV (gate0 (pick0 X (i k)) Wi Wh b (H k)) (C k))
    (hc : ∀ k, C (k + 1) = cellV (gate0 (pick0 X (i k)) Wi Wh b (H k)) (C k)) (r : Fin 1024) :
    ∀ k ≤ 200, (fun j => H k (ix2 r j), fun j => C k (ix2 r j))
      = Lstm.scan (fun j k => Wi (ix2 j k)) (fun j k => Wh (ix2 j k)) (fun j => b (ix1 j)) (fun s j => X (ix3 (q s) r j)) k := by
  intro k
  induction k with
  | zero =>
    intro _
    rw [h0, c0]
    exact Prod.ext (funext fun j => zH_apply r j) (funext fun j => zH_apply r j)
  | succ k ih =>
    intro hk
    have ih := ih (by omega)
    have e1 : (fun j => H k (ix2 r j)) = _ := congrArg Prod.fst ih
    have e2 : (fun j => C k (ix2 r j)) = _ := congrArg Prod.snd ih
    have eg : (fun j => gate0 (pick0 X (i k)) Wi Wh b (H k) (ix2 r j)) = Lstm.gate (fun j => X (ix3 (q k) r j)) (fun j => H k (ix2 r j))
        (fun j k => Wi (ix2 j k)) (fun j k => Wh (ix2 j k)) (fun j => b (ix1 j)) := by
      funext j
      rw [gate0_apply]
      refine congrArg (fun x => Lstm.gate x _ _ _ _ j) (funext fun j => ?_)
      exact pick0_apply r X _ (q k) (hq k (by omega)) j
    rw [hh, hc]
    simp only [hidV_apply, cellV_apply, eg, e1, e2]
    rfl

/-- Row `r` of the states of a scan of layer 1. -/
theorem states1_rows (X : FVec Ideal S200x1024x1024 .f32) (Wi : FVec Ideal S2048x1024 .f32) (Wh : FVec Ideal S2048x512 .f32)
    (b : FVec Ideal S2048 .f32) (q : ℕ → Fin 200) (i : ℕ → IVec S_ 32)
    (hq : ∀ k < 200, (i k (Shape.Idx.first h_S_)).toInt = (q k : ℕ)) (H C : ℕ → FVec Ideal S1024x512 .f32)
    (h0 : H 0 = zH) (c0 : C 0 = zH)
    (hh : ∀ k, H (k + 1) = hidV (gate1 (pick1 X (i k)) Wi Wh b (H k)) (C k))
    (hc : ∀ k, C (k + 1) = cellV (gate1 (pick1 X (i k)) Wi Wh b (H k)) (C k)) (r : Fin 1024) :
    ∀ k ≤ 200, (fun j => H k (ix2 r j), fun j => C k (ix2 r j))
      = Lstm.scan (fun j k => Wi (ix2 j k)) (fun j k => Wh (ix2 j k)) (fun j => b (ix1 j)) (fun s j => X (ix3 (q s) r j)) k := by
  intro k
  induction k with
  | zero =>
    intro _
    rw [h0, c0]
    exact Prod.ext (funext fun j => zH_apply r j) (funext fun j => zH_apply r j)
  | succ k ih =>
    intro hk
    have ih := ih (by omega)
    have e1 : (fun j => H k (ix2 r j)) = _ := congrArg Prod.fst ih
    have e2 : (fun j => C k (ix2 r j)) = _ := congrArg Prod.snd ih
    have eg : (fun j => gate1 (pick1 X (i k)) Wi Wh b (H k) (ix2 r j)) = Lstm.gate (fun j => X (ix3 (q k) r j)) (fun j => H k (ix2 r j))
        (fun j k => Wi (ix2 j k)) (fun j k => Wh (ix2 j k)) (fun j => b (ix1 j)) := by
      funext j
      rw [gate1_apply]
      refine congrArg (fun x => Lstm.gate x _ _ _ _ j) (funext fun j => ?_)
      exact pick1_apply r X _ (q k) (hq k (by omega)) j
    rw [hh, hc]
    simp only [hidV_apply, cellV_apply, eg, e1, e2]
    rfl

end Cert.Proof.Ref

end
-- ==== Proof.RefValue.lean ====
/-
  What the reference leaves in its result, over the extended reals: for every example the network's score of the rows its tokens name.
-/
module

public import proofs.«01_k».proof.Proof.RefScan
public import proofs.«01_k».proof.Proof.RefFrame

@[expose] public section

set_option maxRecDepth 16384
set_option maxHeartbeats 1000000

noncomputable section
namespace Cert.Proof.Ref
open Cert.ReferenceIdeal Cert.ReferenceIdeal.Gen
open Idealize.ShloMosaic Idealize.ShloMosaic.TcCoe

variable (m : (ℓ : Loc nD τ sig) → Buf (Elt Ideal) ℓ) (c : Dev nD)

/-- What argument `b` holds. -/
abbrev arg (b : Ref sig .tc) : Buf (Elt Ideal) ((c.tc : Thread nD τ).loc b) := m ((c.tc : Thread nD τ).loc b)

/-- The weights: first layer, forward. -/
def W0 : Lstm.Wts 128 := Lstm.wtsOf (arg m c main_arg2) (arg m c main_arg3) (arg m c main_arg4) (arg m c main_arg5)

/-- The weights: first layer, backward. -/
def W1 : Lstm.Wts 128 := Lstm.wtsOf (arg m c main_arg6) (arg m c main_arg7) (arg m c main_arg8) (arg m c main_arg9)

/-- The weights: second layer, forward. -/
def W2 : Lstm.Wts 1024 := Lstm.wtsOf (arg m c main_arg10) (arg m c main_arg11) (arg m c main_arg12) (arg m c main_arg13)

/-- The weights: second layer, backward. -/
def W3 : Lstm.Wts 1024 := Lstm.wtsOf (arg m c main_arg14) (arg m c main_arg15) (arg m c main_arg16) (arg m c main_arg17)

/-- The first layer's input. -/
def X0 : FVec Ideal S200x1024x128 .f32 := embV (takeV (arg m c main_arg0) (arg m c main_arg1))

/-- Row `r` of a sequence. -/
def rowOf {n : ℕ} (X : (⟨3, ![200, 1024, n]⟩ : Shape).Idx → EReal) (r : Fin 1024) (t : Fin 200) (j : Fin n) : EReal := X (ix3 t r j)

/-! ## First layer, forward -/

theorem in0_0 : U0 m c (Proc.devRef .tc main_v6_0) = X0 m c := main0_0 _
theorem in0_1 : U0 m c (Proc.devRef .tc main_v6_1) = arg m c main_arg2 := main0_1 _
theorem in0_2 : U0 m c (Proc.devRef .tc main_v6_2) = arg m c main_arg3 := main0_2 _
theorem in0_3 : U0 m c (Proc.devRef .tc main_v6_3) = addf (F := Ideal) (s := S2048) (φ := .f32) (arg m c main_arg4) (arg m c main_arg5) := main0_3 _

theorem at0_in (k : ℕ) : at0 (U0 m) k c (Proc.devRef .tc main_v6_0) = X0 m c ∧ at0 (U0 m) k c (Proc.devRef .tc main_v6_1) = arg m c main_arg2
    ∧ at0 (U0 m) k c (Proc.devRef .tc main_v6_2) = arg m c main_arg3
    ∧ at0 (U0 m) k c (Proc.devRef .tc main_v6_3) = addf (F := Ideal) (s := S2048) (φ := .f32) (arg m c main_arg4) (arg m c main_arg5)
    ∧ at0 (U0 m) k c (Proc.devRef .tc main_v6_4) = ctr k :=
  ⟨(at0_keep _ _ _ (r := main_v6_0) (by decide) (by decide) (by decide)).trans (in0_0 m c),
   (at0_keep _ _ _ (r := main_v6_1) (by decide) (by decide) (by decide)).trans (in0_1 m c),
   (at0_keep _ _ _ (r := main_v6_2) (by decide) (by decide) (by decide)).trans (in0_2 m c),
   (at0_keep _ _ _ (r := main_v6_3) (by decide) (by decide) (by decide)).trans (in0_3 m c),
   at0_ctr _ c (U0_ctr m c) k⟩

/-- Row `r` of the states after `n` trips. -/
theorem states0 (r : Fin 1024) (n : ℕ) (hn : n ≤ 200) :
    ((fun j => at0 (U0 m) n c (Proc.devRef .tc main_v6_5) (ix2 r j) : Fin 512 → EReal), (fun j => at0 (U0 m) n c (Proc.devRef .tc main_v6_6) (ix2 r j) : Fin 512 → EReal))
      = Lstm.fwd (W0 m c) (rowOf (X0 m c) r) n := by
  refine (states0_rows (X0 m c) (arg m c main_arg2) (arg m c main_arg3) (addf (F := Ideal) (s := S2048) (φ := .f32) (arg m c main_arg4) (arg m c main_arg5))
    (Lstm.pos) (fun k => ctr k) ctr_pos (fun n => at0 (U0 m) n c (Proc.devRef .tc main_v6_5)) (fun n => at0 (U0 m) n c (Proc.devRef .tc main_v6_6))
    (main0_5 _) (main0_6 _) (fun n => ?_) (fun n => ?_) r n hn).trans rfl
  · obtain ⟨e0, e1, e2, e3, e4⟩ := at0_in m c n
    show at0 (U0 m) (n + 1) c (Proc.devRef .tc main_v6_5) = _
    rw [at0_succ, trip0_5, e0, e1, e2, e3, e4]
  · obtain ⟨e0, e1, e2, e3, e4⟩ := at0_in m c n
    show at0 (U0 m) (n + 1) c (Proc.devRef .tc main_v6_6) = _
    rw [at0_succ, trip0_6, e0, e1, e2, e3, e4]

/-- Row `r` of the outputs at position `t`. -/
theorem outs0 (r : Fin 1024) (t : Fin 200) (j : Fin 512) :
    (at0 (U0 m) 200 c (Proc.devRef .tc main_v6_7) (ix3 t r j) : EReal) = (Lstm.fwd (W0 m c) (rowOf (X0 m c) r) (t + 1)).1 j := by
  have h := outs_rows (Lstm.pos) pos_inj (fun k => ctr k) ctr_pos
    (fun n => at0 (U0 m) n c (Proc.devRef .tc main_v6_5)) (fun n => at0 (U0 m) n c (Proc.devRef .tc main_v6_7)) (fun n => ?_) r j 200 le_rfl t t.2
  · rw [Lstm.pos_val t] at h
    exact h.trans (congrFun (congrArg Prod.fst (states0 m c r (t + 1) (by omega))) j)
  · obtain ⟨e0, e1, e2, e3, e4⟩ := at0_in m c n
    show at0 (U0 m) (n + 1) c (Proc.devRef .tc main_v6_7) = putV (F := Ideal) _ (at0 (U0 m) (n + 1) c (Proc.devRef .tc main_v6_5)) _
    rw [at0_succ, trip0_5, trip0_7, e0, e1, e2, e3, e4]

/-! ## First layer, backward -/

theorem in1_0 : U1 m c (Proc.devRef .tc main_v11_0) = X0 m c := (main1_0 _).trans ((cond0_keep _ (r := main_v1) (by decide)).trans
    ((at0_keep (U0 m) 200 c (r := main_v1) (by decide) (by decide) (by decide)).trans (main0_v1 _)))
theorem in1_1 : U1 m c (Proc.devRef .tc main_v11_1) = arg m c main_arg6 := (main1_1 _).trans (E0_keep kept6 c)
theorem in1_2 : U1 m c (Proc.devRef .tc main_v11_2) = arg m c main_arg7 := (main1_2 _).trans (E0_keep kept7 c)
theorem in1_3 : U1 m c (Proc.devRef .tc main_v11_3) = addf (F := Ideal) (s := S2048) (φ := .f32) (arg m c main_arg8) (arg m c main_arg9) := by rw [U1, main1_3, E0_keep kept8, E0_keep kept9]

theorem at1_in (k : ℕ) : at1 (U1 m) k c (Proc.devRef .tc main_v11_0) = X0 m c ∧ at1 (U1 m) k c (Proc.devRef .tc main_v11_1) = arg m c main_arg6
    ∧ at1 (U1 m) k c (Proc.devRef .tc main_v11_2) = arg m c main_arg7
    ∧ at1 (U1 m) k c (Proc.devRef .tc main_v11_3) = addf (F := Ideal) (s := S2048) (φ := .f32) (arg m c main_arg8) (arg m c main_arg9)
    ∧ at1 (U1 m) k c (Proc.devRef .tc main_v11_4) = ctr k :=
  ⟨(at1_keep _ _ _ (r := main_v11_0) (by decide) (by decide) (by decide)).trans (in1_0 m c),
   (at1_keep _ _ _ (r := main_v11_1) (by decide) (by decide) (by decide)).trans (in1_1 m c),
   (at1_keep _ _ _ (r := main_v11_2) (by decide) (by decide) (by decide)).trans (in1_2 m c),
   (at1_keep _ _ _ (r := main_v11_3) (by decide) (by decide) (by decide)).trans (in1_3 m c),
   at1_ctr _ c (U1_ctr m c) k⟩

/-- Row `r` of the states after `n` trips. -/
theorem states1 (r : Fin 1024) (n : ℕ) (hn : n ≤ 200) :
    ((fun j => at1 (U1 m) n c (Proc.devRef .tc main_v11_5) (ix2 r j) : Fin 512 → EReal), (fun j => at1 (U1 m) n c (Proc.devRef .tc main_v11_6) (ix2 r j) : Fin 512 → EReal))
      = Lstm.bwd (W1 m c) (rowOf (X0 m c) r) n := by
  refine (states0_rows (X0 m c) (arg m c main_arg6) (arg m c main_arg7) (addf (F := Ideal) (s := S2048) (φ := .f32) (arg m c main_arg8) (arg m c main_arg9))
    (fun s => Lstm.pos (199 - s)) (fun k => revV (ctr k)) revV_pos (fun n => at1 (U1 m) n c (Proc.devRef .tc main_v11_5)) (fun n => at1 (U1 m) n c (Proc.devRef .tc main_v11_6))
    (main1_5 _) (main1_6 _) (fun n => ?_) (fun n => ?_) r n hn).trans rfl
  · obtain ⟨e0, e1, e2, e3, e4⟩ := at1_in m c n
    show at1 (U1 m) (n + 1) c (Proc.devRef .tc main_v11_5) = _
    rw [at1_succ, trip1_5, e0, e1, e2, e3, e4]
  · obtain ⟨e0, e1, e2, e3, e4⟩ := at1_in m c n
    show at1 (U1 m) (n + 1) c (Proc.devRef .tc main_v11_6) = _
    rw [at1_succ, trip1_6, e0, e1, e2, e3, e4]

/-- Row `r` of the outputs at position `t`. -/
theorem outs1 (r : Fin 1024) (t : Fin 200) (j : Fin 512) :
    (at1 (U1 m) 200 c (Proc.devRef .tc main_v11_7) (ix3 t r j) : EReal) = (Lstm.bwd (W1 m c) (rowOf (X0 m c) r) (200 - t)).1 j := by
  have h := outs_rows (fun s => Lstm.pos (199 - s)) (fun {s k} hs hk e => by have := pos_inj (by omega) (by omega) e; omega) (fun k => revV (ctr k)) revV_pos
    (fun n => at1 (U1 m) n c (Proc.devRef .tc main_v11_5)) (fun n => at1 (U1 m) n c (Proc.devRef .tc main_v11_7)) (fun n => ?_) r j 200 le_rfl (199 - t) (by omega)
  · have e : Lstm.pos (199 - (199 - (t : ℕ))) = t := by rw [show 199 - (199 - (t : ℕ)) = t by omega]; exact Lstm.pos_val t
    have e' : 199 - (t : ℕ) + 1 = 200 - t := by omega
    rw [e, e'] at h
    exact h.trans (congrFun (congrArg Prod.fst (states1 m c r (200 - t) (by omega))) j)
  · obtain ⟨e0, e1, e2, e3, e4⟩ := at1_in m c n
    show at1 (U1 m) (n + 1) c (Proc.devRef .tc main_v11_7) = putV (F := Ideal) _ (at1 (U1 m) (n + 1) c (Proc.devRef .tc main_v11_5)) _
    rw [at1_succ, trip1_5, trip1_7, e0, e1, e2, e3, e4]

/-- The second layer's input. -/
def X1 : FVec Ideal S200x1024x1024 .f32 := catV (at0 (U0 m) 200 c (Proc.devRef .tc main_v6_7)) (at1 (U1 m) 200 c (Proc.devRef .tc main_v11_7))

theorem v6_kept : E1 m c (Proc.devRef .tc main_v6_7) = at0 (U0 m) 200 c (Proc.devRef .tc main_v6_7) :=
  (cond1_keep _ (r := main_v6_7) (by decide)).trans ((at1_keep (U1 m) 200 c (r := main_v6_7) (by decide) (by decide) (by decide)).trans
    ((main1_keep _ (r := main_v6_7) (by decide)).trans (cond0_keep _ (r := main_v6_7) (by decide))))

theorem v11_kept : E1 m c (Proc.devRef .tc main_v11_7) = at1 (U1 m) 200 c (Proc.devRef .tc main_v11_7) :=
  cond1_keep _ (r := main_v11_7) (by decide)

theorem v12_eq : U2 m c (Proc.devRef .tc main_v12) = X1 m c := by
  rw [U2, main2_v12, v6_kept, v11_kept, X1]

/-! ## Second layer, forward -/

theorem in2_0 : U2 m c (Proc.devRef .tc main_v17_0) = X1 m c := by rw [U2, main2_0, v6_kept, v11_kept, X1]
theorem in2_1 : U2 m c (Proc.devRef .tc main_v17_1) = arg m c main_arg10 := (main2_1 _).trans (E1_keep kept10 c)
theorem in2_2 : U2 m c (Proc.devRef .tc main_v17_2) = arg m c main_arg11 := (main2_2 _).trans (E1_keep kept11 c)
theorem in2_3 : U2 m c (Proc.devRef .tc main_v17_3) = addf (F := Ideal) (s := S2048) (φ := .f32) (arg m c main_arg12) (arg m c main_arg13) := by rw [U2, main2_3, E1_keep kept12, E1_keep kept13]

theorem at2_in (k : ℕ) : at2 (U2 m) k c (Proc.devRef .tc main_v17_0) = X1 m c ∧ at2 (U2 m) k c (Proc.devRef .tc main_v17_1) = arg m c main_arg10
    ∧ at2 (U2 m) k c (Proc.devRef .tc main_v17_2) = arg m c main_arg11
    ∧ at2 (U2 m) k c (Proc.devRef .tc main_v17_3) = addf (F := Ideal) (s := S2048) (φ := .f32) (arg m c main_arg12) (arg m c main_arg13)
    ∧ at2 (U2 m) k c (Proc.devRef .tc main_v17_4) = ctr k :=
  ⟨(at2_keep _ _ _ (r := main_v17_0) (by decide) (by decide) (by decide)).trans (in2_0 m c),
   (at2_keep _ _ _ (r := main_v17_1) (by decide) (by decide) (by decide)).trans (in2_1 m c),
   (at2_keep _ _ _ (r := main_v17_2) (by decide) (by decide) (by decide)).trans (in2_2 m c),
   (at2_keep _ _ _ (r := main_v17_3) (by decide) (by decide) (by decide)).trans (in2_3 m c),
   at2_ctr _ c (U2_ctr m c) k⟩

/-- Row `r` of the states after `n` trips. -/
theorem states2 (r : Fin 1024) (n : ℕ) (hn : n ≤ 200) :
    ((fun j => at2 (U2 m) n c (Proc.devRef .tc main_v17_5) (ix2 r j) : Fin 512 → EReal), (fun j => at2 (U2 m) n c (Proc.devRef .tc main_v17_6) (ix2 r j) : Fin 512 → EReal))
      = Lstm.fwd (W2 m c) (rowOf (X1 m c) r) n := by
  refine (states1_rows (X1 m c) (arg m c main_arg10) (arg m c main_arg11) (addf (F := Ideal) (s := S2048) (φ := .f32) (arg m c main_arg12) (arg m c main_arg13))
    (Lstm.pos) (fun k => ctr k) ctr_pos (fun n => at2 (U2 m) n c (Proc.devRef .tc main_v17_5)) (fun n => at2 (U2 m) n c (Proc.devRef .tc main_v17_6))
    (main2_5 _) (main2_6 _) (fun n => ?_) (fun n => ?_) r n hn).trans rfl
  · obtain ⟨e0, e1, e2, e3, e4⟩ := at2_in m c n
    show at2 (U2 m) (n + 1) c (Proc.devRef .tc main_v17_5) = _
    rw [at2_succ, trip2_5, e0, e1, e2, e3, e4]
  · obtain ⟨e0, e1, e2, e3, e4⟩ := at2_in m c n
    show at2 (U2 m) (n + 1) c (Proc.devRef .tc main_v17_6) = _
    rw [at2_succ, trip2_6, e0, e1, e2, e3, e4]

/-! ## Second layer, backward -/

theorem in3_0 : U3 m c (Proc.devRef .tc main_v22_0) = X1 m c := (main3_0 _).trans ((cond2_keep _ (r := main_v12) (by decide)).trans
    ((at2_keep (U2 m) 200 c (r := main_v12) (by decide) (by decide) (by decide)).trans (v12_eq m c)))
theorem in3_1 : U3 m c (Proc.devRef .tc main_v22_1) = arg m c main_arg14 := (main3_1 _).trans (E2_keep kept14 c)
theorem in3_2 : U3 m c (Proc.devRef .tc main_v22_2) = arg m c main_arg15 := (main3_2 _).trans (E2_keep kept15 c)
theorem in3_3 : U3 m c (Proc.devRef .tc main_v22_3) = addf (F := Ideal) (s := S2048) (φ := .f32) (arg m c main_arg16) (arg m c main_arg17) := by rw [U3, main3_3, E2_keep kept16, E2_keep kept17]

theorem at3_in (k : ℕ) : at3 (U3 m) k c (Proc.devRef .tc main_v22_0) = X1 m c ∧ at3 (U3 m) k c (Proc.devRef .tc main_v22_1) = arg m c main_arg14
    ∧ at3 (U3 m) k c (Proc.devRef .tc main_v22_2) = arg m c main_arg15
    ∧ at3 (U3 m) k c (Proc.devRef .tc main_v22_3) = addf (F := Ideal) (s := S2048) (φ := .f32) (arg m c main_arg16) (arg m c main_arg17)
    ∧ at3 (U3 m) k c (Proc.devRef .tc main_v22_4) = ctr k :=
  ⟨(at3_keep _ _ _ (r := main_v22_0) (by decide) (by decide) (by decide)).trans (in3_0 m c),
   (at3_keep _ _ _ (r := main_v22_1) (by decide) (by decide) (by decide)).trans (in3_1 m c),
   (at3_keep _ _ _ (r := main_v22_2) (by decide) (by decide) (by decide)).trans (in3_2 m c),
   (at3_keep _ _ _ (r := main_v22_3) (by decide) (by decide) (by decide)).trans (in3_3 m c),
   at3_ctr _ c (U3_ctr m c) k⟩

/-- Row `r` of the states after `n` trips. -/
theorem states3 (r : Fin 1024) (n : ℕ) (hn : n ≤ 200) :
    ((fun j => at3 (U3 m) n c (Proc.devRef .tc main_v22_5) (ix2 r j) : Fin 512 → EReal), (fun j => at3 (U3 m) n c (Proc.devRef .tc main_v22_6) (ix2 r j) : Fin 512 → EReal))
      = Lstm.bwd (W3 m c) (rowOf (X1 m c) r) n := by
  refine (states1_rows (X1 m c) (arg m c main_arg14) (arg m c main_arg15) (addf (F := Ideal) (s := S2048) (φ := .f32) (arg m c main_arg16) (arg m c main_arg17))
    (fun s => Lstm.pos (199 - s)) (fun k => revV (ctr k)) revV_pos (fun n => at3 (U3 m) n c (Proc.devRef .tc main_v22_5)) (fun n => at3 (U3 m) n c (Proc.devRef .tc main_v22_6))
    (main3_5 _) (main3_6 _) (fun n => ?_) (fun n => ?_) r n hn).trans rfl
  · obtain ⟨e0, e1, e2, e3, e4⟩ := at3_in m c n
    show at3 (U3 m) (n + 1) c (Proc.devRef .tc main_v22_5) = _
    rw [at3_succ, trip3_5, e0, e1, e2, e3, e4]
  · obtain ⟨e0, e1, e2, e3, e4⟩ := at3_in m c n
    show at3 (U3 m) (n + 1) c (Proc.devRef .tc main_v22_6) = _
    rw [at3_succ, trip3_6, e0, e1, e2, e3, e4]

/-- Row `r` of the second layer's input: the first layer's outputs. -/
theorem X1_row (r : Fin 1024) : rowOf (X1 m c) r = Lstm.layer (W0 m c) (W1 m c) (rowOf (X0 m c) r) := by
  funext t j
  show X1 m c (ix3 t r j) = _
  rw [X1, catV_apply]
  unfold Lstm.layer
  exact congrArg₂ (fun a b => Lstm.join a b j) (funext fun k => outs0 m c r t k) (funext fun k => outs1 m c r t k)

theorem v17_kept : E3 m c (Proc.devRef .tc main_v17_5) = at2 (U2 m) 200 c (Proc.devRef .tc main_v17_5) :=
  (cond3_keep _ (r := main_v17_5) (by decide)).trans ((at3_keep (U3 m) 200 c (r := main_v17_5) (by decide) (by decide) (by decide)).trans
    ((main3_keep _ (r := main_v17_5) (by decide)).trans (cond2_keep _ (r := main_v17_5) (by decide))))

theorem v22_kept : E3 m c (Proc.devRef .tc main_v22_5) = at3 (U3 m) 200 c (Proc.devRef .tc main_v22_5) :=
  cond3_keep _ (r := main_v22_5) (by decide)

/-- The score of example `r` from the first layer's input. -/
theorem result (r : Fin 1024) : (U4 m c (Proc.devRef .tc main_v34) (ix2 r 0) : EReal)
    = Lstm.score (W0 m c) (W1 m c) (W2 m c) (W3 m c) (fun k => arg m c main_arg18 (ix2 0 k)) (arg m c main_arg19 (ix1 0)) (rowOf (X0 m c) r) := by
  rw [U4, main4_v34, v17_kept, v22_kept, E3_keep kept18, E3_keep kept19, headV_apply]
  have h2 := states2 m c r 200 le_rfl
  have h3 := states3 m c r 200 le_rfl
  rw [X1_row] at h2 h3
  unfold Lstm.score
  rw [← h2, ← h3]

/-- Row `r` of the first layer's input at position `t`: the table's row of its token. -/
theorem X0_row (h : ∀ i, (arg m c main_arg0 i : BitVec 32).toNat < 100000) (r : Fin 1024) :
    rowOf (X0 m c) r = fun t j => arg m c main_arg1 (ix2 ⟨(arg m c main_arg0 (ix2 r t) : BitVec 32).toNat, h _⟩ j) := by
  funext t j
  show X0 m c (ix3 t r j) = _
  rw [X0, embV_apply, takeV_apply r _ h]

end Cert.Proof.Ref

end
-- ==== Proof.Equal.lean ====
module

public import proofs.«01_k».proof.Proof.KValue
public import proofs.«01_k».proof.Proof.Frames
public import proofs.«01_k».proof.Proof.RefValue
public import proofs.«01_k».proof.Proof.RefFrame
public import Idealize.ShloMosaic.Lib.LayoutAt

/-!
The equation: device `c`'s result is block `c` of the reference's. Row `r` of the device is example `512 c + r` of the
whole array, and both sides give it the same score of the same embedded tokens under the same weights.
-/

@[expose] public section
set_option maxRecDepth 16384
noncomputable section
namespace Cert.Proof
open Idealize.ShloMosaic Idealize.ShloMosaic.TcCoe
open Idealize.SL.Sem

/-- A memory of the kernel's devices, and one of the reference's. -/
abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

variable (m : MemK) (m' : MemR)

/-- The kernel's tokens, the embedding table, ... as the reference holds them: argument 0 by blocks, the others whole. -/
structure Same (c : Dev Cert.KernelIdeal.nD) : Prop where
  e0 : karg m c Cert.KernelIdeal.main_arg0 = Layout.block ⟨2, ![512, 200]⟩ ⟨2, ![1024, 200]⟩ 0 2 c (Ref.arg m' 0 Cert.ReferenceIdeal.main_arg0)
  e1 : karg m c Cert.KernelIdeal.main_arg1 = Ref.arg m' 0 Cert.ReferenceIdeal.main_arg1
  e2 : karg m c Cert.KernelIdeal.main_arg2 = Ref.arg m' 0 Cert.ReferenceIdeal.main_arg2
  e3 : karg m c Cert.KernelIdeal.main_arg3 = Ref.arg m' 0 Cert.ReferenceIdeal.main_arg3
  e4 : karg m c Cert.KernelIdeal.main_arg4 = Ref.arg m' 0 Cert.ReferenceIdeal.main_arg4
  e5 : karg m c Cert.KernelIdeal.main_arg5 = Ref.arg m' 0 Cert.ReferenceIdeal.main_arg5
  e6 : karg m c Cert.KernelIdeal.main_arg6 = Ref.arg m' 0 Cert.ReferenceIdeal.main_arg6
  e7 : karg m c Cert.KernelIdeal.main_arg7 = Ref.arg m' 0 Cert.ReferenceIdeal.main_arg7
  e8 : karg m c Cert.KernelIdeal.main_arg8 = Ref.arg m' 0 Cert.ReferenceIdeal.main_arg8
  e9 : karg m c Cert.KernelIdeal.main_arg9 = Ref.arg m' 0 Cert.ReferenceIdeal.main_arg9
  e10 : karg m c Cert.KernelIdeal.main_arg10 = Ref.arg m' 0 Cert.ReferenceIdeal.main_arg10
  e11 : karg m c Cert.KernelIdeal.main_arg11 = Ref.arg m' 0 Cert.ReferenceIdeal.main_arg11
  e12 : karg m c Cert.KernelIdeal.main_arg12 = Ref.arg m' 0 Cert.ReferenceIdeal.main_arg12
  e13 : karg m c Cert.KernelIdeal.main_arg13 = Ref.arg m' 0 Cert.ReferenceIdeal.main_arg13
  e14 : karg m c Cert.KernelIdeal.main_arg14 = Ref.arg m' 0 Cert.ReferenceIdeal.main_arg14
  e15 : karg m c Cert.KernelIdeal.main_arg15 = Ref.arg m' 0 Cert.ReferenceIdeal.main_arg15
  e16 : karg m c Cert.KernelIdeal.main_arg16 = Ref.arg m' 0 Cert.ReferenceIdeal.main_arg16
  e17 : karg m c Cert.KernelIdeal.main_arg17 = Ref.arg m' 0 Cert.ReferenceIdeal.main_arg17
  e18 : karg m c Cert.KernelIdeal.main_arg18 = Ref.arg m' 0 Cert.ReferenceIdeal.main_arg18
  e19 : karg m c Cert.KernelIdeal.main_arg19 = Ref.arg m' 0 Cert.ReferenceIdeal.main_arg19

variable {m m'}

/-- Which example of the whole array row `r` of device `c` is. -/
def whole (c : Dev Cert.KernelIdeal.nD) (r : Fin 512) : Fin 1024 := ⟨c.val * 512 + r.val, by have : c.val < 2 := c.isLt; omega⟩

theorem idx_tok (h : Layout.Tiles ⟨2, ![512, 200]⟩ ⟨2, ![1024, 200]⟩ 0 2) (c : Dev Cert.KernelIdeal.nD) (r : Fin 512) (t : Fin 200) :
    h.idx c (ix2 r t) = ix2 (whole c r) t := by
  refine Layout.idx_ext fun b => ?_
  match b with
  | ⟨0, _⟩ => exact (Layout.Tiles.idx_val_self h c _ _ rfl)
  | ⟨1, _⟩ => exact (Layout.Tiles.idx_val_of_ne h c _ _ Nat.one_ne_zero)

theorem idx_out (h : Layout.Tiles ⟨2, ![512, 1]⟩ ⟨2, ![1024, 1]⟩ 0 2) (c : Dev Cert.KernelIdeal.nD) (r : Fin 512) (t : Fin 1) :
    h.idx c (ix2 r t) = ix2 (whole c r) t := by
  refine Layout.idx_ext fun b => ?_
  match b with
  | ⟨0, _⟩ => exact (Layout.Tiles.idx_val_self h c _ _ rfl)
  | ⟨1, _⟩ => exact (Layout.Tiles.idx_val_of_ne h c _ _ Nat.one_ne_zero)

/-- A token of a device is the whole array's. -/
theorem Same.tok {c : Dev Cert.KernelIdeal.nD} (e : Same m m' c) (r : Fin 512) (t : Fin 200) :
    (karg m c Cert.KernelIdeal.main_arg0 (ix2 r t) : BitVec 32) = Ref.arg m' 0 Cert.ReferenceIdeal.main_arg0 (ix2 (whole c r) t) :=
  (congrFun e.e0 (ix2 r t)).trans (congrArg (Ref.arg m' 0 Cert.ReferenceIdeal.main_arg0) (idx_tok _ c r t))

/-- Every token of the whole array is some device's, so all are in range. -/
theorem ref_tok (e : ∀ c, Same m m' c) (h : ∀ c i, (karg m c Cert.KernelIdeal.main_arg0 i : BitVec 32).toNat < 100000)
    (i : Cert.ReferenceIdeal.S1024x200.Idx) : (Ref.arg m' 0 Cert.ReferenceIdeal.main_arg0 i : BitVec 32).toNat < 100000 := by
  have hb : (i 0).val < 1024 := (i 0).isLt
  have key := h (⟨(i 0).val / 512, by show _ < 2; omega⟩ : Dev Cert.KernelIdeal.nD) (ix2 (⟨(i 0).val % 512, Nat.mod_lt _ (by decide)⟩ : Fin 512) (i 1 : Fin 200))
  have ei : (ix2 (whole (⟨(i 0).val / 512, by show _ < 2; omega⟩ : Dev Cert.KernelIdeal.nD) ⟨(i 0).val % 512, Nat.mod_lt _ (by decide)⟩) (i 1 : Fin 200) : Cert.ReferenceIdeal.S1024x200.Idx) = i := by
    funext b
    match b with
    | ⟨0, _⟩ => exact Fin.ext (by show (i 0).val / 512 * 512 + (i 0).val % 512 = (i 0).val; omega)
    | ⟨1, _⟩ => rfl
  refine lt_of_eq_of_lt (congrArg BitVec.toNat ?_) key
  exact (congrArg (Ref.arg m' 0 Cert.ReferenceIdeal.main_arg0) ei.symm).trans ((e _).tok _ _).symm

theorem wtsOf_congr {n : Nat} {Wi Wi' : (⟨2, ![2048, n]⟩ : Shape).Idx → EReal} {Wh Wh' : (⟨2, ![2048, 512]⟩ : Shape).Idx → EReal}
    {b b' d d' : (⟨1, ![2048]⟩ : Shape).Idx → EReal} (h1 : Wi = Wi') (h2 : Wh = Wh') (h3 : b = b') (h4 : d = d') :
    Lstm.wtsOf Wi Wh b d = Lstm.wtsOf Wi' Wh' b' d' := by subst h1 h2 h3 h4; rfl

theorem Same.w0 {c} (e : Same m m' c) : K0 m c = Ref.W0 m' 0 := wtsOf_congr e.e2 e.e3 e.e4 e.e5
theorem Same.w1 {c} (e : Same m m' c) : K1 m c = Ref.W1 m' 0 := wtsOf_congr e.e6 e.e7 e.e8 e.e9
theorem Same.w2 {c} (e : Same m m' c) : K2 m c = Ref.W2 m' 0 := wtsOf_congr e.e10 e.e11 e.e12 e.e13
theorem Same.w3 {c} (e : Same m m' c) : K3 m c = Ref.W3 m' 0 := wtsOf_congr e.e14 e.e15 e.e16 e.e17

/-- Row `r` of device `c`: the kernel's score is the reference's. -/
theorem row_eq (e : ∀ c, Same m m' c) (h : ∀ c i, (karg m c Cert.KernelIdeal.main_arg0 i : BitVec 32).toNat < 100000)
    (c : Dev Cert.KernelIdeal.nD) (r : Fin 512) :
    ((V6 m c (Proc.devRef .tc Cert.KernelIdeal.main_v32) : Vec Ideal Cert.KernelIdeal.S512x1 .f32) (ix2 r 0) : EReal)
      = Ref.U4 m' 0 (Proc.devRef .tc Cert.ReferenceIdeal.main_v34) (ix2 (whole c r) 0) := by
  refine (kernel_row m c (h c) r).trans (Eq.trans ?_ (Ref.result m' 0 (whole c r)).symm)
  rw [(e c).w0, (e c).w1, (e c).w2, (e c).w3, Ref.X0_row m' 0 (ref_tok e h)]
  have e18 : (fun k : Fin 1024 => (karg m c Cert.KernelIdeal.main_arg18 (ix2 0 k) : EReal)) = fun k => Ref.arg m' 0 Cert.ReferenceIdeal.main_arg18 (ix2 0 k) :=
    funext fun k => congrFun (e c).e18 (ix2 0 k)
  have e19 : (karg m c Cert.KernelIdeal.main_arg19 (ix1 0) : EReal) = Ref.arg m' 0 Cert.ReferenceIdeal.main_arg19 (ix1 0) := congrFun (e c).e19 (ix1 0)
  have ex : embK m c (h c) r = fun t j => Ref.arg m' 0 Cert.ReferenceIdeal.main_arg1
      (ix2 ⟨(Ref.arg m' 0 Cert.ReferenceIdeal.main_arg0 (ix2 (whole c r) t) : BitVec 32).toNat, ref_tok e h _⟩ j) := by
    funext t j
    unfold embK
    refine (congrFun (e c).e1 _).trans ?_
    congr 2
    exact Fin.ext (congrArg BitVec.toNat ((e c).tok r t))
  rw [ex]
  exact congrArg₂ (fun w b => Lstm.score (Ref.W0 m' 0) (Ref.W1 m' 0) (Ref.W2 m' 0) (Ref.W3 m' 0) w b _) e18 e19

/-- Device `c`'s result is block `c` of the reference's. -/
theorem out_eq (e : ∀ c, Same m m' c) (h : ∀ c i, (karg m c Cert.KernelIdeal.main_arg0 i : BitVec 32).toNat < 100000)
    (c : Dev Cert.KernelIdeal.nD) :
    (V6 m c (Proc.devRef .tc Cert.KernelIdeal.main_v32) : Vec Ideal Cert.KernelIdeal.S512x1 .f32)
      = Layout.block ⟨2, ![512, 1]⟩ ⟨2, ![1024, 1]⟩ 0 2 c (Ref.U4 m' 0 (Proc.devRef .tc Cert.ReferenceIdeal.main_v34) : Vec Ideal Cert.ReferenceIdeal.S1024x1 .f32) := by
  funext y
  have ey : y = ix2 (y 0 : Fin 512) (0 : Fin 1) := by
    funext i
    match i with
    | ⟨0, _⟩ => rfl
    | ⟨1, _⟩ => exact Fin.ext (Nat.lt_one_iff.1 (y 1).isLt)
  rw [ey]
  refine (row_eq e h c (y 0)).trans ?_
  exact congrArg (Ref.U4 m' 0 (Proc.devRef .tc Cert.ReferenceIdeal.main_v34)) (idx_out _ c (y 0) 0).symm

/-- The kernel's result is the reference's, device by device. -/
theorem algebraic [Cert.Pre_tokens_in_vocab_Kernel.Facts] : Cert.algebraic_KernelIdeal_ReferenceIdeal (hKernelIdeal := Cert.KernelIdeal.Gen.facts) (hReferenceIdeal := Cert.ReferenceIdeal.Gen.facts) := by
  intro m g m' g' hpre hm
  have e : ∀ c, Same m m' c := fun c => by
    obtain ⟨h0, h1, h2, h3, h4, h5, h6, h7, h8, h9, h10, h11, h12, h13, h14, h15, h16, h17, h18, h19⟩ := hm c
    exact ⟨h0, h1, h2, h3, h4, h5, h6, h7, h8, h9, h10, h11, h12, h13, h14, h15, h16, h17, h18, h19⟩
  have h : ∀ (c : Dev Cert.KernelIdeal.nD) (i : Cert.KernelIdeal.S512x200.Idx), (karg m c Cert.KernelIdeal.main_arg0 i : BitVec 32).toNat < 100000 :=
    fun c i => tok_lt (hpre c) i
  refine ⟨Ref.U4 m' 0 (Proc.devRef .tc Cert.ReferenceIdeal.main_v34), ?_, ?_⟩
  · refine (θ_run (Cert.KernelIdeal.defs (F := Ideal)) _ _).mono (fun r hr d => ⟨(hr.1 d Cert.KernelIdeal.main_v32 rfl).trans (out_eq e h d),
      kept hr d (b := Cert.KernelIdeal.main_arg0) rfl (by decide),
      kept hr d (b := Cert.KernelIdeal.main_arg1) rfl (by decide),
      kept hr d (b := Cert.KernelIdeal.main_arg2) rfl (by decide),
      kept hr d (b := Cert.KernelIdeal.main_arg3) rfl (by decide),
      kept hr d (b := Cert.KernelIdeal.main_arg4) rfl (by decide),
      kept hr d (b := Cert.KernelIdeal.main_arg5) rfl (by decide),
      kept hr d (b := Cert.KernelIdeal.main_arg6) rfl (by decide),
      kept hr d (b := Cert.KernelIdeal.main_arg7) rfl (by decide),
      kept hr d (b := Cert.KernelIdeal.main_arg8) rfl (by decide),
      kept hr d (b := Cert.KernelIdeal.main_arg9) rfl (by decide),
      kept hr d (b := Cert.KernelIdeal.main_arg10) rfl (by decide),
      kept hr d (b := Cert.KernelIdeal.main_arg11) rfl (by decide),
      kept hr d (b := Cert.KernelIdeal.main_arg12) rfl (by decide),
      kept hr d (b := Cert.KernelIdeal.main_arg13) rfl (by decide),
      kept hr d (b := Cert.KernelIdeal.main_arg14) rfl (by decide),
      kept hr d (b := Cert.KernelIdeal.main_arg15) rfl (by decide),
      kept hr d (b := Cert.KernelIdeal.main_arg16) rfl (by decide),
      kept hr d (b := Cert.KernelIdeal.main_arg17) rfl (by decide),
      kept hr d (b := Cert.KernelIdeal.main_arg18) rfl (by decide),
      kept hr d (b := Cert.KernelIdeal.main_arg19) rfl (by decide)⟩) (run_main (F := Ideal) m g (fI_lt h))
  · refine (θ_run (Cert.ReferenceIdeal.defs (F := Ideal)) _ _).mono (fun r hr => ⟨hr.1 0 Cert.ReferenceIdeal.main_v34 rfl,
      (hr.1 0 Cert.ReferenceIdeal.main_arg0 rfl).trans (Ref.U4_keep Ref.kept0 0),
      (hr.1 0 Cert.ReferenceIdeal.main_arg1 rfl).trans (Ref.U4_keep Ref.kept1 0),
      (hr.1 0 Cert.ReferenceIdeal.main_arg2 rfl).trans (Ref.U4_keep Ref.kept2 0),
      (hr.1 0 Cert.ReferenceIdeal.main_arg3 rfl).trans (Ref.U4_keep Ref.kept3 0),
      (hr.1 0 Cert.ReferenceIdeal.main_arg4 rfl).trans (Ref.U4_keep Ref.kept4 0),
      (hr.1 0 Cert.ReferenceIdeal.main_arg5 rfl).trans (Ref.U4_keep Ref.kept5 0),
      (hr.1 0 Cert.ReferenceIdeal.main_arg6 rfl).trans (Ref.U4_keep Ref.kept6 0),
      (hr.1 0 Cert.ReferenceIdeal.main_arg7 rfl).trans (Ref.U4_keep Ref.kept7 0),
      (hr.1 0 Cert.ReferenceIdeal.main_arg8 rfl).trans (Ref.U4_keep Ref.kept8 0),
      (hr.1 0 Cert.ReferenceIdeal.main_arg9 rfl).trans (Ref.U4_keep Ref.kept9 0),
      (hr.1 0 Cert.ReferenceIdeal.main_arg10 rfl).trans (Ref.U4_keep Ref.kept10 0),
      (hr.1 0 Cert.ReferenceIdeal.main_arg11 rfl).trans (Ref.U4_keep Ref.kept11 0),
      (hr.1 0 Cert.ReferenceIdeal.main_arg12 rfl).trans (Ref.U4_keep Ref.kept12 0),
      (hr.1 0 Cert.ReferenceIdeal.main_arg13 rfl).trans (Ref.U4_keep Ref.kept13 0),
      (hr.1 0 Cert.ReferenceIdeal.main_arg14 rfl).trans (Ref.U4_keep Ref.kept14 0),
      (hr.1 0 Cert.ReferenceIdeal.main_arg15 rfl).trans (Ref.U4_keep Ref.kept15 0),
      (hr.1 0 Cert.ReferenceIdeal.main_arg16 rfl).trans (Ref.U4_keep Ref.kept16 0),
      (hr.1 0 Cert.ReferenceIdeal.main_arg17 rfl).trans (Ref.U4_keep Ref.kept17 0),
      (hr.1 0 Cert.ReferenceIdeal.main_arg18 rfl).trans (Ref.U4_keep Ref.kept18 0),
      (hr.1 0 Cert.ReferenceIdeal.main_arg19 rfl).trans (Ref.U4_keep Ref.kept19 0)⟩) (Ref.run_ref (F := Ideal) m' g')

end Cert.Proof
end
-- ==== Proof.lean ====
/-
  The claim, from its parts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelFrame
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frames of the kernel, of its ideal program and of the reference, and the equation between the two results. -/
theorem claim : Cert.Claim :=
  haveI h : Cert.Pre_tokens_in_vocab_Kernel.Facts := ⟨by decide⟩
  ⟨Cert.Kernel.Gen.facts, Cert.KernelIdeal.Gen.facts, Cert.ReferenceIdeal.Gen.facts, h, ⟨by decide⟩, frame_kernel, frame_ideal, Ref.frame_ref,
    fun m g _ => Ref.frame_at (F := Ideal) m g, trivial, algebraic⟩

end Cert.Proof

end
